-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutRefIdeal (m : (ℓ : Loc Cert.RetOutRefIdeal.nD Cert.RetOutRefIdeal.τ Cert.RetOutRefIdeal.sig) → Buf (Elt Ideal) ℓ) : Prop :=
  True

def Pre_GlaProj (m : (ℓ : Loc Cert.GlaProj.nD Cert.GlaProj.τ Cert.GlaProj.sig) → Buf (Elt Bits) ℓ) : Prop :=
  True

def Pre_GlaProjIdeal (m : (ℓ : Loc Cert.GlaProjIdeal.nD Cert.GlaProjIdeal.τ Cert.GlaProjIdeal.sig) → Buf (Elt Ideal) ℓ) : Prop :=
  True

def Pre_GlaProjRefIdeal (m : (ℓ : Loc Cert.GlaProjRefIdeal.nD Cert.GlaProjRefIdeal.τ Cert.GlaProjRefIdeal.sig) → Buf (Elt Ideal) ℓ) : Prop :=
  True

def Pre_LruProj (m : (ℓ : Loc Cert.LruProj.nD Cert.LruProj.τ Cert.LruProj.sig) → Buf (Elt Bits) ℓ) : Prop :=
  True

def Pre_LruProjIdeal (m : (ℓ : Loc Cert.LruProjIdeal.nD Cert.LruProjIdeal.τ Cert.LruProjIdeal.sig) → Buf (Elt Ideal) ℓ) : Prop :=
  True

def Pre_LruProjRefIdeal (m : (ℓ : Loc Cert.LruProjRefIdeal.nD Cert.LruProjRefIdeal.τ Cert.LruProjRefIdeal.sig) → Buf (Elt Ideal) ℓ) : Prop :=
  True

def Pre_RetProj (m : (ℓ : Loc Cert.RetProj.nD Cert.RetProj.τ Cert.RetProj.sig) → Buf (Elt Bits) ℓ) : Prop :=
  True

def Pre_RetProjIdeal (m : (ℓ : Loc Cert.RetProjIdeal.nD Cert.RetProjIdeal.τ Cert.RetProjIdeal.sig) → Buf (Elt Ideal) ℓ) : Prop :=
  True

def Pre_RetProjRefIdeal (m : (ℓ : Loc Cert.RetProjRefIdeal.nD Cert.RetProjRefIdeal.τ Cert.RetProjRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3)
      ∧ r.2.mem ((c.tc : Thread Cert.FfnUp.nD Cert.FfnUp.τ).loc Cert.FfnUp.main_arg4) = m ((c.tc : Thread Cert.FfnUp.nD Cert.FfnUp.τ).loc Cert.FfnUp.main_arg4))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1)
      ∧ r.2.mem ((c.tc : Thread Cert.RetOut.nD Cert.RetOut.τ).loc Cert.RetOut.main_arg2) = m ((c.tc : Thread Cert.RetOut.nD Cert.RetOut.τ).loc Cert.RetOut.main_arg2))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
      ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2))
      ∧ r.2.sem = fun _ => 0)

def quiescent_RetOutRefIdeal [hRetOutRefIdeal : Cert.RetOutRefIdeal.Facts] : Prop :=
  ∀ (m : (ℓ : Loc Cert.RetOutRefIdeal.nD Cert.RetOutRefIdeal.τ Cert.RetOutRefIdeal.sig) → Buf (Elt Ideal) ℓ) (g : Dev Cert.RetOutRefIdeal.nD → PrngReg), Pre_RetOutRefIdeal m →
    θ_run (Cert.RetOutRefIdeal.defs (F := Ideal)) (onTc (τ := Cert.RetOutRefIdeal.τ) (Cert.RetOutRefIdeal.main (F := Ideal))) ⟨m, fun _ => 0, g⟩ (fun r => (∀ c : Dev Cert.RetOutRefIdeal.nD,
      r.2.mem ((c.tc : Thread Cert.RetOutRefIdeal.nD Cert.RetOutRefIdeal.τ).loc Cert.RetOutRefIdeal.main_arg0) = m ((c.tc : Thread Cert.RetOutRefIdeal.nD Cert.RetOutRefIdeal.τ).loc Cert.RetOutRefIdeal.main_arg0)
      ∧ r.2.mem ((c.tc : Thread Cert.RetOutRefIdeal.nD Cert.RetOutRefIdeal.τ).loc Cert.RetOutRefIdeal.main_arg1) = m ((c.tc : Thread Cert.RetOutRefIdeal.nD Cert.RetOutRefIdeal.τ).loc Cert.RetOutRefIdeal.main_arg1)
      ∧ r.2.mem ((c.tc : Thread Cert.RetOutRefIdeal.nD Cert.RetOutRefIdeal.τ).loc Cert.RetOutRefIdeal.main_arg2) = m ((c.tc : Thread Cert.RetOutRefIdeal.nD Cert.RetOutRefIdeal.τ).loc Cert.RetOutRefIdeal.main_arg2))
      ∧ r.2.sem = fun _ => 0)

def quiescent_GlaProj [hGlaProj : Cert.GlaProj.Facts] : Prop :=
  ∀ (m : (ℓ : Loc Cert.GlaProj.nD Cert.GlaProj.τ Cert.GlaProj.sig) → Buf (Elt Bits) ℓ) (g : Dev Cert.GlaProj.nD → PrngReg), Pre_GlaProj m →
    θ_run (Cert.GlaProj.defs (F := Bits)) (onTc (τ := Cert.GlaProj.τ) (Cert.GlaProj.main (F := Bits))) ⟨m, fun _ => 0, g⟩ (fun r => (∀ c : Dev Cert.GlaProj.nD,
      r.2.mem ((c.tc : Thread Cert.GlaProj.nD Cert.GlaProj.τ).loc Cert.GlaProj.main_arg0) = m ((c.tc : Thread Cert.GlaProj.nD Cert.GlaProj.τ).loc Cert.GlaProj.main_arg0)
      ∧ r.2.mem ((c.tc : Thread Cert.GlaProj.nD Cert.GlaProj.τ).loc Cert.GlaProj.main_arg1) = m ((c.tc : Thread Cert.GlaProj.nD Cert.GlaProj.τ).loc Cert.GlaProj.main_arg1)
      ∧ r.2.mem ((c.tc : Thread Cert.GlaProj.nD Cert.GlaProj.τ).loc Cert.GlaProj.main_arg2) = m ((c.tc : Thread Cert.GlaProj.nD Cert.GlaProj.τ).loc Cert.GlaProj.main_arg2))
      ∧ r.2.sem = fun _ => 0)

def quiescent_GlaProjIdeal [hGlaProjIdeal : Cert.GlaProjIdeal.Facts] : Prop :=
  ∀ (m : (ℓ : Loc Cert.GlaProjIdeal.nD Cert.GlaProjIdeal.τ Cert.GlaProjIdeal.sig) → Buf (Elt Ideal) ℓ) (g : Dev Cert.GlaProjIdeal.nD → PrngReg), Pre_GlaProjIdeal m →
    θ_run (Cert.GlaProjIdeal.defs (F := Ideal)) (onTc (τ := Cert.GlaProjIdeal.τ) (Cert.GlaProjIdeal.main (F := Ideal))) ⟨m, fun _ => 0, g⟩ (fun r => (∀ c : Dev Cert.GlaProjIdeal.nD,
      r.2.mem ((c.tc : Thread Cert.GlaProjIdeal.nD Cert.GlaProjIdeal.τ).loc Cert.GlaProjIdeal.main_arg0) = m ((c.tc : Thread Cert.GlaProjIdeal.nD Cert.GlaProjIdeal.τ).loc Cert.GlaProjIdeal.main_arg0)
      ∧ r.2.mem ((c.tc : Thread Cert.GlaProjIdeal.nD Cert.GlaProjIdeal.τ).loc Cert.GlaProjIdeal.main_arg1) = m ((c.tc : Thread Cert.GlaProjIdeal.nD Cert.GlaProjIdeal.τ).loc Cert.GlaProjIdeal.main_arg1)
      ∧ r.2.mem ((c.tc : Thread Cert.GlaProjIdeal.nD Cert.GlaProjIdeal.τ).loc Cert.GlaProjIdeal.main_arg2) = m ((c.tc : Thread Cert.GlaProjIdeal.nD Cert.GlaProjIdeal.τ).loc Cert.GlaProjIdeal.main_arg2))
      ∧ r.2.sem = fun _ => 0)

def quiescent_GlaProjRefIdeal [hGlaProjRefIdeal : Cert.GlaProjRefIdeal.Facts] : Prop :=
  ∀ (m : (ℓ : Loc Cert.GlaProjRefIdeal.nD Cert.GlaProjRefIdeal.τ Cert.GlaProjRefIdeal.sig) → Buf (Elt Ideal) ℓ) (g : Dev Cert.GlaProjRefIdeal.nD → PrngReg), Pre_GlaProjRefIdeal m →
    θ_run (Cert.GlaProjRefIdeal.defs (F := Ideal)) (onTc (τ := Cert.GlaProjRefIdeal.τ) (Cert.GlaProjRefIdeal.main (F := Ideal))) ⟨m, fun _ => 0, g⟩ (fun r => (∀ c : Dev Cert.GlaProjRefIdeal.nD,
      r.2.mem ((c.tc : Thread Cert.GlaProjRefIdeal.nD Cert.GlaProjRefIdeal.τ).loc Cert.GlaProjRefIdeal.main_arg0) = m ((c.tc : Thread Cert.GlaProjRefIdeal.nD Cert.GlaProjRefIdeal.τ).loc Cert.GlaProjRefIdeal.main_arg0)
      ∧ r.2.mem ((c.tc : Thread Cert.GlaProjRefIdeal.nD Cert.GlaProjRefIdeal.τ).loc Cert.GlaProjRefIdeal.main_arg1) = m ((c.tc : Thread Cert.GlaProjRefIdeal.nD Cert.GlaProjRefIdeal.τ).loc Cert.GlaProjRefIdeal.main_arg1)
      ∧ r.2.mem ((c.tc : Thread Cert.GlaProjRefIdeal.nD Cert.GlaProjRefIdeal.τ).loc Cert.GlaProjRefIdeal.main_arg2) = m ((c.tc : Thread Cert.GlaProjRefIdeal.nD Cert.GlaProjRefIdeal.τ).loc Cert.GlaProjRefIdeal.main_arg2))
      ∧ r.2.sem = fun _ => 0)

def quiescent_LruProj [hLruProj : Cert.LruProj.Facts] : Prop :=
  ∀ (m : (ℓ : Loc Cert.LruProj.nD Cert.LruProj.τ Cert.LruProj.sig) → Buf (Elt Bits) ℓ) (g : Dev Cert.LruProj.nD → PrngReg), Pre_LruProj m →
    θ_run (Cert.LruProj.defs (F := Bits)) (onTc (τ := Cert.LruProj.τ) (Cert.LruProj.main (F := Bits))) ⟨m, fun _ => 0, g⟩ (fun r => (∀ c : Dev Cert.LruProj.nD,
      r.2.mem ((c.tc : Thread Cert.LruProj.nD Cert.LruProj.τ).loc Cert.LruProj.main_arg0) = m ((c.tc : Thread Cert.LruProj.nD Cert.LruProj.τ).loc Cert.LruProj.main_arg0)
      ∧ r.2.mem ((c.tc : Thread Cert.LruProj.nD Cert.LruProj.τ).loc Cert.LruProj.main_arg1) = m ((c.tc : Thread Cert.LruProj.nD Cert.LruProj.τ).loc Cert.LruProj.main_arg1)
      ∧ r.2.mem ((c.tc : Thread Cert.LruProj.nD Cert.LruProj.τ).loc Cert.LruProj.main_arg2) = m ((c.tc : Thread Cert.LruProj.nD Cert.LruProj.τ).loc Cert.LruProj.main_arg2))
      ∧ r.2.sem = fun _ => 0)

def quiescent_LruProjIdeal [hLruProjIdeal : Cert.LruProjIdeal.Facts] : Prop :=
  ∀ (m : (ℓ : Loc Cert.LruProjIdeal.nD Cert.LruProjIdeal.τ Cert.LruProjIdeal.sig) → Buf (Elt Ideal) ℓ) (g : Dev Cert.LruProjIdeal.nD → PrngReg), Pre_LruProjIdeal m →
    θ_run (Cert.LruProjIdeal.defs (F := Ideal)) (onTc (τ := Cert.LruProjIdeal.τ) (Cert.LruProjIdeal.main (F := Ideal))) ⟨m, fun _ => 0, g⟩ (fun r => (∀ c : Dev Cert.LruProjIdeal.nD,
      r.2.mem ((c.tc : Thread Cert.LruProjIdeal.nD Cert.LruProjIdeal.τ).loc Cert.LruProjIdeal.main_arg0) = m ((c.tc : Thread Cert.LruProjIdeal.nD Cert.LruProjIdeal.τ).loc Cert.LruProjIdeal.main_arg0)
      ∧ r.2.mem ((c.tc : Thread Cert.LruProjIdeal.nD Cert.LruProjIdeal.τ).loc Cert.LruProjIdeal.main_arg1) = m ((c.tc : Thread Cert.LruProjIdeal.nD Cert.LruProjIdeal.τ).loc Cert.LruProjIdeal.main_arg1)
      ∧ r.2.mem ((c.tc : Thread Cert.LruProjIdeal.nD Cert.LruProjIdeal.τ).loc Cert.LruProjIdeal.main_arg2) = m ((c.tc : Thread Cert.LruProjIdeal.nD Cert.LruProjIdeal.τ).loc Cert.LruProjIdeal.main_arg2))
      ∧ r.2.sem = fun _ => 0)

def quiescent_LruProjRefIdeal [hLruProjRefIdeal : Cert.LruProjRefIdeal.Facts] : Prop :=
  ∀ (m : (ℓ : Loc Cert.LruProjRefIdeal.nD Cert.LruProjRefIdeal.τ Cert.LruProjRefIdeal.sig) → Buf (Elt Ideal) ℓ) (g : Dev Cert.LruProjRefIdeal.nD → PrngReg), Pre_LruProjRefIdeal m →
    θ_run (Cert.LruProjRefIdeal.defs (F := Ideal)) (onTc (τ := Cert.LruProjRefIdeal.τ) (Cert.LruProjRefIdeal.main (F := Ideal))) ⟨m, fun _ => 0, g⟩ (fun r => (∀ c : Dev Cert.LruProjRefIdeal.nD,
      r.2.mem ((c.tc : Thread Cert.LruProjRefIdeal.nD Cert.LruProjRefIdeal.τ).loc Cert.LruProjRefIdeal.main_arg0) = m ((c.tc : Thread Cert.LruProjRefIdeal.nD Cert.LruProjRefIdeal.τ).loc Cert.LruProjRefIdeal.main_arg0)
      ∧ r.2.mem ((c.tc : Thread Cert.LruProjRefIdeal.nD Cert.LruProjRefIdeal.τ).loc Cert.LruProjRefIdeal.main_arg1) = m ((c.tc : Thread Cert.LruProjRefIdeal.nD Cert.LruProjRefIdeal.τ).loc Cert.LruProjRefIdeal.main_arg1)
      ∧ r.2.mem ((c.tc : Thread Cert.LruProjRefIdeal.nD Cert.LruProjRefIdeal.τ).loc Cert.LruProjRefIdeal.main_arg2) = m ((c.tc : Thread Cert.LruProjRefIdeal.nD Cert.LruProjRefIdeal.τ).loc Cert.LruProjRefIdeal.main_arg2))
      ∧ r.2.sem = fun _ => 0)

def quiescent_RetProj [hRetProj : Cert.RetProj.Facts] : Prop :=
  ∀ (m : (ℓ : Loc Cert.RetProj.nD Cert.RetProj.τ Cert.RetProj.sig) → Buf (Elt Bits) ℓ) (g : Dev Cert.RetProj.nD → PrngReg), Pre_RetProj m →
    θ_run (Cert.RetProj.defs (F := Bits)) (onTc (τ := Cert.RetProj.τ) (Cert.RetProj.main (F := Bits))) ⟨m, fun _ => 0, g⟩ (fun r => (∀ c : Dev Cert.RetProj.nD,
      r.2.mem ((c.tc : Thread Cert.RetProj.nD Cert.RetProj.τ).loc Cert.RetProj.main_arg0) = m ((c.tc : Thread Cert.RetProj.nD Cert.RetProj.τ).loc Cert.RetProj.main_arg0)
      ∧ r.2.mem ((c.tc : Thread Cert.RetProj.nD Cert.RetProj.τ).loc Cert.RetProj.main_arg1) = m ((c.tc : Thread Cert.RetProj.nD Cert.RetProj.τ).loc Cert.RetProj.main_arg1)
      ∧ r.2.mem ((c.tc : Thread Cert.RetProj.nD Cert.RetProj.τ).loc Cert.RetProj.main_arg2) = m ((c.tc : Thread Cert.RetProj.nD Cert.RetProj.τ).loc Cert.RetProj.main_arg2))
      ∧ r.2.sem = fun _ => 0)

def quiescent_RetProjIdeal [hRetProjIdeal : Cert.RetProjIdeal.Facts] : Prop :=
  ∀ (m : (ℓ : Loc Cert.RetProjIdeal.nD Cert.RetProjIdeal.τ Cert.RetProjIdeal.sig) → Buf (Elt Ideal) ℓ) (g : Dev Cert.RetProjIdeal.nD → PrngReg), Pre_RetProjIdeal m →
    θ_run (Cert.RetProjIdeal.defs (F := Ideal)) (onTc (τ := Cert.RetProjIdeal.τ) (Cert.RetProjIdeal.main (F := Ideal))) ⟨m, fun _ => 0, g⟩ (fun r => (∀ c : Dev Cert.RetProjIdeal.nD,
      r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
      ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1)
      ∧ r.2.mem ((c.tc : Thread Cert.RetProjIdeal.nD Cert.RetProjIdeal.τ).loc Cert.RetProjIdeal.main_arg2) = m ((c.tc : Thread Cert.RetProjIdeal.nD Cert.RetProjIdeal.τ).loc Cert.RetProjIdeal.main_arg2))
      ∧ r.2.sem = fun _ => 0)

def quiescent_RetProjRefIdeal [hRetProjRefIdeal : Cert.RetProjRefIdeal.Facts] : Prop :=
  ∀ (m : (ℓ : Loc Cert.RetProjRefIdeal.nD Cert.RetProjRefIdeal.τ Cert.RetProjRefIdeal.sig) → Buf (Elt Ideal) ℓ) (g : Dev Cert.RetProjRefIdeal.nD → PrngReg), Pre_RetProjRefIdeal m →
    θ_run (Cert.RetProjRefIdeal.defs (F := Ideal)) (onTc (τ := Cert.RetProjRefIdeal.τ) (Cert.RetProjRefIdeal.main (F := Ideal))) ⟨m, fun _ => 0, g⟩ (fun r => (∀ c : Dev Cert.RetProjRefIdeal.nD,
      r.2.mem ((c.tc : Thread Cert.RetProjRefIdeal.nD Cert.RetProjRefIdeal.τ).loc Cert.RetProjRefIdeal.main_arg0) = m ((c.tc : Thread Cert.RetProjRefIdeal.nD Cert.RetProjRefIdeal.τ).loc Cert.RetProjRefIdeal.main_arg0)
      ∧ r.2.mem ((c.tc : Thread Cert.RetProjRefIdeal.nD Cert.RetProjRefIdeal.τ).loc Cert.RetProjRefIdeal.main_arg1) = m ((c.tc : Thread Cert.RetProjRefIdeal.nD Cert.RetProjRefIdeal.τ).loc Cert.RetProjRefIdeal.main_arg1)
      ∧ r.2.mem ((c.tc : Thread Cert.RetProjRefIdeal.nD Cert.RetProjRefIdeal.τ).loc Cert.RetProjRefIdeal.main_arg2) = m ((c.tc : Thread Cert.RetProjRefIdeal.nD Cert.RetProjRefIdeal.τ).loc Cert.RetProjRefIdeal.main_arg2))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)
      ∧ m' ((c.tc : Thread Cert.FfnUpRefIdeal.nD Cert.FfnUpRefIdeal.τ).loc Cert.FfnUpRefIdeal.main_arg4) = m ((c.tc : Thread Cert.FfnUpIdeal.nD Cert.FfnUpIdeal.τ).loc Cert.FfnUpIdeal.main_arg4)) →
    ∃ (v0 : (c : Dev Cert.FfnUpIdeal.nD) → Buf (Elt Ideal) ((c.tc : Thread Cert.FfnUpIdeal.nD Cert.FfnUpIdeal.τ).loc Cert.FfnUpIdeal.main_v3)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v3) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
          ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v56) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3)
          ∧ r.2.mem ((c.tc : Thread Cert.FfnUpRefIdeal.nD Cert.FfnUpRefIdeal.τ).loc Cert.FfnUpRefIdeal.main_arg4) = m' ((c.tc : Thread Cert.FfnUpRefIdeal.nD Cert.FfnUpRefIdeal.τ).loc Cert.FfnUpRefIdeal.main_arg4))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v1) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v2) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_RetOut_RetOutIdeal : Prop :=
  True

def algebraic_RetOutIdeal_RetOutRefIdeal [hRetOutIdeal : Cert.RetOutIdeal.Facts] [hRetOutRefIdeal : Cert.RetOutRefIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutRefIdeal.nD Cert.RetOutRefIdeal.τ Cert.RetOutRefIdeal.sig) → Buf (Elt Ideal) ℓ) (g' : Dev Cert.RetOutRefIdeal.nD → PrngReg), Pre_RetOutIdeal m →
    (∀ c : Dev Cert.RetOutIdeal.nD,
      m' ((c.tc : Thread Cert.RetOutRefIdeal.nD Cert.RetOutRefIdeal.τ).loc Cert.RetOutRefIdeal.main_arg0) = m ((c.tc : Thread Cert.RetOutIdeal.nD Cert.RetOutIdeal.τ).loc Cert.RetOutIdeal.main_arg0)
      ∧ m' ((c.tc : Thread Cert.RetOutRefIdeal.nD Cert.RetOutRefIdeal.τ).loc Cert.RetOutRefIdeal.main_arg1) = m ((c.tc : Thread Cert.RetOutIdeal.nD Cert.RetOutIdeal.τ).loc Cert.RetOutIdeal.main_arg1)
      ∧ m' ((c.tc : Thread Cert.RetOutRefIdeal.nD Cert.RetOutRefIdeal.τ).loc Cert.RetOutRefIdeal.main_arg2) = m ((c.tc : Thread Cert.RetOutIdeal.nD Cert.RetOutIdeal.τ).loc Cert.RetOutIdeal.main_arg2)) →
    ∃ (v0 : (c : Dev Cert.RetOutIdeal.nD) → Buf (Elt Ideal) ((c.tc : Thread Cert.RetOutIdeal.nD Cert.RetOutIdeal.τ).loc Cert.RetOutIdeal.main_v1)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v1) = v0 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
          ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2))
      ∧ θ_run (Cert.RetOutRefIdeal.defs (F := Ideal)) (onTc (τ := Cert.RetOutRefIdeal.τ) (Cert.RetOutRefIdeal.main (F := Ideal))) ⟨m', fun _ => 0, g'⟩ (fun r => ∀ c : Dev Cert.RetOutRefIdeal.nD,
          r.2.mem ((c.tc : Thread Cert.RetOutRefIdeal.nD Cert.RetOutRefIdeal.τ).loc Cert.RetOutRefIdeal.main_v2) = v0 c
          ∧ r.2.mem ((c.tc : Thread Cert.RetOutRefIdeal.nD Cert.RetOutRefIdeal.τ).loc Cert.RetOutRefIdeal.main_arg0) = m' ((c.tc : Thread Cert.RetOutRefIdeal.nD Cert.RetOutRefIdeal.τ).loc Cert.RetOutRefIdeal.main_arg0)
          ∧ r.2.mem ((c.tc : Thread Cert.RetOutRefIdeal.nD Cert.RetOutRefIdeal.τ).loc Cert.RetOutRefIdeal.main_arg1) = m' ((c.tc : Thread Cert.RetOutRefIdeal.nD Cert.RetOutRefIdeal.τ).loc Cert.RetOutRefIdeal.main_arg1)
          ∧ r.2.mem ((c.tc : Thread Cert.RetOutRefIdeal.nD Cert.RetOutRefIdeal.τ).loc Cert.RetOutRefIdeal.main_arg2) = m' ((c.tc : Thread Cert.RetOutRefIdeal.nD Cert.RetOutRefIdeal.τ).loc Cert.RetOutRefIdeal.main_arg2))

def preserves_GlaProj_GlaProjIdeal : Prop :=
  True

def algebraic_GlaProjIdeal_GlaProjRefIdeal [hGlaProjIdeal : Cert.GlaProjIdeal.Facts] [hGlaProjRefIdeal : Cert.GlaProjRefIdeal.Facts] : Prop :=
  ∀ (m : (ℓ : Loc Cert.GlaProjIdeal.nD Cert.GlaProjIdeal.τ Cert.GlaProjIdeal.sig) → Buf (Elt Ideal) ℓ) (g : Dev Cert.GlaProjIdeal.nD → PrngReg)
    (m' : (ℓ : Loc Cert.GlaProjRefIdeal.nD Cert.GlaProjRefIdeal.τ Cert.GlaProjRefIdeal.sig) → Buf (Elt Ideal) ℓ) (g' : Dev Cert.GlaProjRefIdeal.nD → PrngReg), Pre_GlaProjIdeal m →
    (∀ c : Dev Cert.GlaProjIdeal.nD,
      m' ((c.tc : Thread Cert.GlaProjRefIdeal.nD Cert.GlaProjRefIdeal.τ).loc Cert.GlaProjRefIdeal.main_arg0) = m ((c.tc : Thread Cert.GlaProjIdeal.nD Cert.GlaProjIdeal.τ).loc Cert.GlaProjIdeal.main_arg0)
      ∧ m' ((c.tc : Thread Cert.GlaProjRefIdeal.nD Cert.GlaProjRefIdeal.τ).loc Cert.GlaProjRefIdeal.main_arg1) = m ((c.tc : Thread Cert.GlaProjIdeal.nD Cert.GlaProjIdeal.τ).loc Cert.GlaProjIdeal.main_arg1)
      ∧ m' ((c.tc : Thread Cert.GlaProjRefIdeal.nD Cert.GlaProjRefIdeal.τ).loc Cert.GlaProjRefIdeal.main_arg2) = m ((c.tc : Thread Cert.GlaProjIdeal.nD Cert.GlaProjIdeal.τ).loc Cert.GlaProjIdeal.main_arg2)) →
    ∃ (v0 : (c : Dev Cert.GlaProjIdeal.nD) → Buf (Elt Ideal) ((c.tc : Thread Cert.GlaProjIdeal.nD Cert.GlaProjIdeal.τ).loc Cert.GlaProjIdeal.main_v6_0)) (v1 : (c : Dev Cert.GlaProjIdeal.nD) → Buf (Elt Ideal) ((c.tc : Thread Cert.GlaProjIdeal.nD Cert.GlaProjIdeal.τ).loc Cert.GlaProjIdeal.main_v6_1)),
      θ_run (Cert.GlaProjIdeal.defs (F := Ideal)) (onTc (τ := Cert.GlaProjIdeal.τ) (Cert.GlaProjIdeal.main (F := Ideal))) ⟨m, fun _ => 0, g⟩ (fun r => ∀ c : Dev Cert.GlaProjIdeal.nD,
          r.2.mem ((c.tc : Thread Cert.GlaProjIdeal.nD Cert.GlaProjIdeal.τ).loc Cert.GlaProjIdeal.main_v6_0) = v0 c
          ∧ r.2.mem ((c.tc : Thread Cert.GlaProjIdeal.nD Cert.GlaProjIdeal.τ).loc Cert.GlaProjIdeal.main_v6_1) = v1 c
          ∧ r.2.mem ((c.tc : Thread Cert.GlaProjIdeal.nD Cert.GlaProjIdeal.τ).loc Cert.GlaProjIdeal.main_arg0) = m ((c.tc : Thread Cert.GlaProjIdeal.nD Cert.GlaProjIdeal.τ).loc Cert.GlaProjIdeal.main_arg0)
          ∧ r.2.mem ((c.tc : Thread Cert.GlaProjIdeal.nD Cert.GlaProjIdeal.τ).loc Cert.GlaProjIdeal.main_arg1) = m ((c.tc : Thread Cert.GlaProjIdeal.nD Cert.GlaProjIdeal.τ).loc Cert.GlaProjIdeal.main_arg1)
          ∧ r.2.mem ((c.tc : Thread Cert.GlaProjIdeal.nD Cert.GlaProjIdeal.τ).loc Cert.GlaProjIdeal.main_arg2) = m ((c.tc : Thread Cert.GlaProjIdeal.nD Cert.GlaProjIdeal.τ).loc Cert.GlaProjIdeal.main_arg2))
      ∧ θ_run (Cert.GlaProjRefIdeal.defs (F := Ideal)) (onTc (τ := Cert.GlaProjRefIdeal.τ) (Cert.GlaProjRefIdeal.main (F := Ideal))) ⟨m', fun _ => 0, g'⟩ (fun r => ∀ c : Dev Cert.GlaProjRefIdeal.nD,
          r.2.mem ((c.tc : Thread Cert.GlaProjRefIdeal.nD Cert.GlaProjRefIdeal.τ).loc Cert.GlaProjRefIdeal.main_v15) = v0 c
          ∧ r.2.mem ((c.tc : Thread Cert.GlaProjRefIdeal.nD Cert.GlaProjRefIdeal.τ).loc Cert.GlaProjRefIdeal.main_v17) = v1 c
          ∧ r.2.mem ((c.tc : Thread Cert.GlaProjRefIdeal.nD Cert.GlaProjRefIdeal.τ).loc Cert.GlaProjRefIdeal.main_arg0) = m' ((c.tc : Thread Cert.GlaProjRefIdeal.nD Cert.GlaProjRefIdeal.τ).loc Cert.GlaProjRefIdeal.main_arg0)
          ∧ r.2.mem ((c.tc : Thread Cert.GlaProjRefIdeal.nD Cert.GlaProjRefIdeal.τ).loc Cert.GlaProjRefIdeal.main_arg1) = m' ((c.tc : Thread Cert.GlaProjRefIdeal.nD Cert.GlaProjRefIdeal.τ).loc Cert.GlaProjRefIdeal.main_arg1)
          ∧ r.2.mem ((c.tc : Thread Cert.GlaProjRefIdeal.nD Cert.GlaProjRefIdeal.τ).loc Cert.GlaProjRefIdeal.main_arg2) = m' ((c.tc : Thread Cert.GlaProjRefIdeal.nD Cert.GlaProjRefIdeal.τ).loc Cert.GlaProjRefIdeal.main_arg2))

def preserves_LruProj_LruProjIdeal : Prop :=
  True

def algebraic_LruProjIdeal_LruProjRefIdeal [hLruProjIdeal : Cert.LruProjIdeal.Facts] [hLruProjRefIdeal : Cert.LruProjRefIdeal.Facts] : Prop :=
  ∀ (m : (ℓ : Loc Cert.LruProjIdeal.nD Cert.LruProjIdeal.τ Cert.LruProjIdeal.sig) → Buf (Elt Ideal) ℓ) (g : Dev Cert.LruProjIdeal.nD → PrngReg)
    (m' : (ℓ : Loc Cert.LruProjRefIdeal.nD Cert.LruProjRefIdeal.τ Cert.LruProjRefIdeal.sig) → Buf (Elt Ideal) ℓ) (g' : Dev Cert.LruProjRefIdeal.nD → PrngReg), Pre_LruProjIdeal m →
    (∀ c : Dev Cert.LruProjIdeal.nD,
      m' ((c.tc : Thread Cert.LruProjRefIdeal.nD Cert.LruProjRefIdeal.τ).loc Cert.LruProjRefIdeal.main_arg0) = m ((c.tc : Thread Cert.LruProjIdeal.nD Cert.LruProjIdeal.τ).loc Cert.LruProjIdeal.main_arg0)
      ∧ m' ((c.tc : Thread Cert.LruProjRefIdeal.nD Cert.LruProjRefIdeal.τ).loc Cert.LruProjRefIdeal.main_arg1) = m ((c.tc : Thread Cert.LruProjIdeal.nD Cert.LruProjIdeal.τ).loc Cert.LruProjIdeal.main_arg1)
      ∧ m' ((c.tc : Thread Cert.LruProjRefIdeal.nD Cert.LruProjRefIdeal.τ).loc Cert.LruProjRefIdeal.main_arg2) = m ((c.tc : Thread Cert.LruProjIdeal.nD Cert.LruProjIdeal.τ).loc Cert.LruProjIdeal.main_arg2)) →
    ∃ (v0 : (c : Dev Cert.LruProjIdeal.nD) → Buf (Elt Ideal) ((c.tc : Thread Cert.LruProjIdeal.nD Cert.LruProjIdeal.τ).loc Cert.LruProjIdeal.main_v2)),
      θ_run (Cert.LruProjIdeal.defs (F := Ideal)) (onTc (τ := Cert.LruProjIdeal.τ) (Cert.LruProjIdeal.main (F := Ideal))) ⟨m, fun _ => 0, g⟩ (fun r => ∀ c : Dev Cert.LruProjIdeal.nD,
          r.2.mem ((c.tc : Thread Cert.LruProjIdeal.nD Cert.LruProjIdeal.τ).loc Cert.LruProjIdeal.main_v2) = v0 c
          ∧ r.2.mem ((c.tc : Thread Cert.LruProjIdeal.nD Cert.LruProjIdeal.τ).loc Cert.LruProjIdeal.main_arg0) = m ((c.tc : Thread Cert.LruProjIdeal.nD Cert.LruProjIdeal.τ).loc Cert.LruProjIdeal.main_arg0)
          ∧ r.2.mem ((c.tc : Thread Cert.LruProjIdeal.nD Cert.LruProjIdeal.τ).loc Cert.LruProjIdeal.main_arg1) = m ((c.tc : Thread Cert.LruProjIdeal.nD Cert.LruProjIdeal.τ).loc Cert.LruProjIdeal.main_arg1)
          ∧ r.2.mem ((c.tc : Thread Cert.LruProjIdeal.nD Cert.LruProjIdeal.τ).loc Cert.LruProjIdeal.main_arg2) = m ((c.tc : Thread Cert.LruProjIdeal.nD Cert.LruProjIdeal.τ).loc Cert.LruProjIdeal.main_arg2))
      ∧ θ_run (Cert.LruProjRefIdeal.defs (F := Ideal)) (onTc (τ := Cert.LruProjRefIdeal.τ) (Cert.LruProjRefIdeal.main (F := Ideal))) ⟨m', fun _ => 0, g'⟩ (fun r => ∀ c : Dev Cert.LruProjRefIdeal.nD,
          r.2.mem ((c.tc : Thread Cert.LruProjRefIdeal.nD Cert.LruProjRefIdeal.τ).loc Cert.LruProjRefIdeal.main_v13) = v0 c
          ∧ r.2.mem ((c.tc : Thread Cert.LruProjRefIdeal.nD Cert.LruProjRefIdeal.τ).loc Cert.LruProjRefIdeal.main_arg0) = m' ((c.tc : Thread Cert.LruProjRefIdeal.nD Cert.LruProjRefIdeal.τ).loc Cert.LruProjRefIdeal.main_arg0)
          ∧ r.2.mem ((c.tc : Thread Cert.LruProjRefIdeal.nD Cert.LruProjRefIdeal.τ).loc Cert.LruProjRefIdeal.main_arg1) = m' ((c.tc : Thread Cert.LruProjRefIdeal.nD Cert.LruProjRefIdeal.τ).loc Cert.LruProjRefIdeal.main_arg1)
          ∧ r.2.mem ((c.tc : Thread Cert.LruProjRefIdeal.nD Cert.LruProjRefIdeal.τ).loc Cert.LruProjRefIdeal.main_arg2) = m' ((c.tc : Thread Cert.LruProjRefIdeal.nD Cert.LruProjRefIdeal.τ).loc Cert.LruProjRefIdeal.main_arg2))

def preserves_RetProj_RetProjIdeal : Prop :=
  True

def algebraic_RetProjIdeal_RetProjRefIdeal [hRetProjIdeal : Cert.RetProjIdeal.Facts] [hRetProjRefIdeal : Cert.RetProjRefIdeal.Facts] : Prop :=
  ∀ (m : (ℓ : Loc Cert.RetProjIdeal.nD Cert.RetProjIdeal.τ Cert.RetProjIdeal.sig) → Buf (Elt Ideal) ℓ) (g : Dev Cert.RetProjIdeal.nD → PrngReg)
    (m' : (ℓ : Loc Cert.RetProjRefIdeal.nD Cert.RetProjRefIdeal.τ Cert.RetProjRefIdeal.sig) → Buf (Elt Ideal) ℓ) (g' : Dev Cert.RetProjRefIdeal.nD → PrngReg), Pre_RetProjIdeal m →
    (∀ c : Dev Cert.RetProjIdeal.nD,
      m' ((c.tc : Thread Cert.RetProjRefIdeal.nD Cert.RetProjRefIdeal.τ).loc Cert.RetProjRefIdeal.main_arg0) = m ((c.tc : Thread Cert.RetProjIdeal.nD Cert.RetProjIdeal.τ).loc Cert.RetProjIdeal.main_arg0)
      ∧ m' ((c.tc : Thread Cert.RetProjRefIdeal.nD Cert.RetProjRefIdeal.τ).loc Cert.RetProjRefIdeal.main_arg1) = m ((c.tc : Thread Cert.RetProjIdeal.nD Cert.RetProjIdeal.τ).loc Cert.RetProjIdeal.main_arg1)
      ∧ m' ((c.tc : Thread Cert.RetProjRefIdeal.nD Cert.RetProjRefIdeal.τ).loc Cert.RetProjRefIdeal.main_arg2) = m ((c.tc : Thread Cert.RetProjIdeal.nD Cert.RetProjIdeal.τ).loc Cert.RetProjIdeal.main_arg2)) →
    ∃ (v0 : (c : Dev Cert.RetProjIdeal.nD) → Buf (Elt Ideal) ((c.tc : Thread Cert.RetProjIdeal.nD Cert.RetProjIdeal.τ).loc Cert.RetProjIdeal.main_v2)),
      θ_run (Cert.RetProjIdeal.defs (F := Ideal)) (onTc (τ := Cert.RetProjIdeal.τ) (Cert.RetProjIdeal.main (F := Ideal))) ⟨m, fun _ => 0, g⟩ (fun r => ∀ c : Dev Cert.RetProjIdeal.nD,
          r.2.mem ((c.tc : Thread Cert.RetProjIdeal.nD Cert.RetProjIdeal.τ).loc Cert.RetProjIdeal.main_v2) = v0 c
          ∧ r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
          ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1)
          ∧ r.2.mem ((c.tc : Thread Cert.RetProjIdeal.nD Cert.RetProjIdeal.τ).loc Cert.RetProjIdeal.main_arg2) = m ((c.tc : Thread Cert.RetProjIdeal.nD Cert.RetProjIdeal.τ).loc Cert.RetProjIdeal.main_arg2))
      ∧ θ_run (Cert.RetProjRefIdeal.defs (F := Ideal)) (onTc (τ := Cert.RetProjRefIdeal.τ) (Cert.RetProjRefIdeal.main (F := Ideal))) ⟨m', fun _ => 0, g'⟩ (fun r => ∀ c : Dev Cert.RetProjRefIdeal.nD,
          r.2.mem ((c.tc : Thread Cert.RetProjRefIdeal.nD Cert.RetProjRefIdeal.τ).loc Cert.RetProjRefIdeal.main_v14) = v0 c
          ∧ r.2.mem ((c.tc : Thread Cert.RetProjRefIdeal.nD Cert.RetProjRefIdeal.τ).loc Cert.RetProjRefIdeal.main_arg0) = m' ((c.tc : Thread Cert.RetProjRefIdeal.nD Cert.RetProjRefIdeal.τ).loc Cert.RetProjRefIdeal.main_arg0)
          ∧ r.2.mem ((c.tc : Thread Cert.RetProjRefIdeal.nD Cert.RetProjRefIdeal.τ).loc Cert.RetProjRefIdeal.main_arg1) = m' ((c.tc : Thread Cert.RetProjRefIdeal.nD Cert.RetProjRefIdeal.τ).loc Cert.RetProjRefIdeal.main_arg1)
          ∧ r.2.mem ((c.tc : Thread Cert.RetProjRefIdeal.nD Cert.RetProjRefIdeal.τ).loc Cert.RetProjRefIdeal.main_arg2) = m' ((c.tc : Thread Cert.RetProjRefIdeal.nD Cert.RetProjRefIdeal.τ).loc Cert.RetProjRefIdeal.main_arg2))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v12) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hMixOut : Cert.MixOut.Facts) (hMixOutIdeal : Cert.MixOutIdeal.Facts) (hMixOutRefIdeal : Cert.MixOutRefIdeal.Facts) (hRetOut : Cert.RetOut.Facts) (hRetOutIdeal : Cert.RetOutIdeal.Facts) (hRetOutRefIdeal : Cert.RetOutRefIdeal.Facts) (hGlaProj : Cert.GlaProj.Facts) (hGlaProjIdeal : Cert.GlaProjIdeal.Facts) (hGlaProjRefIdeal : Cert.GlaProjRefIdeal.Facts) (hLruProj : Cert.LruProj.Facts) (hLruProjIdeal : Cert.LruProjIdeal.Facts) (hLruProjRefIdeal : Cert.LruProjRefIdeal.Facts) (hRetProj : Cert.RetProj.Facts) (hRetProjIdeal : Cert.RetProjIdeal.Facts) (hRetProjRefIdeal : Cert.RetProjRefIdeal.Facts) (hFinalNorm : Cert.FinalNorm.Facts) (hFinalNormIdeal : Cert.FinalNormIdeal.Facts) (hFinalNormRefIdeal : Cert.FinalNormRefIdeal.Facts),
    quiescent_Kernel (hKernel := hKernel)
    ∧ quiescent_KernelIdeal (hKernelIdeal := hKernelIdeal)
    ∧ quiescent_ReferenceIdeal (hReferenceIdeal := hReferenceIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_RetOut (hRetOut := hRetOut)
    ∧ quiescent_RetOutIdeal (hRetOutIdeal := hRetOutIdeal)
    ∧ quiescent_RetOutRefIdeal (hRetOutRefIdeal := hRetOutRefIdeal)
    ∧ quiescent_GlaProj (hGlaProj := hGlaProj)
    ∧ quiescent_GlaProjIdeal (hGlaProjIdeal := hGlaProjIdeal)
    ∧ quiescent_GlaProjRefIdeal (hGlaProjRefIdeal := hGlaProjRefIdeal)
    ∧ quiescent_LruProj (hLruProj := hLruProj)
    ∧ quiescent_LruProjIdeal (hLruProjIdeal := hLruProjIdeal)
    ∧ quiescent_LruProjRefIdeal (hLruProjRefIdeal := hLruProjRefIdeal)
    ∧ quiescent_RetProj (hRetProj := hRetProj)
    ∧ quiescent_RetProjIdeal (hRetProjIdeal := hRetProjIdeal)
    ∧ quiescent_RetProjRefIdeal (hRetProjRefIdeal := hRetProjRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ preserves_Kernel_KernelIdeal
    ∧ algebraic_KernelIdeal_ReferenceIdeal (hKernelIdeal := hKernelIdeal) (hReferenceIdeal := hReferenceIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_MixOut_MixOutIdeal
    ∧ algebraic_MixOutIdeal_MixOutRefIdeal (hMixOutIdeal := hMixOutIdeal) (hMixOutRefIdeal := hMixOutRefIdeal)
    ∧ preserves_RetOut_RetOutIdeal
    ∧ algebraic_RetOutIdeal_RetOutRefIdeal (hRetOutIdeal := hRetOutIdeal) (hRetOutRefIdeal := hRetOutRefIdeal)
    ∧ preserves_GlaProj_GlaProjIdeal
    ∧ algebraic_GlaProjIdeal_GlaProjRefIdeal (hGlaProjIdeal := hGlaProjIdeal) (hGlaProjRefIdeal := hGlaProjRefIdeal)
    ∧ preserves_LruProj_LruProjIdeal
    ∧ algebraic_LruProjIdeal_LruProjRefIdeal (hLruProjIdeal := hLruProjIdeal) (hLruProjRefIdeal := hLruProjRefIdeal)
    ∧ preserves_RetProj_RetProjIdeal
    ∧ algebraic_RetProjIdeal_RetProjRefIdeal (hRetProjIdeal := hRetProjIdeal) (hRetProjRefIdeal := hRetProjRefIdeal)
    ∧ preserves_FinalNorm_FinalNormIdeal
    ∧ algebraic_FinalNormIdeal_FinalNormRefIdeal (hFinalNormIdeal := hFinalNormIdeal) (hFinalNormRefIdeal := hFinalNormRefIdeal)
-- ==== Kernel.lean ====
abbrev S16384x6144 : Shape := ⟨2, ![16384, 6144]⟩
abbrev S16384x128 : Shape := ⟨2, ![16384, 128]⟩
abbrev S16x1024 : Shape := ⟨2, ![16, 1024]⟩
abbrev S1024 : Shape := ⟨1, ![1024]⟩
abbrev S2048 : Shape := ⟨1, ![2048]⟩
abbrev S_ : Shape := ⟨0, ![]⟩
abbrev S128x1024 : Shape := ⟨2, ![128, 1024]⟩
abbrev S1x1024 : Shape := ⟨2, ![1, 1024]⟩
abbrev S1x2048 : Shape := ⟨2, ![1, 2048]⟩
abbrev S16384x2048 : Shape := ⟨2, ![16384, 2048]⟩
abbrev S256x1024 : Shape := ⟨2, ![256, 1024]⟩
abbrev S256x2048 : Shape := ⟨2, ![256, 2048]⟩
abbrev S256x128 : Shape := ⟨2, ![256, 128]⟩
abbrev S4x512x256 : Shape := ⟨3, ![4, 512, 256]⟩
abbrev S64x64 : Shape := ⟨2, ![64, 64]⟩
abbrev S64x128 : Shape := ⟨2, ![64, 128]⟩
abbrev S64x1024 : Shape := ⟨2, ![64, 1024]⟩
abbrev S64x256 : Shape := ⟨2, ![64, 256]⟩
abbrev S64x512 : Shape := ⟨2, ![64, 512]⟩
abbrev S1x512x256 : Shape := ⟨3, ![1, 512, 256]⟩
abbrev S512x256 : Shape := ⟨2, ![512, 256]⟩
abbrev S1x256 : Shape := ⟨2, ![1, 256]⟩
abbrev S64 : Shape := ⟨1, ![64]⟩
abbrev S64x1 : Shape := ⟨2, ![64, 1]⟩
abbrev S1x512 : Shape := ⟨2, ![1, 512]⟩

abbrev nBuf : Space → Nat
  | .hbm => 12
  | .vmem => 16
  | .smem => 0
  | _ => 0

abbrev bufTy : (tb : Table) → Fin (tcTables nBuf tb) → BufTy
  | .hbm, ⟨0, _⟩ => ⟨S16384x6144, .bf16⟩
  | .hbm, ⟨1, _⟩ => ⟨S16384x128, .f32⟩
  | .hbm, ⟨2, _⟩ => ⟨S16x1024, .f32⟩
  | .hbm, ⟨3, _⟩ => ⟨S1024, .f32⟩
  | .hbm, ⟨4, _⟩ => ⟨S2048, .f32⟩
  | .hbm, ⟨5, _⟩ => ⟨S_, .i32⟩
  | .hbm, ⟨6, _⟩ => ⟨S_, .f32⟩
  | .hbm, ⟨7, _⟩ => ⟨S128x1024, .f32⟩
  | .hbm, ⟨8, _⟩ => ⟨S128x1024, .bf16⟩
  | .hbm, ⟨9, _⟩ => ⟨S1x1024, .f32⟩
  | .hbm, ⟨10, _⟩ => ⟨S1x2048, .f32⟩
  | .hbm, ⟨11, _⟩ => ⟨S16384x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x128, .f32⟩
  | .local _ .vmem, ⟨9, _⟩ => ⟨S256x128, .f32⟩
  | .local _ .vmem, ⟨10, _⟩ => ⟨S128x1024, .bf16⟩
  | .local _ .vmem, ⟨11, _⟩ => ⟨S1x1024, .f32⟩
  | .local _ .vmem, ⟨12, _⟩ => ⟨S1x2048, .f32⟩
  | .local _ .vmem, ⟨13, _⟩ => ⟨S256x2048, .bf16⟩
  | .local _ .vmem, ⟨14, _⟩ => ⟨S256x2048, .bf16⟩
  | .local _ .vmem, ⟨15, _⟩ => ⟨S4x512x256, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_1 : BitVec 32 := 0#32
  let c4_i32 : BitVec 32 := 4#32
  let v8 : BitVec 32 := Scalar.addi c0_i32_1 c4_i32
  let c1_i32 : BitVec 32 := 1#32
  ⟨c0_i32_1, v8, c1_i32⟩
def k0_mult1 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  v9
def k0_off1 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v11 : Index := Scalar.indexCast v10
  let c0 : Index := 0#32
  ![v11.toNat, 0]
def k0_off2 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v51 : Index := Scalar.indexCast v10
  let c0_14 : Index := 0#32
  ![v51.toNat, 0]
def k0_off3 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v59 : Index := Scalar.indexCast v10
  let c0_17 : Index := 0#32
  ![v59.toNat, 0]
def k0_off4 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v117 : Index := Scalar.indexCast v10
  let c256 : Index := 256#32
  ![v117.toNat, 256]
def k0_off5 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v125 : Index := Scalar.indexCast v10
  let c512 : Index := 512#32
  ![v125.toNat, 512]
def k0_off6 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v183 : Index := Scalar.indexCast v10
  let c512_55 : Index := 512#32
  ![v183.toNat, 512]
def k0_off7 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v191 : Index := Scalar.indexCast v10
  let c1024 : Index := 1024#32
  ![v191.toNat, 1024]
def k0_off8 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v249 : Index := Scalar.indexCast v10
  let c768 : Index := 768#32
  ![v249.toNat, 768]
def k0_off9 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c64_i32 : BitVec 32 := 64#32
  let v9 : BitVec 32 := Scalar.muli arg12 c64_i32
  let v10 : BitVec 32 := v9
  let v257 : Index := Scalar.indexCast v10
  let c1536 : Index := 1536#32
  ![v257.toNat, 1536]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16384x6144 : Shape := ⟨2, ![16384, 6144]⟩
abbrev S16384x128 : Shape := ⟨2, ![16384, 128]⟩
abbrev S16x1024 : Shape := ⟨2, ![16, 1024]⟩
abbrev S1024 : Shape := ⟨1, ![1024]⟩
abbrev S2048 : Shape := ⟨1, ![2048]⟩
abbrev S2x8192x6144 : Shape := ⟨3, ![2, 8192, 6144]⟩
abbrev S2x8192x1024 : Shape := ⟨3, ![2, 8192, 1024]⟩
abbrev S2x8192x2048 : Shape := ⟨3, ![2, 8192, 2048]⟩
abbrev S2x8192x128 : Shape := ⟨3, ![2, 8192, 128]⟩
abbrev S2x8192x16 : Shape := ⟨3, ![2, 8192, 16]⟩
abbrev S1x1x1024 : Shape := ⟨3, ![1, 1, 1024]⟩
abbrev S_ : Shape := ⟨0, ![]⟩
abbrev S2x128x64x4x256 : Shape := ⟨5, ![2, 128, 64, 4, 256]⟩
abbrev S2x4x128x64x256 : Shape := ⟨5, ![2, 4, 128, 64, 256]⟩
abbrev S2x128x64x4x512 : Shape := ⟨5, ![2, 128, 64, 4, 512]⟩
abbrev S2x4x128x64x512 : Shape := ⟨5, ![2, 4, 128, 64, 512]⟩
abbrev S2x4x128x1x256 : Shape := ⟨5, ![2, 4, 128, 1, 256]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S2x4x128x64x64 : Shape := ⟨5, ![2, 4, 128, 64, 64]⟩
abbrev S2x4x128x256 : Shape := ⟨4, ![2, 4, 128, 256]⟩
abbrev S128x2x4x64x256 : Shape := ⟨5, ![128, 2, 4, 64, 256]⟩
abbrev S128x2x4x64x512 : Shape := ⟨5, ![128, 2, 4, 64, 512]⟩
abbrev S128x2x4x256 : Shape := ⟨4, ![128, 2, 4, 256]⟩
abbrev S2x4x256x512 : Shape := ⟨4, ![2, 4, 256, 512]⟩
abbrev S1x2x4x64x256 : Shape := ⟨5, ![1, 2, 4, 64, 256]⟩
abbrev S2x4x64x256 : Shape := ⟨4, ![2, 4, 64, 256]⟩
abbrev S1x2x4x64x512 : Shape := ⟨5, ![1, 2, 4, 64, 512]⟩
abbrev S2x4x64x512 : Shape := ⟨4, ![2, 4, 64, 512]⟩
abbrev S1x2x4x256 : Shape := ⟨4, ![1, 2, 4, 256]⟩
abbrev S2x4x256 : Shape := ⟨3, ![2, 4, 256]⟩
abbrev S2x4x256x1 : Shape := ⟨4, ![2, 4, 256, 1]⟩
abbrev S2x8192x4x512 : Shape := ⟨4, ![2, 8192, 4, 512]⟩
abbrev S2x8192x4 : Shape := ⟨3, ![2, 8192, 4]⟩
abbrev S2x8192x4x1 : Shape := ⟨4, ![2, 8192, 4, 1]⟩
abbrev S1x1x2048 : Shape := ⟨3, ![1, 1, 2048]⟩
abbrev S16384x2048 : Shape := ⟨2, ![16384, 2048]⟩

abbrev nBuf : Space → Nat
  | .hbm => 163
  | .vmem => 0
  | .smem => 0
  | _ => 0

abbrev hbmTy0_0 (i : Nat) : BufTy := match i % 128 with
  | 0 => ⟨S16384x6144, .bf16⟩
  | 1 => ⟨S16384x128, .f32⟩
  | 2 => ⟨S16x1024, .f32⟩
  | 3 => ⟨S1024, .f32⟩
  | 4 => ⟨S2048, .f32⟩
  | 5 => ⟨S16384x6144, .f32⟩
  | 6 => ⟨S2x8192x6144, .f32⟩
  | 7 => ⟨S2x8192x1024, .f32⟩
  | 8 => ⟨S2x8192x1024, .f32⟩
  | 9 => ⟨S2x8192x2048, .f32⟩
  | 10 => ⟨S2x8192x2048, .f32⟩
  | 11 => ⟨S2x8192x128, .f32⟩
  | 12 => ⟨S2x8192x16, .f32⟩
  | 13 => ⟨S2x8192x1024, .f32⟩
  | 14 => ⟨S1x1x1024, .f32⟩
  | 15 => ⟨S2x8192x1024, .f32⟩
  | 16 => ⟨S2x8192x1024, .f32⟩
  | 17 => ⟨S2x8192x1024, .f32⟩
  | 18 => ⟨S_, .f32⟩
  | 19 => ⟨S2x8192x1024, .f32⟩
  | 20 => ⟨S2x8192x1024, .f32⟩
  | 21 => ⟨S2x8192x1024, .f32⟩
  | 22 => ⟨S2x8192x1024, .f32⟩
  | 23 => ⟨S2x8192x1024, .i1⟩
  | 24 => ⟨S2x8192x1024, .f32⟩
  | 25 => ⟨S2x8192x1024, .f32⟩
  | 26 => ⟨S2x8192x1024, .f32⟩
  | 27 => ⟨S2x8192x1024, .f32⟩
  | 28 => ⟨S2x8192x1024, .f32⟩
  | 29 => ⟨S2x8192x1024, .f32⟩
  | 30 => ⟨S2x8192x1024, .f32⟩
  | 31 => ⟨S2x8192x1024, .f32⟩
  | 32 => ⟨S2x8192x1024, .f32⟩
  | 33 => ⟨S_, .f32⟩
  | 34 => ⟨S2x8192x1024, .f32⟩
  | 35 => ⟨S2x8192x1024, .f32⟩
  | 36 => ⟨S_, .f32⟩
  | 37 => ⟨S2x8192x1024, .f32⟩
  | 38 => ⟨S2x8192x1024, .f32⟩
  | 39 => ⟨S2x128x64x4x256, .f32⟩
  | 40 => ⟨S2x4x128x64x256, .f32⟩
  | 41 => ⟨S2x128x64x4x256, .f32⟩
  | 42 => ⟨S2x4x128x64x256, .f32⟩
  | 43 => ⟨S2x128x64x4x512, .f32⟩
  | 44 => ⟨S2x4x128x64x512, .f32⟩
  | 45 => ⟨S2x128x64x4x256, .f32⟩
  | 46 => ⟨S2x4x128x64x256, .f32⟩
  | 47 => ⟨S_, .f32⟩
  | 48 => ⟨S_, .f32⟩
  | 49 => ⟨S2x4x128x64x256, .f32⟩
  | 50 => ⟨S2x4x128x1x256, .f32⟩
  | 51 => ⟨S2x4x128x64x256, .f32⟩
  | 52 => ⟨S2x4x128x64x256, .f32⟩
  | 53 => ⟨S2x4x128x64x256, .f32⟩
  | 54 => ⟨S2x4x128x64x256, .f32⟩
  | 55 => ⟨S2x4x128x64x256, .f32⟩
  | 56 => ⟨S2x4x128x64x256, .f32⟩
  | 57 => ⟨S2x4x128x64x256, .f32⟩
  | 58 => ⟨S64, .i32⟩
  | 59 => ⟨S64x1, .i32⟩
  | 60 => ⟨S1x64, .i32⟩
  | 61 => ⟨S64x64, .i32⟩
  | 62 => ⟨S64x64, .i32⟩
  | 63 => ⟨S64x64, .i1⟩
  | 64 => ⟨S2x4x128x64x64, .f32⟩
  | 65 => ⟨S2x4x128x64x64, .f32⟩
  | 66 => ⟨S2x4x128x64x64, .i1⟩
  | 67 => ⟨S2x4x128x64x64, .f32⟩
  | 68 => ⟨S2x4x128x64x512, .f32⟩
  | 69 => ⟨S2x4x128x64x256, .f32⟩
  | 70 => ⟨S2x4x128x64x256, .f32⟩
  | 71 => ⟨S2x4x128x64x256, .f32⟩
  | 72 => ⟨S2x4x128x64x256, .f32⟩
  | 73 => ⟨S2x4x128x256, .f32⟩
  | 74 => ⟨S2x4x128x256, .f32⟩
  | 75 => ⟨S128x2x4x64x256, .f32⟩
  | 76 => ⟨S128x2x4x64x256, .f32⟩
  | 77 => ⟨S128x2x4x64x512, .f32⟩
  | 78 => ⟨S128x2x4x256, .f32⟩
  | 79 => ⟨S_, .f32⟩
  | 80 => ⟨S2x4x256x512, .f32⟩
  | 81 => ⟨S_, .f32⟩
  | 82 => ⟨S128x2x4x64x512, .f32⟩
  | 83 => ⟨S_, .i32⟩
  | 84 => ⟨S128x2x4x64x256, .f32⟩
  | 85 => ⟨S128x2x4x64x256, .f32⟩
  | 86 => ⟨S128x2x4x64x512, .f32⟩
  | 87 => ⟨S128x2x4x256, .f32⟩
  | 88 => ⟨S_, .i32⟩
  | 89 => ⟨S2x4x256x512, .f32⟩
  | 90 => ⟨S128x2x4x64x512, .f32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S1x2x4x64x256, .f32⟩
  | 98 => ⟨S2x4x64x256, .f32⟩
  | 99 => ⟨S_, .i32⟩
  | 100 => ⟨S_, .i32⟩
  | 101 => ⟨S_, .i32⟩
  | 102 => ⟨S_, .i32⟩
  | 103 => ⟨S1x2x4x64x256, .f32⟩
  | 104 => ⟨S2x4x64x256, .f32⟩
  | 105 => ⟨S_, .i32⟩
  | 106 => ⟨S_, .i32⟩
  | 107 => ⟨S_, .i32⟩
  | 108 => ⟨S_, .i32⟩
  | 109 => ⟨S1x2x4x64x512, .f32⟩
  | 110 => ⟨S2x4x64x512, .f32⟩
  | 111 => ⟨S_, .i32⟩
  | 112 => ⟨S_, .i32⟩
  | 113 => ⟨S_, .i32⟩
  | 114 => ⟨S1x2x4x256, .f32⟩
  | 115 => ⟨S2x4x256, .f32⟩
  | 116 => ⟨S2x4x64x512, .f32⟩
  | 117 => ⟨S2x4x256x1, .f32⟩
  | 118 => ⟨S2x4x256x512, .f32⟩
  | 119 => ⟨S2x4x256x512, .f32⟩
  | 120 => ⟨S2x4x256x512, .f32⟩
  | 121 => ⟨S2x4x256x512, .f32⟩
  | 122 => ⟨S1x2x4x64x512, .f32⟩
  | 123 => ⟨S_, .i32⟩
  | 124 => ⟨S_, .i32⟩
  | 125 => ⟨S_, .i32⟩
  | 126 => ⟨S_, .i32⟩
  | 127 => ⟨S128x2x4x64x512, .f32⟩
  | _ => ⟨S16384x6144, .bf16⟩

abbrev hbmTy0_1 (i : Nat) : BufTy := match i % 128 with
  | 0 => ⟨S_, .i32⟩
  | 1 => ⟨S_, .i32⟩
  | 2 => ⟨S2x4x128x64x512, .f32⟩
  | 3 => ⟨S2x4x128x64x512, .f32⟩
  | 4 => ⟨S2x128x64x4x512, .f32⟩
  | 5 => ⟨S2x8192x4x512, .f32⟩
  | 6 => ⟨S2x8192x4x512, .f32⟩
  | 7 => ⟨S_, .f32⟩
  | 8 => ⟨S2x8192x4, .f32⟩
  | 9 => ⟨S2x8192x4x1, .f32⟩
  | 10 => ⟨S_, .f32⟩
  | 11 => ⟨S2x8192x4x1, .f32⟩
  | 12 => ⟨S2x8192x4x1, .f32⟩
  | 13 => ⟨S_, .f32⟩
  | 14 => ⟨S2x8192x4x1, .f32⟩
  | 15 => ⟨S2x8192x4x1, .f32⟩
  | 16 => ⟨S2x8192x4x1, .f32⟩
  | 17 => ⟨S2x8192x4x512, .f32⟩
  | 18 => ⟨S2x8192x4x512, .f32⟩
  | 19 => ⟨S2x8192x2048, .f32⟩
  | 20 => ⟨S1x1x2048, .f32⟩
  | 21 => ⟨S2x8192x2048, .f32⟩
  | 22 => ⟨S2x8192x2048, .f32⟩
  | 23 => ⟨S2x8192x2048, .f32⟩
  | 24 => ⟨S2x8192x2048, .f32⟩
  | 25 => ⟨S_, .f32⟩
  | 26 => ⟨S2x8192x2048, .f32⟩
  | 27 => ⟨S2x8192x2048, .f32⟩
  | 28 => ⟨S_, .f32⟩
  | 29 => ⟨S2x8192x2048, .f32⟩
  | 30 => ⟨S2x8192x2048, .f32⟩
  | 31 => ⟨S2x8192x2048, .f32⟩
  | 32 => ⟨S2x8192x2048, .f32⟩
  | 33 => ⟨S16384x2048, .f32⟩
  | 34 => ⟨S16384x2048, .bf16⟩
  | _ => ⟨S16384x6144, .bf16⟩

abbrev hbmTy (i : Nat) : BufTy := match i / 128 with
  | 0 => hbmTy0_0 i
  | 1 => hbmTy0_1 i
  | _ => ⟨S16384x6144, .bf16⟩

abbrev bufTy : (tb : Table) → Fin (tcTables nBuf tb) → BufTy
  | .hbm, ⟨i, _⟩ => hbmTy i
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_cst_0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call1_call0_cst : Ref sig .tc := ⟨.hbm, 47, rfl⟩
abbrev main_call1_call0_v0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_call2_v0 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_1 : Ref sig .tc := ⟨.hbm, 79, rfl⟩
abbrev main_v54 : Ref sig .tc := ⟨.hbm, 80, rfl⟩
abbrev main_cst_2 : Ref sig .tc := ⟨.hbm, 81, rfl⟩
abbrev main_v55 : Ref sig .tc := ⟨.hbm, 82, rfl⟩
abbrev main_c : Ref sig .tc := ⟨.hbm, 83, rfl⟩
abbrev main_v56_0 : Ref sig .tc := ⟨.hbm, 84, rfl⟩
abbrev main_v56_1 : Ref sig .tc := ⟨.hbm, 85, rfl⟩
abbrev main_v56_2 : Ref sig .tc := ⟨.hbm, 86, rfl⟩
abbrev main_v56_3 : Ref sig .tc := ⟨.hbm, 87, rfl⟩
abbrev main_v56_4 : Ref sig .tc := ⟨.hbm, 88, rfl⟩
abbrev main_v56_5 : Ref sig .tc := ⟨.hbm, 89, rfl⟩
abbrev main_v56_6 : Ref sig .tc := ⟨.hbm, 90, rfl⟩
abbrev main_while0c_c_12 : Ref sig .tc := ⟨.hbm, 91, rfl⟩
abbrev main_while0c_v79 : Ref sig .tc := ⟨.hbm, 92, rfl⟩
abbrev main_while0b_call3_c : Ref sig .tc := ⟨.hbm, 93, rfl⟩
abbrev main_while0b_call3_c_0 : Ref sig .tc := ⟨.hbm, 94, rfl⟩
abbrev main_while0b_call3_c_1 : Ref sig .tc := ⟨.hbm, 95, rfl⟩
abbrev main_while0b_call3_c_2 : Ref sig .tc := ⟨.hbm, 96, rfl⟩
abbrev main_while0b_call3_v0 : Ref sig .tc := ⟨.hbm, 97, rfl⟩
abbrev main_while0b_v79 : Ref sig .tc := ⟨.hbm, 98, rfl⟩
abbrev main_while0b_call4_c : Ref sig .tc := ⟨.hbm, 99, rfl⟩
abbrev main_while0b_call4_c_0 : Ref sig .tc := ⟨.hbm, 100, rfl⟩
abbrev main_while0b_call4_c_1 : Ref sig .tc := ⟨.hbm, 101, rfl⟩
abbrev main_while0b_call4_c_2 : Ref sig .tc := ⟨.hbm, 102, rfl⟩
abbrev main_while0b_call4_v0 : Ref sig .tc := ⟨.hbm, 103, rfl⟩
abbrev main_while0b_v80 : Ref sig .tc := ⟨.hbm, 104, rfl⟩
abbrev main_while0b_call5_c : Ref sig .tc := ⟨.hbm, 105, rfl⟩
abbrev main_while0b_call5_c_0 : Ref sig .tc := ⟨.hbm, 106, rfl⟩
abbrev main_while0b_call5_c_1 : Ref sig .tc := ⟨.hbm, 107, rfl⟩
abbrev main_while0b_call5_c_2 : Ref sig .tc := ⟨.hbm, 108, rfl⟩
abbrev main_while0b_call5_v0 : Ref sig .tc := ⟨.hbm, 109, rfl⟩
abbrev main_while0b_v81 : Ref sig .tc := ⟨.hbm, 110, rfl⟩
abbrev main_while0b_call6_c : Ref sig .tc := ⟨.hbm, 111, rfl⟩
abbrev main_while0b_call6_c_0 : Ref sig .tc := ⟨.hbm, 112, rfl⟩
abbrev main_while0b_call6_c_1 : Ref sig .tc := ⟨.hbm, 113, rfl⟩
abbrev main_while0b_call6_v0 : Ref sig .tc := ⟨.hbm, 114, rfl⟩
abbrev main_while0b_v82 : Ref sig .tc := ⟨.hbm, 115, rfl⟩
abbrev main_while0b_v83 : Ref sig .tc := ⟨.hbm, 116, rfl⟩
abbrev main_while0b_v84 : Ref sig .tc := ⟨.hbm, 117, rfl⟩
abbrev main_while0b_v85 : Ref sig .tc := ⟨.hbm, 118, rfl⟩
abbrev main_while0b_v86 : Ref sig .tc := ⟨.hbm, 119, rfl⟩
abbrev main_while0b_v87 : Ref sig .tc := ⟨.hbm, 120, rfl⟩
abbrev main_while0b_v88 : Ref sig .tc := ⟨.hbm, 121, rfl⟩
abbrev main_while0b_call7_v0 : Ref sig .tc := ⟨.hbm, 122, rfl⟩
abbrev main_while0b_call7_c : Ref sig .tc := ⟨.hbm, 123, rfl⟩
abbrev main_while0b_call7_c_0 : Ref sig .tc := ⟨.hbm, 124, rfl⟩
abbrev main_while0b_call7_c_1 : Ref sig .tc := ⟨.hbm, 125, rfl⟩
abbrev main_while0b_call7_c_2 : Ref sig .tc := ⟨.hbm, 126, rfl⟩
abbrev main_while0b_v89 : Ref sig .tc := ⟨.hbm, 127, rfl⟩
abbrev main_while0b_c_12 : Ref sig .tc := ⟨.hbm, 128, rfl⟩
abbrev main_while0b_v90 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_cst_3 : Ref sig .tc := ⟨.hbm, 135, rfl⟩
abbrev main_v62 : Ref sig .tc := ⟨.hbm, 136, rfl⟩
abbrev main_v63 : Ref sig .tc := ⟨.hbm, 137, rfl⟩
abbrev main_cst_4 : Ref sig .tc := ⟨.hbm, 138, rfl⟩
abbrev main_v64 : Ref sig .tc := ⟨.hbm, 139, rfl⟩
abbrev main_v65 : Ref sig .tc := ⟨.hbm, 140, rfl⟩
abbrev main_cst_5 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_call8_v0 : Ref sig .tc := ⟨.hbm, 151, rfl⟩
abbrev main_call8_v1 : Ref sig .tc := ⟨.hbm, 152, rfl⟩
abbrev main_call8_cst : Ref sig .tc := ⟨.hbm, 153, rfl⟩
abbrev main_call8_v2 : Ref sig .tc := ⟨.hbm, 154, rfl⟩
abbrev main_call8_v3 : Ref sig .tc := ⟨.hbm, 155, rfl⟩
abbrev main_call8_cst_0 : Ref sig .tc := ⟨.hbm, 156, rfl⟩
abbrev main_call8_v4 : Ref sig .tc := ⟨.hbm, 157, rfl⟩
abbrev main_call8_v5 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩

abbrev nD : Nat := 1
abbrev τ : Topo := Topo.v7x

variable {F : FTy → Type} [FloatOps F]

abbrev main_while0_count : Scf.Loop 32 := ⟨0#32, 128#32, 1#32⟩
-- ==== FfnUp.lean ====
abbrev S16384x2048 : Shape := ⟨2, ![16384, 2048]⟩
abbrev S2048 : Shape := ⟨1, ![2048]⟩
abbrev S2048x12288 : Shape := ⟨2, ![2048, 12288]⟩
abbrev S3x12288 : Shape := ⟨2, ![3, 12288]⟩
abbrev S12288 : Shape := ⟨1, ![12288]⟩
abbrev S1x12288 : Shape := ⟨2, ![1, 12288]⟩
abbrev S1x2048 : Shape := ⟨2, ![1, 2048]⟩
abbrev S16384x6144 : Shape := ⟨2, ![16384, 6144]⟩
abbrev S1024x2048 : Shape := ⟨2, ![1024, 2048]⟩
abbrev S2048x512 : Shape := ⟨2, ![2048, 512]⟩
abbrev S3x512 : Shape := ⟨2, ![3, 512]⟩
abbrev S1x512 : Shape := ⟨2, ![1, 512]⟩
abbrev S1024x512 : Shape := ⟨2, ![1024, 512]⟩
abbrev S1032x512 : Shape := ⟨2, ![1032, 512]⟩
abbrev S12x8x512 : Shape := ⟨3, ![12, 8, 512]⟩
abbrev S1024 : Shape := ⟨1, ![1024]⟩
abbrev S1024x1 : Shape := ⟨2, ![1024, 1]⟩
abbrev S8x512 : Shape := ⟨2, ![8, 512]⟩
abbrev S1x8x512 : Shape := ⟨3, ![1, 8, 512]⟩

abbrev nBuf : Space → Nat
  | .hbm => 9
  | .vmem => 22
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x12288, .f32⟩
  | .hbm, ⟨3, _⟩ => ⟨S3x12288, .f32⟩
  | .hbm, ⟨4, _⟩ => ⟨S12288, .f32⟩
  | .hbm, ⟨5, _⟩ => ⟨S2048x12288, .bf16⟩
  | .hbm, ⟨6, _⟩ => ⟨S1x12288, .f32⟩
  | .hbm, ⟨7, _⟩ => ⟨S1x2048, .f32⟩
  | .hbm, ⟨8, _⟩ => ⟨S16384x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1024x512, .bf16⟩
  | .local _ .vmem, ⟨16, _⟩ => ⟨S1024x512, .bf16⟩
  | .local _ .vmem, ⟨17, _⟩ => ⟨S1024x2048, .bf16⟩
  | .local _ .vmem, ⟨18, _⟩ => ⟨S1032x512, .f32⟩
  | .local _ .vmem, ⟨19, _⟩ => ⟨S1032x512, .f32⟩
  | .local _ .vmem, ⟨20, _⟩ => ⟨S12x8x512, .f32⟩
  | .local _ .vmem, ⟨21, _⟩ => ⟨S12x8x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 12], ![false, false]⟩

def k0_cond3 (i : grid0.Coords) : BitVec 1 :=
  let arg0 : BitVec 32 := BitVec.ofNat 32 (i 0).val
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v_true : BitVec 1 := 1#1
  let v20 : BitVec 1 := Scalar.xori v13 v_true
  let v21 : BitVec 32 := Scalar.extui v20
  let c0_i32_10 : BitVec 32 := 0#32
  let v22 : BitVec 1 := Scalar.cmpi .ne v21 c0_i32_10
  v22

def k0_off1 (i : grid0.Coords) : Fin 3 → Nat :=
  let arg1 : BitVec 32 := BitVec.ofNat 32 (i 1).val
  let v100 : Index := Scalar.indexCast arg1
  let c0_46 : Index := 0#32
  let c0_47 : Index := 0#32
  ![v100.toNat, 0, 0]
def k0_off2 (i : grid0.Coords) : Fin 3 → Nat :=
  let arg1 : BitVec 32 := BitVec.ofNat 32 (i 1).val
  let v27 : Index := Scalar.indexCast arg1
  let c0_12 : Index := 0#32
  let c0_13 : Index := 0#32
  ![v27.toNat, 0, 0]
def k0_cond5 (i : grid0.Coords) : BitVec 1 :=
  let arg0 : BitVec 32 := BitVec.ofNat 32 (i 0).val
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let true_26 : BitVec 1 := 1#1
  let v55 : BitVec 1 := Scalar.xori v13 true_26
  let v56 : BitVec 32 := Scalar.extui v55
  let c0_i32_27 : BitVec 32 := 0#32
  let v57 : BitVec 1 := Scalar.cmpi .ne v56 c0_i32_27
  v57

def k0_off3 (i : grid0.Coords) : Fin 3 → Nat :=
  let arg1 : BitVec 32 := BitVec.ofNat 32 (i 1).val
  let v100 : Index := Scalar.indexCast arg1
  let c0_46 : Index := 0#32
  let c0_47 : Index := 0#32
  ![v100.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnUpRefIdeal.lean ====
abbrev S16384x2048 : Shape := ⟨2, ![16384, 2048]⟩
abbrev S2048 : Shape := ⟨1, ![2048]⟩
abbrev S2048x12288 : Shape := ⟨2, ![2048, 12288]⟩
abbrev S3x12288 : Shape := ⟨2, ![3, 12288]⟩
abbrev S12288 : Shape := ⟨1, ![12288]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x12288 : Shape := ⟨2, ![16384, 12288]⟩
abbrev S2x8192x12288 : Shape := ⟨3, ![2, 8192, 12288]⟩
abbrev S2x8194x12288 : Shape := ⟨3, ![2, 8194, 12288]⟩
abbrev S1x12288 : Shape := ⟨2, ![1, 12288]⟩
abbrev S1x1x12288 : Shape := ⟨3, ![1, 1, 12288]⟩
abbrev S2x8192x6144 : Shape := ⟨3, ![2, 8192, 6144]⟩
abbrev S16384x6144 : Shape := ⟨2, ![16384, 6144]⟩

abbrev nBuf : Space → Nat
  | .hbm => 71
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x12288, .f32⟩
  | .hbm, ⟨3, _⟩ => ⟨S3x12288, .f32⟩
  | .hbm, ⟨4, _⟩ => ⟨S12288, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x12288, .f32⟩
  | .hbm, ⟨22, _⟩ => ⟨S2x8192x12288, .f32⟩
  | .hbm, ⟨23, _⟩ => ⟨S_, .i32⟩
  | .hbm, ⟨24, _⟩ => ⟨S_, .f32⟩
  | .hbm, ⟨25, _⟩ => ⟨S2x8194x12288, .f32⟩
  | .hbm, ⟨26, _⟩ => ⟨S1x12288, .f32⟩
  | .hbm, ⟨27, _⟩ => ⟨S12288, .f32⟩
  | .hbm, ⟨28, _⟩ => ⟨S2x8192x12288, .f32⟩
  | .hbm, ⟨29, _⟩ => ⟨S1x1x12288, .f32⟩
  | .hbm, ⟨30, _⟩ => ⟨S2x8192x12288, .f32⟩
  | .hbm, ⟨31, _⟩ => ⟨S2x8192x12288, .f32⟩
  | .hbm, ⟨32, _⟩ => ⟨S1x12288, .f32⟩
  | .hbm, ⟨33, _⟩ => ⟨S12288, .f32⟩
  | .hbm, ⟨34, _⟩ => ⟨S2x8192x12288, .f32⟩
  | .hbm, ⟨35, _⟩ => ⟨S1x1x12288, .f32⟩
  | .hbm, ⟨36, _⟩ => ⟨S2x8192x12288, .f32⟩
  | .hbm, ⟨37, _⟩ => ⟨S2x8192x12288, .f32⟩
  | .hbm, ⟨38, _⟩ => ⟨S2x8192x12288, .f32⟩
  | .hbm, ⟨39, _⟩ => ⟨S1x12288, .f32⟩
  | .hbm, ⟨40, _⟩ => ⟨S12288, .f32⟩
  | .hbm, ⟨41, _⟩ => ⟨S2x8192x12288, .f32⟩
  | .hbm, ⟨42, _⟩ => ⟨S1x1x12288, .f32⟩
  | .hbm, ⟨43, _⟩ => ⟨S2x8192x12288, .f32⟩
  | .hbm, ⟨44, _⟩ => ⟨S2x8192x12288, .f32⟩
  | .hbm, ⟨45, _⟩ => ⟨S2x8192x12288, .f32⟩
  | .hbm, ⟨46, _⟩ => ⟨S1x1x12288, .f32⟩
  | .hbm, ⟨47, _⟩ => ⟨S2x8192x12288, .f32⟩
  | .hbm, ⟨48, _⟩ => ⟨S2x8192x12288, .f32⟩
  | .hbm, ⟨49, _⟩ => ⟨S2x8192x6144, .f32⟩
  | .hbm, ⟨50, _⟩ => ⟨S2x8192x6144, .f32⟩
  | .hbm, ⟨51, _⟩ => ⟨S2x8192x6144, .f32⟩
  | .hbm, ⟨52, _⟩ => ⟨S2x8192x6144, .f32⟩
  | .hbm, ⟨53, _⟩ => ⟨S_, .f32⟩
  | .hbm, ⟨54, _⟩ => ⟨S2x8192x6144, .f32⟩
  | .hbm, ⟨55, _⟩ => ⟨S2x8192x6144, .f32⟩
  | .hbm, ⟨56, _⟩ => ⟨S2x8192x6144, .f32⟩
  | .hbm, ⟨57, _⟩ => ⟨S_, .f32⟩
  | .hbm, ⟨58, _⟩ => ⟨S2x8192x6144, .f32⟩
  | .hbm, ⟨59, _⟩ => ⟨S2x8192x6144, .f32⟩
  | .hbm, ⟨60, _⟩ => ⟨S2x8192x6144, .f32⟩
  | .hbm, ⟨61, _⟩ => ⟨S_, .f32⟩
  | .hbm, ⟨62, _⟩ => ⟨S2x8192x6144, .f32⟩
  | .hbm, ⟨63, _⟩ => ⟨S2x8192x6144, .f32⟩
  | .hbm, ⟨64, _⟩ => ⟨S_, .f32⟩
  | .hbm, ⟨65, _⟩ => ⟨S2x8192x6144, .f32⟩
  | .hbm, ⟨66, _⟩ => ⟨S2x8192x6144, .f32⟩
  | .hbm, ⟨67, _⟩ => ⟨S2x8192x6144, .f32⟩
  | .hbm, ⟨68, _⟩ => ⟨S2x8192x6144, .f32⟩
  | .hbm, ⟨69, _⟩ => ⟨S16384x6144, .f32⟩
  | .hbm, ⟨70, _⟩ => ⟨S16384x6144, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_2 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_3 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_4 : Ref sig .tc := ⟨.hbm, 61, rfl⟩
abbrev main_v49 : Ref sig .tc := ⟨.hbm, 62, rfl⟩
abbrev main_v50 : Ref sig .tc := ⟨.hbm, 63, rfl⟩
abbrev main_cst_5 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩

abbrev nD : Nat := 1
abbrev τ : Topo := Topo.v7x

variable {F : FTy → Type} [FloatOps F]
-- ==== FfnDown.lean ====
abbrev S16384x6144 : Shape := ⟨2, ![16384, 6144]⟩
abbrev S6144x2048 : Shape := ⟨2, ![6144, 2048]⟩
abbrev S16384x2048 : Shape := ⟨2, ![16384, 2048]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x6144, .bf16⟩
  | .hbm, ⟨1, _⟩ => ⟨S6144x2048, .f32⟩
  | .hbm, ⟨2, _⟩ => ⟨S16384x2048, .f32⟩
  | .hbm, ⟨3, _⟩ => ⟨S6144x2048, .bf16⟩
  | .hbm, ⟨4, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 6], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S16384x6144 : Shape := ⟨2, ![16384, 6144]⟩
abbrev S6144x2048 : Shape := ⟨2, ![6144, 2048]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S6144x2048, .f32⟩
  | .hbm, ⟨2, _⟩ => ⟨S16384x2048, .f32⟩
  | .hbm, ⟨3, _⟩ => ⟨S16384x6144, .f32⟩
  | .hbm, ⟨4, _⟩ => ⟨S16384x2048, .f32⟩
  | .hbm, ⟨5, _⟩ => ⟨S16384x2048, .f32⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MixOut.lean ====
abbrev S16384x2048 : Shape := ⟨2, ![16384, 2048]⟩
abbrev S2048x2048 : Shape := ⟨2, ![2048, 2048]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048x2048, .bf16⟩
  | .hbm, ⟨4, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutIdeal.lean ====
abbrev S16384x2048 : Shape := ⟨2, ![16384, 2048]⟩
abbrev S2048x2048 : Shape := ⟨2, ![2048, 2048]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048x2048, .bf16⟩
  | .hbm, ⟨4, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutRefIdeal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== RetOut.lean ====
abbrev S16384x4096 : Shape := ⟨2, ![16384, 4096]⟩
abbrev S4096x2048 : Shape := ⟨2, ![4096, 2048]⟩
abbrev S16384x2048 : Shape := ⟨2, ![16384, 2048]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x2048, .f32⟩
  | .hbm, ⟨3, _⟩ => ⟨S4096x2048, .bf16⟩
  | .hbm, ⟨4, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RetOutRefIdeal.lean ====
abbrev S16384x4096 : Shape := ⟨2, ![16384, 4096]⟩
abbrev S4096x2048 : Shape := ⟨2, ![4096, 2048]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x2048, .f32⟩
  | .hbm, ⟨3, _⟩ => ⟨S16384x4096, .f32⟩
  | .hbm, ⟨4, _⟩ => ⟨S16384x2048, .f32⟩
  | .hbm, ⟨5, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GlaProj.lean ====
abbrev S16384x2048 : Shape := ⟨2, ![16384, 2048]⟩
abbrev S2048 : Shape := ⟨1, ![2048]⟩
abbrev S2048x6160 : Shape := ⟨2, ![2048, 6160]⟩
abbrev S2048x16 : Shape := ⟨2, ![2048, 16]⟩
abbrev S_ : Shape := ⟨0, ![]⟩
abbrev S2048x128 : Shape := ⟨2, ![2048, 128]⟩
abbrev S2048x6144 : Shape := ⟨2, ![2048, 6144]⟩
abbrev S1x2048 : Shape := ⟨2, ![1, 2048]⟩
abbrev S16384x6144 : Shape := ⟨2, ![16384, 6144]⟩
abbrev S16384x128 : Shape := ⟨2, ![16384, 128]⟩
abbrev S1024x2048 : Shape := ⟨2, ![1024, 2048]⟩
abbrev S2048x512 : Shape := ⟨2, ![2048, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 13
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6160, .f32⟩
  | .hbm, ⟨3, _⟩ => ⟨S2048x16, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S2048x128, .bf16⟩
  | .hbm, ⟨8, _⟩ => ⟨S2048x6144, .f32⟩
  | .hbm, ⟨9, _⟩ => ⟨S2048x6144, .bf16⟩
  | .hbm, ⟨10, _⟩ => ⟨S1x2048, .f32⟩
  | .hbm, ⟨11, _⟩ => ⟨S16384x6144, .bf16⟩
  | .hbm, ⟨12, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x128, .bf16⟩
  | .local _ .vmem, ⟨6, _⟩ => ⟨S1024x512, .bf16⟩
  | .local _ .vmem, ⟨7, _⟩ => ⟨S1024x512, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== GlaProjRefIdeal.lean ====
abbrev S16384x2048 : Shape := ⟨2, ![16384, 2048]⟩
abbrev S2048 : Shape := ⟨1, ![2048]⟩
abbrev S2048x6160 : Shape := ⟨2, ![2048, 6160]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x6160 : Shape := ⟨2, ![16384, 6160]⟩
abbrev S16384x6144 : Shape := ⟨2, ![16384, 6144]⟩
abbrev S16384x16 : Shape := ⟨2, ![16384, 16]⟩
abbrev S16384x128 : Shape := ⟨2, ![16384, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6160, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x6160, .f32⟩
  | .hbm, ⟨20, _⟩ => ⟨S16384x6144, .f32⟩
  | .hbm, ⟨21, _⟩ => ⟨S16384x6144, .bf16⟩
  | .hbm, ⟨22, _⟩ => ⟨S16384x16, .f32⟩
  | .hbm, ⟨23, _⟩ => ⟨S_, .i32⟩
  | .hbm, ⟨24, _⟩ => ⟨S_, .f32⟩
  | .hbm, ⟨25, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== LruProj.lean ====
abbrev S16384x2048 : Shape := ⟨2, ![16384, 2048]⟩
abbrev S2048 : Shape := ⟨1, ![2048]⟩
abbrev S2048x4096 : Shape := ⟨2, ![2048, 4096]⟩
abbrev S1x2048 : Shape := ⟨2, ![1, 2048]⟩
abbrev S16384x4096 : Shape := ⟨2, ![16384, 4096]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x4096, .f32⟩
  | .hbm, ⟨3, _⟩ => ⟨S2048x4096, .bf16⟩
  | .hbm, ⟨4, _⟩ => ⟨S1x2048, .f32⟩
  | .hbm, ⟨5, _⟩ => ⟨S16384x4096, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LruProjRefIdeal.lean ====
abbrev S16384x2048 : Shape := ⟨2, ![16384, 2048]⟩
abbrev S2048 : Shape := ⟨1, ![2048]⟩
abbrev S2048x4096 : Shape := ⟨2, ![2048, 4096]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x4096 : Shape := ⟨2, ![16384, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x4096, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x4096, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== RetProj.lean ====
abbrev S16384x2048 : Shape := ⟨2, ![16384, 2048]⟩
abbrev S2048 : Shape := ⟨1, ![2048]⟩
abbrev S2048x12288 : Shape := ⟨2, ![2048, 12288]⟩
abbrev S1x2048 : Shape := ⟨2, ![1, 2048]⟩
abbrev S16384x12288 : Shape := ⟨2, ![16384, 12288]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x12288, .f32⟩
  | .hbm, ⟨3, _⟩ => ⟨S2048x12288, .bf16⟩
  | .hbm, ⟨4, _⟩ => ⟨S1x2048, .f32⟩
  | .hbm, ⟨5, _⟩ => ⟨S16384x12288, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RetProjRefIdeal.lean ====
abbrev S16384x2048 : Shape := ⟨2, ![16384, 2048]⟩
abbrev S2048 : Shape := ⟨1, ![2048]⟩
abbrev S2048x12288 : Shape := ⟨2, ![2048, 12288]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x12288 : Shape := ⟨2, ![16384, 12288]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x12288, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x12288, .f32⟩
  | .hbm, ⟨20, _⟩ => ⟨S16384x12288, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== FinalNorm.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.OwnKernelIdeal.LoopPieces.lean ====
/- The pieces that the chunk loop stores depend on what the state scratch holds when the loop is entered, and not on
   what the output block held: the loop never uses a value that it loads from the output block. -/
module

public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic

variable {F : FTy → Type} [FloatOps F]

/-- One trip's pieces do not depend on the output block's contents. -/
theorem trip_indep  (𝒱 : Variants) (c : Dev nD) (bd : Option 𝒱.V) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x2048 .f32) (harg9 : arg9.IsWhole) (arg10 : Memref sig .tc .vmem S256x2048 .bf16) (harg10 : arg10.IsWhole) (arg11 : Memref sig .tc .vmem S4x512x256 .f32) (harg11 : arg11.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg10 : BufTy.Contents (Elt F) arg10.view.ty) (f_arg11 : BufTy.Contents (Elt F) arg11.view.ty) (g : BufTy.Contents (Elt F) arg10.view.ty) :
    tripL_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 k f_arg10 f_arg11 = tripL_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 k g f_arg11 := by
  unfold tripL_k0_t1 trip_k0_t1
  dsimp only

/-- The pieces of the trips before `n` do not depend on the output block's contents at the loop's entry. -/
theorem pb_indep  (𝒱 : Variants) (c : Dev nD) (bd : Option 𝒱.V) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x2048 .f32) (harg9 : arg9.IsWhole) (arg10 : Memref sig .tc .vmem S256x2048 .bf16) (harg10 : arg10.IsWhole) (arg11 : Memref sig .tc .vmem S4x512x256 .f32) (harg11 : arg11.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty)   (f_arg10 g : BufTy.Contents (Elt F) arg10.view.ty) (G_arg11 : BufTy.Contents (Elt F) arg11.view.ty) (n : ℕ) :
    pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 f_arg10 G_arg11 n = pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 g G_arg11 n := by
  induction n with
  | zero => rfl
  | succ n ih =>
    rw [pb_k0_t1.eq_2, pb_k0_t1.eq_2, ih]
    unfold pb_k0_t1Step
    split
    · rw [trip_indep (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 _ (arg10.view.writes (Elt F) f_arg10 _) _ (arg10.view.writes (Elt F) g (pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 g G_arg11 n).1)]
    · rfl

end Cert.KernelIdeal.Gen
-- ==== Proof.OwnKernelIdeal.RunA.lean ====
/- Copy of the module of the same name that accompanies the program, with one step added: what the chunk loop stores is first
   rewritten not to depend on the output block's earlier contents (LoopPieces). Here: the body's run at the first block of a batch element, where the carried state is set to zero. -/
module

public import proofs.«01_k».proof.Proof.Gen.KernelIdeal.Frame.Runs
public import proofs.«01_k».proof.Proof.OwnKernelIdeal.LoopPieces

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0, 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x2048 .f32) (harg9 : arg9.IsWhole) (arg10 : Memref sig .tc .vmem S256x2048 .bf16) (harg10 : arg10.IsWhole) (arg11 : Memref sig .tc .vmem S4x512x256 .f32) (harg11 : arg11.IsWhole) (hc0 : cond0_0 i)
    (x0 : Vec F S256x1024 .bf16) (x1 : Vec F S256x1024 .bf16) (x2 : Vec F S256x2048 .bf16) (x3 : Vec F S256x2048 .bf16) (x4 : Vec F S256x128 .f32) (x5 : Vec F S128x1024 .bf16) (x6 : Vec F S1x1024 .f32) (x7 : Vec F S1x2048 .f32) :
    Σ' (L8 : List (View.Piece (Elt F) S256x2048 .bf16)), { LS0 : List (View.Piece (Elt F) S4x512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_gla_core i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_gla_core_eq_skeleton]; unfold cc0_gla_core_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    rw [pb_indep (f_arg10 := f8) (g := arg10.view.junk)]
    isplitl [H8]; · iexists _; iexact H8
    iexists _; iexact HS0

end Cert.KernelIdeal.Gen

end
-- ==== Proof.OwnKernelIdeal.RunB.lean ====
/- Copy of the module of the same name that accompanies the program, with one step added: what the chunk loop stores is first
   rewritten not to depend on the output block's earlier contents (LoopPieces). Here: the body's run at every other block. -/
module

public import proofs.«01_k».proof.Proof.OwnKernelIdeal.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 63: 62 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x2048 .f32) (harg9 : arg9.IsWhole) (arg10 : Memref sig .tc .vmem S256x2048 .bf16) (harg10 : arg10.IsWhole) (arg11 : Memref sig .tc .vmem S4x512x256 .f32) (harg11 : arg11.IsWhole) (hc0 : ¬cond0_0 i)
    (x0 : Vec F S256x1024 .bf16) (x1 : Vec F S256x1024 .bf16) (x2 : Vec F S256x2048 .bf16) (x3 : Vec F S256x2048 .bf16) (x4 : Vec F S256x128 .f32) (x5 : Vec F S128x1024 .bf16) (x6 : Vec F S1x1024 .f32) (x7 : Vec F S1x2048 .f32) (xs0 : Vec F S4x512x256 .f32) :
    Σ' (L8 : List (View.Piece (Elt F) S256x2048 .bf16)), { LS0 : List (View.Piece (Elt F) S4x512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_gla_core i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_gla_core_eq_skeleton]; unfold cc0_gla_core_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    rw [pb_indep (f_arg10 := f8) (g := arg10.view.junk)]
    isplitl [H8]; · iexists _; iexact H8
    iexists _; iexact HS0

end Cert.KernelIdeal.Gen

end
-- ==== Proof.OwnKernelIdeal.Frame.lean ====
/- Copy of the module of the same name that accompanies the program, with one step added: what the chunk loop stores is first
   rewritten not to depend on the output block's earlier contents (LoopPieces). Here: what the output block and the carried state hold at each grid point, the body's obligation, the run and the frame claim. -/
module

public import proofs.«01_k».proof.Proof.OwnKernelIdeal.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (16 stores of `S64x512`, checked by the kernel's evaluation: Lib/Ring.lean `Piece.tiledL`, linear in the pieces, through a loop's `@[irreducible]` trip theorem too), so they cover it. -/
theorem cover0_A_8 (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x2048 .f32) (harg9 : arg9.IsWhole) (arg10 : Memref sig .tc .vmem S256x2048 .bf16) (harg10 : arg10.IsWhole) (arg11 : Memref sig .tc .vmem S4x512x256 .f32) (harg11 : arg11.IsWhole) (hc0 : cond0_0 i)
    (x0 : Vec F S256x1024 .bf16) (x1 : Vec F S256x1024 .bf16) (x2 : Vec F S256x2048 .bf16) (x3 : Vec F S256x2048 .bf16) (x4 : Vec F S256x128 .f32) (x5 : Vec F S128x1024 .bf16) (x6 : Vec F S1x1024 .f32) (x7 : Vec F S1x2048 .f32) (y : S256x2048.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6 x7).1 S64x512.size (by sl_kernel_rfl) y

/-- What case A leaves in output 8's staging buffer: its pieces read back over junk. -/
def out0_A_8 (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x2048 .f32) (harg9 : arg9.IsWhole) (arg10 : Memref sig .tc .vmem S256x2048 .bf16) (harg10 : arg10.IsWhole) (arg11 : Memref sig .tc .vmem S4x512x256 .f32) (harg11 : arg11.IsWhole) (hc0 : cond0_0 i)
    (x0 : Vec F S256x1024 .bf16) (x1 : Vec F S256x1024 .bf16) (x2 : Vec F S256x2048 .bf16) (x3 : Vec F S256x2048 .bf16) (x4 : Vec F S256x128 .f32) (x5 : Vec F S128x1024 .bf16) (x6 : Vec F S1x1024 .f32) (x7 : Vec F S1x2048 .f32) : Vec F S256x2048 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 x0 x1 x2 x3 x4 x5 x6 x7).1)

/-- Case A's pieces for scratch `arg11`, which the kernel carries between points, cover it: one of them a store of the WHOLE buffer (Lib/Ring.lean `sl_whole_mem`). -/
theorem scover0_A_0 (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x2048 .f32) (harg9 : arg9.IsWhole) (arg10 : Memref sig .tc .vmem S256x2048 .bf16) (harg10 : arg10.IsWhole) (arg11 : Memref sig .tc .vmem S4x512x256 .f32) (harg11 : arg11.IsWhole) (hc0 : cond0_0 i)
    (x0 : Vec F S256x1024 .bf16) (x1 : Vec F S256x1024 .bf16) (x2 : Vec F S256x2048 .bf16) (x3 : Vec F S256x2048 .bf16) (x4 : Vec F S256x128 .f32) (x5 : Vec F S128x1024 .bf16) (x6 : Vec F S1x1024 .f32) (x7 : Vec F S1x2048 .f32) (y : S4x512x256.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6 x7).2.1, y ∈ pc.1.set :=
  View.cover_of_wholeMem (kernelRun0_A c i arg2 harg2 arg3 harg3 arg4 harg4 arg5 harg5 arg6 harg6 arg7 harg7 arg8 harg8 arg9 harg9 arg10 harg10 arg11 harg11 hc0 x0 x1 x2 x3 x4 x5 x6 x7).2.1 (by sl_whole_mem) y

/-- What case A leaves in scratch `arg11`: its pieces read back over junk. -/
def sout0_A_0 (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x2048 .f32) (harg9 : arg9.IsWhole) (arg10 : Memref sig .tc .vmem S256x2048 .bf16) (harg10 : arg10.IsWhole) (arg11 : Memref sig .tc .vmem S4x512x256 .f32) (harg11 : arg11.IsWhole) (hc0 : cond0_0 i)
    (x0 : Vec F S256x1024 .bf16) (x1 : Vec F S256x1024 .bf16) (x2 : Vec F S256x2048 .bf16) (x3 : Vec F S256x2048 .bf16) (x4 : Vec F S256x128 .f32) (x5 : Vec F S128x1024 .bf16) (x6 : Vec F S1x1024 .f32) (x7 : Vec F S1x2048 .f32) : Vec F S4x512x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 x0 x1 x2 x3 x4 x5 x6 x7).2.1)

/-- Case B's pieces for output 8 tile its block (16 stores of `S64x512`, checked by the kernel's evaluation: Lib/Ring.lean `Piece.tiledL`, linear in the pieces, through a loop's `@[irreducible]` trip theorem too), so they cover it. -/
theorem cover0_B_8 (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x2048 .f32) (harg9 : arg9.IsWhole) (arg10 : Memref sig .tc .vmem S256x2048 .bf16) (harg10 : arg10.IsWhole) (arg11 : Memref sig .tc .vmem S4x512x256 .f32) (harg11 : arg11.IsWhole) (hc0 : ¬cond0_0 i)
    (x0 : Vec F S256x1024 .bf16) (x1 : Vec F S256x1024 .bf16) (x2 : Vec F S256x2048 .bf16) (x3 : Vec F S256x2048 .bf16) (x4 : Vec F S256x128 .f32) (x5 : Vec F S128x1024 .bf16) (x6 : Vec F S1x1024 .f32) (x7 : Vec F S1x2048 .f32) (xs0 : Vec F S4x512x256 .f32) (y : S256x2048.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 x7 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 x7 xs0).1 S64x512.size (by sl_kernel_rfl) y

/-- What case B leaves in output 8's staging buffer: its pieces read back over junk. -/
def out0_B_8 (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x2048 .f32) (harg9 : arg9.IsWhole) (arg10 : Memref sig .tc .vmem S256x2048 .bf16) (harg10 : arg10.IsWhole) (arg11 : Memref sig .tc .vmem S4x512x256 .f32) (harg11 : arg11.IsWhole) (hc0 : ¬cond0_0 i)
    (x0 : Vec F S256x1024 .bf16) (x1 : Vec F S256x1024 .bf16) (x2 : Vec F S256x2048 .bf16) (x3 : Vec F S256x2048 .bf16) (x4 : Vec F S256x128 .f32) (x5 : Vec F S128x1024 .bf16) (x6 : Vec F S1x1024 .f32) (x7 : Vec F S1x2048 .f32) (xs0 : Vec F S4x512x256 .f32) : Vec F S256x2048 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 x0 x1 x2 x3 x4 x5 x6 x7 xs0).1)

/-- Case B's pieces for scratch `arg11`, which the kernel carries between points, cover it: 16 pieces of `S1x512x256` tiling it (Lib/Ring.lean `Piece.tiledL`). -/
theorem scover0_B_0 (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x2048 .f32) (harg9 : arg9.IsWhole) (arg10 : Memref sig .tc .vmem S256x2048 .bf16) (harg10 : arg10.IsWhole) (arg11 : Memref sig .tc .vmem S4x512x256 .f32) (harg11 : arg11.IsWhole) (hc0 : ¬cond0_0 i)
    (x0 : Vec F S256x1024 .bf16) (x1 : Vec F S256x1024 .bf16) (x2 : Vec F S256x2048 .bf16) (x3 : Vec F S256x2048 .bf16) (x4 : Vec F S256x128 .f32) (x5 : Vec F S128x1024 .bf16) (x6 : Vec F S1x1024 .f32) (x7 : Vec F S1x2048 .f32) (xs0 : Vec F S4x512x256 .f32) (y : S4x512x256.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 x7 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 x7 xs0).2.1 S1x512x256.size (by sl_kernel_rfl) y

/-- What case B leaves in scratch `arg11`: its pieces read back over junk. -/
def sout0_B_0 (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x2048 .f32) (harg9 : arg9.IsWhole) (arg10 : Memref sig .tc .vmem S256x2048 .bf16) (harg10 : arg10.IsWhole) (arg11 : Memref sig .tc .vmem S4x512x256 .f32) (harg11 : arg11.IsWhole) (hc0 : ¬cond0_0 i)
    (x0 : Vec F S256x1024 .bf16) (x1 : Vec F S256x1024 .bf16) (x2 : Vec F S256x2048 .bf16) (x3 : Vec F S256x2048 .bf16) (x4 : Vec F S256x128 .f32) (x5 : Vec F S128x1024 .bf16) (x6 : Vec F S1x1024 .f32) (x7 : Vec F S1x2048 .f32) (xs0 : Vec F S4x512x256 .f32) : Vec F S4x512x256 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 x0 x1 x2 x3 x4 x5 x6 x7 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x2048 .bf16 × Vec F S4x512x256 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 32 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2)

/-- `outsAt0` at a point of case A: that case's contents. -/
theorem outsAt0_A (c : Dev nD) (t : Fin cfg0.N) (h0 : t.val % 32 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 32 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 64 := lt_of_lt_of_eq t.isLt (show cfg0.N = 64 from N_0)
  by_cases h0 : t.val % 32 = 0
  · by_cases hz : t.val = 0
    · rw [PhiS_castSucc m c t, PhiS_zero m c _ _ hz, PhiA0_eq]
      rw [outsAt0_A m c t h0]
      unfold out0_A_8 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _)
    · rw [PhiS_castSucc m c t, PhiS_pos m c _ _ hz]
      rw [outsAt0_A m c t h0]
      unfold out0_A_8 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      iintro ⟨H0, H1, H2, H3, H4, H5, H6, H7, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _)
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_8 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.OwnKernelIdeal.Value.lean ====
/- Copy of the module of the same name that accompanies the program, with one step added: what the chunk loop stores is first
   rewritten not to depend on the output block's earlier contents (LoopPieces). Here: the output array after the run, as a fold over the grid points. -/
module

public import proofs.«01_k».proof.Proof.OwnKernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`Gen.outsAt0`: its component 0), read through the window's block. -/
theorem flushed8 (c : Dev nD) (t : Fin cfg0.N) :
    (dats m 0 c).flushed 8 t = (cfg0.win 8).cut (grid0.coords t) ((outsAt0 m c t.val t.isLt).1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 32 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed8, outsAt0_A m c t h0]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 32 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) := by
  simp only [flushed8, outsAt0_B m c t h0]

/-- The index map sends distinct grid points to distinct block indices (decided over the 64 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S16384x2048.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v4) = (dats m 0 c).arrAt 8 cfg0.N :=
  (h c).1 8

/-- After the frame run, argument `main_arg0` is as launched: input window 3 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 3).trans (((dats m 0 c).arrAt_in 3 rfl _).trans ((A_eq m c 3).trans (V_main_arg0 m c)))

/-- After the frame run, argument `main_arg1` is as launched: input window 4 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 4).trans (((dats m 0 c).arrAt_in 4 rfl _).trans ((A_eq m c 4).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v4) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post8 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 32)
    stores the scratch whole without reading what it held, and `acc` does not enter there (nor where no point meets the
    conditions: `acc`, never read). -/
def scAt0_0 (c : Dev nD) (n : ℕ) (hb : n < cfg0.N) (acc : Vec F S4x512x256 .f32) : Vec F S4x512x256 .f32 :=
  if h0 : n % 32 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc

/-- WHAT CARRIED SCRATCH 0 HOLDS after point `t`: the fold of its run up to `t`, from the reset at the run's first point
    `32·(t / 32)` (Lib/Pipeline/Value.lean `Pipeline.eq_accAt_of_mod`, by the frame's `outsAt0_κ`; without enumerating the points). -/
theorem soutsAt0_0_eq (c : Dev nD) (t : Fin cfg0.N) :
    (outsAt0 m c t.val t.isLt).2 = Pipeline.accAt (fun n h => scAt0_0 m c n h (VS0_0.read (Elt F) VS0_0.junk)) (scAt0_0 m c) (32 * (t.val / 32)) (t.val % 32)
      (by have h1 := t.isLt; have h2 := Nat.div_add_mod t.val 32; omega) :=
  Pipeline.eq_accAt_of_mod (fun n h => (outsAt0 m c n h).2) 32 (fun n h => scAt0_0 m c n h (VS0_0.read (Elt F) VS0_0.junk)) (scAt0_0 m c)
    (fun n h hn => by
      have hN := lt_of_lt_of_eq h (show cfg0.N = 64 from N_0)
      by_cases h0 : n % 32 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 64 from N_0)
      by_cases h0 : (n + 1) % 32 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S256x2048 .bf16 × Vec F S4x512x256 .f32 :=
  ((VO0_8.read (Elt F) VO0_8.junk, VS0_0.read (Elt F) VS0_0.junk) : Vec F S256x2048 .bf16 × Vec F S4x512x256 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S256x2048 .bf16 × Vec F S4x512x256 .f32) : Vec F S256x2048 .bf16 × Vec F S4x512x256 .f32 :=
  if h0 : n % 32 = 0 then
    (out0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)))
  else
    (out0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2)

/-- `stAt0` at a point of case A: that case's contents. -/
theorem stAt0_A (c : Dev nD) (t : Fin cfg0.N) (acc : Vec F S256x2048 .bf16 × Vec F S4x512x256 .f32) (h0 : t.val % 32 = 0) :
    stAt0 m c t.val t.isLt acc = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) :=
  (dif_pos h0).trans rfl

/-- `stAt0` at a point of case B: that case's contents, over `acc`. -/
theorem stAt0_B (c : Dev nD) (t : Fin cfg0.N) (acc : Vec F S256x2048 .bf16 × Vec F S4x512x256 .f32) (h0 : ¬t.val % 32 = 0) :
    stAt0 m c t.val t.isLt acc = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) acc.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) acc.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 64 from N_0)
  have e := Pipeline.eq_accAt_of_mod (fun n h => outsAt0 m c n h) 64 (fun n h => stAt0 m c n h junk0) (stAt0 m c)
    (fun n h _ => by
      have hN := lt_of_lt_of_eq h (show cfg0.N = 64 from N_0)
      obtain rfl : n = 0 := by omega
      exact outsAt0_zero m c h)
    (fun n h _ => outsAt0_succ m c n h)
    (by decide) n hn (by have := Nat.div_add_mod n 64; omega)
  have hd : n / 64 = 0 := Nat.div_eq_of_lt hN
  have hm : n % 64 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 8 -/

/-- The block of the array that holds index `i`, numbered in the order the points write the blocks back (one per point),
    `i`'s place in it, and the point that writes it back. -/
abbrev run8Of (i : S16384x2048.Idx) : ℕ := 1 * ((i 0).val / 256 - 0) + 1 * ((i 1).val / 2048 - 0)
set_option backward.proofsInPublic true in
abbrev loc8Of (i : S16384x2048.Idx) : S256x2048.Idx := fun a => match a with
  | ⟨0, _⟩ => ⟨(i 0).val % 256, Nat.mod_lt _ (by decide)⟩
  | ⟨1, _⟩ => ⟨(i 1).val % 2048, Nat.mod_lt _ (by decide)⟩
abbrev pt8Of (i : S16384x2048.Idx) : ℕ := run8Of i

/-- WHAT THE ARRAY ENDS HOLDING at index `i` inside the box the flushing blocks fill: output 8's component of the carried
    state's fold at the point that writes `i`'s block back, at `i`'s place in the block. `G8` states the array's contents
    only inside the box. -/
def G8 (c : Dev nD) : Buf (Elt F) ((c : Thread nD τ).loc main_v4) := fun i =>
  if h : pt8Of i < cfg0.N then
    (Pipeline.accAt (fun n h => stAt0 m c n h junk0) (stAt0 m c) 0 (pt8Of i) (by omega)).1 (loc8Of i)
  else V m c (Pipeline.arrRef spec0 8) i

/-- The printed index map, decided over the grid: output window 8's block indices stay in the box, and the block number
    read off them is the point's (`t`). -/
theorem idx_facts8 : ∀ t : Fin cfg0.N, 0 ≤ win0_8.index t (0 : Fin 2) ∧ win0_8.index t (0 : Fin 2) ≤ 63
    ∧ 0 ≤ win0_8.index t (1 : Fin 2) ∧ win0_8.index t (1 : Fin 2) ≤ 0
    ∧ 1 * (win0_8.index t (0 : Fin 2) - 0) + 1 * (win0_8.index t (1 : Fin 2) - 0) = t.val :=
  (by decide +kernel : ∀ t : Fin grid0.N, _)

/-- Every block of the box is SOME flushing point's: `onto8Pt`, the point that writes back the block at place `q` of the box. -/
abbrev onto8Pt (q0 : Fin 64) (q1 : Fin 1) : Fin grid0.N :=
  ⟨1 * q0.val + 1 * q1.val, lt_of_lt_of_eq (by omega) N_0.symm⟩
theorem idx_onto8 : ∀ (q0 : Fin 64) (q1 : Fin 1), ∃ t : Fin cfg0.N, (cfg0.win 8).flush t = true ∧ win0_8.index t = ![q0.val + 0, q1.val + 0] :=
  fun q0 q1 => ⟨onto8Pt q0 q1, (by decide +kernel : ∀ (q0 : Fin 64) (q1 : Fin 1), win0_8.flush (onto8Pt q0 q1) = true ∧ win0_8.index (onto8Pt q0 q1) = ![q0.val + 0, q1.val + 0]) q0 q1⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  obtain ⟨e0, e1, e2⟩ := idx_facts8 t
  funext y
  have hy0 : (y 0).val < 256 := (y 0).isLt
  have hy1 : (y 1).val < 2048 := (y 1).isLt
  have hb0 : (((cfg0.win 8).blk t).view.emb y 0).val = win0_8.index t (0 : Fin 2) * 256 + 1 * (y 0).val := rfl
  have hb1 : (((cfg0.win 8).blk t).view.emb y 1).val = win0_8.index t (1 : Fin 2) * 2048 + 1 * (y 1).val := rfl
  have hr : run8Of (((cfg0.win 8).blk t).view.emb y) = t.val := by
    show 1 * ((((cfg0.win 8).blk t).view.emb y 0).val / 256 - 0) + 1 * ((((cfg0.win 8).blk t).view.emb y 1).val / 2048 - 0) = _
    rw [hb0, hb1]
    rw [show (win0_8.index t (0 : Fin 2) * 256 + 1 * (y 0).val) / 256 = win0_8.index t (0 : Fin 2) from by omega]; rw [show (win0_8.index t (1 : Fin 2) * 2048 + 1 * (y 1).val) / 2048 = win0_8.index t (1 : Fin 2) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 256 = (y 0).val; rw [hb0]; omega
    | ⟨1, _⟩ => show (((cfg0.win 8).blk t).view.emb y 1).val % 2048 = (y 1).val; rw [hb1]; omega
  have hp : pt8Of (((cfg0.win 8).blk t).view.emb y) = t.val := by
    exact hr
  show (Pipeline.accAt (fun n h => stAt0 m c n h junk0) (stAt0 m c) 0 t.val _).1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S16384x2048.Idx) :
    i ∈ ((cfg0.win 8).blk t).view.set ↔ ∀ a : Fin 2, win0_8.index t a * S256x2048.size a ≤ (i a).val ∧ (i a).val < win0_8.index t a * S256x2048.size a + S256x2048.size a := by
  show i ∈ ((View.whole main_v4).slice (win0_8.rect t)).set ↔ _
  rw [View.set_slice_whole, Rect.mem_set_unit]
  exact Iff.rfl

/-- THE COVERED INDICES: in some flushing point's block iff inside the box those blocks fill. -/
theorem covered_iff8 (i : S16384x2048.Idx) :
    (∃ t : Fin cfg0.N, (cfg0.win 8).flush t = true ∧ i ∈ ((cfg0.win 8).blk t).view.set) ↔ 0 ≤ (i 0).val ∧ (i 0).val < 16384 ∧ 0 ≤ (i 1).val ∧ (i 1).val < 2048 := by
  constructor
  · rintro ⟨t, -, hi⟩
    rw [mem_blk8] at hi
    have b0 : win0_8.index t (0 : Fin 2) * 256 ≤ (i 0).val ∧ (i 0).val < win0_8.index t (0 : Fin 2) * 256 + 256 := hi 0
    have b1 : win0_8.index t (1 : Fin 2) * 2048 ≤ (i 1).val ∧ (i 1).val < win0_8.index t (1 : Fin 2) * 2048 + 2048 := hi 1
    obtain ⟨e0, e1, e2⟩ := idx_facts8 t
    omega
  · intro h
    have hi0 : (i 0).val < 16384 := (i 0).isLt
    have hi1 : (i 1).val < 2048 := (i 1).isLt
    obtain ⟨t, hft, ht⟩ := idx_onto8 ⟨(i 0).val / 256 - 0, by omega⟩ ⟨(i 1).val / 2048 - 0, by omega⟩
    have q0 : win0_8.index t (0 : Fin 2) = (i 0).val / 256 - 0 + 0 := congrFun ht 0
    have q1 : win0_8.index t (1 : Fin 2) = (i 1).val / 2048 - 0 + 0 := congrFun ht 1
    refine ⟨t, hft, ?_⟩
    rw [mem_blk8]
    intro a
    match a with
    | ⟨0, _⟩ => show win0_8.index t (0 : Fin 2) * 256 ≤ (i 0).val ∧ (i 0).val < win0_8.index t (0 : Fin 2) * 256 + 256; omega
    | ⟨1, _⟩ => show win0_8.index t (1 : Fin 2) * 2048 ≤ (i 1).val ∧ (i 1).val < win0_8.index t (1 : Fin 2) * 2048 + 2048; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 16384 := (i 0).isLt; have h1 : (i 1).val < 2048 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v4) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post8 m r h c).trans (final8 m c),
      kept_main_arg0 m r h c,
      kept_main_arg1 m r h c,
      kept_main_arg2 m r h c,
      kept_main_arg3 m r h c,
      kept_main_arg4 m r h c⟩)
    (run_main m ρ)

end Cert.KernelIdeal.Value

end
-- ==== Proof.Gla.lean ====
module

public import Idealize.ShloMosaic.Lib.Pointwise

/-! One chunk of gated linear attention over the extended reals, element by element: 64 rows of one head, whose keys and
queries have 256 columns and whose values have 512. `c` is the running sum of the decay's logarithm, `S` the state
(transposed: value column first) that enters the chunk. -/

@[expose] public section

set_option maxRecDepth 16384
noncomputable section
namespace Cert.Gla
open Idealize.ShloMosaic

/-- The single-precision word of 1/16. -/
abbrev c16 : EReal := Ideal.ofBits FTy.f32 0x3D800000#32

/-- The logarithm of the logistic function. -/
def ls (y : EReal) : EReal := -(max (-y) 0 + Ideal.log1p (Ideal.exp (-(FloatOps.absf (F := Ideal) (φ := .f32) (-y) : EReal))))

/-- The sum of the first `t + 1` of 64 terms. -/
def cum (a : Fin 64 → EReal) (t : Fin 64) : EReal := ∑ x, if x ≤ t then a x else 0

section Chunk
variable (c q k : Fin 64 → Fin 256 → EReal) (v g : Fin 64 → Fin 512 → EReal) (nw : Fin 512 → EReal) (S : Fin 512 → Fin 256 → EReal)

/-- The score of row `t` against row `s`. -/
def score (t s : Fin 64) : EReal :=
  if s ≤ t then ∑ d, q t d * c16 * Ideal.exp (c t d) * (k s d * Ideal.exp (-c s d))
  else ∑ d, q t d * c16 * Ideal.exp (-c t d) * (k s d * Ideal.exp (c s d))

/-- The attention's output at row `t`, value column `e`. -/
def att (t : Fin 64) (e : Fin 512) : EReal :=
  ∑ s, score c q k t s * v s e + ∑ d, q t d * c16 * Ideal.exp (c t d) * S e d

/-- The state after the chunk. -/
def upd (e : Fin 512) (d : Fin 256) : EReal :=
  S e d * Ideal.exp (c 63 d) + ∑ t, v t e * (k t d * Ideal.exp (c 63 d - c t d))

/-- The normalised, weighted and gated output. -/
def out (t : Fin 64) (e : Fin 512) : EReal :=
  att c q k v S t e * Ideal.rsqrt (Ideal.div (∑ x, att c q k v S t x * att c q k v S t x) (Ideal.ofBits FTy.f32 0x44000000#32) + Ideal.ofBits FTy.f32 0x358637BD#32)
    * nw e * (g t e * Ideal.logistic (g t e))
end Chunk

/-- A select on "row at or below column" is an `if`. -/
theorem sel_ge {α : Type} (t s : Fin 64) (a b : α) :
    Scalar.select (IntOp.cmpi CmpIPredicate.sge (BitVec.ofNat 32 t.val) (BitVec.ofNat 32 s.val)) a b = if s ≤ t then a else b := by
  have h : ∀ t s : Fin 64, (IntOp.cmpi CmpIPredicate.sge (BitVec.ofNat 32 t.val) (BitVec.ofNat 32 s.val)) = if s ≤ t then 1#1 else 0#1 := by decide +kernel
  rw [h]
  by_cases hh : s ≤ t
  · simp [hh, Scalar.select]
  · simp [hh, Scalar.select]

/-- The mask's number times `x` is `x` where the mask holds and zero elsewhere. -/
theorem mask_mul (t s : Fin 64) (x : EReal) :
    (FloatOps.sitofp (F := Ideal) FTy.f32 (BitVec.setWidth 32 (IntOp.cmpi CmpIPredicate.sge (BitVec.ofNat 32 t.val) (BitVec.ofNat 32 s.val))) : EReal) * x = if s ≤ t then x else 0 := by
  have h : ∀ t s : Fin 64, (BitVec.setWidth 32 (IntOp.cmpi CmpIPredicate.sge (BitVec.ofNat 32 t.val) (BitVec.ofNat 32 s.val))) = if s ≤ t then 1#32 else 0#32 := by decide +kernel
  rw [h]
  by_cases hh : s ≤ t
  · rw [if_pos hh, if_pos hh]; show (((1#32 : BitVec 32).toInt : ℝ) : EReal) * x = x; simp
  · rw [if_neg hh, if_neg hh]; show (((0#32 : BitVec 32).toInt : ℝ) : EReal) * x = 0; simp

/-- Division by sixteen is multiplication by its reciprocal. -/
theorem div16 (x : EReal) : Ideal.div x (Ideal.ofBits FTy.f32 0x41800000#32) = x * c16 := by
  have h16 : Ideal.ofBits FTy.f32 0x41800000#32 = ((16 : ℝ) : EReal) := by
    simp [Ideal.ofBits, Ideal.ieee, -EReal.coe_mul]; norm_num
  have h1 : c16 = ((1 / 16 : ℝ) : EReal) := by
    simp [c16, Ideal.ofBits, Ideal.ieee, -EReal.coe_mul]; norm_num
  rw [h1, h16, Ideal.div, if_neg (by exact_mod_cast (by norm_num : (16 : ℝ) ≠ 0)), ← EReal.coe_inv]
  norm_num

end Cert.Gla
-- ==== Proof.KerPay.lean ====
module

public import proofs.«01_k».proof.Proof.Gen.KernelIdeal.Skeleton
public import proofs.«01_k».proof.Proof.Gla

/-! What one chunk of the kernel's body computes for each of the four heads, element by element: the terms of Gla. -/

@[expose] public section

set_option maxRecDepth 16384
noncomputable section
namespace Cert.KerPay
open Idealize.ShloMosaic Idealize.ShloMosaic.TcCoe Idealize.ShloMosaic.Tactic Idealize.SL.Sem
open Cert.KernelIdeal Cert.KernelIdeal.Gen Cert.Gla

section
variable (z : FVec Ideal S64x128 .f32) (w : FVec Ideal S128x1024 .bf16) (b : FVec Ideal S1x1024 .f32)

/-- The running sum of the decay's logarithm, at row `t` of the chunk and column `j`. -/
def cumP (t : Fin 64) (j : Fin 1024) : EReal := cum (fun x => ls (∑ i, z (ix2 x i) * w (ix2 i j) + b (ix2 0 j)) * c16) t

theorem pay4_at (t : Fin 64) (j : Fin 1024) : k0_pay4 (F := Ideal) k0_pay3 z w b (ix2 t j) = cumP z w b t j := by
  pointwise [k0_pay4, k0_pay3, k0_pay2]
  simp only [mask_mul, zero_sub, ne_eq, not_true_eq_false, if_false]
  rfl
theorem pay6_at (t : Fin 64) (j : Fin 1024) : k0_pay6 (F := Ideal) k0_pay3 z w b (ix2 t j) = Ideal.exp (cumP z w b t j) := by
  pointwise [k0_pay6]; rw [pay4_at]
theorem pay7_at (t : Fin 64) (j : Fin 1024) : k0_pay7 (F := Ideal) k0_pay3 z w b (ix2 t j) = Ideal.exp (-cumP z w b t j) := by
  pointwise [k0_pay7]; rw [pay4_at, zero_sub]
theorem pay8_at (t : Fin 64) (j : Fin 1024) : k0_pay8 (F := Ideal) k0_pay3 z w b (ix2 t j) = Ideal.exp (cumP z w b 63 j - cumP z w b t j) := by
  pointwise [k0_pay8, k0_pay5]; rw [pay4_at, pay4_at]
theorem pay9_at (j : Fin 1024) : k0_pay9 (F := Ideal) k0_pay3 z w b (ix2 0 j) = Ideal.exp (cumP z w b 63 j) := by
  pointwise [k0_pay9, k0_pay5]; rw [pay4_at]
end

section
variable (z : FVec Ideal S64x128 .f32) (w : FVec Ideal S128x1024 .bf16) (b : FVec Ideal S1x1024 .f32)
  (q k : FVec Ideal S64x256 .bf16) (v g : FVec Ideal S64x512 .bf16) (nw : FVec Ideal S1x512 .f32) (st : FVec Ideal S1x512x256 .f32)

/-- The running sums at the columns from `o` on. -/
abbrev cumH (o : ℕ) (ho : o + 256 ≤ 1024) : Fin 64 → Fin 256 → EReal := fun t d => cumP z w b t ⟨o + d.val, by omega⟩
/-- A 64-row block as a function of its two coordinates. -/
abbrev m2 {n : Nat} {φ : FTy} (x : FVec Ideal (⟨2, ![64, n]⟩ : Shape) φ) : Fin 64 → Fin n → EReal := fun t d => x (ix2 t d)
/-- The state of one head as a function of its two coordinates. -/
abbrev st2 : Fin 512 → Fin 256 → EReal := fun e d => st (ix3 0 e d)

/-- Head 0's output. -/
theorem out0 (t : Fin 64) (e : Fin 512) :
    k0_pay15 (F := Ideal) (k0_pay12 k0_pay2 (k0_pay6 k0_pay3 z w b) (k0_pay7 k0_pay3 z w b) q k v st) (k0_pay14 k0_pay2 (k0_pay6 k0_pay3 z w b) (k0_pay7 k0_pay3 z w b) q k v st) nw g (ix2 t e)
      = out (cumH z w b 0 (by decide)) (m2 q) (m2 k) (m2 v) (m2 g) (fun e => nw (ix2 0 e)) (st2 st) t e := by
  pointwise [k0_pay15, k0_pay14, k0_pay12, k0_pay10, k0_pay11, k0_pay2]
  simp only [pay6_at, pay7_at, sel_ge, out, att, score, cumH, m2, st2, c16, Nat.zero_add]
/-- Head 0's state after the chunk. -/
theorem upd0 (e : Fin 512) (d : Fin 256) :
    k0_pay13 (F := Ideal) (k0_pay8 k0_pay3 z w b) (k0_pay9 k0_pay3 z w b) k v st (ix3 0 e d) = upd (cumH z w b 0 (by decide)) (m2 k) (m2 v) (st2 st) e d := by
  pointwise [k0_pay13, k0_pay10, k0_pay11]
  simp only [pay8_at, pay9_at, upd, cumH, m2, st2, Nat.zero_add]

/-- Head 2's output. -/
theorem out2 (t : Fin 64) (e : Fin 512) :
    k0_pay28 (F := Ideal) (k0_pay25 k0_pay2 (k0_pay6 k0_pay3 z w b) (k0_pay7 k0_pay3 z w b) q k v st) (k0_pay27 k0_pay2 (k0_pay6 k0_pay3 z w b) (k0_pay7 k0_pay3 z w b) q k v st) nw g (ix2 t e)
      = out (cumH z w b 512 (by decide)) (m2 q) (m2 k) (m2 v) (m2 g) (fun e => nw (ix2 0 e)) (st2 st) t e := by
  pointwise [k0_pay28, k0_pay27, k0_pay25, k0_pay23, k0_pay24, k0_pay2]
  simp only [pay6_at, pay7_at, sel_ge, out, att, score, cumH, m2, st2, c16, Nat.zero_add]
/-- Head 2's state after the chunk. -/
theorem upd2 (e : Fin 512) (d : Fin 256) :
    k0_pay26 (F := Ideal) (k0_pay8 k0_pay3 z w b) (k0_pay9 k0_pay3 z w b) k v st (ix3 0 e d) = upd (cumH z w b 512 (by decide)) (m2 k) (m2 v) (st2 st) e d := by
  pointwise [k0_pay26, k0_pay23, k0_pay24]
  simp only [pay8_at, pay9_at, upd, cumH, m2, st2, Nat.zero_add]

/-- Head 1's output. -/
theorem out1 (t : Fin 64) (e : Fin 512) :
    k0_pay22 (F := Ideal) v (k0_pay18 (k0_pay6 k0_pay3 z w b) q) (k0_pay19 k0_pay2 (k0_pay6 k0_pay3 z w b) (k0_pay7 k0_pay3 z w b) q k) st nw g (ix2 t e)
      = out (cumH z w b 256 (by decide)) (m2 q) (m2 k) (m2 v) (m2 g) (fun e => nw (ix2 0 e)) (st2 st) t e := by
  pointwise [k0_pay22, k0_pay18, k0_pay19, k0_pay16, k0_pay17, k0_pay20, k0_pay2]
  simp only [pay6_at, pay7_at, sel_ge, out, att, score, cumH, m2, st2, c16, Nat.zero_add]
/-- Head 1's state after the chunk. -/
theorem upd1 (e : Fin 512) (d : Fin 256) :
    k0_pay21 (F := Ideal) (k0_pay8 k0_pay3 z w b) (k0_pay9 k0_pay3 z w b) (k0_pay17 k) v st (ix3 0 e d) = upd (cumH z w b 256 (by decide)) (m2 k) (m2 v) (st2 st) e d := by
  pointwise [k0_pay21, k0_pay17, k0_pay20]
  simp only [pay8_at, pay9_at, upd, cumH, m2, st2, Nat.zero_add]

/-- Head 3's output. -/
theorem out3 (t : Fin 64) (e : Fin 512) :
    k0_pay35 (F := Ideal) v (k0_pay31 (k0_pay6 k0_pay3 z w b) q) (k0_pay32 k0_pay2 (k0_pay6 k0_pay3 z w b) (k0_pay7 k0_pay3 z w b) q k) st nw g (ix2 t e)
      = out (cumH z w b 768 (by decide)) (m2 q) (m2 k) (m2 v) (m2 g) (fun e => nw (ix2 0 e)) (st2 st) t e := by
  pointwise [k0_pay35, k0_pay31, k0_pay32, k0_pay29, k0_pay30, k0_pay33, k0_pay2]
  simp only [pay6_at, pay7_at, sel_ge, out, att, score, cumH, m2, st2, c16, Nat.zero_add]
/-- Head 3's state after the chunk. -/
theorem upd3 (e : Fin 512) (d : Fin 256) :
    k0_pay34 (F := Ideal) (k0_pay8 k0_pay3 z w b) (k0_pay9 k0_pay3 z w b) (k0_pay30 k) v st (ix3 0 e d) = upd (cumH z w b 768 (by decide)) (m2 k) (m2 v) (st2 st) e d := by
  pointwise [k0_pay34, k0_pay30, k0_pay33]
  simp only [pay8_at, pay9_at, upd, cumH, m2, st2, Nat.zero_add]
end
end Cert.KerPay
-- ==== Proof.KerTile.lean ====
module

public import proofs.«01_k».proof.Proof.OwnKernelIdeal.Value
public import proofs.«01_k».proof.Proof.KerPay

/-! What the kernel's body leaves after its counted loop: four trips, one chunk of 64 rows each. The output block holds
each chunk's gated output and the carried scratch the state after the last chunk. -/

@[expose] public section

set_option maxRecDepth 16384
noncomputable section
namespace Cert.KerTile
open Idealize.ShloMosaic Idealize.ShloMosaic.TcCoe Idealize.ShloMosaic.Tactic Idealize.SL.Sem
open Cert.KernelIdeal Cert.KernelIdeal.Gen Cert.Gla Cert.KerPay

/-- A block of consecutive rows and columns of a two-axis array, read at an index. -/
theorem ld2 {α : Type} {R C n0 n1 : ℕ} (X : (⟨2, ![R, C]⟩ : Shape).Idx → α) (a b a' b' : ℕ) (ha : a = a') (hb : b = b')
    (inb : ∀ i, (![a, b] : Fin 2 → ℕ) i + (![n0, n1] : Fin 2 → ℕ) i ≤ (⟨2, ![R, C]⟩ : Shape).size i) (t : Fin n0) (d : Fin n1) (ht : a' + t.val < R) (hd : b' + d.val < C) :
    X ((Rect.unit (s := ⟨2, ![R, C]⟩) ![a, b] ![n0, n1] inb).toLoadRect.idx (ix2 t d)) = X (ix2 ⟨a' + t.val, ht⟩ ⟨b' + d.val, hd⟩) := by
  subst ha hb
  congr 1
  funext i
  refine Fin.ext ?_
  match i with
  | ⟨0, _⟩ => show a + 1 * t.val = a + t.val; omega
  | ⟨1, _⟩ => show b + 1 * d.val = b + d.val; omega

/-- One head's slab of a three-axis array, read at an index. -/
theorem ld3 {α : Type} {H n0 n1 : ℕ} (X : (⟨3, ![H, n0, n1]⟩ : Shape).Idx → α) (h : Fin H)
    (inb : ∀ i, (![h.val, 0, 0] : Fin 3 → ℕ) i + (![1, n0, n1] : Fin 3 → ℕ) i ≤ (⟨3, ![H, n0, n1]⟩ : Shape).size i) (t : Fin n0) (d : Fin n1) :
    X ((Rect.unit (s := ⟨3, ![H, n0, n1]⟩) ![h.val, 0, 0] ![1, n0, n1] inb).toLoadRect.idx (ix3 0 t d)) = X (ix3 h t d) := by
  congr 1
  funext i
  refine Fin.ext ?_
  match i with
  | ⟨0, _⟩ => show h.val + 1 * 0 = h.val; omega
  | ⟨1, _⟩ => show 0 + 1 * t.val = t.val; omega
  | ⟨2, _⟩ => show 0 + 1 * d.val = d.val; omega

theorem mem4 {α : Type*} {a b c d p : α} (h : p ∈ [a, b, c, d]) : p = a ∨ p = b ∨ p = c ∨ p = d := by simpa using h

section
variable (Q K : FVec Ideal S256x1024 .bf16) (Vv Gg : FVec Ideal S256x2048 .bf16) (Z : FVec Ideal S256x128 .f32)
  (W : FVec Ideal S128x1024 .bf16) (B : FVec Ideal S1x1024 .f32) (N : FVec Ideal S1x2048 .f32)

/-- Chunk `k` of a block of 256 rows, at the columns of head `h`. -/
def chT {C n : ℕ} (hC : 4 * n = C) (X : (⟨2, ![256, C]⟩ : Shape).Idx → EReal) (k h : Fin 4) (t : Fin 64) (d : Fin n) : EReal :=
  X (ix2 ⟨64 * k.val + t.val, by omega⟩ ⟨h.val * n + d.val, by
    have h1 := d.isLt; have h2 := h.isLt
    have : h.val * n ≤ 3 * n := Nat.mul_le_mul_right n (by omega)
    omega⟩)
/-- The running sums of the decay's logarithm in chunk `k`, head `h`. -/
def cT (k h : Fin 4) (t : Fin 64) (d : Fin 256) : EReal :=
  cum (fun x => ls (∑ i : Fin 128, Z (ix2 ⟨64 * k.val + x.val, by omega⟩ i) * W (ix2 i ⟨h.val * 256 + d.val, by omega⟩) + B (ix2 0 ⟨h.val * 256 + d.val, by omega⟩)) * c16) t
/-- Head `h`'s state after chunk `k`. -/
def updT (k : Fin 4) (S : Fin 4 → Fin 512 → Fin 256 → EReal) (h : Fin 4) : Fin 512 → Fin 256 → EReal :=
  upd (cT Z W B k h) (chT (C := 1024) (n := 256) rfl K k h) (chT (C := 2048) (n := 512) rfl Vv k h) (S h)
/-- Head `h`'s output in chunk `k`. -/
def chO (k : Fin 4) (S : Fin 4 → Fin 512 → Fin 256 → EReal) (h : Fin 4) : Fin 64 → Fin 512 → EReal :=
  out (cT Z W B k h) (chT (C := 1024) (n := 256) rfl Q k h) (chT (C := 1024) (n := 256) rfl K k h) (chT (C := 2048) (n := 512) rfl Vv k h)
    (chT (C := 2048) (n := 512) rfl Gg k h) (fun e => N (ix2 0 ⟨h.val * 512 + e.val, by omega⟩)) (S h)
/-- The states before the block's chunk `k`, from those that enter the block. -/
def stT (S : Fin 4 → Fin 512 → Fin 256 → EReal) : ℕ → Fin 4 → Fin 512 → Fin 256 → EReal
  | 0 => S
  | k + 1 => if hk : k < 4 then updT K Vv Z W B ⟨k, hk⟩ (stT S k) else stT S k
/-- The block's output at an index. -/
def outT (S : Fin 4 → Fin 512 → Fin 256 → EReal) (y : S256x2048.Idx) : EReal :=
  chO Q K Vv Gg Z W B N ⟨(y 0).val / 64, by have : (y 0).val < 256 := (y 0).isLt; omega⟩ (stT K Vv Z W B S ((y 0).val / 64)) ⟨(y 1).val / 512, by have : (y 1).val < 2048 := (y 1).isLt; omega⟩
    ⟨(y 0).val % 64, by omega⟩ ⟨(y 1).val % 512, by omega⟩

theorem outT_at (S : Fin 4 → Fin 512 → Fin 256 → EReal) (k h : Fin 4) (t : Fin 64) (e : Fin 512) (y : S256x2048.Idx)
    (h0 : (y 0).val = 64 * k.val + t.val) (h1 : (y 1).val = 512 * h.val + e.val) :
    outT Q K Vv Gg Z W B N S y = chO Q K Vv Gg Z W B N k (stT K Vv Z W B S k.val) h t e := by
  have e0 : (⟨(y 0).val / 64, by have : (y 0).val < 256 := (y 0).isLt; omega⟩ : Fin 4) = k := Fin.ext (by show (y 0).val / 64 = k.val; omega)
  have e1 : (⟨(y 1).val / 512, by have : (y 1).val < 2048 := (y 1).isLt; omega⟩ : Fin 4) = h := Fin.ext (by show (y 1).val / 512 = h.val; omega)
  have e2 : (⟨(y 0).val % 64, by omega⟩ : Fin 64) = t := Fin.ext (by show (y 0).val % 64 = t.val; omega)
  have e3 : (⟨(y 1).val % 512, by omega⟩ : Fin 512) = e := Fin.ext (by show (y 1).val % 512 = e.val; omega)
  have e4 : (y 0).val / 64 = k.val := by omega
  unfold outT
  rw [e0, e1, e2, e3, e4]

/-- The scratch's contents after chunk `k`. -/
def stN (k : Fin 4) (S : Fin 4 → Fin 512 → Fin 256 → EReal) (y : S4x512x256.Idx) : EReal := updT K Vv Z W B k S (y 0) (y 1) (y 2)

theorem stN_at (k : Fin 4) (S : Fin 4 → Fin 512 → Fin 256 → EReal) (h : Fin 4) (e : Fin 512) (d : Fin 256) (y : S4x512x256.Idx)
    (h0 : (y 0).val = h.val) (h1 : (y 1).val = e.val) (h2 : (y 2).val = d.val) : stN K Vv Z W B k S y = updT K Vv Z W B k S h e d := by
  have e0 : y 0 = h := Fin.ext h0
  have e1 : y 1 = e := Fin.ext h1
  have e2 : y 2 = d := Fin.ext h2
  unfold stN
  rw [e0, e1, e2]

theorem chO_of (k h : Fin 4) (S : Fin 4 → Fin 512 → Fin 256 → EReal) (t : Fin 64) (e : Fin 512)
    {c q kk : Fin 64 → Fin 256 → EReal} {v g : Fin 64 → Fin 512 → EReal} {nw : Fin 512 → EReal} {st : Fin 512 → Fin 256 → EReal}
    (hc : c = cT Z W B k h) (hq : q = chT (C := 1024) (n := 256) rfl Q k h) (hkk : kk = chT (C := 1024) (n := 256) rfl K k h)
    (hv : v = chT (C := 2048) (n := 512) rfl Vv k h) (hg : g = chT (C := 2048) (n := 512) rfl Gg k h)
    (hn : nw = fun e => N (ix2 0 ⟨h.val * 512 + e.val, by omega⟩)) (hs : st = S h) :
    out c q kk v g nw st t e = chO Q K Vv Gg Z W B N k S h t e := by subst hc hq hkk hv hg hn hs; rfl

theorem updT_of (k : Fin 4) (S : Fin 4 → Fin 512 → Fin 256 → EReal) (h : Fin 4) (e : Fin 512) (d : Fin 256)
    {c kk : Fin 64 → Fin 256 → EReal} {v : Fin 64 → Fin 512 → EReal} {st : Fin 512 → Fin 256 → EReal}
    (hc : c = cT Z W B k h) (hkk : kk = chT (C := 1024) (n := 256) rfl K k h)
    (hv : v = chT (C := 2048) (n := 512) rfl Vv k h) (hs : st = S h) :
    upd c kk v st e d = updT K Vv Z W B k S h e d := by subst hc hkk hv hs; rfl
end

theorem rowoff : ∀ k : Fin k0_t1_loop.trips, BitVec.toNat (Scalar.indexCast (Scalar.muli (Scf.iv 0#32 1#32 k.val) 64#32)) = 64 * k.val := by decide +kernel
theorem trips_eq : k0_t1_loop.trips = 4 := by decide +kernel

section
variable  (𝒱 : Variants) (c : Dev nD) (bd : Option 𝒱.V) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x2048 .f32) (harg9 : arg9.IsWhole) (arg10 : Memref sig .tc .vmem S256x2048 .bf16) (harg10 : arg10.IsWhole) (arg11 : Memref sig .tc .vmem S4x512x256 .f32) (harg11 : arg11.IsWhole) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty)

/-- The scratch's contents by head, value column and key column. -/
abbrev S3 (f : BufTy.Contents (Elt Ideal) arg11.view.ty) : Fin 4 → Fin 512 → Fin 256 → EReal := fun h e d => (arg11.view.read (Elt Ideal) f : S4x512x256.Idx → EReal) (ix3 h e d)

/-- The chunk's row offset, as a number below four. -/
abbrev k4 (k : Fin k0_t1_loop.trips) : Fin 4 := ⟨k.val, by have := k.isLt; have := trips_eq; omega⟩

/-- The running sums of one trip's loads are those of the block's chunk. -/
theorem cum_tie (k : Fin k0_t1_loop.trips) (h : Fin 4) (o : ℕ) (ho : o + 256 ≤ 1024) (hh : o = h.val * 256)
    (z : FVec Ideal S64x128 .f32) (w : FVec Ideal S128x1024 .bf16) (b : FVec Ideal S1x1024 .f32)
    (hz : ∀ x i, z (ix2 x i) = (arg6.view.read (Elt Ideal) X_arg6 : S256x128.Idx → EReal) (ix2 ⟨64 * k.val + x.val, by have := k.isLt; have := trips_eq; omega⟩ i))
    (hw : ∀ i j, w (ix2 i j) = (arg7.view.read (Elt Ideal) X_arg7 : S128x1024.Idx → EReal) (ix2 i j)) (hb : ∀ j, b (ix2 0 j) = (arg8.view.read (Elt Ideal) X_arg8 : S1x1024.Idx → EReal) (ix2 0 j)) :
    cumH z w b o ho = cT (arg6.view.read (Elt Ideal) X_arg6 : S256x128.Idx → EReal) (arg7.view.read (Elt Ideal) X_arg7 : S128x1024.Idx → EReal) (arg8.view.read (Elt Ideal) X_arg8 : S1x1024.Idx → EReal) (k4 k) h := by
  subst hh
  funext t d
  unfold cumH cumP cT
  simp only [hz, hw, hb]

/-- Every piece a trip stores in the output block agrees with the block's output. -/
theorem trip_out (k : Fin k0_t1_loop.trips) (f10 : BufTy.Contents (Elt Ideal) arg10.view.ty) (f11 : BufTy.Contents (Elt Ideal) arg11.view.ty)
    (S : Fin 4 → Fin 512 → Fin 256 → EReal) (hS : ∀ h e d, S3 arg11 f11 h e d = stT (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) S k.val h e d) :
    ∀ p ∈ (tripL_k0_t1 (F := Ideal) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 k f10 f11).1, ∀ x, p.2 x = outT (arg2.view.read (Elt Ideal) X_arg2 : S256x1024.Idx → EReal) (arg3.view.read (Elt Ideal) X_arg3 : S256x1024.Idx → EReal) (arg4.view.read (Elt Ideal) X_arg4 : S256x2048.Idx → EReal) (arg5.view.read (Elt Ideal) X_arg5 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (arg9.view.read (Elt Ideal) X_arg9 : S1x2048.Idx → EReal) S (p.1.emb x) := by
  unfold tripL_k0_t1 trip_k0_t1
  dsimp only
  sl_unfold_words
  dsimp only
  intro p hp
  have hk := rowoff k
  have hk4 : k.val < 4 := by have := k.isLt; have := trips_eq; omega
  rcases mem4 hp with rfl | rfl | rfl | rfl
  · intro x
    obtain ⟨t, e, rfl⟩ : ∃ (t : Fin 64) (e : Fin 512), x = ix2 t e := ⟨x 0, x 1, eq_ix2 x⟩
    refine Eq.trans (KerPay.out3 _ _ _ _ _ _ _ _ _ t e) ?_
    refine Eq.trans (chO_of (arg2.view.read (Elt Ideal) X_arg2 : S256x1024.Idx → EReal) (arg3.view.read (Elt Ideal) X_arg3 : S256x1024.Idx → EReal) (arg4.view.read (Elt Ideal) X_arg4 : S256x2048.Idx → EReal) (arg5.view.read (Elt Ideal) X_arg5 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (arg9.view.read (Elt Ideal) X_arg9 : S1x2048.Idx → EReal) (k4 k) 3 (stT (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) S k.val) t e ?_ ?_ ?_ ?_ ?_ ?_ ?_) (outT_at (arg2.view.read (Elt Ideal) X_arg2 : S256x1024.Idx → EReal) (arg3.view.read (Elt Ideal) X_arg3 : S256x1024.Idx → EReal) (arg4.view.read (Elt Ideal) X_arg4 : S256x2048.Idx → EReal) (arg5.view.read (Elt Ideal) X_arg5 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (arg9.view.read (Elt Ideal) X_arg9 : S1x2048.Idx → EReal) S (k4 k) 3 t e _ (by show BitVec.toNat _ + 1 * t.val = _; rw [hk]; show 64 * k.val + 1 * t.val = 64 * k.val + t.val; omega) (by show 1536 + 1 * e.val = 512 * 3 + e.val; omega)).symm
    · exact cum_tie (k := k) (h := 3) (o := 768) (hh := rfl) (hz := fun x i => (ld2 (arg6.view.read (Elt Ideal) X_arg6 : S256x128.Idx → EReal) _ _ (64 * k.val) 0 hk rfl _ x i (by omega) (by omega)).trans (by simp only [Nat.zero_add])) (hw := fun i j => (ld2 (arg7.view.read (Elt Ideal) X_arg7 : S128x1024.Idx → EReal) _ _ 0 0 rfl rfl _ i j (by omega) (by omega)).trans (by simp only [Nat.zero_add])) (hb := fun j => (ld2 (arg8.view.read (Elt Ideal) X_arg8 : S1x1024.Idx → EReal) _ _ 0 0 rfl rfl _ 0 j (by omega) (by omega)).trans (by simp only [Nat.zero_add])) ..
    · funext t d; exact ld2 (arg2.view.read (Elt Ideal) X_arg2 : S256x1024.Idx → EReal) _ _ (64 * k.val) 768 hk rfl _ t d (by omega) (by omega)
    · funext t d; exact ld2 (arg3.view.read (Elt Ideal) X_arg3 : S256x1024.Idx → EReal) _ _ (64 * k.val) 768 hk rfl _ t d (by omega) (by omega)
    · funext t d; exact ld2 (arg4.view.read (Elt Ideal) X_arg4 : S256x2048.Idx → EReal) _ _ (64 * k.val) 1536 hk rfl _ t d (by omega) (by omega)
    · funext t d; exact ld2 (arg5.view.read (Elt Ideal) X_arg5 : S256x2048.Idx → EReal) _ _ (64 * k.val) 1536 hk rfl _ t d (by omega) (by omega)
    · funext d; exact (ld2 (arg9.view.read (Elt Ideal) X_arg9 : S1x2048.Idx → EReal) _ _ 0 1536 rfl rfl _ 0 d (by omega) (by omega)).trans (congrArg (fun a => (arg9.view.read (Elt Ideal) X_arg9 : S1x2048.Idx → EReal) (ix2 0 a)) (Fin.ext (show 1536 + d.val = 3 * 512 + d.val by omega)))
    · funext e d; exact (ld3 (arg11.view.read (Elt Ideal) f11 : S4x512x256.Idx → EReal) 3 _ e d).trans (hS 3 e d)
  · intro x
    obtain ⟨t, e, rfl⟩ : ∃ (t : Fin 64) (e : Fin 512), x = ix2 t e := ⟨x 0, x 1, eq_ix2 x⟩
    refine Eq.trans (KerPay.out2 _ _ _ _ _ _ _ _ _ t e) ?_
    refine Eq.trans (chO_of (arg2.view.read (Elt Ideal) X_arg2 : S256x1024.Idx → EReal) (arg3.view.read (Elt Ideal) X_arg3 : S256x1024.Idx → EReal) (arg4.view.read (Elt Ideal) X_arg4 : S256x2048.Idx → EReal) (arg5.view.read (Elt Ideal) X_arg5 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (arg9.view.read (Elt Ideal) X_arg9 : S1x2048.Idx → EReal) (k4 k) 2 (stT (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) S k.val) t e ?_ ?_ ?_ ?_ ?_ ?_ ?_) (outT_at (arg2.view.read (Elt Ideal) X_arg2 : S256x1024.Idx → EReal) (arg3.view.read (Elt Ideal) X_arg3 : S256x1024.Idx → EReal) (arg4.view.read (Elt Ideal) X_arg4 : S256x2048.Idx → EReal) (arg5.view.read (Elt Ideal) X_arg5 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (arg9.view.read (Elt Ideal) X_arg9 : S1x2048.Idx → EReal) S (k4 k) 2 t e _ (by show BitVec.toNat _ + 1 * t.val = _; rw [hk]; show 64 * k.val + 1 * t.val = 64 * k.val + t.val; omega) (by show 1024 + 1 * e.val = 512 * 2 + e.val; omega)).symm
    · exact cum_tie (k := k) (h := 2) (o := 512) (hh := rfl) (hz := fun x i => (ld2 (arg6.view.read (Elt Ideal) X_arg6 : S256x128.Idx → EReal) _ _ (64 * k.val) 0 hk rfl _ x i (by omega) (by omega)).trans (by simp only [Nat.zero_add])) (hw := fun i j => (ld2 (arg7.view.read (Elt Ideal) X_arg7 : S128x1024.Idx → EReal) _ _ 0 0 rfl rfl _ i j (by omega) (by omega)).trans (by simp only [Nat.zero_add])) (hb := fun j => (ld2 (arg8.view.read (Elt Ideal) X_arg8 : S1x1024.Idx → EReal) _ _ 0 0 rfl rfl _ 0 j (by omega) (by omega)).trans (by simp only [Nat.zero_add])) ..
    · funext t d; exact ld2 (arg2.view.read (Elt Ideal) X_arg2 : S256x1024.Idx → EReal) _ _ (64 * k.val) 512 hk rfl _ t d (by omega) (by omega)
    · funext t d; exact ld2 (arg3.view.read (Elt Ideal) X_arg3 : S256x1024.Idx → EReal) _ _ (64 * k.val) 512 hk rfl _ t d (by omega) (by omega)
    · funext t d; exact ld2 (arg4.view.read (Elt Ideal) X_arg4 : S256x2048.Idx → EReal) _ _ (64 * k.val) 1024 hk rfl _ t d (by omega) (by omega)
    · funext t d; exact ld2 (arg5.view.read (Elt Ideal) X_arg5 : S256x2048.Idx → EReal) _ _ (64 * k.val) 1024 hk rfl _ t d (by omega) (by omega)
    · funext d; exact (ld2 (arg9.view.read (Elt Ideal) X_arg9 : S1x2048.Idx → EReal) _ _ 0 1024 rfl rfl _ 0 d (by omega) (by omega)).trans (congrArg (fun a => (arg9.view.read (Elt Ideal) X_arg9 : S1x2048.Idx → EReal) (ix2 0 a)) (Fin.ext (show 1024 + d.val = 2 * 512 + d.val by omega)))
    · funext e d; exact (ld3 (arg11.view.read (Elt Ideal) f11 : S4x512x256.Idx → EReal) 2 _ e d).trans (hS 2 e d)
  · intro x
    obtain ⟨t, e, rfl⟩ : ∃ (t : Fin 64) (e : Fin 512), x = ix2 t e := ⟨x 0, x 1, eq_ix2 x⟩
    refine Eq.trans (KerPay.out1 _ _ _ _ _ _ _ _ _ t e) ?_
    refine Eq.trans (chO_of (arg2.view.read (Elt Ideal) X_arg2 : S256x1024.Idx → EReal) (arg3.view.read (Elt Ideal) X_arg3 : S256x1024.Idx → EReal) (arg4.view.read (Elt Ideal) X_arg4 : S256x2048.Idx → EReal) (arg5.view.read (Elt Ideal) X_arg5 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (arg9.view.read (Elt Ideal) X_arg9 : S1x2048.Idx → EReal) (k4 k) 1 (stT (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) S k.val) t e ?_ ?_ ?_ ?_ ?_ ?_ ?_) (outT_at (arg2.view.read (Elt Ideal) X_arg2 : S256x1024.Idx → EReal) (arg3.view.read (Elt Ideal) X_arg3 : S256x1024.Idx → EReal) (arg4.view.read (Elt Ideal) X_arg4 : S256x2048.Idx → EReal) (arg5.view.read (Elt Ideal) X_arg5 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (arg9.view.read (Elt Ideal) X_arg9 : S1x2048.Idx → EReal) S (k4 k) 1 t e _ (by show BitVec.toNat _ + 1 * t.val = _; rw [hk]; show 64 * k.val + 1 * t.val = 64 * k.val + t.val; omega) (by show 512 + 1 * e.val = 512 * 1 + e.val; omega)).symm
    · exact cum_tie (k := k) (h := 1) (o := 256) (hh := rfl) (hz := fun x i => (ld2 (arg6.view.read (Elt Ideal) X_arg6 : S256x128.Idx → EReal) _ _ (64 * k.val) 0 hk rfl _ x i (by omega) (by omega)).trans (by simp only [Nat.zero_add])) (hw := fun i j => (ld2 (arg7.view.read (Elt Ideal) X_arg7 : S128x1024.Idx → EReal) _ _ 0 0 rfl rfl _ i j (by omega) (by omega)).trans (by simp only [Nat.zero_add])) (hb := fun j => (ld2 (arg8.view.read (Elt Ideal) X_arg8 : S1x1024.Idx → EReal) _ _ 0 0 rfl rfl _ 0 j (by omega) (by omega)).trans (by simp only [Nat.zero_add])) ..
    · funext t d; exact ld2 (arg2.view.read (Elt Ideal) X_arg2 : S256x1024.Idx → EReal) _ _ (64 * k.val) 256 hk rfl _ t d (by omega) (by omega)
    · funext t d; exact ld2 (arg3.view.read (Elt Ideal) X_arg3 : S256x1024.Idx → EReal) _ _ (64 * k.val) 256 hk rfl _ t d (by omega) (by omega)
    · funext t d; exact ld2 (arg4.view.read (Elt Ideal) X_arg4 : S256x2048.Idx → EReal) _ _ (64 * k.val) 512 hk rfl _ t d (by omega) (by omega)
    · funext t d; exact ld2 (arg5.view.read (Elt Ideal) X_arg5 : S256x2048.Idx → EReal) _ _ (64 * k.val) 512 hk rfl _ t d (by omega) (by omega)
    · funext d; exact (ld2 (arg9.view.read (Elt Ideal) X_arg9 : S1x2048.Idx → EReal) _ _ 0 512 rfl rfl _ 0 d (by omega) (by omega)).trans (congrArg (fun a => (arg9.view.read (Elt Ideal) X_arg9 : S1x2048.Idx → EReal) (ix2 0 a)) (Fin.ext (show 512 + d.val = 1 * 512 + d.val by omega)))
    · funext e d; exact (ld3 (arg11.view.read (Elt Ideal) f11 : S4x512x256.Idx → EReal) 1 _ e d).trans (hS 1 e d)
  · intro x
    obtain ⟨t, e, rfl⟩ : ∃ (t : Fin 64) (e : Fin 512), x = ix2 t e := ⟨x 0, x 1, eq_ix2 x⟩
    refine Eq.trans (KerPay.out0 _ _ _ _ _ _ _ _ _ t e) ?_
    refine Eq.trans (chO_of (arg2.view.read (Elt Ideal) X_arg2 : S256x1024.Idx → EReal) (arg3.view.read (Elt Ideal) X_arg3 : S256x1024.Idx → EReal) (arg4.view.read (Elt Ideal) X_arg4 : S256x2048.Idx → EReal) (arg5.view.read (Elt Ideal) X_arg5 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (arg9.view.read (Elt Ideal) X_arg9 : S1x2048.Idx → EReal) (k4 k) 0 (stT (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) S k.val) t e ?_ ?_ ?_ ?_ ?_ ?_ ?_) (outT_at (arg2.view.read (Elt Ideal) X_arg2 : S256x1024.Idx → EReal) (arg3.view.read (Elt Ideal) X_arg3 : S256x1024.Idx → EReal) (arg4.view.read (Elt Ideal) X_arg4 : S256x2048.Idx → EReal) (arg5.view.read (Elt Ideal) X_arg5 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (arg9.view.read (Elt Ideal) X_arg9 : S1x2048.Idx → EReal) S (k4 k) 0 t e _ (by show BitVec.toNat _ + 1 * t.val = _; rw [hk]; show 64 * k.val + 1 * t.val = 64 * k.val + t.val; omega) (by show 0 + 1 * e.val = 512 * 0 + e.val; omega)).symm
    · exact cum_tie (k := k) (h := 0) (o := 0) (hh := rfl) (hz := fun x i => (ld2 (arg6.view.read (Elt Ideal) X_arg6 : S256x128.Idx → EReal) _ _ (64 * k.val) 0 hk rfl _ x i (by omega) (by omega)).trans (by simp only [Nat.zero_add])) (hw := fun i j => (ld2 (arg7.view.read (Elt Ideal) X_arg7 : S128x1024.Idx → EReal) _ _ 0 0 rfl rfl _ i j (by omega) (by omega)).trans (by simp only [Nat.zero_add])) (hb := fun j => (ld2 (arg8.view.read (Elt Ideal) X_arg8 : S1x1024.Idx → EReal) _ _ 0 0 rfl rfl _ 0 j (by omega) (by omega)).trans (by simp only [Nat.zero_add])) ..
    · funext t d; exact ld2 (arg2.view.read (Elt Ideal) X_arg2 : S256x1024.Idx → EReal) _ _ (64 * k.val) 0 hk rfl _ t d (by omega) (by omega)
    · funext t d; exact ld2 (arg3.view.read (Elt Ideal) X_arg3 : S256x1024.Idx → EReal) _ _ (64 * k.val) 0 hk rfl _ t d (by omega) (by omega)
    · funext t d; exact ld2 (arg4.view.read (Elt Ideal) X_arg4 : S256x2048.Idx → EReal) _ _ (64 * k.val) 0 hk rfl _ t d (by omega) (by omega)
    · funext t d; exact ld2 (arg5.view.read (Elt Ideal) X_arg5 : S256x2048.Idx → EReal) _ _ (64 * k.val) 0 hk rfl _ t d (by omega) (by omega)
    · funext d; exact (ld2 (arg9.view.read (Elt Ideal) X_arg9 : S1x2048.Idx → EReal) _ _ 0 0 rfl rfl _ 0 d (by omega) (by omega)).trans (congrArg (fun a => (arg9.view.read (Elt Ideal) X_arg9 : S1x2048.Idx → EReal) (ix2 0 a)) (Fin.ext (show 0 + d.val = 0 * 512 + d.val by omega)))
    · funext e d; exact (ld3 (arg11.view.read (Elt Ideal) f11 : S4x512x256.Idx → EReal) 0 _ e d).trans (hS 0 e d)

/-- Every piece a trip stores in the scratch agrees with the states after the chunk. -/
theorem trip_st (k : Fin k0_t1_loop.trips) (f10 : BufTy.Contents (Elt Ideal) arg10.view.ty) (f11 : BufTy.Contents (Elt Ideal) arg11.view.ty) :
    ∀ p ∈ (tripL_k0_t1 (F := Ideal) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 k f10 f11).2, ∀ x, p.2 x = (stN (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (k4 k) (S3 arg11 f11)) (p.1.emb x) := by
  unfold tripL_k0_t1 trip_k0_t1
  dsimp only
  sl_unfold_words
  dsimp only
  intro p hp
  have hk := rowoff k
  have hk4 : k.val < 4 := by have := k.isLt; have := trips_eq; omega
  rcases mem4 hp with rfl | rfl | rfl | rfl
  · intro x
    obtain ⟨e, d, rfl⟩ : ∃ (e : Fin 512) (d : Fin 256), x = ix3 0 e d := ⟨x 1, x 2, (eq_ix3 x).trans (by congr 1; exact Subsingleton.elim (α := Fin 1) _ _)⟩
    refine Eq.trans (KerPay.upd3 _ _ _ _ _ _ e d) ?_
    refine Eq.trans (updT_of (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (k4 k) (S3 arg11 f11) 3 e d ?_ ?_ ?_ ?_) (stN_at (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (k4 k) (S3 arg11 f11) 3 e d _ (by show 3 + 1 * 0 = 3; rfl) (by show 0 + 1 * e.val = e.val; omega) (by show 0 + 1 * d.val = d.val; omega)).symm
    · exact cum_tie (k := k) (h := 3) (o := 768) (hh := rfl) (hz := fun x i => (ld2 (arg6.view.read (Elt Ideal) X_arg6 : S256x128.Idx → EReal) _ _ (64 * k.val) 0 hk rfl _ x i (by omega) (by omega)).trans (by simp only [Nat.zero_add])) (hw := fun i j => (ld2 (arg7.view.read (Elt Ideal) X_arg7 : S128x1024.Idx → EReal) _ _ 0 0 rfl rfl _ i j (by omega) (by omega)).trans (by simp only [Nat.zero_add])) (hb := fun j => (ld2 (arg8.view.read (Elt Ideal) X_arg8 : S1x1024.Idx → EReal) _ _ 0 0 rfl rfl _ 0 j (by omega) (by omega)).trans (by simp only [Nat.zero_add])) ..
    · funext t d; exact ld2 (arg3.view.read (Elt Ideal) X_arg3 : S256x1024.Idx → EReal) _ _ (64 * k.val) 768 hk rfl _ t d (by omega) (by omega)
    · funext t d; exact ld2 (arg4.view.read (Elt Ideal) X_arg4 : S256x2048.Idx → EReal) _ _ (64 * k.val) 1536 hk rfl _ t d (by omega) (by omega)
    · funext e d; exact ld3 (arg11.view.read (Elt Ideal) f11 : S4x512x256.Idx → EReal) 3 _ e d
  · intro x
    obtain ⟨e, d, rfl⟩ : ∃ (e : Fin 512) (d : Fin 256), x = ix3 0 e d := ⟨x 1, x 2, (eq_ix3 x).trans (by congr 1; exact Subsingleton.elim (α := Fin 1) _ _)⟩
    refine Eq.trans (KerPay.upd2 _ _ _ _ _ _ e d) ?_
    refine Eq.trans (updT_of (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (k4 k) (S3 arg11 f11) 2 e d ?_ ?_ ?_ ?_) (stN_at (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (k4 k) (S3 arg11 f11) 2 e d _ (by show 2 + 1 * 0 = 2; rfl) (by show 0 + 1 * e.val = e.val; omega) (by show 0 + 1 * d.val = d.val; omega)).symm
    · exact cum_tie (k := k) (h := 2) (o := 512) (hh := rfl) (hz := fun x i => (ld2 (arg6.view.read (Elt Ideal) X_arg6 : S256x128.Idx → EReal) _ _ (64 * k.val) 0 hk rfl _ x i (by omega) (by omega)).trans (by simp only [Nat.zero_add])) (hw := fun i j => (ld2 (arg7.view.read (Elt Ideal) X_arg7 : S128x1024.Idx → EReal) _ _ 0 0 rfl rfl _ i j (by omega) (by omega)).trans (by simp only [Nat.zero_add])) (hb := fun j => (ld2 (arg8.view.read (Elt Ideal) X_arg8 : S1x1024.Idx → EReal) _ _ 0 0 rfl rfl _ 0 j (by omega) (by omega)).trans (by simp only [Nat.zero_add])) ..
    · funext t d; exact ld2 (arg3.view.read (Elt Ideal) X_arg3 : S256x1024.Idx → EReal) _ _ (64 * k.val) 512 hk rfl _ t d (by omega) (by omega)
    · funext t d; exact ld2 (arg4.view.read (Elt Ideal) X_arg4 : S256x2048.Idx → EReal) _ _ (64 * k.val) 1024 hk rfl _ t d (by omega) (by omega)
    · funext e d; exact ld3 (arg11.view.read (Elt Ideal) f11 : S4x512x256.Idx → EReal) 2 _ e d
  · intro x
    obtain ⟨e, d, rfl⟩ : ∃ (e : Fin 512) (d : Fin 256), x = ix3 0 e d := ⟨x 1, x 2, (eq_ix3 x).trans (by congr 1; exact Subsingleton.elim (α := Fin 1) _ _)⟩
    refine Eq.trans (KerPay.upd1 _ _ _ _ _ _ e d) ?_
    refine Eq.trans (updT_of (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (k4 k) (S3 arg11 f11) 1 e d ?_ ?_ ?_ ?_) (stN_at (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (k4 k) (S3 arg11 f11) 1 e d _ (by show 1 + 1 * 0 = 1; rfl) (by show 0 + 1 * e.val = e.val; omega) (by show 0 + 1 * d.val = d.val; omega)).symm
    · exact cum_tie (k := k) (h := 1) (o := 256) (hh := rfl) (hz := fun x i => (ld2 (arg6.view.read (Elt Ideal) X_arg6 : S256x128.Idx → EReal) _ _ (64 * k.val) 0 hk rfl _ x i (by omega) (by omega)).trans (by simp only [Nat.zero_add])) (hw := fun i j => (ld2 (arg7.view.read (Elt Ideal) X_arg7 : S128x1024.Idx → EReal) _ _ 0 0 rfl rfl _ i j (by omega) (by omega)).trans (by simp only [Nat.zero_add])) (hb := fun j => (ld2 (arg8.view.read (Elt Ideal) X_arg8 : S1x1024.Idx → EReal) _ _ 0 0 rfl rfl _ 0 j (by omega) (by omega)).trans (by simp only [Nat.zero_add])) ..
    · funext t d; exact ld2 (arg3.view.read (Elt Ideal) X_arg3 : S256x1024.Idx → EReal) _ _ (64 * k.val) 256 hk rfl _ t d (by omega) (by omega)
    · funext t d; exact ld2 (arg4.view.read (Elt Ideal) X_arg4 : S256x2048.Idx → EReal) _ _ (64 * k.val) 512 hk rfl _ t d (by omega) (by omega)
    · funext e d; exact ld3 (arg11.view.read (Elt Ideal) f11 : S4x512x256.Idx → EReal) 1 _ e d
  · intro x
    obtain ⟨e, d, rfl⟩ : ∃ (e : Fin 512) (d : Fin 256), x = ix3 0 e d := ⟨x 1, x 2, (eq_ix3 x).trans (by congr 1; exact Subsingleton.elim (α := Fin 1) _ _)⟩
    refine Eq.trans (KerPay.upd0 _ _ _ _ _ _ e d) ?_
    refine Eq.trans (updT_of (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (k4 k) (S3 arg11 f11) 0 e d ?_ ?_ ?_ ?_) (stN_at (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (k4 k) (S3 arg11 f11) 0 e d _ (by show 0 + 1 * 0 = 0; rfl) (by show 0 + 1 * e.val = e.val; omega) (by show 0 + 1 * d.val = d.val; omega)).symm
    · exact cum_tie (k := k) (h := 0) (o := 0) (hh := rfl) (hz := fun x i => (ld2 (arg6.view.read (Elt Ideal) X_arg6 : S256x128.Idx → EReal) _ _ (64 * k.val) 0 hk rfl _ x i (by omega) (by omega)).trans (by simp only [Nat.zero_add])) (hw := fun i j => (ld2 (arg7.view.read (Elt Ideal) X_arg7 : S128x1024.Idx → EReal) _ _ 0 0 rfl rfl _ i j (by omega) (by omega)).trans (by simp only [Nat.zero_add])) (hb := fun j => (ld2 (arg8.view.read (Elt Ideal) X_arg8 : S1x1024.Idx → EReal) _ _ 0 0 rfl rfl _ 0 j (by omega) (by omega)).trans (by simp only [Nat.zero_add])) ..
    · funext t d; exact ld2 (arg3.view.read (Elt Ideal) X_arg3 : S256x1024.Idx → EReal) _ _ (64 * k.val) 0 hk rfl _ t d (by omega) (by omega)
    · funext t d; exact ld2 (arg4.view.read (Elt Ideal) X_arg4 : S256x2048.Idx → EReal) _ _ (64 * k.val) 0 hk rfl _ t d (by omega) (by omega)
    · funext e d; exact ld3 (arg11.view.read (Elt Ideal) f11 : S4x512x256.Idx → EReal) 0 _ e d

/-- A trip's pieces cover the scratch. -/
theorem trip_cover (k : Fin k0_t1_loop.trips) (f10 : BufTy.Contents (Elt Ideal) arg10.view.ty) (f11 : BufTy.Contents (Elt Ideal) arg11.view.ty) (y : S4x512x256.Idx) :
    ∃ p ∈ (tripL_k0_t1 (F := Ideal) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 k f10 f11).2, y ∈ p.1.set := by
  unfold tripL_k0_t1 trip_k0_t1
  dsimp only
  have h0 : (y 0).val < 4 := (y 0).isLt
  have h1 : (y 1).val < 512 := (y 1).isLt
  have h2 : (y 2).val < 256 := (y 2).isLt
  simp only [List.mem_cons, List.not_mem_nil, or_false, exists_eq_or_imp, exists_eq_left]
  rw [Rect.mem_set_unit, Rect.mem_set_unit, Rect.mem_set_unit, Rect.mem_set_unit]
  simp only [Fin.forall_fin_succ]
  simp
  omega

/-- After `n` trips the output block's pieces agree with its output, and the scratch holds the states. -/
theorem loop_agree (G10 : BufTy.Contents (Elt Ideal) arg10.view.ty) (G11 : BufTy.Contents (Elt Ideal) arg11.view.ty) (n : ℕ) (hn : n ≤ 4) :
    (∀ p ∈ (pb_k0_t1 (F := Ideal) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 G10 G11 n).1, ∀ x, p.2 x = outT (arg2.view.read (Elt Ideal) X_arg2 : S256x1024.Idx → EReal) (arg3.view.read (Elt Ideal) X_arg3 : S256x1024.Idx → EReal) (arg4.view.read (Elt Ideal) X_arg4 : S256x2048.Idx → EReal) (arg5.view.read (Elt Ideal) X_arg5 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (arg9.view.read (Elt Ideal) X_arg9 : S1x2048.Idx → EReal) (S3 arg11 G11) (p.1.emb x)) ∧
    (∀ h e d, S3 arg11 (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 G10 G11 n).2) h e d = stT (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (S3 arg11 G11) n h e d) := by
  induction n with
  | zero => exact ⟨fun p hp => absurd hp List.not_mem_nil, fun h e d => rfl⟩
  | succ n ih =>
    obtain ⟨ih1, ih2⟩ := ih (by omega)
    have hn4 : n < k0_t1_loop.trips := by have := trips_eq; omega
    have hs := pb_k0_t1_succ (F := Ideal) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 G10 G11 ⟨n, hn4⟩
    rw [hs]
    refine ⟨fun p hp x => ?_, fun h e d => ?_⟩
    · rcases List.mem_append.mp hp with hp | hp
      · exact trip_out 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 ⟨n, hn4⟩ _ _ (S3 arg11 G11) ih2 p hp x
      · exact ih1 p hp x
    · have := View.read_writes_apply_of_pieces arg11.view (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 G10 G11 n).2) (stN (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (k4 ⟨n, hn4⟩) (S3 arg11 (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 G10 G11 n).2))) _ (trip_st 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 ⟨n, hn4⟩ (arg10.view.writes (Elt Ideal) G10 (pb_k0_t1 (F := Ideal) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 G10 G11 n).1) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 G10 G11 n).2)) (ix3 h e d) (trip_cover 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 ⟨n, hn4⟩ (arg10.view.writes (Elt Ideal) G10 (pb_k0_t1 (F := Ideal) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 G10 G11 n).1) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 G10 G11 n).2) (ix3 h e d))
      show arg11.view.read (Elt Ideal) _ (ix3 h e d) = _
      rw [View.writes_append]
      refine this.trans ?_
      show updT (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) ⟨n, _⟩ _ h e d = _
      rw [show stT (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (S3 arg11 G11) (n + 1) = updT (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) ⟨n, by omega⟩ (stT (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (S3 arg11 G11) n) from dif_pos (by omega)]
      congr 1
      funext h e d
      exact ih2 h e d

/-- After all four trips a buffer that holds the trips' scratch pieces, over whatever came before, holds the last states. -/
theorem loop_scratch (G10 : BufTy.Contents (Elt Ideal) arg10.view.ty) (G11 : BufTy.Contents (Elt Ideal) arg11.view.ty)
    {κ : Space} (v : View sig .tc κ S4x512x256 .f32) (f : BufTy.Contents (Elt Ideal) v.ty) (L' : List (View.Piece (Elt Ideal) S4x512x256 .f32)) (h : Fin 4) (e : Fin 512) (d : Fin 256) :
    v.read (Elt Ideal) (v.writes (Elt Ideal) f ((pb_k0_t1 (F := Ideal) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 G10 G11 4).2 ++ L')) (ix3 h e d) = stT (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (S3 arg11 G11) 4 h e d := by
  obtain ⟨ih1, ih2⟩ := loop_agree 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 G10 G11 3 (by omega)
  have hn4 : 3 < k0_t1_loop.trips := by have := trips_eq; omega
  have hs := pb_k0_t1_succ (F := Ideal) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 G10 G11 ⟨3, hn4⟩
  rw [show (pb_k0_t1 (F := Ideal) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 G10 G11 4) = _ from hs]
  rw [List.append_assoc, View.writes_append]
  refine (View.read_writes_apply_of_pieces v _ (stN (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (k4 ⟨3, hn4⟩) (S3 arg11 (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 G10 G11 3).2))) _ (trip_st 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 ⟨3, hn4⟩ _ _) (ix3 h e d) (trip_cover 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 X_arg9 ⟨3, hn4⟩ _ _ _)).trans ?_
  show updT (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) ⟨3, _⟩ _ h e d = _
  rw [show stT (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (S3 arg11 G11) (3 + 1) = updT (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) ⟨3, by decide⟩ (stT (arg3.view.read (Elt Ideal) X_arg3 : S256x1024.Idx → EReal) (arg4.view.read (Elt Ideal) X_arg4 : S256x2048.Idx → EReal) (arg6.view.read (Elt Ideal) X_arg6 : S256x128.Idx → EReal) (arg7.view.read (Elt Ideal) X_arg7 : S128x1024.Idx → EReal) (arg8.view.read (Elt Ideal) X_arg8 : S1x1024.Idx → EReal) (S3 arg11 G11) 3) from dif_pos (show 3 < 4 by decide)]
  congr 1
  funext h e d
  exact ih2 h e d
end
end Cert.KerTile
-- ==== Proof.KerCase.lean ====
module

public import proofs.«01_k».proof.Proof.KerTile

/-! What one grid point leaves: the output block and the carried scratch, as functions of the point's blocks and of the
states that enter it (zero at the first point of a batch element). -/

@[expose] public section

set_option maxRecDepth 16384
noncomputable section
namespace Cert.KerCase
open Idealize.ShloMosaic Idealize.ShloMosaic.TcCoe Idealize.ShloMosaic.Tactic Idealize.SL.Sem
open Cert.KernelIdeal Cert.KernelIdeal.Gen Cert.Gla Cert.KerPay Cert.KerTile

/-- The zero states. -/
abbrev S0 : Fin 4 → Fin 512 → Fin 256 → EReal := fun _ _ _ => 0
/-- The states a scratch holds. -/
abbrev stOf (xs : Vec Ideal S4x512x256 .f32) : Fin 4 → Fin 512 → Fin 256 → EReal := fun h e d => (xs : S4x512x256.Idx → EReal) (ix3 h e d)

/-- The stored zeros. -/
theorem pay1_at (x : S4x512x256.Idx) : k0_pay1 (F := Ideal) x = (0 : EReal) := by
  obtain ⟨a, b, d, rfl⟩ : ∃ (a : Fin 4) (b : Fin 512) (d : Fin 256), x = ix3 a b d := ⟨x 0, x 1, x 2, eq_ix3 x⟩
  have h : k0_pay1 (F := Ideal) (ix3 a b d) = Ideal.ofBits .f32 0x00000000#32 := by pointwise [k0_pay1]
  rw [h]
  simp [Ideal.ofBits, Ideal.ieee]

/-- A scratch stored whole with zeros holds the zero states. -/
theorem zeroed (arg11 : Memref sig .tc .vmem S4x512x256 .f32) (f : BufTy.Contents (Elt Ideal) arg11.view.ty) :
    S3 arg11 (arg11.view.writes (Elt Ideal) f [⟨Rect.unit ![0, 0, 0] ![4, 512, 256] inb_S4x512x256_S4x512x256_0_0_0, k0_pay1 (F := Ideal)⟩]) = S0 := by
  funext h e d
  refine View.read_writes_apply_of_pieces arg11.view f (fun _ => 0) _ ?_ _ ?_
  · intro p hp x
    obtain rfl := List.mem_singleton.mp hp
    show k0_pay1 (F := Ideal) x = 0
    exact pay1_at x
  · refine ⟨_, List.mem_singleton.mpr rfl, ?_⟩
    rw [Rect.mem_set_unit]
    intro a
    match a with
    | ⟨0, _⟩ => exact ⟨Nat.zero_le _, h.isLt⟩
    | ⟨1, _⟩ => exact ⟨Nat.zero_le _, e.isLt⟩
    | ⟨2, _⟩ => exact ⟨Nat.zero_le _, d.isLt⟩

theorem stT_congr {Q : FVec Ideal S256x1024 .bf16} {V : FVec Ideal S256x2048 .bf16} {Z : FVec Ideal S256x128 .f32} {W : FVec Ideal S128x1024 .bf16} {B : FVec Ideal S1x1024 .f32}
    {S S' : Fin 4 → Fin 512 → Fin 256 → EReal} (h : S = S') : stT Q V Z W B S = stT Q V Z W B S' := by rw [h]

/-- The scratch after a point of case B: the states after its four chunks. -/
theorem scrB  (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x2048 .f32) (harg9 : arg9.IsWhole) (arg10 : Memref sig .tc .vmem S256x2048 .bf16) (harg10 : arg10.IsWhole) (arg11 : Memref sig .tc .vmem S4x512x256 .f32) (harg11 : arg11.IsWhole) (hc0 : ¬cond0_0 i)
    (x0 : Vec Ideal S256x1024 .bf16) (x1 : Vec Ideal S256x1024 .bf16) (x2 : Vec Ideal S256x2048 .bf16) (x3 : Vec Ideal S256x2048 .bf16) (x4 : Vec Ideal S256x128 .f32) (x5 : Vec Ideal S128x1024 .bf16) (x6 : Vec Ideal S1x1024 .f32) (x7 : Vec Ideal S1x2048 .f32) (xs0 : Vec Ideal S4x512x256 .f32) (h : Fin 4) (e : Fin 512) (d : Fin 256) :
    (sout0_B_0 (F := Ideal) c i arg2 harg2 arg3 harg3 arg4 harg4 arg5 harg5 arg6 harg6 arg7 harg7 arg8 harg8 arg9 harg9 arg10 harg10 arg11 harg11 hc0 x0 x1 x2 x3 x4 x5 x6 x7 xs0 : S4x512x256.Idx → EReal) (ix3 h e d) = stT x1 x2 x4 x5 x6 (stOf xs0) 4 h e d := by
  have hS : S3 arg11 (harg11.unread xs0) = (stOf xs0) := by funext h e d; show arg11.view.read (Elt Ideal) (harg11.unread xs0) (ix3 h e d) = _; rw [harg11.read_unread]
  have key := fun L' => loop_scratch Variants.none c none i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) (harg8.unread x6) (harg9.unread x7) arg10.view.junk (harg11.unread xs0) VS0_0 VS0_0.junk L' h e d
  rw [hS, harg3.read_unread, harg4.read_unread, harg6.read_unread, harg7.read_unread, harg8.read_unread] at key
  unfold sout0_B_0
  unfold kernelRun0_B
  dsimp only
  sl_unfold_words
  exact by have k0 := key []; rw [List.append_nil] at k0; exact k0
/-- The output block after a point of case B: its four chunks' outputs. -/
theorem outB  (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x2048 .f32) (harg9 : arg9.IsWhole) (arg10 : Memref sig .tc .vmem S256x2048 .bf16) (harg10 : arg10.IsWhole) (arg11 : Memref sig .tc .vmem S4x512x256 .f32) (harg11 : arg11.IsWhole) (hc0 : ¬cond0_0 i)
    (x0 : Vec Ideal S256x1024 .bf16) (x1 : Vec Ideal S256x1024 .bf16) (x2 : Vec Ideal S256x2048 .bf16) (x3 : Vec Ideal S256x2048 .bf16) (x4 : Vec Ideal S256x128 .f32) (x5 : Vec Ideal S128x1024 .bf16) (x6 : Vec Ideal S1x1024 .f32) (x7 : Vec Ideal S1x2048 .f32) (xs0 : Vec Ideal S4x512x256 .f32) (y : S256x2048.Idx) :
    (out0_B_8 (F := Ideal) c i arg2 harg2 arg3 harg3 arg4 harg4 arg5 harg5 arg6 harg6 arg7 harg7 arg8 harg8 arg9 harg9 arg10 harg10 arg11 harg11 hc0 x0 x1 x2 x3 x4 x5 x6 x7 xs0 : S256x2048.Idx → EReal) y = outT x0 x1 x2 x3 x4 x5 x6 x7 (stOf xs0) y := by
  unfold out0_B_8
  refine View.read_writes_apply_of_pieces VO0_8 _ (outT x0 x1 x2 x3 x4 x5 x6 x7 (stOf xs0)) _ ?_ y (cover0_B_8 c i arg2 harg2 arg3 harg3 arg4 harg4 arg5 harg5 arg6 harg6 arg7 harg7 arg8 harg8 arg9 harg9 arg10 harg10 arg11 harg11 hc0 x0 x1 x2 x3 x4 x5 x6 x7 xs0 y)
  have hS : S3 arg11 (harg11.unread xs0) = (stOf xs0) := by funext h e d; show arg11.view.read (Elt Ideal) (harg11.unread xs0) (ix3 h e d) = _; rw [harg11.read_unread]
  have key := (loop_agree Variants.none c none i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) (harg8.unread x6) (harg9.unread x7) arg10.view.junk (harg11.unread xs0) 4 le_rfl).1
  rw [hS, harg2.read_unread, harg3.read_unread, harg4.read_unread, harg5.read_unread, harg6.read_unread, harg7.read_unread, harg8.read_unread, harg9.read_unread] at key
  unfold kernelRun0_B
  dsimp only
  sl_unfold_words
  exact key

/-- The scratch after a point of case A: the states after its four chunks. -/
theorem scrA  (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x2048 .f32) (harg9 : arg9.IsWhole) (arg10 : Memref sig .tc .vmem S256x2048 .bf16) (harg10 : arg10.IsWhole) (arg11 : Memref sig .tc .vmem S4x512x256 .f32) (harg11 : arg11.IsWhole) (hc0 : cond0_0 i)
    (x0 : Vec Ideal S256x1024 .bf16) (x1 : Vec Ideal S256x1024 .bf16) (x2 : Vec Ideal S256x2048 .bf16) (x3 : Vec Ideal S256x2048 .bf16) (x4 : Vec Ideal S256x128 .f32) (x5 : Vec Ideal S128x1024 .bf16) (x6 : Vec Ideal S1x1024 .f32) (x7 : Vec Ideal S1x2048 .f32) (h : Fin 4) (e : Fin 512) (d : Fin 256) :
    (sout0_A_0 (F := Ideal) c i arg2 harg2 arg3 harg3 arg4 harg4 arg5 harg5 arg6 harg6 arg7 harg7 arg8 harg8 arg9 harg9 arg10 harg10 arg11 harg11 hc0 x0 x1 x2 x3 x4 x5 x6 x7 : S4x512x256.Idx → EReal) (ix3 h e d) = stT x1 x2 x4 x5 x6 S0 4 h e d := by
  have hS : S3 arg11 (arg11.view.writes (Elt Ideal) arg11.view.junk [⟨Rect.unit ![0, 0, 0] ![4, 512, 256] inb_S4x512x256_S4x512x256_0_0_0, k0_pay1 (F := Ideal)⟩]) = S0 := zeroed arg11 _
  have key := fun L' => loop_scratch Variants.none c none i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) (harg8.unread x6) (harg9.unread x7) arg10.view.junk (arg11.view.writes (Elt Ideal) arg11.view.junk [⟨Rect.unit ![0, 0, 0] ![4, 512, 256] inb_S4x512x256_S4x512x256_0_0_0, k0_pay1 (F := Ideal)⟩]) VS0_0 VS0_0.junk L' h e d
  rw [hS, harg3.read_unread, harg4.read_unread, harg6.read_unread, harg7.read_unread, harg8.read_unread] at key
  unfold sout0_A_0
  unfold kernelRun0_A
  dsimp only
  sl_unfold_words
  exact key _
/-- The output block after a point of case A: its four chunks' outputs. -/
theorem outA  (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x2048 .f32) (harg9 : arg9.IsWhole) (arg10 : Memref sig .tc .vmem S256x2048 .bf16) (harg10 : arg10.IsWhole) (arg11 : Memref sig .tc .vmem S4x512x256 .f32) (harg11 : arg11.IsWhole) (hc0 : cond0_0 i)
    (x0 : Vec Ideal S256x1024 .bf16) (x1 : Vec Ideal S256x1024 .bf16) (x2 : Vec Ideal S256x2048 .bf16) (x3 : Vec Ideal S256x2048 .bf16) (x4 : Vec Ideal S256x128 .f32) (x5 : Vec Ideal S128x1024 .bf16) (x6 : Vec Ideal S1x1024 .f32) (x7 : Vec Ideal S1x2048 .f32) (y : S256x2048.Idx) :
    (out0_A_8 (F := Ideal) c i arg2 harg2 arg3 harg3 arg4 harg4 arg5 harg5 arg6 harg6 arg7 harg7 arg8 harg8 arg9 harg9 arg10 harg10 arg11 harg11 hc0 x0 x1 x2 x3 x4 x5 x6 x7 : S256x2048.Idx → EReal) y = outT x0 x1 x2 x3 x4 x5 x6 x7 S0 y := by
  unfold out0_A_8
  refine View.read_writes_apply_of_pieces VO0_8 _ (outT x0 x1 x2 x3 x4 x5 x6 x7 S0) _ ?_ y (cover0_A_8 c i arg2 harg2 arg3 harg3 arg4 harg4 arg5 harg5 arg6 harg6 arg7 harg7 arg8 harg8 arg9 harg9 arg10 harg10 arg11 harg11 hc0 x0 x1 x2 x3 x4 x5 x6 x7 y)
  have hS : S3 arg11 (arg11.view.writes (Elt Ideal) arg11.view.junk [⟨Rect.unit ![0, 0, 0] ![4, 512, 256] inb_S4x512x256_S4x512x256_0_0_0, k0_pay1 (F := Ideal)⟩]) = S0 := zeroed arg11 _
  have key := (loop_agree Variants.none c none i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) (harg8.unread x6) (harg9.unread x7) arg10.view.junk (arg11.view.writes (Elt Ideal) arg11.view.junk [⟨Rect.unit ![0, 0, 0] ![4, 512, 256] inb_S4x512x256_S4x512x256_0_0_0, k0_pay1 (F := Ideal)⟩]) 4 le_rfl).1
  rw [hS, harg2.read_unread, harg3.read_unread, harg4.read_unread, harg5.read_unread, harg6.read_unread, harg7.read_unread, harg8.read_unread, harg9.read_unread] at key
  unfold kernelRun0_A
  dsimp only
  sl_unfold_words
  exact key
end Cert.KerCase
-- ==== Proof.KerHost.lean ====
module

public import proofs.«01_k».proof.Proof.OwnKernelIdeal.Value
public import Idealize.ShloMosaic.Lib.StableHlo.ReadAt
public import proofs.«01_k».proof.Proof.KerPay

/-! What the host lines before the kernel's call leave: the gate matrix with zero rows below it, the bias and the norm weight as rows. -/

@[expose] public section

set_option maxRecDepth 16384
noncomputable section
namespace Cert.KerHost
open Idealize.ShloMosaic Idealize.ShloMosaic.TcCoe Idealize.ShloMosaic.Tactic Idealize.ShloMosaic.StableHlo Idealize.SL.Sem
open Cert.KernelIdeal Cert.KernelIdeal.Gen

def padW (w : FVec Ideal S16x1024 .f32) : FVec Ideal S128x1024 .bf16 :=
  truncf .bf16 (pad S128x1024 ![0, 0] ![112, 0] ![0, 0] w (sitofp .f32 (constantI S_ 32 0#32)) pads_S16x1024_S128x1024_01120_000 h_S_) bitsLt_bf16_f32
def rowB (b : FVec Ideal S1024 .f32) : FVec Ideal S1x1024 .f32 := shapeCast S1x1024 b shapeCasts_S1024_S1x1024
def rowN (b : FVec Ideal S2048 .f32) : FVec Ideal S1x2048 .f32 := shapeCast S1x2048 b shapeCasts_S2048_S1x2048

theorem rowB_at (b : FVec Ideal S1024 .f32) (j : Fin 1024) : rowB b (ix2 0 j) = b (ix1 j) := by pointwise [rowB]
theorem rowN_at (b : FVec Ideal S2048 .f32) (j : Fin 2048) : rowN b (ix2 0 j) = b (ix1 j) := by pointwise [rowN]
theorem padW_at (w : FVec Ideal S16x1024 .f32) (i : Fin 128) (j : Fin 1024) :
    padW w (ix2 i j) = if h : i.val < 16 then w (ix2 ⟨i.val, h⟩ j) else (0 : EReal) := by
  pointwise [padW]
  have h0 : (FloatOps.sitofp .f32 0#32 : Ideal .f32) = (0 : EReal) := by
    show ((((0#32 : BitVec 32).toInt : ℝ)) : EReal) = 0
    simp
  rw [h0]

variable (m : (ℓ : Loc nD τ sig) → Buf (Elt Ideal) ℓ) (c : Dev nD)
theorem V_v1 : V m c main_v1 = padW (m ((c : Thread nD τ).loc main_arg2)) := by
  unfold V
  after_reads_simp
  try rfl
theorem V_v2 : V m c main_v2 = rowB (m ((c : Thread nD τ).loc main_arg3)) := by
  unfold V
  after_reads_simp
  try rfl
theorem V_v3 : V m c main_v3 = rowN (m ((c : Thread nD τ).loc main_arg4)) := by
  unfold V
  after_reads_simp
  try rfl
end Cert.KerHost
-- ==== Proof.Spec.lean ====
module

public import proofs.«01_k».proof.Proof.Gla

/-! The mixer's result as a function of its five arrays, chunk by chunk: the function both programs are shown to compute. -/

@[expose] public section

noncomputable section
namespace Cert.Spec
open Idealize.ShloMosaic Cert.Gla

section
variable (P : (⟨2, ![16384, 6144]⟩ : Shape).Idx → EReal) (Z : (⟨2, ![16384, 128]⟩ : Shape).Idx → EReal)
  (W : (⟨2, ![16, 1024]⟩ : Shape).Idx → EReal) (B : (⟨1, ![1024]⟩ : Shape).Idx → EReal) (N : (⟨1, ![2048]⟩ : Shape).Idx → EReal)

/-- Row `t` of chunk `M` of the 256 chunks of 64 rows. -/
abbrev row (M : ℕ) (t : Fin 64) : Fin 16384 := ⟨(64 * M + t.val) % 16384, Nat.mod_lt _ (by decide)⟩
/-- The running sums of the decay's logarithm in chunk `M`, head `h`. -/
def cG (M : ℕ) (h : Fin 4) (t : Fin 64) (d : Fin 256) : EReal :=
  cum (fun x => ls (∑ i : Fin 16, Z (ix2 (row M x) ⟨i.val, by omega⟩) * W (ix2 i ⟨h.val * 256 + d.val, by omega⟩) + B (ix1 ⟨h.val * 256 + d.val, by omega⟩)) * c16) t
def qG (M : ℕ) (h : Fin 4) (t : Fin 64) (d : Fin 256) : EReal := P (ix2 (row M t) ⟨h.val * 256 + d.val, by omega⟩)
def kG (M : ℕ) (h : Fin 4) (t : Fin 64) (d : Fin 256) : EReal := P (ix2 (row M t) ⟨1024 + (h.val * 256 + d.val), by omega⟩)
def vG (M : ℕ) (h : Fin 4) (t : Fin 64) (e : Fin 512) : EReal := P (ix2 (row M t) ⟨2048 + (h.val * 512 + e.val), by omega⟩)
def gG (M : ℕ) (h : Fin 4) (t : Fin 64) (e : Fin 512) : EReal := P (ix2 (row M t) ⟨4096 + (h.val * 512 + e.val), by omega⟩)
/-- The states after chunk `M`, from those before it. -/
def updG (M : ℕ) (S : Fin 4 → Fin 512 → Fin 256 → EReal) (h : Fin 4) : Fin 512 → Fin 256 → EReal := upd (cG Z W B M h) (kG P M h) (vG P M h) (S h)
/-- The states before chunk `M`: zero at the first chunk of either batch element. -/
def stG : ℕ → Fin 4 → Fin 512 → Fin 256 → EReal
  | 0 => fun _ _ _ => 0
  | M + 1 => if (M + 1) % 128 = 0 then fun _ _ _ => 0 else updG P Z W B M (stG M)
/-- Chunk `M`'s output. -/
def outG (M : ℕ) (h : Fin 4) : Fin 64 → Fin 512 → EReal :=
  out (cG Z W B M h) (qG P M h) (kG P M h) (vG P M h) (gG P M h) (fun e => N (ix1 ⟨h.val * 512 + e.val, by omega⟩)) (stG P Z W B M h)
/-- The result. -/
def result (i : (⟨2, ![16384, 2048]⟩ : Shape).Idx) : EReal :=
  outG P Z W B N ((i 0).val / 64) ⟨(i 1).val / 512, by have : (i 1).val < 2048 := (i 1).isLt; omega⟩ ⟨(i 0).val % 64, by omega⟩ ⟨(i 1).val % 512, by omega⟩
end

theorem row_eq (M : ℕ) (hM : M < 256) (t : Fin 64) (r : Fin 16384) (hr : r.val = 64 * M + t.val) : row M t = r :=
  Fin.ext (by show (64 * M + t.val) % 16384 = r.val; omega)
end Cert.Spec
-- ==== Proof.KerGrid.lean ====
module

public import proofs.«01_k».proof.Proof.KerCase
public import proofs.«01_k».proof.Proof.KerHost
public import proofs.«01_k».proof.Proof.Spec

/-! The kernel's result array, over the whole grid, is the mixer's result. -/

@[expose] public section

set_option maxRecDepth 16384
noncomputable section
namespace Cert.KerGrid
open Idealize.ShloMosaic Idealize.ShloMosaic.TcCoe Idealize.ShloMosaic.Tactic Idealize.SL.Sem
open Cert.KernelIdeal Cert.KernelIdeal.Gen Cert.KernelIdeal.Value Cert.Gla Cert.KerPay Cert.KerTile Cert.KerCase Cert.Spec

variable (m : (ℓ : Loc nD τ sig) → Buf (Elt Ideal) ℓ) (c : Dev nD)

abbrev P0 : (⟨2, ![16384, 6144]⟩ : Shape).Idx → EReal := m ((c : Thread nD τ).loc main_arg0)
abbrev Z0 : (⟨2, ![16384, 128]⟩ : Shape).Idx → EReal := m ((c : Thread nD τ).loc main_arg1)
abbrev W0 : (⟨2, ![16, 1024]⟩ : Shape).Idx → EReal := m ((c : Thread nD τ).loc main_arg2)
abbrev B0 : (⟨1, ![1024]⟩ : Shape).Idx → EReal := m ((c : Thread nD τ).loc main_arg3)
abbrev N0 : (⟨1, ![2048]⟩ : Shape).Idx → EReal := m ((c : Thread nD τ).loc main_arg4)

theorem N64 : cfg0.N = 64 := N_0

theorem ix0 : ∀ t : Fin cfg0.N, win0_0.index t (0 : Fin 2) = t.val ∧ win0_0.index t (1 : Fin 2) = 0 := (by decide +kernel : ∀ t : Fin grid0.N, _)
theorem ix1' : ∀ t : Fin cfg0.N, win0_1.index t (0 : Fin 2) = t.val ∧ win0_1.index t (1 : Fin 2) = 1 := (by decide +kernel : ∀ t : Fin grid0.N, _)
theorem ix2' : ∀ t : Fin cfg0.N, win0_2.index t (0 : Fin 2) = t.val ∧ win0_2.index t (1 : Fin 2) = 1 := (by decide +kernel : ∀ t : Fin grid0.N, _)
theorem ix3' : ∀ t : Fin cfg0.N, win0_3.index t (0 : Fin 2) = t.val ∧ win0_3.index t (1 : Fin 2) = 2 := (by decide +kernel : ∀ t : Fin grid0.N, _)
theorem ix4' : ∀ t : Fin cfg0.N, win0_4.index t (0 : Fin 2) = t.val ∧ win0_4.index t (1 : Fin 2) = 0 := (by decide +kernel : ∀ t : Fin grid0.N, _)
theorem ix5' : ∀ t : Fin cfg0.N, win0_5.index t (0 : Fin 2) = 0 ∧ win0_5.index t (1 : Fin 2) = 0 := (by decide +kernel : ∀ t : Fin grid0.N, _)
theorem ix6' : ∀ t : Fin cfg0.N, win0_6.index t (0 : Fin 2) = 0 ∧ win0_6.index t (1 : Fin 2) = 0 := (by decide +kernel : ∀ t : Fin grid0.N, _)
theorem ix7' : ∀ t : Fin cfg0.N, win0_7.index t (0 : Fin 2) = 0 ∧ win0_7.index t (1 : Fin 2) = 0 := (by decide +kernel : ∀ t : Fin grid0.N, _)

theorem b0 (t : Fin cfg0.N) (r : Fin 256) (j : Fin 1024) (i : (⟨2, ![16384, 6144]⟩ : Shape).Idx) (h0 : (i 0).val = 256 * t.val + r.val) (h1 : (i 1).val = 0 + j.val) :
    (iblk m c 0 t : (⟨2, ![256, 1024]⟩ : Shape).Idx → EReal) (ix2 r j) = (P0 m c) i := by
  obtain ⟨e0, e1⟩ := ix0 t
  show V m c main_arg0 (((cfg0.win 0).blk t).view.emb (ix2 r j)) = (P0 m c) i
  rw [V_main_arg0]
  refine congrArg (P0 m c) (funext fun a => Fin.ext ?_)
  match a with
  | ⟨0, _⟩ => show win0_0.index t (0 : Fin 2) * 256 + 1 * r.val = (i 0).val; rw [e0, h0]; omega
  | ⟨1, _⟩ => show win0_0.index t (1 : Fin 2) * 1024 + 1 * j.val = (i 1).val; rw [e1, h1]; omega
theorem b1 (t : Fin cfg0.N) (r : Fin 256) (j : Fin 1024) (i : (⟨2, ![16384, 6144]⟩ : Shape).Idx) (h0 : (i 0).val = 256 * t.val + r.val) (h1 : (i 1).val = 1024 + j.val) :
    (iblk m c 1 t : (⟨2, ![256, 1024]⟩ : Shape).Idx → EReal) (ix2 r j) = (P0 m c) i := by
  obtain ⟨e0, e1⟩ := ix1' t
  show V m c main_arg0 (((cfg0.win 1).blk t).view.emb (ix2 r j)) = (P0 m c) i
  rw [V_main_arg0]
  refine congrArg (P0 m c) (funext fun a => Fin.ext ?_)
  match a with
  | ⟨0, _⟩ => show win0_1.index t (0 : Fin 2) * 256 + 1 * r.val = (i 0).val; rw [e0, h0]; omega
  | ⟨1, _⟩ => show win0_1.index t (1 : Fin 2) * 1024 + 1 * j.val = (i 1).val; rw [e1, h1]; omega
theorem b2 (t : Fin cfg0.N) (r : Fin 256) (j : Fin 2048) (i : (⟨2, ![16384, 6144]⟩ : Shape).Idx) (h0 : (i 0).val = 256 * t.val + r.val) (h1 : (i 1).val = 2048 + j.val) :
    (iblk m c 2 t : (⟨2, ![256, 2048]⟩ : Shape).Idx → EReal) (ix2 r j) = (P0 m c) i := by
  obtain ⟨e0, e1⟩ := ix2' t
  show V m c main_arg0 (((cfg0.win 2).blk t).view.emb (ix2 r j)) = (P0 m c) i
  rw [V_main_arg0]
  refine congrArg (P0 m c) (funext fun a => Fin.ext ?_)
  match a with
  | ⟨0, _⟩ => show win0_2.index t (0 : Fin 2) * 256 + 1 * r.val = (i 0).val; rw [e0, h0]; omega
  | ⟨1, _⟩ => show win0_2.index t (1 : Fin 2) * 2048 + 1 * j.val = (i 1).val; rw [e1, h1]; omega
theorem b3 (t : Fin cfg0.N) (r : Fin 256) (j : Fin 2048) (i : (⟨2, ![16384, 6144]⟩ : Shape).Idx) (h0 : (i 0).val = 256 * t.val + r.val) (h1 : (i 1).val = 4096 + j.val) :
    (iblk m c 3 t : (⟨2, ![256, 2048]⟩ : Shape).Idx → EReal) (ix2 r j) = (P0 m c) i := by
  obtain ⟨e0, e1⟩ := ix3' t
  show V m c main_arg0 (((cfg0.win 3).blk t).view.emb (ix2 r j)) = (P0 m c) i
  rw [V_main_arg0]
  refine congrArg (P0 m c) (funext fun a => Fin.ext ?_)
  match a with
  | ⟨0, _⟩ => show win0_3.index t (0 : Fin 2) * 256 + 1 * r.val = (i 0).val; rw [e0, h0]; omega
  | ⟨1, _⟩ => show win0_3.index t (1 : Fin 2) * 2048 + 1 * j.val = (i 1).val; rw [e1, h1]; omega
theorem b4 (t : Fin cfg0.N) (r : Fin 256) (j : Fin 128) (i : (⟨2, ![16384, 128]⟩ : Shape).Idx) (h0 : (i 0).val = 256 * t.val + r.val) (h1 : (i 1).val = 0 + j.val) :
    (iblk m c 4 t : (⟨2, ![256, 128]⟩ : Shape).Idx → EReal) (ix2 r j) = (Z0 m c) i := by
  obtain ⟨e0, e1⟩ := ix4' t
  show V m c main_arg1 (((cfg0.win 4).blk t).view.emb (ix2 r j)) = (Z0 m c) i
  rw [V_main_arg1]
  refine congrArg (Z0 m c) (funext fun a => Fin.ext ?_)
  match a with
  | ⟨0, _⟩ => show win0_4.index t (0 : Fin 2) * 256 + 1 * r.val = (i 0).val; rw [e0, h0]; omega
  | ⟨1, _⟩ => show win0_4.index t (1 : Fin 2) * 128 + 1 * j.val = (i 1).val; rw [e1, h1]; omega
theorem b5 (t : Fin cfg0.N) (r : Fin 128) (j : Fin 1024) (i : (⟨2, ![128, 1024]⟩ : Shape).Idx) (h0 : (i 0).val = 0 + r.val) (h1 : (i 1).val = 0 + j.val) :
    (iblk m c 5 t : (⟨2, ![128, 1024]⟩ : Shape).Idx → EReal) (ix2 r j) = (KerHost.padW (W0 m c)) i := by
  obtain ⟨e0, e1⟩ := ix5' t
  show V m c main_v1 (((cfg0.win 5).blk t).view.emb (ix2 r j)) = (KerHost.padW (W0 m c)) i
  rw [KerHost.V_v1]
  refine congrArg (KerHost.padW (W0 m c)) (funext fun a => Fin.ext ?_)
  match a with
  | ⟨0, _⟩ => show win0_5.index t (0 : Fin 2) * 128 + 1 * r.val = (i 0).val; rw [e0, h0]; omega
  | ⟨1, _⟩ => show win0_5.index t (1 : Fin 2) * 1024 + 1 * j.val = (i 1).val; rw [e1, h1]; omega
theorem b6 (t : Fin cfg0.N) (r : Fin 1) (j : Fin 1024) (i : (⟨2, ![1, 1024]⟩ : Shape).Idx) (h0 : (i 0).val = 0 + r.val) (h1 : (i 1).val = 0 + j.val) :
    (iblk m c 6 t : (⟨2, ![1, 1024]⟩ : Shape).Idx → EReal) (ix2 r j) = (KerHost.rowB (B0 m c)) i := by
  obtain ⟨e0, e1⟩ := ix6' t
  show V m c main_v2 (((cfg0.win 6).blk t).view.emb (ix2 r j)) = (KerHost.rowB (B0 m c)) i
  rw [KerHost.V_v2]
  refine congrArg (KerHost.rowB (B0 m c)) (funext fun a => Fin.ext ?_)
  match a with
  | ⟨0, _⟩ => show win0_6.index t (0 : Fin 2) * 1 + 1 * r.val = (i 0).val; rw [e0, h0]; omega
  | ⟨1, _⟩ => show win0_6.index t (1 : Fin 2) * 1024 + 1 * j.val = (i 1).val; rw [e1, h1]; omega
theorem b7 (t : Fin cfg0.N) (r : Fin 1) (j : Fin 2048) (i : (⟨2, ![1, 2048]⟩ : Shape).Idx) (h0 : (i 0).val = 0 + r.val) (h1 : (i 1).val = 0 + j.val) :
    (iblk m c 7 t : (⟨2, ![1, 2048]⟩ : Shape).Idx → EReal) (ix2 r j) = (KerHost.rowN (N0 m c)) i := by
  obtain ⟨e0, e1⟩ := ix7' t
  show V m c main_v3 (((cfg0.win 7).blk t).view.emb (ix2 r j)) = (KerHost.rowN (N0 m c)) i
  rw [KerHost.V_v3]
  refine congrArg (KerHost.rowN (N0 m c)) (funext fun a => Fin.ext ?_)
  match a with
  | ⟨0, _⟩ => show win0_7.index t (0 : Fin 2) * 1 + 1 * r.val = (i 0).val; rw [e0, h0]; omega
  | ⟨1, _⟩ => show win0_7.index t (1 : Fin 2) * 2048 + 1 * j.val = (i 1).val; rw [e1, h1]; omega

abbrev bl0 (t : Fin cfg0.N) : FVec Ideal S256x1024 .bf16 := iblk m c 0 t
abbrev bl1 (t : Fin cfg0.N) : FVec Ideal S256x1024 .bf16 := iblk m c 1 t
abbrev bl2 (t : Fin cfg0.N) : FVec Ideal S256x2048 .bf16 := iblk m c 2 t
abbrev bl3 (t : Fin cfg0.N) : FVec Ideal S256x2048 .bf16 := iblk m c 3 t
abbrev bl4 (t : Fin cfg0.N) : FVec Ideal S256x128 .f32 := iblk m c 4 t
abbrev bl5 (t : Fin cfg0.N) : FVec Ideal S128x1024 .bf16 := iblk m c 5 t
abbrev bl6 (t : Fin cfg0.N) : FVec Ideal S1x1024 .f32 := iblk m c 6 t
abbrev bl7 (t : Fin cfg0.N) : FVec Ideal S1x2048 .f32 := iblk m c 7 t

/-- Rows below the sixteenth of the widened gate matrix add nothing. -/
theorem sum_pad (f : Fin 128 → EReal) (g : Fin 16 → EReal) (h : ∀ i : Fin 16, f ⟨i.val, by omega⟩ = g i) (h0 : ∀ i : Fin 128, 16 ≤ i.val → f i = 0) :
    ∑ i, f i = ∑ i, g i := by
  have e : (∑ i : Fin (16 + 112), f i) = ∑ i, g i := by
    rw [Fin.sum_univ_add]
    have a : ∀ i : Fin 16, f (Fin.castAdd 112 i) = g i := fun i => h i
    have b : ∀ i : Fin 112, f (Fin.natAdd 16 i) = 0 := fun i => h0 _ (by simp [Fin.natAdd])
    simp only [a, b, Finset.sum_const_zero, add_zero]
  exact e

variable (t : Fin cfg0.N) (k h : Fin 4)
theorem rowv (x : Fin 64) : (row (4 * t.val + k.val) x).val = 256 * t.val + (64 * k.val + x.val) := by
  have := t.isLt; have := N64
  show (64 * (4 * t.val + k.val) + x.val) % 16384 = _
  omega
theorem q_eq : chT (C := 1024) (n := 256) rfl (bl0 m c t) k h = qG (P0 m c) (4 * t.val + k.val) h := by
  funext x d; exact b0 m c t _ _ _ (rowv t k x) (by show h.val * 256 + d.val = 0 + (h.val * 256 + d.val); omega)
theorem k_eq : chT (C := 1024) (n := 256) rfl (bl1 m c t) k h = kG (P0 m c) (4 * t.val + k.val) h := by
  funext x d; exact b1 m c t _ _ _ (rowv t k x) rfl
theorem v_eq : chT (C := 2048) (n := 512) rfl (bl2 m c t) k h = vG (P0 m c) (4 * t.val + k.val) h := by
  funext x d; exact b2 m c t _ _ _ (rowv t k x) rfl
theorem g_eq : chT (C := 2048) (n := 512) rfl (bl3 m c t) k h = gG (P0 m c) (4 * t.val + k.val) h := by
  funext x d; exact b3 m c t _ _ _ (rowv t k x) rfl
theorem n_eq : (fun e : Fin 512 => (bl7 m c t) (ix2 0 ⟨h.val * 512 + e.val, by omega⟩)) = fun e => N0 m c (ix1 ⟨h.val * 512 + e.val, by omega⟩) := by
  funext e
  rw [show (bl7 m c t) (ix2 0 ⟨h.val * 512 + e.val, by omega⟩) = KerHost.rowN (N0 m c) (ix2 0 ⟨h.val * 512 + e.val, by omega⟩) from b7 m c t _ _ _ rfl (by show h.val * 512 + e.val = 0 + (h.val * 512 + e.val); omega)]
  exact KerHost.rowN_at _ _
theorem c_eq : cT (bl4 m c t) (bl5 m c t) (bl6 m c t) k h = cG (Z0 m c) (W0 m c) (B0 m c) (4 * t.val + k.val) h := by
  funext x d
  unfold cT cG
  refine congrArg (fun f => cum f x) (funext fun y => ?_)
  have hb : (bl6 m c t) (ix2 0 ⟨h.val * 256 + d.val, by omega⟩) = B0 m c (ix1 ⟨h.val * 256 + d.val, by omega⟩) :=
    (b6 m c t _ _ (ix2 0 ⟨h.val * 256 + d.val, by omega⟩) rfl (by show h.val * 256 + d.val = 0 + (h.val * 256 + d.val); omega)).trans (KerHost.rowB_at _ _)
  have hw : ∀ i : Fin 128, (bl5 m c t) (ix2 i ⟨h.val * 256 + d.val, by omega⟩) = if h' : i.val < 16 then W0 m c (ix2 ⟨i.val, h'⟩ ⟨h.val * 256 + d.val, by omega⟩) else (0 : EReal) := fun i =>
    (b5 m c t _ _ (ix2 i ⟨h.val * 256 + d.val, by omega⟩) (by show i.val = 0 + i.val; omega) (by show h.val * 256 + d.val = 0 + (h.val * 256 + d.val); omega)).trans (KerHost.padW_at _ _ _)
  refine congrArg (fun z => ls z * c16) (congrArg₂ (fun a b : EReal => a + b) ?_ hb)
  refine sum_pad _ _ (fun i => ?_) (fun i hi => ?_)
  · rw [hw, dif_pos i.isLt]
    congr 1
    exact b4 m c t _ _ _ (rowv t k y) (by show i.val = 0 + i.val; omega)
  · rw [hw, dif_neg (by omega), mul_zero]

/-- The states before each of a point's chunks. -/
theorem st_eq (S : Fin 4 → Fin 512 → Fin 256 → EReal) (hS : S = stG (P0 m c) (Z0 m c) (W0 m c) (B0 m c) (4 * t.val)) : ∀ j, j ≤ 3 →
    stT (bl1 m c t) (bl2 m c t) (bl4 m c t) (bl5 m c t) (bl6 m c t) S j = stG (P0 m c) (Z0 m c) (W0 m c) (B0 m c) (4 * t.val + j) := by
  intro j
  induction j with
  | zero => intro _; exact hS
  | succ j ih =>
    intro hj
    rw [show stG (P0 m c) (Z0 m c) (W0 m c) (B0 m c) (4 * t.val + (j + 1)) = updG (P0 m c) (Z0 m c) (W0 m c) (B0 m c) (4 * t.val + j) (stG (P0 m c) (Z0 m c) (W0 m c) (B0 m c) (4 * t.val + j)) from if_neg (show ¬(4 * t.val + j + 1) % 128 = 0 by omega)]
    rw [← ih (by omega)]
    rw [show stT (bl1 m c t) (bl2 m c t) (bl4 m c t) (bl5 m c t) (bl6 m c t) S (j + 1) = updT (bl1 m c t) (bl2 m c t) (bl4 m c t) (bl5 m c t) (bl6 m c t) ⟨j, by omega⟩ (stT (bl1 m c t) (bl2 m c t) (bl4 m c t) (bl5 m c t) (bl6 m c t) S j) from dif_pos (by omega)]
    funext h
    unfold updT updG
    rw [c_eq, k_eq, v_eq]

/-- The states after a point. -/
theorem post_eq (S : Fin 4 → Fin 512 → Fin 256 → EReal) (hS : S = stG (P0 m c) (Z0 m c) (W0 m c) (B0 m c) (4 * t.val)) :
    stT (bl1 m c t) (bl2 m c t) (bl4 m c t) (bl5 m c t) (bl6 m c t) S 4 = updG (P0 m c) (Z0 m c) (W0 m c) (B0 m c) (4 * t.val + 3) (stG (P0 m c) (Z0 m c) (W0 m c) (B0 m c) (4 * t.val + 3)) := by
  rw [← st_eq m c t S hS 3 le_rfl]
  rw [show stT (bl1 m c t) (bl2 m c t) (bl4 m c t) (bl5 m c t) (bl6 m c t) S 4 = updT (bl1 m c t) (bl2 m c t) (bl4 m c t) (bl5 m c t) (bl6 m c t) ⟨3, by omega⟩ (stT (bl1 m c t) (bl2 m c t) (bl4 m c t) (bl5 m c t) (bl6 m c t) S 3) from dif_pos (show 3 < 4 by decide)]
  funext h
  unfold updT updG
  rw [c_eq, k_eq, v_eq]

/-- The output block of a point. -/
theorem out_eq (S : Fin 4 → Fin 512 → Fin 256 → EReal) (hS : S = stG (P0 m c) (Z0 m c) (W0 m c) (B0 m c) (4 * t.val)) (y : S256x2048.Idx) (i : (⟨2, ![16384, 2048]⟩ : Shape).Idx)
    (h0 : (i 0).val = 256 * t.val + (y 0).val) (h1 : (i 1).val = (y 1).val) :
    outT (bl0 m c t) (bl1 m c t) (bl2 m c t) (bl3 m c t) (bl4 m c t) (bl5 m c t) (bl6 m c t) (bl7 m c t) S y = result (P0 m c) (Z0 m c) (W0 m c) (B0 m c) (N0 m c) i := by
  have hy0 : (y 0).val < 256 := (y 0).isLt
  have hy1 : (y 1).val < 2048 := (y 1).isLt
  unfold outT result chO outG
  have hM : (i 0).val / 64 = 4 * t.val + (y 0).val / 64 := by omega
  have hh : (i 1).val / 512 = (y 1).val / 512 := by omega
  have ht : (i 0).val % 64 = (y 0).val % 64 := by omega
  have he : (i 1).val % 512 = (y 1).val % 512 := by omega
  simp only [hM, hh, ht, he]
  rw [c_eq, q_eq, k_eq, v_eq, g_eq, st_eq m c t S hS _ (by omega)]
  exact congrArg (fun f => out _ _ _ _ _ f _ _ _) (n_eq m c t ⟨(y 1).val / 512, by omega⟩)

/-- What every point leaves, by induction over the points. -/
theorem after_pt : ∀ n (hn : n < cfg0.N),
    (∀ (y : S256x2048.Idx) (i : (⟨2, ![16384, 2048]⟩ : Shape).Idx), (i 0).val = 256 * n + (y 0).val → (i 1).val = (y 1).val →
      ((outsAt0 m c n hn).1 : S256x2048.Idx → EReal) y = result (P0 m c) (Z0 m c) (W0 m c) (B0 m c) (N0 m c) i)
    ∧ stOf (outsAt0 m c n hn).2 = updG (P0 m c) (Z0 m c) (W0 m c) (B0 m c) (4 * n + 3) (stG (P0 m c) (Z0 m c) (W0 m c) (B0 m c) (4 * n + 3)) := by
  intro n
  induction n with
  | zero =>
    intro hn
    have hS : S0 = stG (P0 m c) (Z0 m c) (W0 m c) (B0 m c) (4 * (⟨0, hn⟩ : Fin cfg0.N).val) := rfl
    rw [outsAt0_A m c ⟨0, hn⟩ rfl]
    refine ⟨fun y i h0 h1 => (outA (hc0 := (hcond0_0 ⟨0, hn⟩).mpr rfl) (y := y) ..).trans (out_eq m c ⟨0, hn⟩ _ hS y i h0 h1), ?_⟩
    rw [← post_eq m c ⟨0, hn⟩ _ hS]
    funext h e d
    exact scrA (hc0 := (hcond0_0 ⟨0, hn⟩).mpr rfl) (h := h) (e := e) (d := d) ..
  | succ n ih =>
    intro hn
    obtain ⟨-, ih⟩ := ih (by omega)
    have := N64
    by_cases h32 : (n + 1) % 32 = 0
    · have hS : S0 = stG (P0 m c) (Z0 m c) (W0 m c) (B0 m c) (4 * (⟨n + 1, hn⟩ : Fin cfg0.N).val) := by
        show S0 = stG (P0 m c) (Z0 m c) (W0 m c) (B0 m c) ((4 * n + 3) + 1)
        exact (if_pos (by omega)).symm
      rw [outsAt0_A m c ⟨n + 1, hn⟩ h32]
      refine ⟨fun y i h0 h1 => (outA (hc0 := (hcond0_0 ⟨n + 1, hn⟩).mpr h32) (y := y) ..).trans (out_eq m c ⟨n + 1, hn⟩ _ hS y i h0 h1), ?_⟩
      rw [← post_eq m c ⟨n + 1, hn⟩ _ hS]
      funext h e d
      exact scrA (hc0 := (hcond0_0 ⟨n + 1, hn⟩).mpr h32) (h := h) (e := e) (d := d) ..
    · have hS : stOf (outsAt0 m c n (by omega)).2 = stG (P0 m c) (Z0 m c) (W0 m c) (B0 m c) (4 * (⟨n + 1, hn⟩ : Fin cfg0.N).val) := by
        rw [ih]
        show _ = stG (P0 m c) (Z0 m c) (W0 m c) (B0 m c) ((4 * n + 3) + 1)
        exact (if_neg (by omega)).symm
      rw [outsAt0_B m c ⟨n + 1, hn⟩ h32]
      refine ⟨fun y i h0 h1 => (outB (hc0 := fun h => h32 ((hcond0_0 ⟨n + 1, hn⟩).mp h)) (y := y) ..).trans (out_eq m c ⟨n + 1, hn⟩ _ hS y i h0 h1), ?_⟩
      rw [← post_eq m c ⟨n + 1, hn⟩ _ hS]
      funext h e d
      exact scrB (hc0 := fun h => h32 ((hcond0_0 ⟨n + 1, hn⟩).mp h)) (h := h) (e := e) (d := d) ..

/-- The kernel's result array is the mixer's result. -/
theorem G8_eq : G8 m c = result (P0 m c) (Z0 m c) (W0 m c) (B0 m c) (N0 m c) := by
  funext i
  have hi0 : (i 0).val < 16384 := (i 0).isLt
  have hi1 : (i 1).val < 2048 := (i 1).isLt
  have hN := N64
  have hp : pt8Of i = (i 0).val / 256 := by show 1 * ((i 0).val / 256 - 0) + 1 * ((i 1).val / 2048 - 0) = _; omega
  have hlt : pt8Of i < cfg0.N := by rw [hp]; omega
  unfold G8
  rw [dif_pos hlt, ← outsAt0_sweep m c (pt8Of i) hlt]
  refine (after_pt m c _ hlt).1 (loc8Of i) i ?_ ?_
  · show (i 0).val = 256 * pt8Of i + (i 0).val % 256
    rw [hp]; omega
  · show (i 1).val = (i 1).val % 2048
    omega
end Cert.KerGrid
-- ==== Proof.RefTerms.lean ====
module

public import proofs.«01_k».proof.Proof.Gen.ReferenceIdeal.Run
public import Idealize.ShloMosaic.Lib.Pointwise

/-! The arrays that the gated-linear-attention reference computes before and after its loop over the chunks, each as a
term of the arrays it is computed from, and the reading of each such term at an index. Coordinates: batch `b`, head
`h`, chunk `n`, row `t` of the chunk, column `d` of the head. -/

@[expose] public section

set_option maxRecDepth 16384
noncomputable section
namespace Cert.RefTerms
open Idealize.ShloMosaic Idealize.ShloMosaic.TcCoe Idealize.ShloMosaic.Tactic Idealize.ShloMosaic.StableHlo Idealize.SL.Sem
open Cert.ReferenceIdeal Cert.ReferenceIdeal.Gen Cert.ReferenceIdeal.Value

/-- A float array of the reference, over the extended reals. -/
abbrev V' (s : Shape) := FVec Ideal s .f32

/-- The queries' columns of the projection. -/
def colsQ (x : FVec Ideal S16384x6144 .bf16) : V' S2x8192x1024 :=
  extractStridedSlice S2x8192x1024 ![0, 0, 0] (shapeCast S2x8192x6144 (extf .f32 x bitsLt_bf16_f32) shapeCasts_S16384x6144_S2x8192x6144) slices_S2x8192x6144_S2x8192x1024_0_0_0
/-- The keys' columns of the projection. -/
def colsK (x : FVec Ideal S16384x6144 .bf16) : V' S2x8192x1024 :=
  extractStridedSlice S2x8192x1024 ![0, 0, 1024] (shapeCast S2x8192x6144 (extf .f32 x bitsLt_bf16_f32) shapeCasts_S16384x6144_S2x8192x6144) slices_S2x8192x6144_S2x8192x1024_0_0_1024
/-- The values' columns of the projection. -/
def colsV (x : FVec Ideal S16384x6144 .bf16) : V' S2x8192x2048 :=
  extractStridedSlice S2x8192x2048 ![0, 0, 2048] (shapeCast S2x8192x6144 (extf .f32 x bitsLt_bf16_f32) shapeCasts_S16384x6144_S2x8192x6144) slices_S2x8192x6144_S2x8192x2048_0_0_2048
/-- The gate's columns of the projection. -/
def colsG (x : FVec Ideal S16384x6144 .bf16) : V' S2x8192x2048 :=
  extractStridedSlice S2x8192x2048 ![0, 0, 4096] (shapeCast S2x8192x6144 (extf .f32 x bitsLt_bf16_f32) shapeCasts_S16384x6144_S2x8192x6144) slices_S2x8192x6144_S2x8192x2048_0_0_4096
/-- The decay's logits. -/
def logits (z : V' S16384x128) (w : V' S16x1024) (b : V' S1024) : V' S2x8192x1024 :=
  addf (Host.dotGeneral dot_S2x8192x16_S16x1024_S2x8192x1024_2_0_01_1_n_n none (extractStridedSlice S2x8192x16 ![0, 0, 0] (shapeCast S2x8192x128 z shapeCasts_S16384x128_S2x8192x128) slices_S2x8192x128_S2x8192x16_0_0_0) w)
    (broadcastInDim S2x8192x1024 ![0, 1, 2] bcast_S1x1x1024_S2x8192x1024_0_1_2 (broadcastInDim S1x1x1024 ![2] bcast_S1024_S1x1x1024_2 b))
/-- The zero array. -/
def zeroA : V' S2x8192x1024 := broadcastInDim S2x8192x1024 ![] bcast_S_S2x8192x1024 (constant S_ .f32 0x00000000#32)
/-- The logarithm of the logistic function, as the reference writes it. -/
def logSig (x : V' S2x8192x1024) : V' S2x8192x1024 :=
  Host.negf (select (cmpf .une (subf (Host.negf x) zeroA) (subf (Host.negf x) zeroA)) (addf (Host.negf x) zeroA)
    (addf (maximumf (Host.negf x) zeroA) (Host.log1p (Host.exp (Host.negf (Host.absf (subf (Host.negf x) zeroA)))))))
/-- An array of 1024 columns cut in chunks and heads. -/
def chunks (x : V' S2x8192x1024) : V' S2x4x128x64x256 :=
  transpose S2x4x128x64x256 [0, 3, 1, 2, 4] (shapeCast S2x128x64x4x256 x shapeCasts_S2x8192x1024_S2x128x64x4x256) transposes_S2x128x64x4x256_S2x4x128x64x256_0_3_1_2_4
/-- An array of 2048 columns cut in chunks and heads. -/
def chunksV (x : V' S2x8192x2048) : V' S2x4x128x64x512 :=
  transpose S2x4x128x64x512 [0, 3, 1, 2, 4] (shapeCast S2x128x64x4x512 x shapeCasts_S2x8192x2048_S2x128x64x4x512) transposes_S2x128x64x4x512_S2x4x128x64x512_0_3_1_2_4
/-- The scaled queries. -/
def scaleQ (x : V' S2x8192x1024) : V' S2x8192x1024 :=
  mulf x (broadcastInDim S2x8192x1024 ![] bcast_S_S2x8192x1024 (constant S_ .f32 0x3D800000#32))
/-- The decay's logarithm. -/
def scaleLa (x : V' S2x8192x1024) : V' S2x8192x1024 :=
  Host.divf x (broadcastInDim S2x8192x1024 ![] bcast_S_S2x8192x1024 (constant S_ .f32 0x41800000#32))
/-- The running sums over a chunk's rows. -/
def cumA (x : V' S2x4x128x64x256) : V' S2x4x128x64x256 :=
  Host.reduceWindowAdd ![1, 1, 1, 64, 1] ![1, 1, 1, 1, 1] ![0, 0, 0, 63, 0] ![0, 0, 0, 0, 0] x (broadcastInDim S_ ![] bcast_S_S_ (constant S_ .f32 0x00000000#32)) reduceWindows_S2x4x128x64x256_S2x4x128x64x256_w1s1p0_0_w1s1p0_0_w1s1p0_0_w64s1p63_0_w1s1p0_0 h_S_
/-- The running sum at a chunk's last row. -/
def lastA (c : V' S2x4x128x64x256) : V' S2x4x128x1x256 :=
  extractStridedSlice S2x4x128x1x256 ![0, 0, 0, 63, 0] c slices_S2x4x128x64x256_S2x4x128x1x256_0_0_0_63_0
/-- The product of two arrays over the head's columns. -/
def scoresA (x y : V' S2x4x128x64x256) : V' S2x4x128x64x64 :=
  Host.dotGeneral dot_S2x4x128x64x256_S2x4x128x64x256_S2x4x128x64x64_4_4_3_3_012_012 none x y
/-- Whether the row is at or below the column. -/
def lowerA : IVec S64x64 1 :=
  cmpi .sge (broadcastInDim S64x64 ![0, 1] bcast_S64x1_S64x64_0_1 (broadcastInDim S64x1 ![0] bcast_S64_S64x1_0 (iotaInDim S64 32 0)))
    (broadcastInDim S64x64 ![0, 1] bcast_S1x64_S64x64_0_1 (broadcastInDim S1x64 ![1] bcast_S64_S1x64_1 (iotaInDim S64 32 0)))
/-- The scores: one product below the diagonal, the other above. -/
def maskA (l : IVec S64x64 1) (x y : V' S2x4x128x64x64) : V' S2x4x128x64x64 :=
  select (broadcastInDim S2x4x128x64x64 ![3, 4] bcast_S64x64_S2x4x128x64x64_3_4 l) x y
/-- The part of a chunk's output that its own rows give. -/
def intraA (s : V' S2x4x128x64x64) (v : V' S2x4x128x64x512) : V' S2x4x128x64x512 :=
  Host.dotGeneral dot_S2x4x128x64x64_S2x4x128x64x512_S2x4x128x64x512_4_3_3_4_012_012 none s v
/-- The keys decayed to the end of the chunk. -/
def kinA (k c : V' S2x4x128x64x256) : V' S2x4x128x64x256 :=
  mulf k (Host.exp (subf (broadcastInDim S2x4x128x64x256 ![0, 1, 2, 3, 4] bcast_S2x4x128x1x256_S2x4x128x64x256_0_1_2_3_4 (lastA c)) c))
/-- The decay over a chunk. -/
def decA (c : V' S2x4x128x64x256) : V' S2x4x128x256 :=
  Host.exp (shapeCast S2x4x128x256 (lastA c) shapeCasts_S2x4x128x1x256_S2x4x128x256)
/-- The chunk axis first. -/
def firstK (x : V' S2x4x128x64x256) : V' S128x2x4x64x256 :=
  transpose S128x2x4x64x256 [2, 0, 1, 3, 4] x transposes_S2x4x128x64x256_S128x2x4x64x256_2_0_1_3_4
/-- The chunk axis first. -/
def firstV (x : V' S2x4x128x64x512) : V' S128x2x4x64x512 :=
  transpose S128x2x4x64x512 [2, 0, 1, 3, 4] x transposes_S2x4x128x64x512_S128x2x4x64x512_2_0_1_3_4
/-- The chunk axis first. -/
def firstD (x : V' S2x4x128x256) : V' S128x2x4x256 :=
  transpose S128x2x4x256 [2, 0, 1, 3] x transposes_S2x4x128x256_S128x2x4x256_2_0_1_3
/-- The attention's output with its rows in order. -/
def joinO (o : V' S2x4x128x64x512) (x : V' S128x2x4x64x512) : V' S2x8192x4x512 :=
  shapeCast S2x8192x4x512 (transpose S2x128x64x4x512 [0, 2, 3, 1, 4] (addf o (transpose S2x4x128x64x512 [1, 2, 0, 3, 4] x transposes_S128x2x4x64x512_S2x4x128x64x512_1_2_0_3_4)) transposes_S2x4x128x64x512_S2x128x64x4x512_0_2_3_1_4) shapeCasts_S2x128x64x4x512_S2x8192x4x512
/-- The heads' normalised outputs, weighted. -/
def normO (o : V' S2x8192x4x512) (w : V' S2048) : V' S2x8192x2048 :=
  mulf (shapeCast S2x8192x2048 (mulf o (broadcastInDim S2x8192x4x512 ![0, 1, 2, 3] bcast_S2x8192x4x1_S2x8192x4x512_0_1_2_3 (Host.rsqrt (addf (Host.divf (broadcastInDim S2x8192x4x1 ![0, 1, 2] bcast_S2x8192x4_S2x8192x4x1_0_1_2 (Host.reduceAdd (mulf o o) (constant S_ .f32 0x00000000#32) reducesTo_S2x8192x4x512_S2x8192x4_d3 h_S_)) (broadcastInDim S2x8192x4x1 ![] bcast_S_S2x8192x4x1 (constant S_ .f32 0x44000000#32))) (broadcastInDim S2x8192x4x1 ![] bcast_S_S2x8192x4x1 (constant S_ .f32 0x358637BD#32)))))) shapeCasts_S2x8192x4x512_S2x8192x2048)
    (broadcastInDim S2x8192x2048 ![0, 1, 2] bcast_S1x1x2048_S2x8192x2048_0_1_2 (broadcastInDim S1x1x2048 ![2] bcast_S2048_S1x1x2048_2 w))
/-- `x` times its logistic function. -/
def siluA (x : V' S2x8192x2048) : V' S2x8192x2048 :=
  mulf x (Host.divf (broadcastInDim S2x8192x2048 ![] bcast_S_S2x8192x2048 (constant S_ .f32 0x3F800000#32)) (addf (broadcastInDim S2x8192x2048 ![] bcast_S_S2x8192x2048 (constant S_ .f32 0x3F800000#32)) (Host.exp (Host.negf x))))
/-- The gated output, rows in one list. -/
def gateO (x y : V' S2x8192x2048) : FVec Ideal S16384x2048 .bf16 :=
  truncf .bf16 (shapeCast S16384x2048 (mulf x y) shapeCasts_S2x8192x2048_S16384x2048) bitsLt_bf16_f32
end Cert.RefTerms
-- ==== Proof.RefEntry.lean ====
module

public import proofs.«01_k».proof.Proof.RefTerms

/-! What the reference's buffers hold after each stretch of its host operations, as the terms of RefTerms. -/

@[expose] public section

set_option maxRecDepth 16384
noncomputable section
namespace Cert.RefEntry
open Idealize.ShloMosaic Idealize.ShloMosaic.TcCoe Idealize.ShloMosaic.Tactic Idealize.ShloMosaic.StableHlo Idealize.SL.Sem
open Cert.ReferenceIdeal Cert.ReferenceIdeal.Gen Cert.ReferenceIdeal.Value Cert.RefTerms

variable (V : Valuation τ sig (Elt Ideal))
theorem at_v2 : after hostOps0 V (Proc.devRef .tc main_v2) = colsQ (V (Proc.devRef .tc main_arg0)) := by
  unfold hostOps0
  after_reads_simp
  try rfl

theorem at_v3 : after hostOps0 V (Proc.devRef .tc main_v3) = colsK (V (Proc.devRef .tc main_arg0)) := by
  unfold hostOps0
  after_reads_simp
  try rfl

theorem at_v4 : after hostOps0 V (Proc.devRef .tc main_v4) = colsV (V (Proc.devRef .tc main_arg0)) := by
  unfold hostOps0
  after_reads_simp
  try rfl

theorem at_v5 : after hostOps0 V (Proc.devRef .tc main_v5) = colsG (V (Proc.devRef .tc main_arg0)) := by
  unfold hostOps0
  after_reads_simp
  try rfl

theorem at_v11 : after hostOps0 V (Proc.devRef .tc main_v11) = logits (V (Proc.devRef .tc main_arg1)) (V (Proc.devRef .tc main_arg2)) (V (Proc.devRef .tc main_arg3)) := by
  unfold hostOps0
  after_reads_simp
  try rfl

theorem at_v12 : after hostOps0_1 V (Proc.devRef .tc main_v12) = logSig (V (Proc.devRef .tc main_v11)) := by
  unfold hostOps0_1
  after_reads_simp
  try rfl

theorem at_v18 : after hostOps0_2 V (Proc.devRef .tc main_v18) = chunks (scaleQ (V (Proc.devRef .tc main_v2))) := by
  unfold hostOps0_2
  after_reads_simp
  try rfl

theorem at_v20 : after hostOps0_2 V (Proc.devRef .tc main_v20) = chunks (V (Proc.devRef .tc main_v3)) := by
  unfold hostOps0_2
  after_reads_simp
  try rfl

theorem at_v22 : after hostOps0_2 V (Proc.devRef .tc main_v22) = chunksV (V (Proc.devRef .tc main_v4)) := by
  unfold hostOps0_2
  after_reads_simp
  try rfl

theorem at_v24 : after hostOps0_2 V (Proc.devRef .tc main_v24) = chunks (scaleLa (V (Proc.devRef .tc main_v12))) := by
  unfold hostOps0_2
  after_reads_simp
  try rfl

theorem at_v25 : after hostOps0_3 V (Proc.devRef .tc main_v25) = cumA (V (Proc.devRef .tc main_v24)) := by
  unfold hostOps0_3
  after_reads_simp
  try rfl

theorem at_v26 : after hostOps0_4 V (Proc.devRef .tc main_v26) = lastA (V (Proc.devRef .tc main_v25)) := by
  unfold hostOps0_4
  after_reads_simp
  try rfl

theorem at_v30 : after hostOps0_4 V (Proc.devRef .tc main_v30) = mulf (F := Ideal) (φ := .f32) (V (Proc.devRef .tc main_v18)) (Host.exp (F := Ideal) (φ := .f32) (V (Proc.devRef .tc main_v25))) := by
  unfold hostOps0_4
  after_reads_simp
  try rfl

theorem at_v39 : after hostOps0_4 V (Proc.devRef .tc main_v39) = lowerA := by
  unfold hostOps0_4
  after_reads_simp
  try rfl

theorem at_v40 : after hostOps0_4 V (Proc.devRef .tc main_v40) = scoresA (mulf (V (Proc.devRef .tc main_v18)) (Host.exp (V (Proc.devRef .tc main_v25)))) (mulf (V (Proc.devRef .tc main_v20)) (Host.exp (Host.negf (V (Proc.devRef .tc main_v25))))) := by
  unfold hostOps0_4
  after_reads_simp
  try rfl

theorem at_v41 : after hostOps0_4 V (Proc.devRef .tc main_v41) = scoresA (mulf (V (Proc.devRef .tc main_v18)) (Host.exp (Host.negf (V (Proc.devRef .tc main_v25))))) (mulf (V (Proc.devRef .tc main_v20)) (Host.exp (V (Proc.devRef .tc main_v25)))) := by
  unfold hostOps0_4
  after_reads_simp
  try rfl

theorem at_v42 : after hostOps0_5 V (Proc.devRef .tc main_v42) = maskA (V (Proc.devRef .tc main_v39)) (V (Proc.devRef .tc main_v40)) (V (Proc.devRef .tc main_v41)) := by
  unfold hostOps0_5
  after_reads_simp
  try rfl

theorem at_v43 : after hostOps0_6 V (Proc.devRef .tc main_v43) = intraA (V (Proc.devRef .tc main_v42)) (V (Proc.devRef .tc main_v22)) := by
  unfold hostOps0_6
  after_reads_simp
  try rfl

theorem at_v56_0 : after hostOps0_6 V (Proc.devRef .tc main_v56_0) = firstK (V (Proc.devRef .tc main_v30)) := by
  unfold hostOps0_6
  after_reads_simp
  try rfl

theorem at_v56_1 (hl : V (Proc.devRef .tc main_v26) = lastA (V (Proc.devRef .tc main_v25))) : after hostOps0_6 V (Proc.devRef .tc main_v56_1) = firstK (kinA (V (Proc.devRef .tc main_v20)) (V (Proc.devRef .tc main_v25))) := by
  unfold hostOps0_6
  after_reads_simp
  rw [hl]
  try rfl

theorem at_v56_3 (hl : V (Proc.devRef .tc main_v26) = lastA (V (Proc.devRef .tc main_v25))) : after hostOps0_6 V (Proc.devRef .tc main_v56_3) = firstD (decA (V (Proc.devRef .tc main_v25))) := by
  unfold hostOps0_6
  after_reads_simp
  rw [hl]
  try rfl

theorem at_v56_2 : after hostOps0_6 V (Proc.devRef .tc main_v56_2) = firstV (V (Proc.devRef .tc main_v22)) := by
  unfold hostOps0_6
  after_reads_simp
  try rfl

theorem at_v56_5 : after hostOps0_6 V (Proc.devRef .tc main_v56_5) = (broadcastInDim S2x4x256x512 ![] bcast_S_S2x4x256x512 (constant S_ .f32 0x00000000#32) : V' S2x4x256x512) := by
  unfold hostOps0_6
  after_reads_simp
  try rfl

theorem at_v56_6 : after hostOps0_6 V (Proc.devRef .tc main_v56_6) = (broadcastInDim S128x2x4x64x512 ![] bcast_S_S128x2x4x64x512 (constant S_ .f32 0x00000000#32) : V' S128x2x4x64x512) := by
  unfold hostOps0_6
  after_reads_simp
  try rfl

theorem at_v74 : after hostOps0_7 V (Proc.devRef .tc main_v74) = normO (joinO (V (Proc.devRef .tc main_v43)) (V (Proc.devRef .tc main_v56_6))) (V (Proc.devRef .tc main_arg4)) := by
  unfold hostOps0_7
  after_reads_simp
  try rfl

theorem at_v75 : after hostOps0_8 V (Proc.devRef .tc main_v75) = siluA (V (Proc.devRef .tc main_v5)) := by
  unfold hostOps0_8
  after_reads_simp
  try rfl

theorem at_v78 : after hostOps0_9 V (Proc.devRef .tc main_v78) = gateO (V (Proc.devRef .tc main_v74)) (V (Proc.devRef .tc main_v75)) := by
  unfold hostOps0_9
  after_reads_simp
  try rfl

end Cert.RefEntry
-- ==== Proof.RefLoop.lean ====
module

public import proofs.«01_k».proof.Proof.RefTerms

/-! The reference's loop over the chunks: one trip's new state and output, and what 128 trips leave. -/

@[expose] public section

set_option maxRecDepth 16384
noncomputable section
namespace Cert.RefLoop
open Idealize.ShloMosaic Idealize.ShloMosaic.TcCoe Idealize.ShloMosaic.Tactic Idealize.ShloMosaic.StableHlo Idealize.SL.Sem
open Cert.ReferenceIdeal Cert.ReferenceIdeal.Gen Cert.ReferenceIdeal.Value Cert.RefTerms

/-- The states after a trip. -/
def stepS (ctr : IVec S_ 32) (dec : V' S128x2x4x256) (kin : V' S128x2x4x64x256) (vs : V' S128x2x4x64x512) (st : V' S2x4x256x512) : V' S2x4x256x512 :=
  (addf (mulf (broadcastInDim S2x4x256x512 ![0, 1, 2, 3] bcast_S2x4x256x1_S2x4x256x512_0_1_2_3 (broadcastInDim S2x4x256x1 ![0, 1, 2] bcast_S2x4x256_S2x4x256x1_0_1_2 (shapeCast S2x4x256 (Host.dynamicSlice S1x2x4x256 dec (fun k => (((![ctr, constantI S_ 32 0#32, constantI S_ 32 0#32, constantI S_ 32 0#32] : Fin 4 → (⟨S_, .i32⟩ : BufTy).Contents (Elt Ideal))) k (Shape.Idx.first h_S_)).toInt) sliceFits_S128x2x4x256_S1x2x4x256) shapeCasts_S1x2x4x256_S2x4x256))) st) (Host.dotGeneral dot_S2x4x64x256_S2x4x64x512_S2x4x256x512_2_2_3_3_01_01 none (shapeCast S2x4x64x256 (Host.dynamicSlice S1x2x4x64x256 kin (fun k => (((![ctr, constantI S_ 32 0#32, constantI S_ 32 0#32, constantI S_ 32 0#32, constantI S_ 32 0#32] : Fin 5 → (⟨S_, .i32⟩ : BufTy).Contents (Elt Ideal))) k (Shape.Idx.first h_S_)).toInt) sliceFits_S128x2x4x64x256_S1x2x4x64x256) shapeCasts_S1x2x4x64x256_S2x4x64x256) (shapeCast S2x4x64x512 (Host.dynamicSlice S1x2x4x64x512 vs (fun k => (((![ctr, constantI S_ 32 0#32, constantI S_ 32 0#32, constantI S_ 32 0#32, constantI S_ 32 0#32] : Fin 5 → (⟨S_, .i32⟩ : BufTy).Contents (Elt Ideal))) k (Shape.Idx.first h_S_)).toInt) sliceFits_S128x2x4x64x512_S1x2x4x64x512) shapeCasts_S1x2x4x64x512_S2x4x64x512)))
/-- The outputs after a trip. -/
def stepO (ctr : IVec S_ 32) (qd : V' S128x2x4x64x256) (st : V' S2x4x256x512) (ou : V' S128x2x4x64x512) : V' S128x2x4x64x512 :=
  (Host.dynamicUpdateSlice ou (broadcastInDim S1x2x4x64x512 ![1, 2, 3, 4] bcast_S2x4x64x512_S1x2x4x64x512_1_2_3_4 (Host.dotGeneral dot_S2x4x64x256_S2x4x256x512_S2x4x64x512_3_2_2_3_01_01 none (shapeCast S2x4x64x256 (Host.dynamicSlice S1x2x4x64x256 qd (fun k => (((![ctr, constantI S_ 32 0#32, constantI S_ 32 0#32, constantI S_ 32 0#32, constantI S_ 32 0#32] : Fin 5 → (⟨S_, .i32⟩ : BufTy).Contents (Elt Ideal))) k (Shape.Idx.first h_S_)).toInt) sliceFits_S128x2x4x64x256_S1x2x4x64x256) shapeCasts_S1x2x4x64x256_S2x4x64x256) st)) (fun k => (((![ctr, constantI S_ 32 0#32, constantI S_ 32 0#32, constantI S_ 32 0#32, constantI S_ 32 0#32] : Fin 5 → (⟨S_, .i32⟩ : BufTy).Contents (Elt Ideal))) k (Shape.Idx.first h_S_)).toInt) updateFits_S128x2x4x64x512_S1x2x4x64x512)

variable (W : Valuation τ sig (Elt Ideal))
theorem step5 : step_main_v56_5 W = stepS (W (Proc.devRef .tc main_v56_4)) (W (Proc.devRef .tc main_v56_3)) (W (Proc.devRef .tc main_v56_1)) (W (Proc.devRef .tc main_v56_2)) (W (Proc.devRef .tc main_v56_5)) := rfl
theorem step6 : step_main_v56_6 W = stepO (W (Proc.devRef .tc main_v56_4)) (W (Proc.devRef .tc main_v56_0)) (W (Proc.devRef .tc main_v56_5)) (W (Proc.devRef .tc main_v56_6)) := by
  unfold step_main_v56_6 stepO
  exact rfl

theorem toInt_small (n : ℕ) (hn : n < 128) : (BitVec.ofNat 32 n).toInt = (n : ℤ) := by
  rw [BitVec.toInt_eq_toNat_cond, BitVec.toNat_ofNat]
  have : n % 2 ^ 32 = n := Nat.mod_eq_of_lt (by omega)
  rw [this, if_pos (by omega)]
theorem c2_4_64_256_0 (n : ℕ) (hn : n < 128) (ht : S1x2x4x64x256.rank = S128x2x4x64x256.rank) : Host.clampedStart S128x2x4x64x256 S1x2x4x64x256 ht (fun k => BitVec.toInt ((![fun _ => BitVec.ofNat 32 n, constantI S_ 32 0#32, constantI S_ 32 0#32, constantI S_ 32 0#32, constantI S_ 32 0#32] : Fin 5 → IVec S_ 32) k (Shape.Idx.first h_S_))) 0 = n := by
  show (min (max (BitVec.ofNat 32 n).toInt 0) (((128 - 1 : ℕ)) : ℤ)).toNat = n
  rw [toInt_small n hn]; omega
theorem c2_4_64_256_1 (start : Fin 5 → ℤ) (ht : S1x2x4x64x256.rank = S128x2x4x64x256.rank) : Host.clampedStart S128x2x4x64x256 S1x2x4x64x256 ht start 1 = 0 := by
  have : ∀ D : ℕ, (min (max (start 1) 0) ((D - D : ℕ) : ℤ)).toNat = 0 := fun D => by omega
  exact this _
theorem c2_4_64_256_2 (start : Fin 5 → ℤ) (ht : S1x2x4x64x256.rank = S128x2x4x64x256.rank) : Host.clampedStart S128x2x4x64x256 S1x2x4x64x256 ht start 2 = 0 := by
  have : ∀ D : ℕ, (min (max (start 2) 0) ((D - D : ℕ) : ℤ)).toNat = 0 := fun D => by omega
  exact this _
theorem c2_4_64_256_3 (start : Fin 5 → ℤ) (ht : S1x2x4x64x256.rank = S128x2x4x64x256.rank) : Host.clampedStart S128x2x4x64x256 S1x2x4x64x256 ht start 3 = 0 := by
  have : ∀ D : ℕ, (min (max (start 3) 0) ((D - D : ℕ) : ℤ)).toNat = 0 := fun D => by omega
  exact this _
theorem c2_4_64_256_4 (start : Fin 5 → ℤ) (ht : S1x2x4x64x256.rank = S128x2x4x64x256.rank) : Host.clampedStart S128x2x4x64x256 S1x2x4x64x256 ht start 4 = 0 := by
  have : ∀ D : ℕ, (min (max (start 4) 0) ((D - D : ℕ) : ℤ)).toNat = 0 := fun D => by omega
  exact this _
theorem c2_4_64_512_0 (n : ℕ) (hn : n < 128) (ht : S1x2x4x64x512.rank = S128x2x4x64x512.rank) : Host.clampedStart S128x2x4x64x512 S1x2x4x64x512 ht (fun k => BitVec.toInt ((![fun _ => BitVec.ofNat 32 n, constantI S_ 32 0#32, constantI S_ 32 0#32, constantI S_ 32 0#32, constantI S_ 32 0#32] : Fin 5 → IVec S_ 32) k (Shape.Idx.first h_S_))) 0 = n := by
  show (min (max (BitVec.ofNat 32 n).toInt 0) (((128 - 1 : ℕ)) : ℤ)).toNat = n
  rw [toInt_small n hn]; omega
theorem c2_4_64_512_1 (start : Fin 5 → ℤ) (ht : S1x2x4x64x512.rank = S128x2x4x64x512.rank) : Host.clampedStart S128x2x4x64x512 S1x2x4x64x512 ht start 1 = 0 := by
  have : ∀ D : ℕ, (min (max (start 1) 0) ((D - D : ℕ) : ℤ)).toNat = 0 := fun D => by omega
  exact this _
theorem c2_4_64_512_2 (start : Fin 5 → ℤ) (ht : S1x2x4x64x512.rank = S128x2x4x64x512.rank) : Host.clampedStart S128x2x4x64x512 S1x2x4x64x512 ht start 2 = 0 := by
  have : ∀ D : ℕ, (min (max (start 2) 0) ((D - D : ℕ) : ℤ)).toNat = 0 := fun D => by omega
  exact this _
theorem c2_4_64_512_3 (start : Fin 5 → ℤ) (ht : S1x2x4x64x512.rank = S128x2x4x64x512.rank) : Host.clampedStart S128x2x4x64x512 S1x2x4x64x512 ht start 3 = 0 := by
  have : ∀ D : ℕ, (min (max (start 3) 0) ((D - D : ℕ) : ℤ)).toNat = 0 := fun D => by omega
  exact this _
theorem c2_4_64_512_4 (start : Fin 5 → ℤ) (ht : S1x2x4x64x512.rank = S128x2x4x64x512.rank) : Host.clampedStart S128x2x4x64x512 S1x2x4x64x512 ht start 4 = 0 := by
  have : ∀ D : ℕ, (min (max (start 4) 0) ((D - D : ℕ) : ℤ)).toNat = 0 := fun D => by omega
  exact this _
theorem c2_4_256_0 (n : ℕ) (hn : n < 128) (ht : S1x2x4x256.rank = S128x2x4x256.rank) : Host.clampedStart S128x2x4x256 S1x2x4x256 ht (fun k => BitVec.toInt ((![fun _ => BitVec.ofNat 32 n, constantI S_ 32 0#32, constantI S_ 32 0#32, constantI S_ 32 0#32] : Fin 4 → IVec S_ 32) k (Shape.Idx.first h_S_))) 0 = n := by
  show (min (max (BitVec.ofNat 32 n).toInt 0) (((128 - 1 : ℕ)) : ℤ)).toNat = n
  rw [toInt_small n hn]; omega
theorem c2_4_256_1 (start : Fin 4 → ℤ) (ht : S1x2x4x256.rank = S128x2x4x256.rank) : Host.clampedStart S128x2x4x256 S1x2x4x256 ht start 1 = 0 := by
  have : ∀ D : ℕ, (min (max (start 1) 0) ((D - D : ℕ) : ℤ)).toNat = 0 := fun D => by omega
  exact this _
theorem c2_4_256_2 (start : Fin 4 → ℤ) (ht : S1x2x4x256.rank = S128x2x4x256.rank) : Host.clampedStart S128x2x4x256 S1x2x4x256 ht start 2 = 0 := by
  have : ∀ D : ℕ, (min (max (start 2) 0) ((D - D : ℕ) : ℤ)).toNat = 0 := fun D => by omega
  exact this _
theorem c2_4_256_3 (start : Fin 4 → ℤ) (ht : S1x2x4x256.rank = S128x2x4x256.rank) : Host.clampedStart S128x2x4x256 S1x2x4x256 ht start 3 = 0 := by
  have : ∀ D : ℕ, (min (max (start 3) 0) ((D - D : ℕ) : ℤ)).toNat = 0 := fun D => by omega
  exact this _

theorem stepS_at (n : ℕ) (hn : n < 128) (dec : V' S128x2x4x256) (kin : V' S128x2x4x64x256) (vs : V' S128x2x4x64x512) (st : V' S2x4x256x512)
    (b : Fin 2) (h : Fin 4) (d : Fin 256) (e : Fin 512) :
    stepS (fun _ => BitVec.ofNat 32 n) dec kin vs st (ix4 b h d e) = dec (ix4 ⟨n, hn⟩ b h d) * st (ix4 b h d e) + ∑ t : Fin 64, kin (ix5 ⟨n, hn⟩ b h t d) * vs (ix5 ⟨n, hn⟩ b h t e) := by
  pointwise [stepS]
  simp only [c2_4_64_256_0 n hn, c2_4_64_256_1, c2_4_64_256_2, c2_4_64_256_3, c2_4_64_256_4, c2_4_64_512_0 n hn, c2_4_64_512_1, c2_4_64_512_2, c2_4_64_512_3, c2_4_64_512_4, c2_4_256_0 n hn, c2_4_256_1, c2_4_256_2, c2_4_256_3, Nat.zero_add, Nat.add_zero]
theorem stepO_at (n : ℕ) (hn : n < 128) (qd : V' S128x2x4x64x256) (st : V' S2x4x256x512) (ou : V' S128x2x4x64x512)
    (n' : Fin 128) (b : Fin 2) (h : Fin 4) (t : Fin 64) (e : Fin 512) :
    stepO (fun _ => BitVec.ofNat 32 n) qd st ou (ix5 n' b h t e) = if n'.val = n then ∑ d : Fin 256, qd (ix5 ⟨n, hn⟩ b h t d) * st (ix4 b h d e) else ou (ix5 n' b h t e) := by
  pointwise [stepO]
  simp only [c2_4_64_256_0 n hn, c2_4_64_256_1, c2_4_64_256_2, c2_4_64_256_3, c2_4_64_256_4, c2_4_64_512_0 n hn, c2_4_64_512_1, c2_4_64_512_2, c2_4_64_512_3, c2_4_64_512_4, c2_4_256_0 n hn, c2_4_256_1, c2_4_256_2, c2_4_256_3, Nat.zero_add, Nat.add_zero, Nat.sub_zero, Nat.zero_le]
  by_cases h' : n'.val = n
  · exact (dif_pos ⟨⟨by omega, by omega⟩, trivial, trivial, trivial, trivial⟩).trans (if_pos h').symm
  · exact (dif_neg (fun hh => h' (by have := hh.1; omega))).trans (if_neg h').symm

section
variable (dec : V' S128x2x4x256) (kin qd : V' S128x2x4x64x256) (vs : V' S128x2x4x64x512) (st0 : V' S2x4x256x512) (ou0 : V' S128x2x4x64x512)
/-- The states before trip `k`. -/
def stK : ℕ → V' S2x4x256x512
  | 0 => st0
  | k + 1 => stepS (fun _ => BitVec.ofNat 32 k) dec kin vs (stK k)
/-- The outputs before trip `k`. -/
def ouK : ℕ → V' S128x2x4x64x512
  | 0 => ou0
  | k + 1 => stepO (fun _ => BitVec.ofNat 32 k) qd (stK dec kin vs st0 k) (ouK k)

/-- After the trips up to `k` the outputs' first `k` slabs are the queries' products with the states before them. -/
theorem ouK_at (k : ℕ) (hk : k ≤ 128) (n : Fin 128) (hn : n.val < k) (b : Fin 2) (h : Fin 4) (t : Fin 64) (e : Fin 512) :
    ouK dec kin qd vs st0 ou0 k (ix5 n b h t e) = ∑ d : Fin 256, qd (ix5 n b h t d) * stK dec kin vs st0 n.val (ix4 b h d e) := by
  induction k with
  | zero => omega
  | succ k ih =>
    refine (stepO_at k (by omega) qd (stK dec kin vs st0 k) (ouK dec kin qd vs st0 ou0 k) n b h t e).trans ?_
    by_cases h' : n.val = k
    · subst h'
      exact if_pos rfl
    · exact (if_neg h').trans (ih (by omega) (by omega))
end

/-- The loop's carried buffers after `k` trips. -/
theorem iter (W : Valuation τ sig (Elt Ideal)) (hc : W (Proc.devRef .tc main_v56_4) = fun _ => (0#32 : BitVec 32)) : ∀ k,
    (STEP^[k] W) (Proc.devRef .tc main_v56_0) = W (Proc.devRef .tc main_v56_0)
    ∧ (STEP^[k] W) (Proc.devRef .tc main_v56_1) = W (Proc.devRef .tc main_v56_1)
    ∧ (STEP^[k] W) (Proc.devRef .tc main_v56_2) = W (Proc.devRef .tc main_v56_2)
    ∧ (STEP^[k] W) (Proc.devRef .tc main_v56_3) = W (Proc.devRef .tc main_v56_3)
    ∧ (STEP^[k] W) (Proc.devRef .tc main_v56_4) = (fun _ => BitVec.ofNat 32 k)
    ∧ (STEP^[k] W) (Proc.devRef .tc main_v56_5) = stK (W (Proc.devRef .tc main_v56_3)) (W (Proc.devRef .tc main_v56_1)) (W (Proc.devRef .tc main_v56_2)) (W (Proc.devRef .tc main_v56_5)) k
    ∧ (STEP^[k] W) (Proc.devRef .tc main_v56_6) = ouK (W (Proc.devRef .tc main_v56_3)) (W (Proc.devRef .tc main_v56_1)) (W (Proc.devRef .tc main_v56_0)) (W (Proc.devRef .tc main_v56_2)) (W (Proc.devRef .tc main_v56_5)) (W (Proc.devRef .tc main_v56_6)) k
  | 0 => ⟨rfl, rfl, rfl, rfl, hc, rfl, rfl⟩
  | k + 1 => by
    obtain ⟨i0, i1, i2, i3, i4, i5, i6⟩ := iter W hc k
    rw [Function.iterate_succ_apply']
    refine ⟨(STEP_main_v56_0 _).trans i0, (STEP_main_v56_1 _).trans i1, (STEP_main_v56_2 _).trans i2, (STEP_main_v56_3 _).trans i3, (STEP_main_v56_4 _).trans ?_, (STEP_main_v56_5 _).trans ?_, (STEP_main_v56_6 _).trans ?_⟩
    · unfold step_main_v56_4
      rw [i4]
      funext x
      show BitVec.ofNat 32 k + 1#32 = BitVec.ofNat 32 (k + 1)
      rw [← BitVec.ofNat_add]
    · rw [step5, i1, i2, i3, i4, i5]
      rfl
    · rw [step6, i0, i4, i5, i6]
      rfl
end Cert.RefLoop
-- ==== Proof.RefFinal.lean ====
module

public import proofs.«01_k».proof.Proof.RefEntry
public import proofs.«01_k».proof.Proof.RefLoop

/-! The reference's run as a whole: its result buffer as one term of its five arguments. -/

@[expose] public section

set_option maxRecDepth 16384
noncomputable section
namespace Cert.RefFinal
open Idealize.ShloMosaic Idealize.ShloMosaic.TcCoe Idealize.ShloMosaic.Tactic Idealize.ShloMosaic.StableHlo Idealize.SL.Sem
open Cert.ReferenceIdeal Cert.ReferenceIdeal.Gen Cert.ReferenceIdeal.Value Cert.RefTerms Cert.RefEntry Cert.RefLoop

section Terms
variable (P : FVec Ideal S16384x6144 .bf16) (Z : V' S16384x128) (Wt : V' S16x1024) (B : V' S1024) (N : V' S2048)
/-- The scaled queries in chunks. -/
def qA : V' S2x4x128x64x256 := chunks (scaleQ (colsQ P))
/-- The keys in chunks. -/
def kA : V' S2x4x128x64x256 := chunks (colsK P)
/-- The values in chunks. -/
def vA : V' S2x4x128x64x512 := chunksV (colsV P)
/-- The running sums of the decay's logarithm. -/
def cA : V' S2x4x128x64x256 := cumA (chunks (scaleLa (logSig (logits Z Wt B))))
/-- The scores inside the chunks. -/
def sA : V' S2x4x128x64x64 :=
  maskA lowerA (scoresA (mulf (qA P) (Host.exp (cA Z Wt B))) (mulf (kA P) (Host.exp (Host.negf (cA Z Wt B)))))
    (scoresA (mulf (qA P) (Host.exp (Host.negf (cA Z Wt B)))) (mulf (kA P) (Host.exp (cA Z Wt B))))
/-- The state before the first chunk: zero. -/
def st0A : V' S2x4x256x512 := broadcastInDim S2x4x256x512 ![] bcast_S_S2x4x256x512 (constant S_ .f32 0x00000000#32)
/-- The array that the loop fills. -/
def ou0A : V' S128x2x4x64x512 := broadcastInDim S128x2x4x64x512 ![] bcast_S_S128x2x4x64x512 (constant S_ .f32 0x00000000#32)
/-- What the loop over the chunks computes. -/
def ouA : V' S128x2x4x64x512 :=
  ouK (firstD (decA (cA Z Wt B))) (firstK (kinA (kA P) (cA Z Wt B))) (firstK (mulf (qA P) (Host.exp (cA Z Wt B)))) (firstV (vA P)) st0A ou0A 128
/-- The reference's result. -/
def finalA : FVec Ideal S16384x2048 .bf16 := gateO (normO (joinO (intraA (sA P Z Wt B) (vA P)) (ouA P Z Wt B)) N) (siluA (colsG P))
end Terms

section Entry
variable (V : Valuation τ sig (Elt Ideal))
/-- The buffers after stretch 1 of the operations before the loop. -/
def E0 : Valuation τ sig (Elt Ideal) := after hostOps0 V
/-- The buffers after stretch 2 of the operations before the loop. -/
def E1 : Valuation τ sig (Elt Ideal) := after hostOps0_1 (E0 V)
/-- The buffers after stretch 3 of the operations before the loop. -/
def E2 : Valuation τ sig (Elt Ideal) := after hostOps0_2 (E1 V)
/-- The buffers after stretch 4 of the operations before the loop. -/
def E3 : Valuation τ sig (Elt Ideal) := after hostOps0_3 (E2 V)
/-- The buffers after stretch 5 of the operations before the loop. -/
def E4 : Valuation τ sig (Elt Ideal) := after hostOps0_4 (E3 V)
/-- The buffers after stretch 6 of the operations before the loop. -/
def E5 : Valuation τ sig (Elt Ideal) := after hostOps0_5 (E4 V)
/-- The buffers after stretch 7 of the operations before the loop. -/
def E6 : Valuation τ sig (Elt Ideal) := after hostOps0_6 (E5 V)
theorem e0_v2 : E0 V (Proc.devRef .tc main_v2) = colsQ (V (Proc.devRef .tc main_arg0)) := at_v2 V
theorem e0_v3 : E0 V (Proc.devRef .tc main_v3) = colsK (V (Proc.devRef .tc main_arg0)) := at_v3 V
theorem e0_v4 : E0 V (Proc.devRef .tc main_v4) = colsV (V (Proc.devRef .tc main_arg0)) := at_v4 V
theorem e0_v5 : E0 V (Proc.devRef .tc main_v5) = colsG (V (Proc.devRef .tc main_arg0)) := at_v5 V
theorem e0_v11 : E0 V (Proc.devRef .tc main_v11) = logits (V (Proc.devRef .tc main_arg1)) (V (Proc.devRef .tc main_arg2)) (V (Proc.devRef .tc main_arg3)) := at_v11 V
theorem e0_arg0 : E0 V (Proc.devRef .tc main_arg0) = (V (Proc.devRef .tc main_arg0)) := after_of_writes_sub hostOps0 V hostOps0_writes (by decide +kernel)
theorem e0_arg1 : E0 V (Proc.devRef .tc main_arg1) = (V (Proc.devRef .tc main_arg1)) := after_of_writes_sub hostOps0 V hostOps0_writes (by decide +kernel)
theorem e0_arg2 : E0 V (Proc.devRef .tc main_arg2) = (V (Proc.devRef .tc main_arg2)) := after_of_writes_sub hostOps0 V hostOps0_writes (by decide +kernel)
theorem e0_arg3 : E0 V (Proc.devRef .tc main_arg3) = (V (Proc.devRef .tc main_arg3)) := after_of_writes_sub hostOps0 V hostOps0_writes (by decide +kernel)
theorem e0_arg4 : E0 V (Proc.devRef .tc main_arg4) = (V (Proc.devRef .tc main_arg4)) := after_of_writes_sub hostOps0 V hostOps0_writes (by decide +kernel)
theorem e1_v12 : E1 V (Proc.devRef .tc main_v12) = logSig (logits (V (Proc.devRef .tc main_arg1)) (V (Proc.devRef .tc main_arg2)) (V (Proc.devRef .tc main_arg3))) := (at_v12 (E0 V)).trans (by rw [e0_v11]; try rfl)
theorem e1_v2 : E1 V (Proc.devRef .tc main_v2) = colsQ (V (Proc.devRef .tc main_arg0)) := (after_of_writes_sub hostOps0_1 (E0 V) hostOps0_1_writes (by decide +kernel)).trans (e0_v2 V)
theorem e1_v3 : E1 V (Proc.devRef .tc main_v3) = colsK (V (Proc.devRef .tc main_arg0)) := (after_of_writes_sub hostOps0_1 (E0 V) hostOps0_1_writes (by decide +kernel)).trans (e0_v3 V)
theorem e1_v4 : E1 V (Proc.devRef .tc main_v4) = colsV (V (Proc.devRef .tc main_arg0)) := (after_of_writes_sub hostOps0_1 (E0 V) hostOps0_1_writes (by decide +kernel)).trans (e0_v4 V)
theorem e1_v5 : E1 V (Proc.devRef .tc main_v5) = colsG (V (Proc.devRef .tc main_arg0)) := (after_of_writes_sub hostOps0_1 (E0 V) hostOps0_1_writes (by decide +kernel)).trans (e0_v5 V)
theorem e1_arg0 : E1 V (Proc.devRef .tc main_arg0) = (V (Proc.devRef .tc main_arg0)) := (after_of_writes_sub hostOps0_1 (E0 V) hostOps0_1_writes (by decide +kernel)).trans (e0_arg0 V)
theorem e1_arg1 : E1 V (Proc.devRef .tc main_arg1) = (V (Proc.devRef .tc main_arg1)) := (after_of_writes_sub hostOps0_1 (E0 V) hostOps0_1_writes (by decide +kernel)).trans (e0_arg1 V)
theorem e1_arg2 : E1 V (Proc.devRef .tc main_arg2) = (V (Proc.devRef .tc main_arg2)) := (after_of_writes_sub hostOps0_1 (E0 V) hostOps0_1_writes (by decide +kernel)).trans (e0_arg2 V)
theorem e1_arg3 : E1 V (Proc.devRef .tc main_arg3) = (V (Proc.devRef .tc main_arg3)) := (after_of_writes_sub hostOps0_1 (E0 V) hostOps0_1_writes (by decide +kernel)).trans (e0_arg3 V)
theorem e1_arg4 : E1 V (Proc.devRef .tc main_arg4) = (V (Proc.devRef .tc main_arg4)) := (after_of_writes_sub hostOps0_1 (E0 V) hostOps0_1_writes (by decide +kernel)).trans (e0_arg4 V)
theorem e2_v18 : E2 V (Proc.devRef .tc main_v18) = qA (V (Proc.devRef .tc main_arg0)) := (at_v18 (E1 V)).trans (by rw [e1_v2]; try rfl)
theorem e2_v20 : E2 V (Proc.devRef .tc main_v20) = kA (V (Proc.devRef .tc main_arg0)) := (at_v20 (E1 V)).trans (by rw [e1_v3]; try rfl)
theorem e2_v22 : E2 V (Proc.devRef .tc main_v22) = vA (V (Proc.devRef .tc main_arg0)) := (at_v22 (E1 V)).trans (by rw [e1_v4]; try rfl)
theorem e2_v24 : E2 V (Proc.devRef .tc main_v24) = chunks (scaleLa (logSig (logits (V (Proc.devRef .tc main_arg1)) (V (Proc.devRef .tc main_arg2)) (V (Proc.devRef .tc main_arg3))))) := (at_v24 (E1 V)).trans (by rw [e1_v12]; try rfl)
theorem e2_v5 : E2 V (Proc.devRef .tc main_v5) = colsG (V (Proc.devRef .tc main_arg0)) := (after_of_writes_sub hostOps0_2 (E1 V) hostOps0_2_writes (by decide +kernel)).trans (e1_v5 V)
theorem e2_arg0 : E2 V (Proc.devRef .tc main_arg0) = (V (Proc.devRef .tc main_arg0)) := (after_of_writes_sub hostOps0_2 (E1 V) hostOps0_2_writes (by decide +kernel)).trans (e1_arg0 V)
theorem e2_arg1 : E2 V (Proc.devRef .tc main_arg1) = (V (Proc.devRef .tc main_arg1)) := (after_of_writes_sub hostOps0_2 (E1 V) hostOps0_2_writes (by decide +kernel)).trans (e1_arg1 V)
theorem e2_arg2 : E2 V (Proc.devRef .tc main_arg2) = (V (Proc.devRef .tc main_arg2)) := (after_of_writes_sub hostOps0_2 (E1 V) hostOps0_2_writes (by decide +kernel)).trans (e1_arg2 V)
theorem e2_arg3 : E2 V (Proc.devRef .tc main_arg3) = (V (Proc.devRef .tc main_arg3)) := (after_of_writes_sub hostOps0_2 (E1 V) hostOps0_2_writes (by decide +kernel)).trans (e1_arg3 V)
theorem e2_arg4 : E2 V (Proc.devRef .tc main_arg4) = (V (Proc.devRef .tc main_arg4)) := (after_of_writes_sub hostOps0_2 (E1 V) hostOps0_2_writes (by decide +kernel)).trans (e1_arg4 V)
theorem e3_v25 : E3 V (Proc.devRef .tc main_v25) = cA (V (Proc.devRef .tc main_arg1)) (V (Proc.devRef .tc main_arg2)) (V (Proc.devRef .tc main_arg3)) := (at_v25 (E2 V)).trans (by rw [e2_v24]; try rfl)
theorem e3_v18 : E3 V (Proc.devRef .tc main_v18) = qA (V (Proc.devRef .tc main_arg0)) := (after_of_writes_sub hostOps0_3 (E2 V) hostOps0_3_writes (by decide +kernel)).trans (e2_v18 V)
theorem e3_v20 : E3 V (Proc.devRef .tc main_v20) = kA (V (Proc.devRef .tc main_arg0)) := (after_of_writes_sub hostOps0_3 (E2 V) hostOps0_3_writes (by decide +kernel)).trans (e2_v20 V)
theorem e3_v22 : E3 V (Proc.devRef .tc main_v22) = vA (V (Proc.devRef .tc main_arg0)) := (after_of_writes_sub hostOps0_3 (E2 V) hostOps0_3_writes (by decide +kernel)).trans (e2_v22 V)
theorem e3_v5 : E3 V (Proc.devRef .tc main_v5) = colsG (V (Proc.devRef .tc main_arg0)) := (after_of_writes_sub hostOps0_3 (E2 V) hostOps0_3_writes (by decide +kernel)).trans (e2_v5 V)
theorem e3_arg0 : E3 V (Proc.devRef .tc main_arg0) = (V (Proc.devRef .tc main_arg0)) := (after_of_writes_sub hostOps0_3 (E2 V) hostOps0_3_writes (by decide +kernel)).trans (e2_arg0 V)
theorem e3_arg1 : E3 V (Proc.devRef .tc main_arg1) = (V (Proc.devRef .tc main_arg1)) := (after_of_writes_sub hostOps0_3 (E2 V) hostOps0_3_writes (by decide +kernel)).trans (e2_arg1 V)
theorem e3_arg2 : E3 V (Proc.devRef .tc main_arg2) = (V (Proc.devRef .tc main_arg2)) := (after_of_writes_sub hostOps0_3 (E2 V) hostOps0_3_writes (by decide +kernel)).trans (e2_arg2 V)
theorem e3_arg3 : E3 V (Proc.devRef .tc main_arg3) = (V (Proc.devRef .tc main_arg3)) := (after_of_writes_sub hostOps0_3 (E2 V) hostOps0_3_writes (by decide +kernel)).trans (e2_arg3 V)
theorem e3_arg4 : E3 V (Proc.devRef .tc main_arg4) = (V (Proc.devRef .tc main_arg4)) := (after_of_writes_sub hostOps0_3 (E2 V) hostOps0_3_writes (by decide +kernel)).trans (e2_arg4 V)
theorem e4_v26 : E4 V (Proc.devRef .tc main_v26) = lastA (cA (V (Proc.devRef .tc main_arg1)) (V (Proc.devRef .tc main_arg2)) (V (Proc.devRef .tc main_arg3))) := (at_v26 (E3 V)).trans (by rw [e3_v25]; try rfl)
theorem e4_v30 : E4 V (Proc.devRef .tc main_v30) = mulf (F := Ideal) (φ := .f32) (qA (V (Proc.devRef .tc main_arg0))) (Host.exp (cA (V (Proc.devRef .tc main_arg1)) (V (Proc.devRef .tc main_arg2)) (V (Proc.devRef .tc main_arg3)))) := (at_v30 (E3 V)).trans (by rw [e3_v18, e3_v25]; try rfl)
theorem e4_v39 : E4 V (Proc.devRef .tc main_v39) = lowerA := at_v39 (E3 V)
theorem e4_v40 : E4 V (Proc.devRef .tc main_v40) = scoresA (mulf (qA (V (Proc.devRef .tc main_arg0))) (Host.exp (cA (V (Proc.devRef .tc main_arg1)) (V (Proc.devRef .tc main_arg2)) (V (Proc.devRef .tc main_arg3))))) (mulf (kA (V (Proc.devRef .tc main_arg0))) (Host.exp (Host.negf (cA (V (Proc.devRef .tc main_arg1)) (V (Proc.devRef .tc main_arg2)) (V (Proc.devRef .tc main_arg3)))))) := (at_v40 (E3 V)).trans (by rw [e3_v18, e3_v25, e3_v20]; try rfl)
theorem e4_v41 : E4 V (Proc.devRef .tc main_v41) = scoresA (mulf (qA (V (Proc.devRef .tc main_arg0))) (Host.exp (Host.negf (cA (V (Proc.devRef .tc main_arg1)) (V (Proc.devRef .tc main_arg2)) (V (Proc.devRef .tc main_arg3)))))) (mulf (kA (V (Proc.devRef .tc main_arg0))) (Host.exp (cA (V (Proc.devRef .tc main_arg1)) (V (Proc.devRef .tc main_arg2)) (V (Proc.devRef .tc main_arg3))))) := (at_v41 (E3 V)).trans (by rw [e3_v18, e3_v25, e3_v20]; try rfl)
theorem e4_v20 : E4 V (Proc.devRef .tc main_v20) = kA (V (Proc.devRef .tc main_arg0)) := (after_of_writes_sub hostOps0_4 (E3 V) hostOps0_4_writes (by decide +kernel)).trans (e3_v20 V)
theorem e4_v22 : E4 V (Proc.devRef .tc main_v22) = vA (V (Proc.devRef .tc main_arg0)) := (after_of_writes_sub hostOps0_4 (E3 V) hostOps0_4_writes (by decide +kernel)).trans (e3_v22 V)
theorem e4_v25 : E4 V (Proc.devRef .tc main_v25) = cA (V (Proc.devRef .tc main_arg1)) (V (Proc.devRef .tc main_arg2)) (V (Proc.devRef .tc main_arg3)) := (after_of_writes_sub hostOps0_4 (E3 V) hostOps0_4_writes (by decide +kernel)).trans (e3_v25 V)
theorem e4_v5 : E4 V (Proc.devRef .tc main_v5) = colsG (V (Proc.devRef .tc main_arg0)) := (after_of_writes_sub hostOps0_4 (E3 V) hostOps0_4_writes (by decide +kernel)).trans (e3_v5 V)
theorem e4_arg0 : E4 V (Proc.devRef .tc main_arg0) = (V (Proc.devRef .tc main_arg0)) := (after_of_writes_sub hostOps0_4 (E3 V) hostOps0_4_writes (by decide +kernel)).trans (e3_arg0 V)
theorem e4_arg1 : E4 V (Proc.devRef .tc main_arg1) = (V (Proc.devRef .tc main_arg1)) := (after_of_writes_sub hostOps0_4 (E3 V) hostOps0_4_writes (by decide +kernel)).trans (e3_arg1 V)
theorem e4_arg2 : E4 V (Proc.devRef .tc main_arg2) = (V (Proc.devRef .tc main_arg2)) := (after_of_writes_sub hostOps0_4 (E3 V) hostOps0_4_writes (by decide +kernel)).trans (e3_arg2 V)
theorem e4_arg3 : E4 V (Proc.devRef .tc main_arg3) = (V (Proc.devRef .tc main_arg3)) := (after_of_writes_sub hostOps0_4 (E3 V) hostOps0_4_writes (by decide +kernel)).trans (e3_arg3 V)
theorem e4_arg4 : E4 V (Proc.devRef .tc main_arg4) = (V (Proc.devRef .tc main_arg4)) := (after_of_writes_sub hostOps0_4 (E3 V) hostOps0_4_writes (by decide +kernel)).trans (e3_arg4 V)
theorem e5_v42 : E5 V (Proc.devRef .tc main_v42) = sA (V (Proc.devRef .tc main_arg0)) (V (Proc.devRef .tc main_arg1)) (V (Proc.devRef .tc main_arg2)) (V (Proc.devRef .tc main_arg3)) := (at_v42 (E4 V)).trans (by rw [e4_v39, e4_v40, e4_v41]; try rfl)
theorem e5_v20 : E5 V (Proc.devRef .tc main_v20) = kA (V (Proc.devRef .tc main_arg0)) := (after_of_writes_sub hostOps0_5 (E4 V) hostOps0_5_writes (by decide +kernel)).trans (e4_v20 V)
theorem e5_v22 : E5 V (Proc.devRef .tc main_v22) = vA (V (Proc.devRef .tc main_arg0)) := (after_of_writes_sub hostOps0_5 (E4 V) hostOps0_5_writes (by decide +kernel)).trans (e4_v22 V)
theorem e5_v25 : E5 V (Proc.devRef .tc main_v25) = cA (V (Proc.devRef .tc main_arg1)) (V (Proc.devRef .tc main_arg2)) (V (Proc.devRef .tc main_arg3)) := (after_of_writes_sub hostOps0_5 (E4 V) hostOps0_5_writes (by decide +kernel)).trans (e4_v25 V)
theorem e5_v26 : E5 V (Proc.devRef .tc main_v26) = lastA (cA (V (Proc.devRef .tc main_arg1)) (V (Proc.devRef .tc main_arg2)) (V (Proc.devRef .tc main_arg3))) := (after_of_writes_sub hostOps0_5 (E4 V) hostOps0_5_writes (by decide +kernel)).trans (e4_v26 V)
theorem e5_v30 : E5 V (Proc.devRef .tc main_v30) = mulf (F := Ideal) (φ := .f32) (qA (V (Proc.devRef .tc main_arg0))) (Host.exp (cA (V (Proc.devRef .tc main_arg1)) (V (Proc.devRef .tc main_arg2)) (V (Proc.devRef .tc main_arg3)))) := (after_of_writes_sub hostOps0_5 (E4 V) hostOps0_5_writes (by decide +kernel)).trans (e4_v30 V)
theorem e5_v5 : E5 V (Proc.devRef .tc main_v5) = colsG (V (Proc.devRef .tc main_arg0)) := (after_of_writes_sub hostOps0_5 (E4 V) hostOps0_5_writes (by decide +kernel)).trans (e4_v5 V)
theorem e5_arg0 : E5 V (Proc.devRef .tc main_arg0) = (V (Proc.devRef .tc main_arg0)) := (after_of_writes_sub hostOps0_5 (E4 V) hostOps0_5_writes (by decide +kernel)).trans (e4_arg0 V)
theorem e5_arg1 : E5 V (Proc.devRef .tc main_arg1) = (V (Proc.devRef .tc main_arg1)) := (after_of_writes_sub hostOps0_5 (E4 V) hostOps0_5_writes (by decide +kernel)).trans (e4_arg1 V)
theorem e5_arg2 : E5 V (Proc.devRef .tc main_arg2) = (V (Proc.devRef .tc main_arg2)) := (after_of_writes_sub hostOps0_5 (E4 V) hostOps0_5_writes (by decide +kernel)).trans (e4_arg2 V)
theorem e5_arg3 : E5 V (Proc.devRef .tc main_arg3) = (V (Proc.devRef .tc main_arg3)) := (after_of_writes_sub hostOps0_5 (E4 V) hostOps0_5_writes (by decide +kernel)).trans (e4_arg3 V)
theorem e5_arg4 : E5 V (Proc.devRef .tc main_arg4) = (V (Proc.devRef .tc main_arg4)) := (after_of_writes_sub hostOps0_5 (E4 V) hostOps0_5_writes (by decide +kernel)).trans (e4_arg4 V)
theorem e6_v43 : E6 V (Proc.devRef .tc main_v43) = intraA (sA (V (Proc.devRef .tc main_arg0)) (V (Proc.devRef .tc main_arg1)) (V (Proc.devRef .tc main_arg2)) (V (Proc.devRef .tc main_arg3))) (vA (V (Proc.devRef .tc main_arg0))) := (at_v43 (E5 V)).trans (by rw [e5_v42, e5_v22]; try rfl)
theorem e6_v56_0 : E6 V (Proc.devRef .tc main_v56_0) = firstK (mulf (qA (V (Proc.devRef .tc main_arg0))) (Host.exp (cA (V (Proc.devRef .tc main_arg1)) (V (Proc.devRef .tc main_arg2)) (V (Proc.devRef .tc main_arg3))))) := (at_v56_0 (E5 V)).trans (by rw [e5_v30]; try rfl)
theorem e6_v56_1 : E6 V (Proc.devRef .tc main_v56_1) = firstK (kinA (kA (V (Proc.devRef .tc main_arg0))) (cA (V (Proc.devRef .tc main_arg1)) (V (Proc.devRef .tc main_arg2)) (V (Proc.devRef .tc main_arg3)))) := (at_v56_1 (E5 V) ((e5_v26 V).trans (congrArg lastA (e5_v25 V).symm))).trans (by rw [e5_v20, e5_v25]; try rfl)
theorem e6_v56_2 : E6 V (Proc.devRef .tc main_v56_2) = firstV (vA (V (Proc.devRef .tc main_arg0))) := (at_v56_2 (E5 V)).trans (by rw [e5_v22]; try rfl)
theorem e6_v56_3 : E6 V (Proc.devRef .tc main_v56_3) = firstD (decA (cA (V (Proc.devRef .tc main_arg1)) (V (Proc.devRef .tc main_arg2)) (V (Proc.devRef .tc main_arg3)))) := (at_v56_3 (E5 V) ((e5_v26 V).trans (congrArg lastA (e5_v25 V).symm))).trans (by rw [e5_v25]; try rfl)
theorem e6_v56_5 : E6 V (Proc.devRef .tc main_v56_5) = st0A := at_v56_5 (E5 V)
theorem e6_v56_6 : E6 V (Proc.devRef .tc main_v56_6) = ou0A := at_v56_6 (E5 V)
theorem e6_v5 : E6 V (Proc.devRef .tc main_v5) = colsG (V (Proc.devRef .tc main_arg0)) := (after_of_writes_sub hostOps0_6 (E5 V) hostOps0_6_writes (by decide +kernel)).trans (e5_v5 V)
theorem e6_arg0 : E6 V (Proc.devRef .tc main_arg0) = (V (Proc.devRef .tc main_arg0)) := (after_of_writes_sub hostOps0_6 (E5 V) hostOps0_6_writes (by decide +kernel)).trans (e5_arg0 V)
theorem e6_arg1 : E6 V (Proc.devRef .tc main_arg1) = (V (Proc.devRef .tc main_arg1)) := (after_of_writes_sub hostOps0_6 (E5 V) hostOps0_6_writes (by decide +kernel)).trans (e5_arg1 V)
theorem e6_arg2 : E6 V (Proc.devRef .tc main_arg2) = (V (Proc.devRef .tc main_arg2)) := (after_of_writes_sub hostOps0_6 (E5 V) hostOps0_6_writes (by decide +kernel)).trans (e5_arg2 V)
theorem e6_arg3 : E6 V (Proc.devRef .tc main_arg3) = (V (Proc.devRef .tc main_arg3)) := (after_of_writes_sub hostOps0_6 (E5 V) hostOps0_6_writes (by decide +kernel)).trans (e5_arg3 V)
theorem e6_arg4 : E6 V (Proc.devRef .tc main_arg4) = (V (Proc.devRef .tc main_arg4)) := (after_of_writes_sub hostOps0_6 (E5 V) hostOps0_6_writes (by decide +kernel)).trans (e5_arg4 V)
end Entry

section Loop
variable (V : Valuation τ sig (Elt Ideal))
theorem cond_v43 : after condOps V (Proc.devRef .tc main_v43) = V (Proc.devRef .tc main_v43) := after_of_writes_sub condOps V condOps_writes (by decide +kernel)
theorem body0_v43 : after while0Ops0 V (Proc.devRef .tc main_v43) = V (Proc.devRef .tc main_v43) := after_of_writes_sub while0Ops0 V while0Ops0_writes (by decide +kernel)
theorem body1_v43 : after while0Ops0_1 V (Proc.devRef .tc main_v43) = V (Proc.devRef .tc main_v43) := after_of_writes_sub while0Ops0_1 V while0Ops0_1_writes (by decide +kernel)
theorem body2_v43 : after while0Ops0_2 V (Proc.devRef .tc main_v43) = V (Proc.devRef .tc main_v43) := after_of_writes_sub while0Ops0_2 V while0Ops0_2_writes (by decide +kernel)
theorem body3_v43 : after while0Ops0_3 V (Proc.devRef .tc main_v43) = V (Proc.devRef .tc main_v43) := after_of_writes_sub while0Ops0_3 V while0Ops0_3_writes (by decide +kernel)
theorem body4_v43 : after while0Ops0_4 V (Proc.devRef .tc main_v43) = V (Proc.devRef .tc main_v43) := after_of_writes_sub while0Ops0_4 V while0Ops0_4_writes (by decide +kernel)
theorem body5_v43 : after while0Ops0_5 V (Proc.devRef .tc main_v43) = V (Proc.devRef .tc main_v43) := after_of_writes_sub while0Ops0_5 V while0Ops0_5_writes (by decide +kernel)
theorem body6_v43 : after while0Ops0_6 V (Proc.devRef .tc main_v43) = V (Proc.devRef .tc main_v43) := after_of_writes_sub while0Ops0_6 V while0Ops0_6_writes (by decide +kernel)
theorem trip_v43 : afterL bodyI (after condOps V) (Proc.devRef .tc main_v43) = V (Proc.devRef .tc main_v43) := by
  simp only [afterL_cons, afterL_nil]
  rw [body6_v43, body5_v43, body4_v43, body3_v43, body2_v43, body1_v43, body0_v43, cond_v43]
theorem cond_v5 : after condOps V (Proc.devRef .tc main_v5) = V (Proc.devRef .tc main_v5) := after_of_writes_sub condOps V condOps_writes (by decide +kernel)
theorem body0_v5 : after while0Ops0 V (Proc.devRef .tc main_v5) = V (Proc.devRef .tc main_v5) := after_of_writes_sub while0Ops0 V while0Ops0_writes (by decide +kernel)
theorem body1_v5 : after while0Ops0_1 V (Proc.devRef .tc main_v5) = V (Proc.devRef .tc main_v5) := after_of_writes_sub while0Ops0_1 V while0Ops0_1_writes (by decide +kernel)
theorem body2_v5 : after while0Ops0_2 V (Proc.devRef .tc main_v5) = V (Proc.devRef .tc main_v5) := after_of_writes_sub while0Ops0_2 V while0Ops0_2_writes (by decide +kernel)
theorem body3_v5 : after while0Ops0_3 V (Proc.devRef .tc main_v5) = V (Proc.devRef .tc main_v5) := after_of_writes_sub while0Ops0_3 V while0Ops0_3_writes (by decide +kernel)
theorem body4_v5 : after while0Ops0_4 V (Proc.devRef .tc main_v5) = V (Proc.devRef .tc main_v5) := after_of_writes_sub while0Ops0_4 V while0Ops0_4_writes (by decide +kernel)
theorem body5_v5 : after while0Ops0_5 V (Proc.devRef .tc main_v5) = V (Proc.devRef .tc main_v5) := after_of_writes_sub while0Ops0_5 V while0Ops0_5_writes (by decide +kernel)
theorem body6_v5 : after while0Ops0_6 V (Proc.devRef .tc main_v5) = V (Proc.devRef .tc main_v5) := after_of_writes_sub while0Ops0_6 V while0Ops0_6_writes (by decide +kernel)
theorem trip_v5 : afterL bodyI (after condOps V) (Proc.devRef .tc main_v5) = V (Proc.devRef .tc main_v5) := by
  simp only [afterL_cons, afterL_nil]
  rw [body6_v5, body5_v5, body4_v5, body3_v5, body2_v5, body1_v5, body0_v5, cond_v5]
theorem cond_arg0 : after condOps V (Proc.devRef .tc main_arg0) = V (Proc.devRef .tc main_arg0) := after_of_writes_sub condOps V condOps_writes (by decide +kernel)
theorem body0_arg0 : after while0Ops0 V (Proc.devRef .tc main_arg0) = V (Proc.devRef .tc main_arg0) := after_of_writes_sub while0Ops0 V while0Ops0_writes (by decide +kernel)
theorem body1_arg0 : after while0Ops0_1 V (Proc.devRef .tc main_arg0) = V (Proc.devRef .tc main_arg0) := after_of_writes_sub while0Ops0_1 V while0Ops0_1_writes (by decide +kernel)
theorem body2_arg0 : after while0Ops0_2 V (Proc.devRef .tc main_arg0) = V (Proc.devRef .tc main_arg0) := after_of_writes_sub while0Ops0_2 V while0Ops0_2_writes (by decide +kernel)
theorem body3_arg0 : after while0Ops0_3 V (Proc.devRef .tc main_arg0) = V (Proc.devRef .tc main_arg0) := after_of_writes_sub while0Ops0_3 V while0Ops0_3_writes (by decide +kernel)
theorem body4_arg0 : after while0Ops0_4 V (Proc.devRef .tc main_arg0) = V (Proc.devRef .tc main_arg0) := after_of_writes_sub while0Ops0_4 V while0Ops0_4_writes (by decide +kernel)
theorem body5_arg0 : after while0Ops0_5 V (Proc.devRef .tc main_arg0) = V (Proc.devRef .tc main_arg0) := after_of_writes_sub while0Ops0_5 V while0Ops0_5_writes (by decide +kernel)
theorem body6_arg0 : after while0Ops0_6 V (Proc.devRef .tc main_arg0) = V (Proc.devRef .tc main_arg0) := after_of_writes_sub while0Ops0_6 V while0Ops0_6_writes (by decide +kernel)
theorem trip_arg0 : afterL bodyI (after condOps V) (Proc.devRef .tc main_arg0) = V (Proc.devRef .tc main_arg0) := by
  simp only [afterL_cons, afterL_nil]
  rw [body6_arg0, body5_arg0, body4_arg0, body3_arg0, body2_arg0, body1_arg0, body0_arg0, cond_arg0]
theorem cond_arg1 : after condOps V (Proc.devRef .tc main_arg1) = V (Proc.devRef .tc main_arg1) := after_of_writes_sub condOps V condOps_writes (by decide +kernel)
theorem body0_arg1 : after while0Ops0 V (Proc.devRef .tc main_arg1) = V (Proc.devRef .tc main_arg1) := after_of_writes_sub while0Ops0 V while0Ops0_writes (by decide +kernel)
theorem body1_arg1 : after while0Ops0_1 V (Proc.devRef .tc main_arg1) = V (Proc.devRef .tc main_arg1) := after_of_writes_sub while0Ops0_1 V while0Ops0_1_writes (by decide +kernel)
theorem body2_arg1 : after while0Ops0_2 V (Proc.devRef .tc main_arg1) = V (Proc.devRef .tc main_arg1) := after_of_writes_sub while0Ops0_2 V while0Ops0_2_writes (by decide +kernel)
theorem body3_arg1 : after while0Ops0_3 V (Proc.devRef .tc main_arg1) = V (Proc.devRef .tc main_arg1) := after_of_writes_sub while0Ops0_3 V while0Ops0_3_writes (by decide +kernel)
theorem body4_arg1 : after while0Ops0_4 V (Proc.devRef .tc main_arg1) = V (Proc.devRef .tc main_arg1) := after_of_writes_sub while0Ops0_4 V while0Ops0_4_writes (by decide +kernel)
theorem body5_arg1 : after while0Ops0_5 V (Proc.devRef .tc main_arg1) = V (Proc.devRef .tc main_arg1) := after_of_writes_sub while0Ops0_5 V while0Ops0_5_writes (by decide +kernel)
theorem body6_arg1 : after while0Ops0_6 V (Proc.devRef .tc main_arg1) = V (Proc.devRef .tc main_arg1) := after_of_writes_sub while0Ops0_6 V while0Ops0_6_writes (by decide +kernel)
theorem trip_arg1 : afterL bodyI (after condOps V) (Proc.devRef .tc main_arg1) = V (Proc.devRef .tc main_arg1) := by
  simp only [afterL_cons, afterL_nil]
  rw [body6_arg1, body5_arg1, body4_arg1, body3_arg1, body2_arg1, body1_arg1, body0_arg1, cond_arg1]
theorem cond_arg2 : after condOps V (Proc.devRef .tc main_arg2) = V (Proc.devRef .tc main_arg2) := after_of_writes_sub condOps V condOps_writes (by decide +kernel)
theorem body0_arg2 : after while0Ops0 V (Proc.devRef .tc main_arg2) = V (Proc.devRef .tc main_arg2) := after_of_writes_sub while0Ops0 V while0Ops0_writes (by decide +kernel)
theorem body1_arg2 : after while0Ops0_1 V (Proc.devRef .tc main_arg2) = V (Proc.devRef .tc main_arg2) := after_of_writes_sub while0Ops0_1 V while0Ops0_1_writes (by decide +kernel)
theorem body2_arg2 : after while0Ops0_2 V (Proc.devRef .tc main_arg2) = V (Proc.devRef .tc main_arg2) := after_of_writes_sub while0Ops0_2 V while0Ops0_2_writes (by decide +kernel)
theorem body3_arg2 : after while0Ops0_3 V (Proc.devRef .tc main_arg2) = V (Proc.devRef .tc main_arg2) := after_of_writes_sub while0Ops0_3 V while0Ops0_3_writes (by decide +kernel)
theorem body4_arg2 : after while0Ops0_4 V (Proc.devRef .tc main_arg2) = V (Proc.devRef .tc main_arg2) := after_of_writes_sub while0Ops0_4 V while0Ops0_4_writes (by decide +kernel)
theorem body5_arg2 : after while0Ops0_5 V (Proc.devRef .tc main_arg2) = V (Proc.devRef .tc main_arg2) := after_of_writes_sub while0Ops0_5 V while0Ops0_5_writes (by decide +kernel)
theorem body6_arg2 : after while0Ops0_6 V (Proc.devRef .tc main_arg2) = V (Proc.devRef .tc main_arg2) := after_of_writes_sub while0Ops0_6 V while0Ops0_6_writes (by decide +kernel)
theorem trip_arg2 : afterL bodyI (after condOps V) (Proc.devRef .tc main_arg2) = V (Proc.devRef .tc main_arg2) := by
  simp only [afterL_cons, afterL_nil]
  rw [body6_arg2, body5_arg2, body4_arg2, body3_arg2, body2_arg2, body1_arg2, body0_arg2, cond_arg2]
theorem cond_arg3 : after condOps V (Proc.devRef .tc main_arg3) = V (Proc.devRef .tc main_arg3) := after_of_writes_sub condOps V condOps_writes (by decide +kernel)
theorem body0_arg3 : after while0Ops0 V (Proc.devRef .tc main_arg3) = V (Proc.devRef .tc main_arg3) := after_of_writes_sub while0Ops0 V while0Ops0_writes (by decide +kernel)
theorem body1_arg3 : after while0Ops0_1 V (Proc.devRef .tc main_arg3) = V (Proc.devRef .tc main_arg3) := after_of_writes_sub while0Ops0_1 V while0Ops0_1_writes (by decide +kernel)
theorem body2_arg3 : after while0Ops0_2 V (Proc.devRef .tc main_arg3) = V (Proc.devRef .tc main_arg3) := after_of_writes_sub while0Ops0_2 V while0Ops0_2_writes (by decide +kernel)
theorem body3_arg3 : after while0Ops0_3 V (Proc.devRef .tc main_arg3) = V (Proc.devRef .tc main_arg3) := after_of_writes_sub while0Ops0_3 V while0Ops0_3_writes (by decide +kernel)
theorem body4_arg3 : after while0Ops0_4 V (Proc.devRef .tc main_arg3) = V (Proc.devRef .tc main_arg3) := after_of_writes_sub while0Ops0_4 V while0Ops0_4_writes (by decide +kernel)
theorem body5_arg3 : after while0Ops0_5 V (Proc.devRef .tc main_arg3) = V (Proc.devRef .tc main_arg3) := after_of_writes_sub while0Ops0_5 V while0Ops0_5_writes (by decide +kernel)
theorem body6_arg3 : after while0Ops0_6 V (Proc.devRef .tc main_arg3) = V (Proc.devRef .tc main_arg3) := after_of_writes_sub while0Ops0_6 V while0Ops0_6_writes (by decide +kernel)
theorem trip_arg3 : afterL bodyI (after condOps V) (Proc.devRef .tc main_arg3) = V (Proc.devRef .tc main_arg3) := by
  simp only [afterL_cons, afterL_nil]
  rw [body6_arg3, body5_arg3, body4_arg3, body3_arg3, body2_arg3, body1_arg3, body0_arg3, cond_arg3]
theorem cond_arg4 : after condOps V (Proc.devRef .tc main_arg4) = V (Proc.devRef .tc main_arg4) := after_of_writes_sub condOps V condOps_writes (by decide +kernel)
theorem body0_arg4 : after while0Ops0 V (Proc.devRef .tc main_arg4) = V (Proc.devRef .tc main_arg4) := after_of_writes_sub while0Ops0 V while0Ops0_writes (by decide +kernel)
theorem body1_arg4 : after while0Ops0_1 V (Proc.devRef .tc main_arg4) = V (Proc.devRef .tc main_arg4) := after_of_writes_sub while0Ops0_1 V while0Ops0_1_writes (by decide +kernel)
theorem body2_arg4 : after while0Ops0_2 V (Proc.devRef .tc main_arg4) = V (Proc.devRef .tc main_arg4) := after_of_writes_sub while0Ops0_2 V while0Ops0_2_writes (by decide +kernel)
theorem body3_arg4 : after while0Ops0_3 V (Proc.devRef .tc main_arg4) = V (Proc.devRef .tc main_arg4) := after_of_writes_sub while0Ops0_3 V while0Ops0_3_writes (by decide +kernel)
theorem body4_arg4 : after while0Ops0_4 V (Proc.devRef .tc main_arg4) = V (Proc.devRef .tc main_arg4) := after_of_writes_sub while0Ops0_4 V while0Ops0_4_writes (by decide +kernel)
theorem body5_arg4 : after while0Ops0_5 V (Proc.devRef .tc main_arg4) = V (Proc.devRef .tc main_arg4) := after_of_writes_sub while0Ops0_5 V while0Ops0_5_writes (by decide +kernel)
theorem body6_arg4 : after while0Ops0_6 V (Proc.devRef .tc main_arg4) = V (Proc.devRef .tc main_arg4) := after_of_writes_sub while0Ops0_6 V while0Ops0_6_writes (by decide +kernel)
theorem trip_arg4 : afterL bodyI (after condOps V) (Proc.devRef .tc main_arg4) = V (Proc.devRef .tc main_arg4) := by
  simp only [afterL_cons, afterL_nil]
  rw [body6_arg4, body5_arg4, body4_arg4, body3_arg4, body2_arg4, body1_arg4, body0_arg4, cond_arg4]
/-- The buffers that stretch 8 of the host operations writes. -/
abbrev W7 : List (Ref sig .tc) := [main_v57, main_v58, main_v59, main_v60, main_v61, main_cst_3, main_v62, main_v63, main_cst_4, main_v64, main_v65, main_cst_5, main_v66, main_v67, main_v68, main_v69, main_v70, main_v71, main_v72, main_v73, main_v74]
theorem keep7 (X : Valuation τ sig (Elt Ideal)) (r : Ref sig .tc) (h : r ∉ W7) : after hostOps0_7 X (Proc.devRef .tc r) = X (Proc.devRef .tc r) :=
  after_of_writes_sub (W := W7) hostOps0_7 X (StableHlo.forall_writes_sub_of_map rfl) h
/-- The buffers that stretch 9 of the host operations writes. -/
abbrev W8 : List (Ref sig .tc) := [main_call8_v0, main_call8_v1, main_call8_cst, main_call8_v2, main_call8_v3, main_call8_cst_0, main_call8_v4, main_call8_v5, main_v75]
theorem keep8 (X : Valuation τ sig (Elt Ideal)) (r : Ref sig .tc) (h : r ∉ W8) : after hostOps0_8 X (Proc.devRef .tc r) = X (Proc.devRef .tc r) :=
  after_of_writes_sub (W := W8) hostOps0_8 X (StableHlo.forall_writes_sub_of_map rfl) h
/-- The buffers that stretch 10 of the host operations writes. -/
abbrev W9 : List (Ref sig .tc) := [main_v76, main_v77, main_v78]
theorem keep9 (X : Valuation τ sig (Elt Ideal)) (r : Ref sig .tc) (h : r ∉ W9) : after hostOps0_9 X (Proc.devRef .tc r) = X (Proc.devRef .tc r) :=
  after_of_writes_sub (W := W9) hostOps0_9 X (StableHlo.forall_writes_sub_of_map rfl) h
end Loop

section Run
variable (m : (ℓ : Loc nD τ sig) → Buf (Elt Ideal) ℓ) (c : Dev nD)
theorem entry_eq : entryContents preI m c = E6 (launchContents m c) := rfl
theorem atK_v43 : ∀ k, atK m k c (Proc.devRef .tc main_v43) = E6 (launchContents m c) (Proc.devRef .tc main_v43)
  | 0 => rfl
  | k + 1 => (trip_v43 (atK m k c)).trans (atK_v43 k)
theorem atK_v5 : ∀ k, atK m k c (Proc.devRef .tc main_v5) = E6 (launchContents m c) (Proc.devRef .tc main_v5)
  | 0 => rfl
  | k + 1 => (trip_v5 (atK m k c)).trans (atK_v5 k)
theorem atK_arg0 : ∀ k, atK m k c (Proc.devRef .tc main_arg0) = E6 (launchContents m c) (Proc.devRef .tc main_arg0)
  | 0 => rfl
  | k + 1 => (trip_arg0 (atK m k c)).trans (atK_arg0 k)
theorem atK_arg1 : ∀ k, atK m k c (Proc.devRef .tc main_arg1) = E6 (launchContents m c) (Proc.devRef .tc main_arg1)
  | 0 => rfl
  | k + 1 => (trip_arg1 (atK m k c)).trans (atK_arg1 k)
theorem atK_arg2 : ∀ k, atK m k c (Proc.devRef .tc main_arg2) = E6 (launchContents m c) (Proc.devRef .tc main_arg2)
  | 0 => rfl
  | k + 1 => (trip_arg2 (atK m k c)).trans (atK_arg2 k)
theorem atK_arg3 : ∀ k, atK m k c (Proc.devRef .tc main_arg3) = E6 (launchContents m c) (Proc.devRef .tc main_arg3)
  | 0 => rfl
  | k + 1 => (trip_arg3 (atK m k c)).trans (atK_arg3 k)
theorem atK_arg4 : ∀ k, atK m k c (Proc.devRef .tc main_arg4) = E6 (launchContents m c) (Proc.devRef .tc main_arg4)
  | 0 => rfl
  | k + 1 => (trip_arg4 (atK m k c)).trans (atK_arg4 k)
/-- The array that the loop filled. -/
theorem atK_v56_6 : atK m 128 c (Proc.devRef .tc main_v56_6) = ouA (m (c.tc.loc main_arg0)) (m (c.tc.loc main_arg1)) (m (c.tc.loc main_arg2)) (m (c.tc.loc main_arg3)) := by
  refine (atK_agree m c 128 main_v56_6 (by decide)).trans ?_
  refine (iter (entryContents preI m c) (ctr_entry m c) 128).2.2.2.2.2.2.trans ?_
  rw [entry_eq, e6_v56_3, e6_v56_1, e6_v56_0, e6_v56_2, e6_v56_5, e6_v56_6]
  rfl
theorem post_v78 : finalContents condOps preI bodyI postI 128 m c (Proc.devRef .tc main_v78)
    = finalA (m (c.tc.loc main_arg0)) (m (c.tc.loc main_arg1)) (m (c.tc.loc main_arg2)) (m (c.tc.loc main_arg3)) (m (c.tc.loc main_arg4)) := by
  show after hostOps0_9 (after hostOps0_8 (after hostOps0_7 (after condOps (atK m 128 c)))) (Proc.devRef .tc main_v78) = _
  generalize hX : after condOps (atK m 128 c) = X
  have h6 : X (Proc.devRef .tc main_v56_6) = ouA (m (c.tc.loc main_arg0)) (m (c.tc.loc main_arg1)) (m (c.tc.loc main_arg2)) (m (c.tc.loc main_arg3)) := by
    rw [← hX]; exact (cond_keeps (atK m 128 c) main_v56_6 (by decide)).trans (atK_v56_6 m c)
  have h43 : X (Proc.devRef .tc main_v43) = intraA (sA (m (c.tc.loc main_arg0)) (m (c.tc.loc main_arg1)) (m (c.tc.loc main_arg2)) (m (c.tc.loc main_arg3))) (vA (m (c.tc.loc main_arg0))) := by
    rw [← hX]; exact (cond_v43 _).trans ((atK_v43 m c 128).trans (e6_v43 _))
  have h5 : X (Proc.devRef .tc main_v5) = colsG (m (c.tc.loc main_arg0)) := by
    rw [← hX]; exact (cond_v5 _).trans ((atK_v5 m c 128).trans (e6_v5 _))
  have h4 : X (Proc.devRef .tc main_arg4) = m (c.tc.loc main_arg4) := by
    rw [← hX]; exact (cond_arg4 _).trans ((atK_arg4 m c 128).trans (e6_arg4 _))
  refine (at_v78 _).trans ?_
  have k74 : after hostOps0_8 (after hostOps0_7 X) (Proc.devRef .tc main_v74) = after hostOps0_7 X (Proc.devRef .tc main_v74) := keep8 _ main_v74 (by decide)
  have k5 : after hostOps0_7 X (Proc.devRef .tc main_v5) = X (Proc.devRef .tc main_v5) := keep7 _ main_v5 (by decide)
  rw [k74, at_v74, at_v75, k5, h6, h43, h5, h4]
  rfl
theorem post_arg0 : finalContents condOps preI bodyI postI 128 m c (Proc.devRef .tc main_arg0) = m (c.tc.loc main_arg0) := by
  show after hostOps0_9 (after hostOps0_8 (after hostOps0_7 (after condOps (atK m 128 c)))) (Proc.devRef .tc main_arg0) = _
  rw [keep9 _ main_arg0 (by decide), keep8 _ main_arg0 (by decide), keep7 _ main_arg0 (by decide), cond_arg0]
  exact (atK_arg0 m c 128).trans (e6_arg0 _)
theorem post_arg1 : finalContents condOps preI bodyI postI 128 m c (Proc.devRef .tc main_arg1) = m (c.tc.loc main_arg1) := by
  show after hostOps0_9 (after hostOps0_8 (after hostOps0_7 (after condOps (atK m 128 c)))) (Proc.devRef .tc main_arg1) = _
  rw [keep9 _ main_arg1 (by decide), keep8 _ main_arg1 (by decide), keep7 _ main_arg1 (by decide), cond_arg1]
  exact (atK_arg1 m c 128).trans (e6_arg1 _)
theorem post_arg2 : finalContents condOps preI bodyI postI 128 m c (Proc.devRef .tc main_arg2) = m (c.tc.loc main_arg2) := by
  show after hostOps0_9 (after hostOps0_8 (after hostOps0_7 (after condOps (atK m 128 c)))) (Proc.devRef .tc main_arg2) = _
  rw [keep9 _ main_arg2 (by decide), keep8 _ main_arg2 (by decide), keep7 _ main_arg2 (by decide), cond_arg2]
  exact (atK_arg2 m c 128).trans (e6_arg2 _)
theorem post_arg3 : finalContents condOps preI bodyI postI 128 m c (Proc.devRef .tc main_arg3) = m (c.tc.loc main_arg3) := by
  show after hostOps0_9 (after hostOps0_8 (after hostOps0_7 (after condOps (atK m 128 c)))) (Proc.devRef .tc main_arg3) = _
  rw [keep9 _ main_arg3 (by decide), keep8 _ main_arg3 (by decide), keep7 _ main_arg3 (by decide), cond_arg3]
  exact (atK_arg3 m c 128).trans (e6_arg3 _)
theorem post_arg4 : finalContents condOps preI bodyI postI 128 m c (Proc.devRef .tc main_arg4) = m (c.tc.loc main_arg4) := by
  show after hostOps0_9 (after hostOps0_8 (after hostOps0_7 (after condOps (atK m 128 c)))) (Proc.devRef .tc main_arg4) = _
  rw [keep9 _ main_arg4 (by decide), keep8 _ main_arg4 (by decide), keep7 _ main_arg4 (by decide), cond_arg4]
  exact (atK_arg4 m c 128).trans (e6_arg4 _)
/-- Every run of the reference ends with its result buffer at `finalA` of the arguments, which are unchanged. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v78) = finalA (m (c.tc.loc main_arg0)) (m (c.tc.loc main_arg1)) (m (c.tc.loc main_arg2)) (m (c.tc.loc main_arg3)) (m (c.tc.loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run _ _ _).mono (fun r h c => ⟨(h c main_v78 rfl).trans (post_v78 m c), (h c main_arg0 rfl).trans (post_arg0 m c), (h c main_arg1 rfl).trans (post_arg1 m c), (h c main_arg2 rfl).trans (post_arg2 m c), (h c main_arg3 rfl).trans (post_arg3 m c), (h c main_arg4 rfl).trans (post_arg4 m c)⟩) (run_fold m ρ)
end Run
end Cert.RefFinal
-- ==== Proof.RefCum.lean ====
module

public import proofs.«01_k».proof.Proof.RefTerms
public import proofs.«01_k».proof.Proof.Gla

/-! The reference's running sums, read at an index: a windowed sum that starts 63 rows above the chunk is the sum of the
rows up to this one. -/

@[expose] public section

set_option maxRecDepth 16384
noncomputable section
namespace Cert.RefCum
open Idealize.ShloMosaic Idealize.ShloMosaic.TcCoe Idealize.ShloMosaic.Tactic Idealize.ShloMosaic.StableHlo Idealize.SL.Sem
open Cert.ReferenceIdeal Cert.ReferenceIdeal.Gen Cert.ReferenceIdeal.Value Cert.RefTerms

theorem foldl_add_sum {N : ℕ} (g : Fin N → EReal) (v : EReal) : (List.finRange N).foldl (fun r n => r + g n) v = v + ∑ n, g n := by
  have h : ∀ (l : List (Fin N)) (v : EReal), l.foldl (fun r n => r + g n) v = v + (l.map g).sum := by
    intro l
    induction l with
    | nil => intro v; simp
    | cons a l ih => intro v; simp only [List.foldl_cons, List.map_cons, List.sum_cons]; rw [ih, add_assoc]
  rw [h, Fin.sum_univ_def]

/-- Rows counted from 63 above: a rotation of the 64 rows turns the sum over the window into the sum over the rows up to `t`. -/
theorem window_sum (a : Fin 64 → EReal) (t : Fin 64) (f : Fin 64 → EReal)
    (h1 : ∀ (s : Fin 64) (h : 63 ≤ t.val + s.val), f s = a ⟨t.val + s.val - 63, by omega⟩) (h0 : ∀ s : Fin 64, t.val + s.val < 63 → f s = 0) :
    ∑ s, f s = Gla.cum a t := by
  unfold Gla.cum
  refine Fintype.sum_equiv (Equiv.addRight (t + 1)) _ _ fun s => ?_
  have hv : ((Equiv.addRight (t + 1)) s : Fin 64).val = (s.val + (t.val + 1)) % 64 := by
    show (s + (t + 1)).val = _
    rw [Fin.val_add, Fin.val_add]
    show (s.val + (t.val + 1) % 64) % 64 = _
    omega
  by_cases h : 63 ≤ t.val + s.val
  · have e : (Equiv.addRight (t + 1)) s = ⟨t.val + s.val - 63, by omega⟩ := Fin.ext (by rw [hv]; show _ = t.val + s.val - 63; omega)
    rw [h1 s h, if_pos (by rw [Fin.le_def, hv]; omega), e]
  · rw [h0 s (by omega), if_neg (by rw [Fin.le_def, hv]; omega)]

abbrev Wn : Shape := ⟨5, ![1, 1, 1, 64, 1]⟩
/-- A window's index is its place on the row axis. -/
def winEquiv : Wn.Idx ≃ Fin 64 where
  toFun w := w 3
  invFun s := fun a => match a with
    | ⟨0, _⟩ => (0 : Fin 1)
    | ⟨1, _⟩ => (0 : Fin 1)
    | ⟨2, _⟩ => (0 : Fin 1)
    | ⟨3, _⟩ => s
    | ⟨4, _⟩ => (0 : Fin 1)
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _
  right_inv s := rfl

/-- A windowed sum, read at an index: the sum over the window's places, nothing where the place is outside the operand. -/
theorem window_at {s t u : Shape} (window strides lo hi : Fin s.rank → Nat) (x : s.Idx → EReal) (init : u.Idx → EReal)
    (h : s.ReduceWindows window strides lo hi t) (hu : 0 < u.numel) (h0 : init (Shape.Idx.first hu) = 0) (j : t.Idx) :
    (Host.reduceWindowAdd (F := Ideal) (φ := .f32) window strides lo hi x init h hu j : EReal)
      = ∑ w : (⟨s.rank, window⟩ : Shape).Idx,
          if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else (0 : EReal) := by
  unfold Host.reduceWindowAdd
  rw [h0]
  show Ideal.hostReduceWindowAdd window strides lo hi h x 0 j = _
  unfold Ideal.hostReduceWindowAdd Host.reduceWindow
  refine (foldl_add_sum _ _).trans ((zero_add _).trans ?_)
  refine Eq.trans (Finset.sum_congr rfl fun n _ => ?_) (Equiv.sum_comp (Shape.rowMajor (⟨s.rank, window⟩ : Shape)).symm (fun w => if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else (0 : EReal)))
  by_cases hin : ∀ a, lo a ≤ (j (a.cast h.1.symm)).val * strides a + ((Shape.rowMajor (⟨s.rank, window⟩ : Shape)).symm n a).val ∧ (j (a.cast h.1.symm)).val * strides a + ((Shape.rowMajor (⟨s.rank, window⟩ : Shape)).symm n a).val - lo a < s.size a
  · refine (dif_pos hin).trans ?_
    beta_reduce
    exact Eq.symm (dif_pos hin)
  · refine (dif_neg hin).trans ?_
    beta_reduce
    exact Eq.symm (dif_neg hin)

theorem cumA_at (x : V' S2x4x128x64x256) (b : Fin 2) (h : Fin 4) (n : Fin 128) (t : Fin 64) (d : Fin 256) :
    cumA x (ix5 b h n t d) = Gla.cum (fun s => x (ix5 b h n s d)) t := by
  unfold cumA
  have hz : (broadcastInDim S_ ![] bcast_S_S_ (constant S_ .f32 0x00000000#32) : V' S_) (Shape.Idx.first h_S_) = (0 : EReal) := by
    show Ideal.ofBits .f32 0x00000000#32 = 0
    simp [Ideal.ofBits, Ideal.ieee]
  refine (window_at _ _ _ _ x _ _ _ hz _).trans ?_
  refine (Fintype.sum_equiv winEquiv.symm _ _ (fun s => rfl)).symm.trans ?_
  refine window_sum (fun s => x (ix5 b h n s d)) t _ (fun s hs => ?_) (fun s hs => ?_)
  · refine (dif_pos ?_).trans ?_
    · intro a
      match a with
      | ⟨0, _⟩ => exact ⟨Nat.zero_le _, by show b.val * 1 + 0 - 0 < 2; omega⟩
      | ⟨1, _⟩ => exact ⟨Nat.zero_le _, by show h.val * 1 + 0 - 0 < 4; omega⟩
      | ⟨2, _⟩ => exact ⟨Nat.zero_le _, by show n.val * 1 + 0 - 0 < 128; omega⟩
      | ⟨3, _⟩ => exact ⟨by show 63 ≤ t.val * 1 + s.val; omega, by show t.val * 1 + s.val - 63 < 64; omega⟩
      | ⟨4, _⟩ => exact ⟨Nat.zero_le _, by show d.val * 1 + 0 - 0 < 256; omega⟩
    · refine congrArg x (funext fun a => Fin.ext ?_)
      match a with
      | ⟨0, _⟩ => show b.val * 1 + 0 - 0 = b.val; omega
      | ⟨1, _⟩ => show h.val * 1 + 0 - 0 = h.val; omega
      | ⟨2, _⟩ => show n.val * 1 + 0 - 0 = n.val; omega
      | ⟨3, _⟩ => show t.val * 1 + s.val - 63 = t.val + s.val - 63; omega
      | ⟨4, _⟩ => show d.val * 1 + 0 - 0 = d.val; omega
  · refine dif_neg fun hin => ?_
    have h3 : 63 ≤ t.val * 1 + s.val := (hin (3 : Fin 5)).1
    omega
end Cert.RefCum
-- ==== Proof.RefAt.lean ====
module

public import proofs.«01_k».proof.Proof.RefCum
public import proofs.«01_k».proof.Proof.Spec

/-! The reference's arrays before and after its loop, read at an index, and their chunks named as the specification names them. -/

@[expose] public section

set_option maxRecDepth 16384
noncomputable section
namespace Cert.RefAt
open Idealize.ShloMosaic Idealize.ShloMosaic.TcCoe Idealize.ShloMosaic.Tactic Idealize.ShloMosaic.StableHlo Idealize.SL.Sem
open Cert.ReferenceIdeal Cert.ReferenceIdeal.Gen Cert.ReferenceIdeal.Value Cert.RefTerms

theorem chunks_at (x : V' S2x8192x1024) (b : Fin 2) (h : Fin 4) (n : Fin 128) (t : Fin 64) (d : Fin 256) :
    chunks x (ix5 b h n t d) = x (ix3 b ⟨n.val * 64 + t.val, by omega⟩ ⟨h.val * 256 + d.val, by omega⟩) := by pointwise [chunks]
theorem chunksV_at (x : V' S2x8192x2048) (b : Fin 2) (h : Fin 4) (n : Fin 128) (t : Fin 64) (d : Fin 512) :
    chunksV x (ix5 b h n t d) = x (ix3 b ⟨n.val * 64 + t.val, by omega⟩ ⟨h.val * 512 + d.val, by omega⟩) := by pointwise [chunksV]
theorem colsQ_at (x : FVec Ideal S16384x6144 .bf16) (b : Fin 2) (s : Fin 8192) (j : Fin 1024) :
    (colsQ x (ix3 b s j) : EReal) = x (ix2 ⟨b.val * 8192 + s.val, by omega⟩ ⟨j.val, by omega⟩) := by pointwise [colsQ]
theorem colsK_at (x : FVec Ideal S16384x6144 .bf16) (b : Fin 2) (s : Fin 8192) (j : Fin 1024) :
    (colsK x (ix3 b s j) : EReal) = x (ix2 ⟨b.val * 8192 + s.val, by omega⟩ ⟨1024 + j.val, by omega⟩) := by pointwise [colsK]
theorem colsV_at (x : FVec Ideal S16384x6144 .bf16) (b : Fin 2) (s : Fin 8192) (j : Fin 2048) :
    (colsV x (ix3 b s j) : EReal) = x (ix2 ⟨b.val * 8192 + s.val, by omega⟩ ⟨2048 + j.val, by omega⟩) := by pointwise [colsV]
theorem colsG_at (x : FVec Ideal S16384x6144 .bf16) (b : Fin 2) (s : Fin 8192) (j : Fin 2048) :
    (colsG x (ix3 b s j) : EReal) = x (ix2 ⟨b.val * 8192 + s.val, by omega⟩ ⟨4096 + j.val, by omega⟩) := by pointwise [colsG]
theorem logits_at (z : V' S16384x128) (w : V' S16x1024) (bb : V' S1024) (b : Fin 2) (s : Fin 8192) (j : Fin 1024) :
    (logits z w bb (ix3 b s j) : EReal) = ∑ x : Fin 16, z (ix2 ⟨b.val * 8192 + s.val, by omega⟩ ⟨x.val, by omega⟩) * w (ix2 x j) + bb (ix1 j) := by pointwise [logits]
theorem logSig_at (x : V' S2x8192x1024) (b : Fin 2) (s : Fin 8192) (j : Fin 1024) :
    (logSig x (ix3 b s j) : EReal) = Gla.ls (x (ix3 b s j)) := by
  pointwise [logSig, zeroA]
  rw [if_neg (fun h => h rfl)]
  rfl
theorem scaleLa_at (x : V' S2x8192x1024) (b : Fin 2) (s : Fin 8192) (j : Fin 1024) :
    (scaleLa x (ix3 b s j) : EReal) = x (ix3 b s j) * Gla.c16 := by
  rw [← Gla.div16]
  pointwise [scaleLa]
theorem scaleQ_at (x : V' S2x8192x1024) (b : Fin 2) (s : Fin 8192) (j : Fin 1024) :
    (scaleQ x (ix3 b s j) : EReal) = x (ix3 b s j) * Gla.c16 := by pointwise [scaleQ]
theorem kinA_at (x y : V' S2x4x128x64x256) (b : Fin 2) (h : Fin 4) (n : Fin 128) (t : Fin 64) (d : Fin 256) :
    (kinA x y (ix5 b h n t d) : EReal) = x (ix5 b h n t d) * Ideal.exp (y (ix5 b h n 63 d) - y (ix5 b h n t d)) := by pointwise [kinA, lastA]
theorem scoresA_at (x y : V' S2x4x128x64x256) (b : Fin 2) (h : Fin 4) (n : Fin 128) (t s : Fin 64) :
    (scoresA x y (ix5 b h n t s) : EReal) = ∑ d : Fin 256, x (ix5 b h n t d) * y (ix5 b h n s d) := by pointwise [scoresA]
theorem maskA_at (x y : V' S2x4x128x64x64) (b : Fin 2) (h : Fin 4) (n : Fin 128) (t s : Fin 64) :
    (maskA lowerA x y (ix5 b h n t s) : EReal) = if s ≤ t then x (ix5 b h n t s) else y (ix5 b h n t s) := by
  refine Eq.trans ?_ (Gla.sel_ge t s _ _)
  pointwise [maskA, lowerA]
theorem intraA_at (s : V' S2x4x128x64x64) (v : V' S2x4x128x64x512) (b : Fin 2) (h : Fin 4) (n : Fin 128) (t : Fin 64) (e : Fin 512) :
    (intraA s v (ix5 b h n t e) : EReal) = ∑ x : Fin 64, s (ix5 b h n t x) * v (ix5 b h n x e) := by pointwise [intraA]
theorem firstD_at (x : V' S2x4x128x64x256) (n : Fin 128) (b : Fin 2) (h : Fin 4) (d : Fin 256) :
    (firstD (decA x) (ix4 n b h d) : EReal) = Ideal.exp (x (ix5 b h n 63 d)) := by pointwise [firstD, decA, lastA]
theorem firstK_at (x : V' S2x4x128x64x256) (n : Fin 128) (b : Fin 2) (h : Fin 4) (t : Fin 64) (d : Fin 256) :
    (firstK x (ix5 n b h t d) : EReal) = x (ix5 b h n t d) := by pointwise [firstK]
theorem firstV_at (x : V' S2x4x128x64x512) (n : Fin 128) (b : Fin 2) (h : Fin 4) (t : Fin 64) (d : Fin 512) :
    (firstV x (ix5 n b h t d) : EReal) = x (ix5 b h n t d) := by pointwise [firstV]
theorem joinO_at (o : V' S2x4x128x64x512) (x : V' S128x2x4x64x512) (b : Fin 2) (s : Fin 8192) (h : Fin 4) (d : Fin 512) :
    (joinO o x (ix4 b s h d) : EReal) = o (ix5 b h ⟨s.val / 64, by omega⟩ ⟨s.val % 64, by omega⟩ d) + x (ix5 ⟨s.val / 64, by omega⟩ b h ⟨s.val % 64, by omega⟩ d) := by
  pointwise [joinO]
theorem normO_at (o : V' S2x8192x4x512) (w : V' S2048) (b : Fin 2) (s : Fin 8192) (d : Fin 2048) :
    (normO o w (ix3 b s d) : EReal) = o (ix4 b s ⟨d.val / 512, by omega⟩ ⟨d.val % 512, by omega⟩)
      * Ideal.rsqrt (Ideal.div (∑ x : Fin 512, o (ix4 b s ⟨d.val / 512, by omega⟩ x) * o (ix4 b s ⟨d.val / 512, by omega⟩ x)) (Ideal.ofBits FTy.f32 0x44000000#32) + Ideal.ofBits FTy.f32 0x358637BD#32)
      * w (ix1 d) := by
  pointwise [normO]
theorem gateO_at (x y : V' S2x8192x2048) (r : Fin 16384) (d : Fin 2048) :
    (gateO x (siluA y) (ix2 r d) : EReal) = x (ix3 ⟨r.val / 8192, by omega⟩ ⟨r.val % 8192, by omega⟩ d)
      * (y (ix3 ⟨r.val / 8192, by omega⟩ ⟨r.val % 8192, by omega⟩ d) * Ideal.logistic (y (ix3 ⟨r.val / 8192, by omega⟩ ⟨r.val % 8192, by omega⟩ d))) := by
  pointwise [gateO, siluA]
  rfl
end Cert.RefAt
-- ==== Proof.RefMath.lean ====
module

public import proofs.«01_k».proof.Proof.RefFinal
public import proofs.«01_k».proof.Proof.RefAt

/-! The reference's result, read element by element, is the specification's. -/

@[expose] public section

set_option maxRecDepth 16384
noncomputable section
namespace Cert.RefMath
open Idealize.ShloMosaic Idealize.ShloMosaic.TcCoe Idealize.ShloMosaic.Tactic Idealize.ShloMosaic.StableHlo Idealize.SL.Sem
open Cert.ReferenceIdeal Cert.ReferenceIdeal.Gen Cert.ReferenceIdeal.Value Cert.RefTerms Cert.RefLoop Cert.RefFinal Cert.RefAt Cert.Spec

variable (P : FVec Ideal S16384x6144 .bf16) (Z : V' S16384x128) (Wt : V' S16x1024) (B : V' S1024) (N : V' S2048)

/-- Row `t` of chunk `n` of batch element `b`. -/
theorem row_bn (b : Fin 2) (n : Fin 128) (t : Fin 64) (r : Fin 16384) (hr : r.val = b.val * 8192 + (n.val * 64 + t.val)) : row (128 * b.val + n.val) t = r :=
  row_eq _ (by omega) t r (by omega)

theorem qA_at (b : Fin 2) (h : Fin 4) (n : Fin 128) (t : Fin 64) (d : Fin 256) : (qA P (ix5 b h n t d) : EReal) = qG P (128 * b.val + n.val) h t d * Gla.c16 := by
  unfold qA qG
  rw [chunks_at, scaleQ_at, colsQ_at, row_bn b n t ⟨b.val * 8192 + (n.val * 64 + t.val), by omega⟩ rfl]
theorem kA_at (b : Fin 2) (h : Fin 4) (n : Fin 128) (t : Fin 64) (d : Fin 256) : (kA P (ix5 b h n t d) : EReal) = kG P (128 * b.val + n.val) h t d := by
  unfold kA kG
  rw [chunks_at, colsK_at, row_bn b n t ⟨b.val * 8192 + (n.val * 64 + t.val), by omega⟩ rfl]
theorem vA_at (b : Fin 2) (h : Fin 4) (n : Fin 128) (t : Fin 64) (e : Fin 512) : (vA P (ix5 b h n t e) : EReal) = vG P (128 * b.val + n.val) h t e := by
  unfold vA vG
  rw [chunksV_at, colsV_at, row_bn b n t ⟨b.val * 8192 + (n.val * 64 + t.val), by omega⟩ rfl]
theorem cA_at (b : Fin 2) (h : Fin 4) (n : Fin 128) (t : Fin 64) (d : Fin 256) : (cA Z Wt B (ix5 b h n t d) : EReal) = cG Z Wt B (128 * b.val + n.val) h t d := by
  unfold cA cG
  rw [RefCum.cumA_at]
  refine congrArg (fun a => Gla.cum a t) (funext fun x => ?_)
  rw [chunks_at, scaleLa_at, logSig_at, logits_at, row_bn b n x ⟨b.val * 8192 + (n.val * 64 + x.val), by omega⟩ rfl]

theorem exp_at {s : Shape} (x : V' s) (i : s.Idx) : (Host.exp x i : EReal) = Ideal.exp (x i) := rfl
theorem negf_at {s : Shape} (x : V' s) (i : s.Idx) : (Host.negf x i : EReal) = -(x i : EReal) := rfl
theorem mulf_at {s : Shape} (x y : V' s) (i : s.Idx) : (mulf x y i : EReal) = (x i : EReal) * (y i : EReal) := rfl

theorem sA_at (b : Fin 2) (h : Fin 4) (n : Fin 128) (t s : Fin 64) :
    (sA P Z Wt B (ix5 b h n t s) : EReal)
      = Gla.score (cG Z Wt B (128 * b.val + n.val) h) (qG P (128 * b.val + n.val) h) (kG P (128 * b.val + n.val) h) t s := by
  unfold sA Gla.score
  rw [maskA_at, scoresA_at, scoresA_at]
  simp only [mulf_at, exp_at, negf_at, qA_at, kA_at, cA_at]

/-- The reference's state before chunk `n` is the specification's. -/
theorem stK_at (b : Fin 2) (h : Fin 4) (d : Fin 256) (e : Fin 512) : ∀ n : ℕ, n < 128 →
    (stK (firstD (decA (cA Z Wt B))) (firstK (kinA (kA P) (cA Z Wt B))) (firstV (vA P)) st0A n (ix4 b h d e) : EReal) = stG P Z Wt B (128 * b.val + n) h e d
  | 0, _ => by
    have h0 : stG P Z Wt B (128 * b.val + 0) h e d = 0 := by
      match b with
      | ⟨0, _⟩ => rfl
      | ⟨1, _⟩ => rfl
    rw [h0]
    show Ideal.ofBits .f32 0x00000000#32 = 0
    simp [Ideal.ofBits, Ideal.ieee]
  | n + 1, hn => by
    have hs : stG P Z Wt B (128 * b.val + (n + 1)) = updG P Z Wt B (128 * b.val + n) (stG P Z Wt B (128 * b.val + n)) :=
      if_neg (by omega : ¬ (128 * b.val + n + 1) % 128 = 0)
    rw [hs]
    refine (stepS_at n (by omega) _ _ _ _ b h d e).trans ?_
    rw [stK_at b h d e n (by omega), firstD_at, cA_at]
    unfold updG Gla.upd
    refine congrArg₂ (· + ·) (mul_comm _ _) (Finset.sum_congr rfl fun t _ => ?_)
    rw [firstK_at, firstV_at, kinA_at, kA_at, vA_at, cA_at, cA_at, mul_comm]

/-- The attention's output. -/
theorem join_at (b : Fin 2) (h : Fin 4) (n : Fin 128) (t : Fin 64) (s : Fin 8192) (hs : s.val = n.val * 64 + t.val) (e : Fin 512) :
    (joinO (intraA (sA P Z Wt B) (vA P)) (ouA P Z Wt B) (ix4 b s h e) : EReal)
      = Gla.att (cG Z Wt B (128 * b.val + n.val) h) (qG P (128 * b.val + n.val) h) (kG P (128 * b.val + n.val) h) (vG P (128 * b.val + n.val) h) (stG P Z Wt B (128 * b.val + n.val) h) t e := by
  have e1 : (⟨s.val / 64, by omega⟩ : Fin 128) = n := Fin.ext (by show s.val / 64 = n.val; omega)
  have e2 : (⟨s.val % 64, by omega⟩ : Fin 64) = t := Fin.ext (by show s.val % 64 = t.val; omega)
  rw [joinO_at, e1, e2]
  unfold Gla.att ouA
  refine congrArg₂ (· + ·) ?_ ?_
  · rw [intraA_at]
    refine Finset.sum_congr rfl fun x _ => ?_
    rw [sA_at, vA_at]
  · refine (ouK_at _ _ _ _ _ _ 128 (le_refl _) n n.isLt b h t e).trans (Finset.sum_congr rfl fun d _ => ?_)
    rw [stK_at P Z Wt B b h d e n.val n.isLt, firstK_at, mulf_at, exp_at, qA_at, cA_at]

/-- The reference's result at an index. -/
theorem final_at (r : Fin 16384) (j : Fin 2048) : (finalA P Z Wt B N (ix2 r j) : EReal) = result P Z Wt B N (ix2 r j) := by
  unfold finalA
  rw [gateO_at, normO_at]
  have hb : r.val / 8192 < 2 := by omega
  have hM : 128 * (r.val / 8192) + r.val % 8192 / 64 = r.val / 64 := by omega
  simp only [join_at P Z Wt B ⟨r.val / 8192, hb⟩ ⟨j.val / 512, by omega⟩ ⟨r.val % 8192 / 64, by omega⟩ ⟨r.val % 64, by omega⟩ ⟨r.val % 8192, by omega⟩ (by show r.val % 8192 = r.val % 8192 / 64 * 64 + r.val % 64; omega), hM]
  show _ = outG P Z Wt B N (r.val / 64) ⟨j.val / 512, _⟩ ⟨r.val % 64, _⟩ ⟨j.val % 512, _⟩
  unfold outG Gla.out gG
  rw [colsG_at]
  have h1 : row (r.val / 64) ⟨r.val % 64, by omega⟩ = r := row_eq _ (by omega) _ _ (by show r.val = 64 * (r.val / 64) + r.val % 64; omega)
  have h2 : (⟨r.val / 8192 * 8192 + r.val % 8192, by omega⟩ : Fin 16384) = r := Fin.ext (by show r.val / 8192 * 8192 + r.val % 8192 = r.val; omega)
  have h3 : (⟨4096 + (j.val / 512 * 512 + j.val % 512), by omega⟩ : Fin 6144) = ⟨4096 + j.val, by omega⟩ := Fin.ext (by show 4096 + (j.val / 512 * 512 + j.val % 512) = 4096 + j.val; omega)
  have h4 : (⟨j.val / 512 * 512 + j.val % 512, by omega⟩ : Fin 2048) = j := Fin.ext (by show j.val / 512 * 512 + j.val % 512 = j.val; omega)
  rw [h1, h3]
  simp only [h2, h4]

theorem final_eq : finalA P Z Wt B N = result P Z Wt B N := by
  funext i
  have hi : i = ix2 (i 0) (i 1) := by
    funext a
    match a with
    | ⟨0, _⟩ => rfl
    | ⟨1, _⟩ => rfl
  rw [hi]
  exact final_at P Z Wt B N (i 0) (i 1)
end Cert.RefMath
-- ==== Proof.OwnFfnUpIdeal.Base.lean ====
module

public import proofs.«01_k».proof.Proof.Gen.FfnUpIdeal.Frame
public import proofs.«01_k».proof.Proof.Gen.FfnUpIdeal.Skeleton
public import Idealize.ShloMosaic.Lib.VecWindow
public import Idealize.ShloMosaic.Lib.Pipeline.Value

/-! The up projection of the channel mixer, one grid point at a time: the conditions of the body in closed form over the
points, the values the body computes from what it finds, and the buffers it is handed. -/

@[expose] public section

set_option maxRecDepth 16384

noncomputable section

namespace Cert.FfnUpIdeal.Own

open Cert.FfnUpIdeal Cert.FfnUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions -/

/-- The body's first condition: the column coordinate is zero. -/
abbrev condJ (i : grid0.Coords) : Prop := (Scalar.cmpi .ne (Scalar.extui (Scalar.cmpi .eq (BitVec.ofNat 32 (i 1).val) 0#32)) 0#32) = 1#1

/-- The remainder of the row-tile coordinate by the eight tiles of a sequence, as the body computes it. -/
abbrev remW (i : grid0.Coords) : BitVec 32 :=
  Scalar.remsi (BitVec.ofNat 32 (i 0).val) (Scalar.select (Scalar.cmpi .eq 8#32 0#32) 1#32 8#32)

/-- Whether the tile is the first of its sequence, as the body computes it. -/
abbrev firstW (i : grid0.Coords) : BitVec 1 :=
  Scalar.cmpi .eq (Scalar.select
    (Scalar.andi (Scalar.xori (Scalar.cmpi .slt (remW i) 0#32) (Scalar.cmpi .slt (Scalar.select (Scalar.cmpi .eq 8#32 0#32) 1#32 8#32) 0#32)) (Scalar.cmpi .ne (remW i) 0#32))
    (Scalar.addi (remW i) (Scalar.select (Scalar.cmpi .eq 8#32 0#32) 1#32 8#32)) (remW i)) 0#32

/-- The body's second condition: the tile is the first of its sequence. -/
abbrev condF (i : grid0.Coords) : Prop := Scalar.cmpi .ne (Scalar.extui (firstW i) : BitVec 32) 0#32 = 1#1

theorem hcondJ : ∀ t : Fin cfg0.N, condJ (grid0.coords t) ↔ t.val % 12 = 0 :=
  (by decide +kernel : ∀ t : Fin grid0.N, condJ (grid0.coords t) ↔ t.val % 12 = 0)
theorem hcondF : ∀ t : Fin cfg0.N, condF (grid0.coords t) ↔ t.val / 12 % 8 = 0 :=
  (by decide +kernel : ∀ t : Fin grid0.N, condF (grid0.coords t) ↔ t.val / 12 % 8 = 0)
theorem hcond3 : ∀ t : Fin cfg0.N, k0_cond3 (grid0.coords t) = 1#1 ↔ ¬ t.val / 12 % 8 = 0 :=
  (by decide +kernel : ∀ t : Fin grid0.N, k0_cond3 (grid0.coords t) = 1#1 ↔ ¬ t.val / 12 % 8 = 0)
theorem hcond5 : ∀ t : Fin cfg0.N, k0_cond5 (grid0.coords t) = 1#1 ↔ ¬ t.val / 12 % 8 = 0 :=
  (by decide +kernel : ∀ t : Fin grid0.N, k0_cond5 (grid0.coords t) = 1#1 ↔ ¬ t.val / 12 % 8 = 0)
/-- The carried rows of a column block lie at that block's place. -/
theorem off1_eq : ∀ t : Fin cfg0.N, k0_off1 (grid0.coords t) = ![t.val % 12, 0, 0] :=
  (by decide +kernel : ∀ t : Fin grid0.N, k0_off1 (grid0.coords t) = ![t.val % 12, 0, 0])
theorem off2_eq : ∀ t : Fin cfg0.N, k0_off2 (grid0.coords t) = ![t.val % 12, 0, 0] :=
  (by decide +kernel : ∀ t : Fin grid0.N, k0_off2 (grid0.coords t) = ![t.val % 12, 0, 0])
theorem off3_eq : ∀ t : Fin cfg0.N, k0_off3 (grid0.coords t) = ![t.val % 12, 0, 0] :=
  (by decide +kernel : ∀ t : Fin grid0.N, k0_off3 (grid0.coords t) = ![t.val % 12, 0, 0])

/-! ## The values -/

/-- The product of a tile with the eight rows before it above it. -/
def UB (p : Vec F S8x512 .f32) (u : Vec F S1024x512 .f32) : Vec F S1032x512 .f32 :=
  View.canon (Val := Elt F) (s := S1032x512) (e := .f32) [⟨Rect.unit (s := S1032x512) ![8, 0] S1024x512.size inb_S1032x512_S1024x512_8_0, u⟩,
    ⟨Rect.unit (s := S1032x512) ![0, 0] S8x512.size inb_S1032x512_S8x512_0_0, p⟩]

/-- The rows of a tile shifted down by one, -/
def sh1 (X : Vec F S1032x512 .f32) : Vec F S1024x512 .f32 :=
  View.ld (Val := Elt F) (e' := .f32) X (Rect.unit (s := S1032x512) ![7, 0] S1024x512.size inb_S1032x512_S1024x512_7_0)
/-- and by two. -/
def sh2 (X : Vec F S1032x512 .f32) : Vec F S1024x512 .f32 :=
  View.ld (Val := Elt F) (e' := .f32) X (Rect.unit (s := S1032x512) ![6, 0] S1024x512.size inb_S1032x512_S1024x512_6_0)

/-- What a point stores: the gate's convolution through the gate function, times the value's convolution. -/
def outv (h : Vec F S1024x2048 .bf16) (w2 w3 : Vec F S2048x512 .bf16) (x4 x5 : Vec F S3x512 .f32) (x6 x7 : Vec F S1x512 .f32)
    (pg pv : Vec F S8x512 .f32) : Vec F S1024x512 .bf16 :=
  k0_pay1 (k0_pay8 (k0_pay3 h w2) x4 (sh1 (UB pg (k0_pay6 h w2))) (sh2 (UB pg (k0_pay6 h w2))) x6) (k0_pay9 h w3)
    x5 (sh1 (UB pv (k0_pay12 h w3))) (sh2 (UB pv (k0_pay12 h w3))) x7

/-- The eight carried rows of a column block. -/
def slab (x : Vec F S12x8x512 .f32) (off : Fin 3 → ℕ) (inb : ∀ a, off a + S1x8x512.size a ≤ S12x8x512.size a) : Vec F S1x8x512 .f32 :=
  View.ld (Val := Elt F) (e' := .f32) x (Rect.unit (s := S12x8x512) off S1x8x512.size inb)

/-- The carried rows with a column block's replaced. -/
def put (x : Vec F S12x8x512 .f32) (off : Fin 3 → ℕ) (w : Vec F S1x8x512 .f32) : Vec F S12x8x512 .f32 :=
  VecWindow.put (s := S12x8x512) x off S1x8x512.size w

theorem hz2 : (![0, 0] : Fin 2 → ℕ) = fun _ => 0 := by decide

end Cert.FfnUpIdeal.Own

end
-- ==== Proof.OwnFfnUpIdeal.RunA.lean ====
module

public import proofs.«01_k».proof.Proof.OwnFfnUpIdeal.Base

/-! One run of the body of the up projection: the column coordinate is zero, the tile is the first of its sequence. -/

@[expose] public section

set_option maxRecDepth 16384

noncomputable section

namespace Cert.FfnUpIdeal.Own

open Cert.FfnUpIdeal Cert.FfnUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the column coordinate is zero and the tile is the first of its sequence. -/
theorem run_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x2048 .bf16) (harg11 : arg11.IsWhole) (arg12 : Memref sig .tc .vmem S1032x512 .f32) (harg12 : arg12.IsWhole) (arg13 : Memref sig .tc .vmem S1032x512 .f32) (harg13 : arg13.IsWhole) (arg14 : Memref sig .tc .vmem S12x8x512 .f32) (harg14 : arg14.IsWhole) (arg15 : Memref sig .tc .vmem S12x8x512 .f32) (harg15 : arg15.IsWhole) (hJ : condJ i) (hF : condF i) (h3 : ¬k0_cond3 i = 1#1) (h5 : ¬k0_cond5 i = 1#1)
    (x0 : Vec F S1024x2048 .f32) (x1 : Vec F S1x2048 .f32) (x2 : Vec F S2048x512 .bf16) (x3 : Vec F S2048x512 .bf16) (x4 : Vec F S3x512 .f32) (x5 : Vec F S3x512 .f32) (x6 : Vec F S1x512 .f32) (x7 : Vec F S1x512 .f32) (xg xv : Vec F S12x8x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xg ∗ owns (c : Thread nD τ) arg15 fullShare xv
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outv (k0_pay2 x0 x1) x2 x3 x4 x5 x6 x7 k0_pay4 k0_pay10) ∗ owns (c : Thread nD τ) arg11 fullShare (k0_pay2 x0 x1) ∗ (∃ d, owns (c : Thread nD τ) arg12 fullShare d) ∗ (∃ d, owns (c : Thread nD τ) arg13 fullShare d) ∗ owns (c : Thread nD τ) arg14 fullShare (put xg (k0_off2 i) (k0_pay7 (k0_pay2 x0 x1) x2)) ∗ owns (c : Thread nD τ) arg15 fullShare (put xv (k0_off2 i) (k0_pay13 (k0_pay2 x0 x1) x3))) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_up_eq_skeleton]; unfold cc0_ffn_up_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hf12; obtain rfl := harg15.eq_unread hf13
  sl_exec (disch := first | sl_exact hJ | sl_exact hF | sl_exact h3 | sl_exact h5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    rw [View.read_writes_full]
    sl_unfold_words; simp only [View.readAt_eq_ld, harg2.read_unread, harg3.read_unread, harg4.read_unread, harg5.read_unread, harg6.read_unread, harg7.read_unread, harg8.read_unread, harg9.read_unread, harg14.read_unread, harg15.read_unread, View.ld_unit_zero (S := S1024x2048) hz2, View.ld_unit_zero (S := S2048x512) hz2, View.ld_unit_zero (S := S1x2048) hz2, View.ld_unit_zero (S := S3x512) hz2, View.ld_unit_zero (S := S1x512) hz2, View.readCov_cons_toLoadRect]
    try simp only [View.readCov_eq_canon']
    rfl
  isplitl [H9]
  · iexists _; isplitr
    swap; · iexact H9
    ipureintro
    sl_unfold_words
    refine (View.read_writes_full (s := S1024x2048) _ _ _ _ _).trans ?_
    simp only [View.readAt_eq_ld, harg2.read_unread, harg3.read_unread, harg4.read_unread, harg5.read_unread, harg6.read_unread, harg7.read_unread, harg8.read_unread, harg9.read_unread, harg14.read_unread, harg15.read_unread, View.ld_unit_zero (S := S1024x2048) hz2, View.ld_unit_zero (S := S2048x512) hz2, View.ld_unit_zero (S := S1x2048) hz2, View.ld_unit_zero (S := S3x512) hz2, View.ld_unit_zero (S := S1x512) hz2, View.readCov_cons_toLoadRect]
  isplitl [H10]; · iexists _, _; isplitr
                   swap; · iexact H10
                   ipureintro; rfl
  isplitl [H11]; · iexists _, _; isplitr
                   swap; · iexact H11
                   ipureintro; rfl
  isplitl [H12]
  · iexists _; isplitr
    swap; · iexact H12
    ipureintro
    rw [View.read_writes_cons_put _ _ _ _ _ rfl, View.writes_nil, harg14.read_unread]
    sl_unfold_words; simp only [View.readAt_eq_ld, harg2.read_unread, harg3.read_unread, harg4.read_unread, harg5.read_unread, harg6.read_unread, harg7.read_unread, harg8.read_unread, harg9.read_unread, harg14.read_unread, harg15.read_unread, View.ld_unit_zero (S := S1024x2048) hz2, View.ld_unit_zero (S := S2048x512) hz2, View.ld_unit_zero (S := S1x2048) hz2, View.ld_unit_zero (S := S3x512) hz2, View.ld_unit_zero (S := S1x512) hz2, View.readCov_cons_toLoadRect]
    rfl
  iexists _; isplitr
  swap; · iexact H13
  ipureintro
  rw [View.read_writes_cons_put _ _ _ _ _ rfl, View.writes_nil, harg15.read_unread]
  sl_unfold_words; simp only [View.readAt_eq_ld, harg2.read_unread, harg3.read_unread, harg4.read_unread, harg5.read_unread, harg6.read_unread, harg7.read_unread, harg8.read_unread, harg9.read_unread, harg14.read_unread, harg15.read_unread, View.ld_unit_zero (S := S1024x2048) hz2, View.ld_unit_zero (S := S2048x512) hz2, View.ld_unit_zero (S := S1x2048) hz2, View.ld_unit_zero (S := S3x512) hz2, View.ld_unit_zero (S := S1x512) hz2, View.readCov_cons_toLoadRect]
  rfl

end Cert.FfnUpIdeal.Own

end
-- ==== Proof.OwnFfnUpIdeal.RunB.lean ====
module

public import proofs.«01_k».proof.Proof.OwnFfnUpIdeal.Base

/-! One run of the body of the up projection: the column coordinate is zero, the tile is not the first of its sequence. -/

@[expose] public section

set_option maxRecDepth 16384

noncomputable section

namespace Cert.FfnUpIdeal.Own

open Cert.FfnUpIdeal Cert.FfnUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the column coordinate is zero and the tile is not the first of its sequence. -/
theorem run_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x2048 .bf16) (harg11 : arg11.IsWhole) (arg12 : Memref sig .tc .vmem S1032x512 .f32) (harg12 : arg12.IsWhole) (arg13 : Memref sig .tc .vmem S1032x512 .f32) (harg13 : arg13.IsWhole) (arg14 : Memref sig .tc .vmem S12x8x512 .f32) (harg14 : arg14.IsWhole) (arg15 : Memref sig .tc .vmem S12x8x512 .f32) (harg15 : arg15.IsWhole) (hJ : condJ i) (hF : ¬condF i) (h3 : k0_cond3 i = 1#1) (h5 : k0_cond5 i = 1#1)
    (x0 : Vec F S1024x2048 .f32) (x1 : Vec F S1x2048 .f32) (x2 : Vec F S2048x512 .bf16) (x3 : Vec F S2048x512 .bf16) (x4 : Vec F S3x512 .f32) (x5 : Vec F S3x512 .f32) (x6 : Vec F S1x512 .f32) (x7 : Vec F S1x512 .f32) (xg xv : Vec F S12x8x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xg ∗ owns (c : Thread nD τ) arg15 fullShare xv
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outv (k0_pay2 x0 x1) x2 x3 x4 x5 x6 x7 (k0_pay5 (slab xg (k0_off1 i) (k0_off1_inb i h3))) (k0_pay11 (slab xv (k0_off3 i) (k0_off3_inb i h5)))) ∗ owns (c : Thread nD τ) arg11 fullShare (k0_pay2 x0 x1) ∗ (∃ d, owns (c : Thread nD τ) arg12 fullShare d) ∗ (∃ d, owns (c : Thread nD τ) arg13 fullShare d) ∗ owns (c : Thread nD τ) arg14 fullShare (put xg (k0_off2 i) (k0_pay7 (k0_pay2 x0 x1) x2)) ∗ owns (c : Thread nD τ) arg15 fullShare (put xv (k0_off2 i) (k0_pay13 (k0_pay2 x0 x1) x3))) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_up_eq_skeleton]; unfold cc0_ffn_up_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hf12; obtain rfl := harg15.eq_unread hf13
  sl_exec (disch := first | sl_exact hJ | sl_exact hF | sl_exact h3 | sl_exact h5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    rw [View.read_writes_full]
    sl_unfold_words; simp only [View.readAt_eq_ld, harg2.read_unread, harg3.read_unread, harg4.read_unread, harg5.read_unread, harg6.read_unread, harg7.read_unread, harg8.read_unread, harg9.read_unread, harg14.read_unread, harg15.read_unread, View.ld_unit_zero (S := S1024x2048) hz2, View.ld_unit_zero (S := S2048x512) hz2, View.ld_unit_zero (S := S1x2048) hz2, View.ld_unit_zero (S := S3x512) hz2, View.ld_unit_zero (S := S1x512) hz2, View.readCov_cons_toLoadRect]
    try simp only [View.readCov_eq_canon']
    rfl
  isplitl [H9]
  · iexists _; isplitr
    swap; · iexact H9
    ipureintro
    sl_unfold_words
    refine (View.read_writes_full (s := S1024x2048) _ _ _ _ _).trans ?_
    simp only [View.readAt_eq_ld, harg2.read_unread, harg3.read_unread, harg4.read_unread, harg5.read_unread, harg6.read_unread, harg7.read_unread, harg8.read_unread, harg9.read_unread, harg14.read_unread, harg15.read_unread, View.ld_unit_zero (S := S1024x2048) hz2, View.ld_unit_zero (S := S2048x512) hz2, View.ld_unit_zero (S := S1x2048) hz2, View.ld_unit_zero (S := S3x512) hz2, View.ld_unit_zero (S := S1x512) hz2, View.readCov_cons_toLoadRect]
  isplitl [H10]; · iexists _, _; isplitr
                   swap; · iexact H10
                   ipureintro; rfl
  isplitl [H11]; · iexists _, _; isplitr
                   swap; · iexact H11
                   ipureintro; rfl
  isplitl [H12]
  · iexists _; isplitr
    swap; · iexact H12
    ipureintro
    rw [View.read_writes_cons_put _ _ _ _ _ rfl, View.writes_nil, harg14.read_unread]
    sl_unfold_words; simp only [View.readAt_eq_ld, harg2.read_unread, harg3.read_unread, harg4.read_unread, harg5.read_unread, harg6.read_unread, harg7.read_unread, harg8.read_unread, harg9.read_unread, harg14.read_unread, harg15.read_unread, View.ld_unit_zero (S := S1024x2048) hz2, View.ld_unit_zero (S := S2048x512) hz2, View.ld_unit_zero (S := S1x2048) hz2, View.ld_unit_zero (S := S3x512) hz2, View.ld_unit_zero (S := S1x512) hz2, View.readCov_cons_toLoadRect]
    rfl
  iexists _; isplitr
  swap; · iexact H13
  ipureintro
  rw [View.read_writes_cons_put _ _ _ _ _ rfl, View.writes_nil, harg15.read_unread]
  sl_unfold_words; simp only [View.readAt_eq_ld, harg2.read_unread, harg3.read_unread, harg4.read_unread, harg5.read_unread, harg6.read_unread, harg7.read_unread, harg8.read_unread, harg9.read_unread, harg14.read_unread, harg15.read_unread, View.ld_unit_zero (S := S1024x2048) hz2, View.ld_unit_zero (S := S2048x512) hz2, View.ld_unit_zero (S := S1x2048) hz2, View.ld_unit_zero (S := S3x512) hz2, View.ld_unit_zero (S := S1x512) hz2, View.readCov_cons_toLoadRect]
  rfl

end Cert.FfnUpIdeal.Own

end
-- ==== Proof.OwnFfnUpIdeal.RunC.lean ====
module

public import proofs.«01_k».proof.Proof.OwnFfnUpIdeal.Base

/-! One run of the body of the up projection: the column coordinate is not zero, the tile is the first of its sequence. -/

@[expose] public section

set_option maxRecDepth 16384

noncomputable section

namespace Cert.FfnUpIdeal.Own

open Cert.FfnUpIdeal Cert.FfnUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the column coordinate is not zero and the tile is the first of its sequence. -/
theorem run_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x2048 .bf16) (harg11 : arg11.IsWhole) (arg12 : Memref sig .tc .vmem S1032x512 .f32) (harg12 : arg12.IsWhole) (arg13 : Memref sig .tc .vmem S1032x512 .f32) (harg13 : arg13.IsWhole) (arg14 : Memref sig .tc .vmem S12x8x512 .f32) (harg14 : arg14.IsWhole) (arg15 : Memref sig .tc .vmem S12x8x512 .f32) (harg15 : arg15.IsWhole) (hJ : ¬condJ i) (hF : condF i) (h3 : ¬k0_cond3 i = 1#1) (h5 : ¬k0_cond5 i = 1#1)
    (x0 : Vec F S1024x2048 .f32) (x1 : Vec F S1x2048 .f32) (x2 : Vec F S2048x512 .bf16) (x3 : Vec F S2048x512 .bf16) (x4 : Vec F S3x512 .f32) (x5 : Vec F S3x512 .f32) (x6 : Vec F S1x512 .f32) (x7 : Vec F S1x512 .f32) (xh : Vec F S1024x2048 .bf16) (xg xv : Vec F S12x8x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xh ∗ (∃ d, owns (c : Thread nD τ) arg12 fullShare d) ∗ (∃ d, owns (c : Thread nD τ) arg13 fullShare d) ∗ owns (c : Thread nD τ) arg14 fullShare xg ∗ owns (c : Thread nD τ) arg15 fullShare xv
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outv xh x2 x3 x4 x5 x6 x7 k0_pay4 k0_pay10) ∗ owns (c : Thread nD τ) arg11 fullShare xh ∗ (∃ d, owns (c : Thread nD τ) arg12 fullShare d) ∗ (∃ d, owns (c : Thread nD τ) arg13 fullShare d) ∗ owns (c : Thread nD τ) arg14 fullShare (put xg (k0_off2 i) (k0_pay7 xh x2)) ∗ owns (c : Thread nD τ) arg15 fullShare (put xv (k0_off2 i) (k0_pay13 xh x3))) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_up_eq_skeleton]; unfold cc0_ffn_up_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%d11, %f11, -, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg14.eq_unread hf12; obtain rfl := harg15.eq_unread hf13
  sl_exec (disch := first | sl_exact hJ | sl_exact hF | sl_exact h3 | sl_exact h5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    rw [View.read_writes_full]
    sl_unfold_words; simp only [View.readAt_eq_ld, harg2.read_unread, harg3.read_unread, harg4.read_unread, harg5.read_unread, harg6.read_unread, harg7.read_unread, harg8.read_unread, harg9.read_unread, harg11.read_unread, harg14.read_unread, harg15.read_unread, View.ld_unit_zero (S := S1024x2048) hz2, View.ld_unit_zero (S := S2048x512) hz2, View.ld_unit_zero (S := S1x2048) hz2, View.ld_unit_zero (S := S3x512) hz2, View.ld_unit_zero (S := S1x512) hz2, View.readCov_cons_toLoadRect]
    try simp only [View.readCov_eq_canon']
    rfl
  isplitl [H9]
  · iexists _; isplitr
    swap; · iexact H9
    ipureintro
    exact harg11.read_unread _
  isplitl [H10]; · iexists _, _; isplitr
                   swap; · iexact H10
                   ipureintro; rfl
  isplitl [H11]; · iexists _, _; isplitr
                   swap; · iexact H11
                   ipureintro; rfl
  isplitl [H12]
  · iexists _; isplitr
    swap; · iexact H12
    ipureintro
    rw [View.read_writes_cons_put _ _ _ _ _ rfl, View.writes_nil, harg14.read_unread]
    simp only [View.readAt_eq_ld, harg2.read_unread, harg3.read_unread, harg4.read_unread, harg5.read_unread, harg6.read_unread, harg7.read_unread, harg8.read_unread, harg9.read_unread, harg11.read_unread, harg14.read_unread, harg15.read_unread, View.ld_unit_zero (S := S1024x2048) hz2, View.ld_unit_zero (S := S2048x512) hz2, View.ld_unit_zero (S := S1x2048) hz2, View.ld_unit_zero (S := S3x512) hz2, View.ld_unit_zero (S := S1x512) hz2, View.readCov_cons_toLoadRect]
    rfl
  iexists _; isplitr
  swap; · iexact H13
  ipureintro
  rw [View.read_writes_cons_put _ _ _ _ _ rfl, View.writes_nil, harg15.read_unread]
  simp only [View.readAt_eq_ld, harg2.read_unread, harg3.read_unread, harg4.read_unread, harg5.read_unread, harg6.read_unread, harg7.read_unread, harg8.read_unread, harg9.read_unread, harg11.read_unread, harg14.read_unread, harg15.read_unread, View.ld_unit_zero (S := S1024x2048) hz2, View.ld_unit_zero (S := S2048x512) hz2, View.ld_unit_zero (S := S1x2048) hz2, View.ld_unit_zero (S := S3x512) hz2, View.ld_unit_zero (S := S1x512) hz2, View.readCov_cons_toLoadRect]
  rfl

end Cert.FfnUpIdeal.Own

end
-- ==== Proof.OwnFfnUpIdeal.RunD.lean ====
module

public import proofs.«01_k».proof.Proof.OwnFfnUpIdeal.Base

/-! One run of the body of the up projection: the column coordinate is not zero, the tile is not the first of its sequence. -/

@[expose] public section

set_option maxRecDepth 16384

noncomputable section

namespace Cert.FfnUpIdeal.Own

open Cert.FfnUpIdeal Cert.FfnUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the column coordinate is not zero and the tile is not the first of its sequence. -/
theorem run_D (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x2048 .bf16) (harg11 : arg11.IsWhole) (arg12 : Memref sig .tc .vmem S1032x512 .f32) (harg12 : arg12.IsWhole) (arg13 : Memref sig .tc .vmem S1032x512 .f32) (harg13 : arg13.IsWhole) (arg14 : Memref sig .tc .vmem S12x8x512 .f32) (harg14 : arg14.IsWhole) (arg15 : Memref sig .tc .vmem S12x8x512 .f32) (harg15 : arg15.IsWhole) (hJ : ¬condJ i) (hF : ¬condF i) (h3 : k0_cond3 i = 1#1) (h5 : k0_cond5 i = 1#1)
    (x0 : Vec F S1024x2048 .f32) (x1 : Vec F S1x2048 .f32) (x2 : Vec F S2048x512 .bf16) (x3 : Vec F S2048x512 .bf16) (x4 : Vec F S3x512 .f32) (x5 : Vec F S3x512 .f32) (x6 : Vec F S1x512 .f32) (x7 : Vec F S1x512 .f32) (xh : Vec F S1024x2048 .bf16) (xg xv : Vec F S12x8x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xh ∗ (∃ d, owns (c : Thread nD τ) arg12 fullShare d) ∗ (∃ d, owns (c : Thread nD τ) arg13 fullShare d) ∗ owns (c : Thread nD τ) arg14 fullShare xg ∗ owns (c : Thread nD τ) arg15 fullShare xv
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outv xh x2 x3 x4 x5 x6 x7 (k0_pay5 (slab xg (k0_off1 i) (k0_off1_inb i h3))) (k0_pay11 (slab xv (k0_off3 i) (k0_off3_inb i h5)))) ∗ owns (c : Thread nD τ) arg11 fullShare xh ∗ (∃ d, owns (c : Thread nD τ) arg12 fullShare d) ∗ (∃ d, owns (c : Thread nD τ) arg13 fullShare d) ∗ owns (c : Thread nD τ) arg14 fullShare (put xg (k0_off2 i) (k0_pay7 xh x2)) ∗ owns (c : Thread nD τ) arg15 fullShare (put xv (k0_off2 i) (k0_pay13 xh x3))) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_up_eq_skeleton]; unfold cc0_ffn_up_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%d11, %f11, -, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg14.eq_unread hf12; obtain rfl := harg15.eq_unread hf13
  sl_exec (disch := first | sl_exact hJ | sl_exact hF | sl_exact h3 | sl_exact h5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    rw [View.read_writes_full]
    sl_unfold_words; simp only [View.readAt_eq_ld, harg2.read_unread, harg3.read_unread, harg4.read_unread, harg5.read_unread, harg6.read_unread, harg7.read_unread, harg8.read_unread, harg9.read_unread, harg11.read_unread, harg14.read_unread, harg15.read_unread, View.ld_unit_zero (S := S1024x2048) hz2, View.ld_unit_zero (S := S2048x512) hz2, View.ld_unit_zero (S := S1x2048) hz2, View.ld_unit_zero (S := S3x512) hz2, View.ld_unit_zero (S := S1x512) hz2, View.readCov_cons_toLoadRect]
    try simp only [View.readCov_eq_canon']
    rfl
  isplitl [H9]
  · iexists _; isplitr
    swap; · iexact H9
    ipureintro
    exact harg11.read_unread _
  isplitl [H10]; · iexists _, _; isplitr
                   swap; · iexact H10
                   ipureintro; rfl
  isplitl [H11]; · iexists _, _; isplitr
                   swap; · iexact H11
                   ipureintro; rfl
  isplitl [H12]
  · iexists _; isplitr
    swap; · iexact H12
    ipureintro
    rw [View.read_writes_cons_put _ _ _ _ _ rfl, View.writes_nil, harg14.read_unread]
    simp only [View.readAt_eq_ld, harg2.read_unread, harg3.read_unread, harg4.read_unread, harg5.read_unread, harg6.read_unread, harg7.read_unread, harg8.read_unread, harg9.read_unread, harg11.read_unread, harg14.read_unread, harg15.read_unread, View.ld_unit_zero (S := S1024x2048) hz2, View.ld_unit_zero (S := S2048x512) hz2, View.ld_unit_zero (S := S1x2048) hz2, View.ld_unit_zero (S := S3x512) hz2, View.ld_unit_zero (S := S1x512) hz2, View.readCov_cons_toLoadRect]
    rfl
  iexists _; isplitr
  swap; · iexact H13
  ipureintro
  rw [View.read_writes_cons_put _ _ _ _ _ rfl, View.writes_nil, harg15.read_unread]
  simp only [View.readAt_eq_ld, harg2.read_unread, harg3.read_unread, harg4.read_unread, harg5.read_unread, harg6.read_unread, harg7.read_unread, harg8.read_unread, harg9.read_unread, harg11.read_unread, harg14.read_unread, harg15.read_unread, View.ld_unit_zero (S := S1024x2048) hz2, View.ld_unit_zero (S := S2048x512) hz2, View.ld_unit_zero (S := S1x2048) hz2, View.ld_unit_zero (S := S3x512) hz2, View.ld_unit_zero (S := S1x512) hz2, View.readCov_cons_toLoadRect]
  rfl

end Cert.FfnUpIdeal.Own

end
-- ==== Proof.OwnFfnUpIdeal.Frame.lean ====
module

public import Idealize.ShloMosaic.Lib.Claim
public import proofs.«01_k».proof.Proof.OwnFfnUpIdeal.RunA
public import proofs.«01_k».proof.Proof.OwnFfnUpIdeal.RunB
public import proofs.«01_k».proof.Proof.OwnFfnUpIdeal.RunC
public import proofs.«01_k».proof.Proof.OwnFfnUpIdeal.RunD

/-! The run of the up projection over its grid: what the row of normalised rows, the carried rows and the output hold at
each point, and the frame. -/

@[expose] public section

set_option maxRecDepth 16384

noncomputable section

namespace Cert.FfnUpIdeal.Own

open Cert.FfnUpIdeal Cert.FfnUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body is handed -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x512 .bf16 := win0_8.stage (cfg0.slots t 8)
abbrev hs0_8 (t : Fin cfg0.N) : (ms0_8 t).IsWhole := hstage0_8 ((cfg0.slots t 8).cast nbuf0_8)
abbrev scM0_0 : Memref sig .tc .vmem S1024x2048 .bf16 := Memref.whole cc0_scratch0
abbrev scM0_1 : Memref sig .tc .vmem S1032x512 .f32 := Memref.whole cc0_scratch1
abbrev scM0_2 : Memref sig .tc .vmem S1032x512 .f32 := Memref.whole cc0_scratch2
abbrev scM0_3 : Memref sig .tc .vmem S12x8x512 .f32 := Memref.whole cc0_scratch3
abbrev scM0_4 : Memref sig .tc .vmem S12x8x512 .f32 := Memref.whole cc0_scratch4

/-- The scratch buffers at anything, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## What the points compute -/

theorem N192 : cfg0.N = 192 := N_0

/-- The first point of a point's row tile. -/
def row0 (t : Fin cfg0.N) : Fin cfg0.N := ⟨12 * (t.val / 12), Nat.lt_of_le_of_lt (Nat.mul_div_le t.val 12) t.isLt⟩

/-- The point of the same column block in the row tile before. -/
def prev (t : Fin cfg0.N) : Fin cfg0.N := ⟨t.val - 12, Nat.lt_of_le_of_lt (Nat.sub_le _ _) t.isLt⟩

theorem row0_of (t : Fin cfg0.N) (h : t.val % 12 = 0) : row0 t = t := Fin.ext (by show 12 * (t.val / 12) = t.val; omega)

/-- The normalised rows of a point's row tile. -/
def hAt (c : Dev nD) (t : Fin cfg0.N) : Vec F S1024x2048 .bf16 := k0_pay2 (iblk m c 0 (row0 t)) (iblk m c 1 (row0 t))

/-- The last eight rows of the gate's product at a point, -/
def tg (c : Dev nD) (t : Fin cfg0.N) : Vec F S1x8x512 .f32 := k0_pay7 (hAt m c t) (iblk m c 2 t)
/-- and of the value's. -/
def tv (c : Dev nD) (t : Fin cfg0.N) : Vec F S1x8x512 .f32 := k0_pay13 (hAt m c t) (iblk m c 3 t)

/-- The eight rows before a point's tile of the gate's product: zeros at the start of a sequence. -/
def pgAt (c : Dev nD) (t : Fin cfg0.N) : Vec F S8x512 .f32 := if t.val / 12 % 8 = 0 then k0_pay4 else k0_pay5 (tg m c (prev t))
def pvAt (c : Dev nD) (t : Fin cfg0.N) : Vec F S8x512 .f32 := if t.val / 12 % 8 = 0 then k0_pay10 else k0_pay11 (tv m c (prev t))

/-- What a point stores. -/
def outAt (c : Dev nD) (t : Fin cfg0.N) : Vec F S1024x512 .bf16 :=
  outv (hAt m c t) (iblk m c 2 t) (iblk m c 3 t) (iblk m c 4 t) (iblk m c 5 t) (iblk m c 6 t) (iblk m c 7 t) (pgAt m c t) (pvAt m c t)

/-! ## The invariant -/

/-- Before position `n` the row scratch holds the normalised rows of the point before. -/
def Ph (c : Dev nD) (n : ℕ) (x : Vec F S1024x2048 .bf16) : Prop := ∀ t : Fin cfg0.N, t.val + 1 = n → x = hAt m c t

/-- The carried rows before position `n`: each of the last twelve points' last eight rows, at its column block's place. -/
def Pc (T : Fin cfg0.N → Vec F S1x8x512 .f32) (n : ℕ) (x : Vec F S12x8x512 .f32) : Prop :=
  ∀ t : Fin cfg0.N, t.val < n → n ≤ t.val + 12 → slab x (k0_off2 (grid0.coords t)) (k0_off2_inb (grid0.coords t)) = T t

theorem slab_congr (x : Vec F S12x8x512 .f32) {off off' : Fin 3 → ℕ} (h : off = off') (inb inb') : slab x off inb = slab x off' inb' := by
  subst h; rfl

/-- Storing a point's last rows keeps the property. -/
theorem Pc_step (T : Fin cfg0.N → Vec F S1x8x512 .f32) (t : Fin cfg0.N) (x : Vec F S12x8x512 .f32) (h : Pc T t.val x) :
    Pc T (t.val + 1) (put x (k0_off2 (grid0.coords t)) (T t)) := by
  intro t' h1 h2
  by_cases e : t' = t
  · subst e
    exact VecWindow.window_put_same (s := S12x8x512) x _ _ (k0_off2_inb (grid0.coords t')) (T t')
  · have hne : t'.val ≠ t.val := fun hh => e (Fin.ext hh)
    rw [← h t' (by omega) (by omega)]
    refine VecWindow.window_put_of_disjoint (s := S12x8x512) x _ _ _ _ (k0_off2_inb (grid0.coords t')) (T t) 0 ?_
    rw [off2_eq t, off2_eq t']
    show t'.val % 12 + 1 ≤ t.val % 12 ∨ t.val % 12 + 1 ≤ t'.val % 12
    omega

/-- The carried rows of a point's column block are the last rows of the row tile before. -/
theorem Pc_at (T : Fin cfg0.N → Vec F S1x8x512 .f32) (t : Fin cfg0.N) (hF : ¬t.val / 12 % 8 = 0) (x : Vec F S12x8x512 .f32) (h : Pc T t.val x)
    {off : Fin 3 → ℕ} (ho : off = ![t.val % 12, 0, 0]) (inb) : slab x off inb = T (prev t) := by
  have h12 : 12 ≤ t.val := by
    by_contra hh
    exact hF (by rw [Nat.div_eq_of_lt (by omega)])
  rw [← h (prev t) (by show t.val - 12 < t.val; omega) (by show t.val ≤ t.val - 12 + 12; omega)]
  refine slab_congr x ?_ _ _
  rw [ho, off2_eq (prev t)]
  have : (prev t).val % 12 = t.val % 12 := by show (t.val - 12) % 12 = t.val % 12; omega
  rw [this]

theorem Ph_at (c : Dev nD) (t : Fin cfg0.N) (h0 : ¬t.val % 12 = 0) (x : Vec F S1024x2048 .bf16) (h : Ph m c t.val x) : x = hAt m c t := by
  rw [h ⟨t.val - 1, Nat.lt_of_le_of_lt (Nat.sub_le _ _) t.isLt⟩ (by show t.val - 1 + 1 = t.val; omega)]
  unfold hAt
  have : row0 ⟨t.val - 1, Nat.lt_of_le_of_lt (Nat.sub_le _ _) t.isLt⟩ = row0 t := Fin.ext (by
    show 12 * ((t.val - 1) / 12) = 12 * (t.val / 12); omega)
  rw [this]

theorem Ph_step (c : Dev nD) (t : Fin cfg0.N) : Ph m c (t.val + 1) (hAt m c t) := fun t' h => by
  have : t' = t := Fin.ext (by omega)
  rw [this]

/-- The invariant before position `n`. -/
def PhiU (c : Dev nD) (n : ℕ) : sProp 𝕄 :=
  iprop(iprop((∃ d, ⌜Ph m c n d⌝ ∗ owns (c : Thread nD τ) scM0_0 fullShare d) ∗ (∃ d, owns (c : Thread nD τ) scM0_1 fullShare d) ∗ (∃ d, owns (c : Thread nD τ) scM0_2 fullShare d)
    ∗ (∃ d, ⌜Pc (tg m c) n d⌝ ∗ owns (c : Thread nD τ) scM0_3 fullShare d) ∗ (∃ d, ⌜Pc (tv m c) n d⌝ ∗ owns (c : Thread nD τ) scM0_4 fullShare d)) ∗ (∃ r, prngReg c r))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := PhiU m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 6400000 in
/-- The body at any point: the conditions say which of the four runs it is. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = PhiU m c (t.val + 1) from rfl, show (dats m 0 c).Φ t.castSucc = PhiU m c t.val from rfl]
  unfold PhiU
  iintro ⟨⟨⟨⟨%xh, %hh, HS0⟩, HS1, HS2, ⟨%xg, %hg, HS3⟩, ⟨%xv, %hv, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases h0 : t.val % 12 = 0
  · have eh : k0_pay2 (iblk m c 0 t) (iblk m c 1 t) = hAt m c t := by unfold hAt; rw [row0_of t h0]
    by_cases hF : t.val / 12 % 8 = 0
    · have eo : outv (k0_pay2 (iblk m c 0 t) (iblk m c 1 t)) (iblk m c 2 t) (iblk m c 3 t) (iblk m c 4 t) (iblk m c 5 t) (iblk m c 6 t) (iblk m c 7 t) k0_pay4 k0_pay10 = outAt m c t := by
        unfold outAt pgAt pvAt; rw [eh, if_pos hF, if_pos hF]
      have kg : Pc (tg m c) (t.val + 1) (put xg (k0_off2 (grid0.coords t)) (k0_pay7 (k0_pay2 (iblk m c 0 t) (iblk m c 1 t)) (iblk m c 2 t))) := by
        rw [eh]; exact Pc_step (tg m c) t xg hg
      have kv : Pc (tv m c) (t.val + 1) (put xv (k0_off2 (grid0.coords t)) (k0_pay13 (k0_pay2 (iblk m c 0 t) (iblk m c 1 t)) (iblk m c 3 t))) := by
        rw [eh]; exact Pc_step (tv m c) t xv hv
      iapply (run_A c (grid0.coords t) _ _ _ _ _ _ _ _ _ _ _ _ _ _ _ _ _ _ _ _ _ _ _ _ _ _ _ _ ((hcondJ t).mpr h0) ((hcondF t).mpr hF) (fun h => (hcond3 t).mp h hF) (fun h => (hcond5 t).mp h hF) (iblk m c 0 t) (iblk m c 1 t) (iblk m c 2 t) (iblk m c 3 t) (iblk m c 4 t) (iblk m c 5 t) (iblk m c 6 t) (iblk m c 7 t) xg xv Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      isplitl [HS1]; · iexact HS1
      isplitl [HS2]; · iexact HS2
      isplitl [HS3]; · iexact HS3
      isplitl [HS4]; · iexact HS4
      iintro ⟨H0, H1, H2, H3, H4, H5, H6, H7, H8, HS0, HS1, HS2, HS3, HS4⟩
      isplitl [HS0 HS1 HS2 HS3 HS4 Hg]
      · isplitl [HS0 HS1 HS2 HS3 HS4]
        · isplitl [HS0]; · iexists _; isplitr; · ipureintro; exact Ph_step m c t
                           rw [← eh]; iexact HS0
          isplitl [HS1]; · iexact HS1
          isplitl [HS2]; · iexact HS2
          isplitl [HS3]; · iexists _; isplitr; · ipureintro; exact kg
                           iexact HS3
          iexists _; isplitr; · ipureintro; exact kv
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      rw [← eo]; iexact H8
    · have eo : outv (k0_pay2 (iblk m c 0 t) (iblk m c 1 t)) (iblk m c 2 t) (iblk m c 3 t) (iblk m c 4 t) (iblk m c 5 t) (iblk m c 6 t) (iblk m c 7 t) (k0_pay5 (slab xg (k0_off1 (grid0.coords t)) (k0_off1_inb (grid0.coords t) ((hcond3 t).mpr hF)))) (k0_pay11 (slab xv (k0_off3 (grid0.coords t)) (k0_off3_inb (grid0.coords t) ((hcond5 t).mpr hF)))) = outAt m c t := by
        unfold outAt pgAt pvAt; rw [eh, if_neg hF, if_neg hF, Pc_at (tg m c) t hF xg hg (off1_eq t), Pc_at (tv m c) t hF xv hv (off3_eq t)]
      have kg : Pc (tg m c) (t.val + 1) (put xg (k0_off2 (grid0.coords t)) (k0_pay7 (k0_pay2 (iblk m c 0 t) (iblk m c 1 t)) (iblk m c 2 t))) := by
        rw [eh]; exact Pc_step (tg m c) t xg hg
      have kv : Pc (tv m c) (t.val + 1) (put xv (k0_off2 (grid0.coords t)) (k0_pay13 (k0_pay2 (iblk m c 0 t) (iblk m c 1 t)) (iblk m c 3 t))) := by
        rw [eh]; exact Pc_step (tv m c) t xv hv
      iapply (run_B c (grid0.coords t) _ _ _ _ _ _ _ _ _ _ _ _ _ _ _ _ _ _ _ _ _ _ _ _ _ _ _ _ ((hcondJ t).mpr h0) (fun h => hF ((hcondF t).mp h)) ((hcond3 t).mpr hF) ((hcond5 t).mpr hF) (iblk m c 0 t) (iblk m c 1 t) (iblk m c 2 t) (iblk m c 3 t) (iblk m c 4 t) (iblk m c 5 t) (iblk m c 6 t) (iblk m c 7 t) xg xv Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      isplitl [HS1]; · iexact HS1
      isplitl [HS2]; · iexact HS2
      isplitl [HS3]; · iexact HS3
      isplitl [HS4]; · iexact HS4
      iintro ⟨H0, H1, H2, H3, H4, H5, H6, H7, H8, HS0, HS1, HS2, HS3, HS4⟩
      isplitl [HS0 HS1 HS2 HS3 HS4 Hg]
      · isplitl [HS0 HS1 HS2 HS3 HS4]
        · isplitl [HS0]; · iexists _; isplitr; · ipureintro; exact Ph_step m c t
                           rw [← eh]; iexact HS0
          isplitl [HS1]; · iexact HS1
          isplitl [HS2]; · iexact HS2
          isplitl [HS3]; · iexists _; isplitr; · ipureintro; exact kg
                           iexact HS3
          iexists _; isplitr; · ipureintro; exact kv
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      rw [← eo]; iexact H8
  · obtain rfl := Ph_at m c t h0 xh hh
    by_cases hF : t.val / 12 % 8 = 0
    · have eo : outv (hAt m c t) (iblk m c 2 t) (iblk m c 3 t) (iblk m c 4 t) (iblk m c 5 t) (iblk m c 6 t) (iblk m c 7 t) k0_pay4 k0_pay10 = outAt m c t := by
        unfold outAt pgAt pvAt; rw [if_pos hF, if_pos hF]
      have kg : Pc (tg m c) (t.val + 1) (put xg (k0_off2 (grid0.coords t)) (k0_pay7 (hAt m c t) (iblk m c 2 t))) := by
        exact Pc_step (tg m c) t xg hg
      have kv : Pc (tv m c) (t.val + 1) (put xv (k0_off2 (grid0.coords t)) (k0_pay13 (hAt m c t) (iblk m c 3 t))) := by
        exact Pc_step (tv m c) t xv hv
      iapply (run_C c (grid0.coords t) _ _ _ _ _ _ _ _ _ _ _ _ _ _ _ _ _ _ _ _ _ _ _ _ _ _ _ _ (fun h => h0 ((hcondJ t).mp h)) ((hcondF t).mpr hF) (fun h => (hcond3 t).mp h hF) (fun h => (hcond5 t).mp h hF) (iblk m c 0 t) (iblk m c 1 t) (iblk m c 2 t) (iblk m c 3 t) (iblk m c 4 t) (iblk m c 5 t) (iblk m c 6 t) (iblk m c 7 t) (hAt m c t) xg xv Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, HS0, HS1, HS2, HS3, HS4⟩
      isplitl [HS0 HS1 HS2 HS3 HS4 Hg]
      · isplitl [HS0 HS1 HS2 HS3 HS4]
        · isplitl [HS0]; · iexists _; isplitr; · ipureintro; exact Ph_step m c t
                           iexact HS0
          isplitl [HS1]; · iexact HS1
          isplitl [HS2]; · iexact HS2
          isplitl [HS3]; · iexists _; isplitr; · ipureintro; exact kg
                           iexact HS3
          iexists _; isplitr; · ipureintro; exact kv
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      rw [← eo]; iexact H8
    · have eo : outv (hAt m c t) (iblk m c 2 t) (iblk m c 3 t) (iblk m c 4 t) (iblk m c 5 t) (iblk m c 6 t) (iblk m c 7 t) (k0_pay5 (slab xg (k0_off1 (grid0.coords t)) (k0_off1_inb (grid0.coords t) ((hcond3 t).mpr hF)))) (k0_pay11 (slab xv (k0_off3 (grid0.coords t)) (k0_off3_inb (grid0.coords t) ((hcond5 t).mpr hF)))) = outAt m c t := by
        unfold outAt pgAt pvAt; rw [if_neg hF, if_neg hF, Pc_at (tg m c) t hF xg hg (off1_eq t), Pc_at (tv m c) t hF xv hv (off3_eq t)]
      have kg : Pc (tg m c) (t.val + 1) (put xg (k0_off2 (grid0.coords t)) (k0_pay7 (hAt m c t) (iblk m c 2 t))) := by
        exact Pc_step (tg m c) t xg hg
      have kv : Pc (tv m c) (t.val + 1) (put xv (k0_off2 (grid0.coords t)) (k0_pay13 (hAt m c t) (iblk m c 3 t))) := by
        exact Pc_step (tv m c) t xv hv
      iapply (run_D c (grid0.coords t) _ _ _ _ _ _ _ _ _ _ _ _ _ _ _ _ _ _ _ _ _ _ _ _ _ _ _ _ (fun h => h0 ((hcondJ t).mp h)) (fun h => hF ((hcondF t).mp h)) ((hcond3 t).mpr hF) ((hcond5 t).mpr hF) (iblk m c 0 t) (iblk m c 1 t) (iblk m c 2 t) (iblk m c 3 t) (iblk m c 4 t) (iblk m c 5 t) (iblk m c 6 t) (iblk m c 7 t) (hAt m c t) xg xv Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, HS0, HS1, HS2, HS3, HS4⟩
      isplitl [HS0 HS1 HS2 HS3 HS4 Hg]
      · isplitl [HS0 HS1 HS2 HS3 HS4]
        · isplitl [HS0]; · iexists _; isplitr; · ipureintro; exact Ph_step m c t
                           iexact HS0
          isplitl [HS1]; · iexact HS1
          isplitl [HS2]; · iexact HS2
          isplitl [HS3]; · iexists _; isplitr; · ipureintro; exact kg
                           iexact HS3
          iexists _; isplitr; · ipureintro; exact kv
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      rw [← eo]; iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiU m c 0 from rfl, PhiA0_eq]
  unfold PhiU
  iintro ⟨⟨⟨%d0, HS0⟩, HS1, HS2, ⟨%d3, HS3⟩, ⟨%d4, HS4⟩⟩, Hg⟩
  isplitl [HS0 HS1 HS2 HS3 HS4]
  · isplitl [HS0]; · iexists d0; isplitr; · ipureintro; exact fun t h => absurd h (Nat.succ_ne_zero _)
                     iexact HS0
    isplitl [HS1]; · iexact HS1
    isplitl [HS2]; · iexact HS2
    isplitl [HS3]; · iexists d3; isplitr; · ipureintro; exact fun t h => absurd h (Nat.not_lt_zero _)
                     iexact HS3
    iexists d4; isplitr; · ipureintro; exact fun t h => absurd h (Nat.not_lt_zero _)
    iexact HS4
  iexact Hg

/-- After the last point the scratch buffers are at anything again. -/
theorem hout (c : Dev nD) : (dats m 0 c).Φ (Fin.last cfg0.N) ⊢ Pipeline.ΦA spec0 c := by
  rw [show (dats m 0 c).Φ (Fin.last cfg0.N) = PhiU m c cfg0.N from rfl, PhiA0_eq]
  unfold PhiU
  iintro ⟨⟨⟨%d0, %h0, HS0⟩, HS1, HS2, ⟨%d3, %h3, HS3⟩, ⟨%d4, %h4, HS4⟩⟩, Hg⟩
  isplitl [HS0 HS1 HS2 HS3 HS4]
  · isplitl [HS0]; · iexists _; iexact HS0
    isplitl [HS1]; · iexact HS1
    isplitl [HS2]; · iexact HS2
    isplitl [HS3]; · iexists _; iexact HS3
    iexists _; iexact HS4
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.FfnUpIdeal.Own

end
-- ==== Proof.RmsRow.lean ====
module

public import Idealize.ShloMosaic.Lib.Pointwise

/-! The root-mean-square normalisation of a row of 2048 numbers, times a weight. -/

@[expose] public section

noncomputable section
namespace Cert.RmsRow
open Idealize.ShloMosaic Idealize.ShloMosaic.Tactic

/-- Entry `q` of the normalised row: the entry over the root of the mean of the squares plus `10⁻⁶`, times the weight. -/
def rms (x w : Fin 2048 → EReal) (q : Fin 2048) : EReal :=
  x q * Ideal.rsqrt (Ideal.div (∑ k, x k * x k) (Ideal.ofBits FTy.f32 1157627904#32) + Ideal.ofBits FTy.f32 897988541#32) * w q
end Cert.RmsRow
-- ==== Proof.FfnUpSpec.lean ====
module

public import proofs.«01_k».proof.Proof.Gen.FfnUpRefIdeal.Run
public import proofs.«01_k».proof.Proof.RmsRow
public import Idealize.ShloMosaic.Lib.KernelVsHost

/-! The up projection of the channel mixer: what it computes, entry by entry, and that the reference computes it. -/

@[expose] public section

set_option maxRecDepth 16384
noncomputable section
namespace Cert.FfnUpVal
open Idealize.ShloMosaic Idealize.ShloMosaic.TcCoe Idealize.ShloMosaic.Tactic Idealize.ShloMosaic.StableHlo Idealize.SL.Sem
open Cert.RmsRow

/-! ## The mathematics -/

/-- The normalised input rows. -/
def nrm (X : (⟨2, ![16384, 2048]⟩ : Shape).Idx → EReal) (w : (⟨1, ![2048]⟩ : Shape).Idx → EReal) (p : Fin 16384) (q : Fin 2048) : EReal :=
  rms (fun k => X (ix2 p k)) (fun k => w (ix1 k)) q

/-- The normalised rows times the weights. -/
def U (X : (⟨2, ![16384, 2048]⟩ : Shape).Idx → EReal) (w : (⟨1, ![2048]⟩ : Shape).Idx → EReal) (W : (⟨2, ![2048, 12288]⟩ : Shape).Idx → EReal)
    (p : Fin 16384) (q : Fin 12288) : EReal := ∑ k : Fin 2048, nrm X w p k * W (ix2 k q)

/-- A matrix of two sequences of 8192 rows, shifted down by `s` rows in each sequence: zeros come in at the top. -/
def shift (s : ℕ) (u : Fin 16384 → Fin 12288 → EReal) (p : Fin 16384) (q : Fin 12288) : EReal :=
  if s ≤ p.val % 8192 then u ⟨p.val - s, Nat.lt_of_le_of_lt (Nat.sub_le _ _) p.isLt⟩ q else 0

/-- The three weighted rows of a convolution and its bias. -/
def tap (c0 c1 c2 b u s1 s2 : EReal) : EReal := c2 * u + c1 * s1 + c0 * s2 + b

/-- The causal convolution of width three down each column. -/
def conv (u : Fin 16384 → Fin 12288 → EReal) (cw : (⟨2, ![3, 12288]⟩ : Shape).Idx → EReal) (cb : (⟨1, ![12288]⟩ : Shape).Idx → EReal)
    (p : Fin 16384) (q : Fin 12288) : EReal :=
  tap (cw (ix2 0 q)) (cw (ix2 1 q)) (cw (ix2 2 q)) (cb (ix1 q)) (u p q) (shift 1 u p q) (shift 2 u p q)

/-- The gate function (the `tanh` form). -/
def gel (g : EReal) : EReal :=
  g * (Ideal.ofBits FTy.f32 0x3F000000#32 * (Ideal.ofBits FTy.f32 0x3F800000#32
    + Ideal.tanh (Ideal.ofBits FTy.f32 0x3F4C422A#32 * (g + Ideal.ofBits FTy.f32 0x3D372713#32 * (g * (g * g))))))

/-- The result: the gate's half of the convolution through the gate function, times the value's half. -/
def spec (X : (⟨2, ![16384, 2048]⟩ : Shape).Idx → EReal) (w : (⟨1, ![2048]⟩ : Shape).Idx → EReal) (W : (⟨2, ![2048, 12288]⟩ : Shape).Idx → EReal)
    (cw : (⟨2, ![3, 12288]⟩ : Shape).Idx → EReal) (cb : (⟨1, ![12288]⟩ : Shape).Idx → EReal) : (⟨2, ![16384, 6144]⟩ : Shape).Idx → EReal := fun i =>
  gel (conv (U X w W) cw cb (i 0) ⟨(i 1).val, Nat.lt_of_lt_of_le (i 1).isLt (by decide)⟩)
    * conv (U X w W) cw cb (i 0) ⟨6144 + (i 1).val, Nat.add_lt_add_left (i 1).isLt 6144⟩

/-! ## The reference -/

namespace Ref
open Cert.FfnUpRefIdeal Cert.FfnUpRefIdeal.Gen

/-- The reference's product of the normalised rows with the weights. -/
def rU (x : FVec Ideal S16384x2048 .f32) (w : FVec Ideal S2048 .f32) (W : FVec Ideal S2048x12288 .f32) : FVec Ideal S16384x12288 .f32 :=
  Host.dotGeneral dot_S16384x2048_S2048x12288_S16384x12288_1_0_0_1_n_n none (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 w))) W

/-- Two rows of zeros above each sequence. -/
def rP (u : FVec Ideal S16384x12288 .f32) : FVec Ideal S2x8194x12288 .f32 :=
  pad S2x8194x12288 ![0, 2, 0] ![0, 0, 0] ![0, 0, 0] (shapeCast _ u shapeCasts_S16384x12288_S2x8192x12288) (sitofp .f32 (constantI S_ 32 0#32)) pads_S2x8192x12288_S2x8194x12288_000_200_000 h_S_

/-- A row of the convolution's weights, spread over the rows. -/
def rW (v : FVec Ideal S1x12288 .f32) : FVec Ideal S2x8192x12288 .f32 :=
  broadcastInDim S2x8192x12288 ![0, 1, 2] bcast_S1x1x12288_S2x8192x12288_0_1_2 (broadcastInDim S1x1x12288 ![2] bcast_S12288_S1x1x12288_2 (shapeCast _ v shapeCasts_S1x12288_S12288))

/-- The reference's convolution. -/
def rY (P : FVec Ideal S2x8194x12288 .f32) (cw : FVec Ideal S3x12288 .f32) (cb : FVec Ideal S12288 .f32) : FVec Ideal S2x8192x12288 .f32 :=
  addf (addf (addf (mulf (rW (extractStridedSlice S1x12288 ![0, 0] cw slices_S3x12288_S1x12288_0_0)) (extractStridedSlice S2x8192x12288 ![0, 0, 0] P slices_S2x8194x12288_S2x8192x12288_0_0_0))
    (mulf (rW (extractStridedSlice S1x12288 ![1, 0] cw slices_S3x12288_S1x12288_1_0)) (extractStridedSlice S2x8192x12288 ![0, 1, 0] P slices_S2x8194x12288_S2x8192x12288_0_1_0)))
    (mulf (rW (extractStridedSlice S1x12288 ![2, 0] cw slices_S3x12288_S1x12288_2_0)) (extractStridedSlice S2x8192x12288 ![0, 2, 0] P slices_S2x8194x12288_S2x8192x12288_0_2_0)))
    (broadcastInDim S2x8192x12288 ![0, 1, 2] bcast_S1x1x12288_S2x8192x12288_0_1_2 (broadcastInDim S1x1x12288 ![2] bcast_S12288_S1x1x12288_2 cb))

/-- The reference's gate function. -/
def rG (g : FVec Ideal S2x8192x6144 .f32) : FVec Ideal S2x8192x6144 .f32 :=
  mulf g (mulf (broadcastInDim S2x8192x6144 ![] bcast_S_S2x8192x6144 (constant S_ .f32 0x3F000000#32)) (addf (broadcastInDim S2x8192x6144 ![] bcast_S_S2x8192x6144 (constant S_ .f32 0x3F800000#32)) (Host.tanh (mulf (broadcastInDim S2x8192x6144 ![] bcast_S_S2x8192x6144 (constant S_ .f32 0x3F4C422A#32)) (addf g (mulf (broadcastInDim S2x8192x6144 ![] bcast_S_S2x8192x6144 (constant S_ .f32 0x3D372713#32)) (mulf (mulf g g) g)))))))

/-- The reference's result. -/
def rOut (Y : FVec Ideal S2x8192x12288 .f32) : FVec Ideal S16384x6144 .bf16 :=
  truncf .bf16 (shapeCast _ (mulf (rG (extractStridedSlice S2x8192x6144 ![0, 0, 0] Y slices_S2x8192x12288_S2x8192x6144_0_0_0)) (extractStridedSlice S2x8192x6144 ![0, 0, 6144] Y slices_S2x8192x12288_S2x8192x6144_0_0_6144)) shapeCasts_S2x8192x6144_S16384x6144) bitsLt_bf16_f32

theorem rU_at (x : FVec Ideal S16384x2048 .f32) (w : FVec Ideal S2048 .f32) (W : FVec Ideal S2048x12288 .f32) (p : Fin 16384) (q : Fin 12288) :
    (rU x w W (ix2 p q) : EReal) = U x w W p q := by
  unfold U nrm rms
  pointwise [rU]

theorem rP_in (u : FVec Ideal S16384x12288 .f32) (b : Fin 2) (s : Fin 8194) (q : Fin 12288) (p : Fin 16384) (h2 : 2 ≤ s.val) (hp : p.val + 2 = 8192 * b.val + s.val) :
    (rP u (ix3 b s q) : EReal) = u (ix2 p q) := by
  unfold rP
  have hs : s.val - 2 < 8192 := by have := s.isLt; omega
  rw [pad_apply_of_inside _ _ _ _ _ _ _ (ix3 b s q : S2x8194x12288.Idx) (ix3 b ⟨s.val - 2, hs⟩ q : S2x8192x12288.Idx) (fun a => by
    match a with
    | ⟨0, _⟩ => show b.val = 0 + b.val * (0 + 1); omega
    | ⟨1, _⟩ => show s.val = 2 + (s.val - 2) * (0 + 1); omega
    | ⟨2, _⟩ => show q.val = 0 + q.val * (0 + 1); omega)]
  refine shapeCast_apply _ _ (ix3 b ⟨s.val - 2, hs⟩ q : S2x8192x12288.Idx) (ix2 p q : S16384x12288.Idx) ?_
  rw [Shape.rowMajor_val_two, Shape.rowMajor_val_three]
  show p.val * 12288 + q.val = (b.val * 8192 + (s.val - 2)) * 12288 + q.val
  have : p.val = b.val * 8192 + (s.val - 2) := by omega
  rw [this]

theorem rP_out (u : FVec Ideal S16384x12288 .f32) (b : Fin 2) (s : Fin 8194) (q : Fin 12288) (h2 : ¬2 ≤ s.val) :
    (rP u (ix3 b s q) : EReal) = 0 := by
  unfold rP
  rw [pad_apply_of_not_inside _ _ _ _ _ _ _ (ix3 b s q : S2x8194x12288.Idx) (1 : Fin 3) (fun h => h2 h.1)]
  show (((0#32 : BitVec 32).toInt : ℝ) : EReal) = 0
  simp

/-- The padded matrix read `k` rows below a row of a sequence is the matrix shifted. -/
theorem rP_shift (u : FVec Ideal S16384x12288 .f32) (k : ℕ) (hk : k ≤ 2) (b : Fin 2) (s : Fin 8192) (s' : Fin 8194) (q : Fin 12288) (p : Fin 16384)
    (hp : p.val = 8192 * b.val + s.val) (hs : s'.val + k = s.val + 2) :
    (rP u (ix3 b s' q) : EReal) = shift k (fun p q => u (ix2 p q)) p q := by
  have hm : p.val % 8192 = s.val := by have := s.isLt; omega
  unfold shift
  by_cases h : k ≤ p.val % 8192
  · rw [if_pos h]
    exact rP_in u b s' q _ (by omega) (by show p.val - k + 2 = _; omega)
  · rw [if_neg h]
    exact rP_out u b s' q (by omega)

theorem rW_at (v : FVec Ideal S1x12288 .f32) (b : Fin 2) (s : Fin 8192) (q : Fin 12288) : (rW v (ix3 b s q) : EReal) = v (ix2 0 q) := by
  unfold rW
  refine Eq.trans ?_ (shapeCast_apply v shapeCasts_S1x12288_S12288 (ix1 q) (ix2 (0 : Fin 1) q) (by rw [Shape.rowMajor_val_one, Shape.rowMajor_val_two]; simp [ix1, ix2]))
  generalize shapeCast S12288 v shapeCasts_S1x12288_S12288 = z
  pointwise []

/-- One weighted row of the reference's convolution. -/
theorem rT_at (k : Fin 3) (o : Fin 2 → ℕ) (ho : o = ![k.val, 0]) (o' : Fin 3 → ℕ) (ho' : o' = ![0, k.val, 0]) (h h') (P : FVec Ideal S2x8194x12288 .f32) (cw : FVec Ideal S3x12288 .f32)
    (b : Fin 2) (s : Fin 8192) (q : Fin 12288) (s' : Fin 8194) (hs : s'.val = s.val + k.val) :
    (mulf (rW (extractStridedSlice S1x12288 o cw h)) (extractStridedSlice S2x8192x12288 o' P h') (ix3 b s q) : EReal) = cw (ix2 k q) * P (ix3 b s' q) := by
  subst ho ho'
  refine congrArg₂ (fun a b : EReal => a * b) ((rW_at _ b s q).trans ?_) ?_
  · refine congrArg cw (funext fun a => Fin.ext ?_)
    match a with
    | ⟨0, _⟩ => show k.val + 0 = k.val; omega
    | ⟨1, _⟩ => show 0 + q.val = q.val; omega
  · refine congrArg P (funext fun a => Fin.ext ?_)
    match a with
    | ⟨0, _⟩ => show 0 + b.val = b.val; omega
    | ⟨1, _⟩ => show k.val + s.val = s'.val; omega
    | ⟨2, _⟩ => show 0 + q.val = q.val; omega

theorem rB_at (cb : FVec Ideal S12288 .f32) (b : Fin 2) (s : Fin 8192) (q : Fin 12288) :
    (broadcastInDim S2x8192x12288 ![0, 1, 2] bcast_S1x1x12288_S2x8192x12288_0_1_2 (broadcastInDim S1x1x12288 ![2] bcast_S12288_S1x1x12288_2 cb) (ix3 b s q) : EReal) = cb (ix1 q) := by
  pointwise []

theorem rY_at (u : FVec Ideal S16384x12288 .f32) (cw : FVec Ideal S3x12288 .f32) (cb : FVec Ideal S12288 .f32) (b : Fin 2) (s : Fin 8192) (q : Fin 12288)
    (p : Fin 16384) (hp : p.val = 8192 * b.val + s.val) :
    (rY (rP u) cw cb (ix3 b s q) : EReal) = conv (fun p q => u (ix2 p q)) cw cb p q := by
  have hs := s.isLt
  have e0 := (rT_at 0 ![0, 0] rfl ![0, 0, 0] rfl slices_S3x12288_S1x12288_0_0 slices_S2x8194x12288_S2x8192x12288_0_0_0 (rP u) cw b s q ⟨s.val, by omega⟩ rfl).trans
    (congrArg (fun z : EReal => cw (ix2 0 q) * z) (rP_shift u 2 (by omega) b s ⟨s.val, by omega⟩ q p hp rfl))
  have e1 := (rT_at 1 ![1, 0] rfl ![0, 1, 0] rfl slices_S3x12288_S1x12288_1_0 slices_S2x8194x12288_S2x8192x12288_0_1_0 (rP u) cw b s q ⟨s.val + 1, by omega⟩ rfl).trans
    (congrArg (fun z : EReal => cw (ix2 1 q) * z) (rP_shift u 1 (by omega) b s ⟨s.val + 1, by omega⟩ q p hp rfl))
  have e2 := (rT_at 2 ![2, 0] rfl ![0, 2, 0] rfl slices_S3x12288_S1x12288_2_0 slices_S2x8194x12288_S2x8192x12288_0_2_0 (rP u) cw b s q ⟨s.val + 2, by omega⟩ rfl).trans
    (congrArg (fun z : EReal => cw (ix2 2 q) * z) (rP_shift u 0 (by omega) b s ⟨s.val + 2, by omega⟩ q p hp rfl))
  have es : shift 0 (fun p q => (u (ix2 p q) : EReal)) p q = u (ix2 p q) := by
    unfold shift; rw [if_pos (Nat.zero_le _)]; rfl
  rw [es] at e2
  have h := congrArg₂ (fun a b : EReal => a + b) (congrArg₂ (fun a b : EReal => a + b) (congrArg₂ (fun a b : EReal => a + b) e0 e1) e2) (rB_at cb b s q)
  refine Eq.trans (show _ = _ from rfl) (h.trans ?_)
  unfold conv tap
  dsimp only
  congr 1
  rw [add_comm, add_comm (cw (ix2 0 q) * _), ← add_assoc]

theorem rG_at (g : FVec Ideal S2x8192x6144 .f32) (j : S2x8192x6144.Idx) : (rG g j : EReal) = gel (g j) := by
  unfold gel
  rw [show (g j : EReal) * (g j * g j) = g j * g j * g j from mul_comm _ _]
  pointwise [rG]

theorem rOut_at (Y : FVec Ideal S2x8192x12288 .f32) (p : Fin 16384) (q : Fin 6144) (b : Fin 2) (s : Fin 8192) (hp : p.val = 8192 * b.val + s.val)
    (q1 q2 : Fin 12288) (h1 : q1.val = q.val) (h2 : q2.val = 6144 + q.val) :
    (rOut Y (ix2 p q) : EReal) = gel (Y (ix3 b s q1)) * Y (ix3 b s q2) := by
  show (shapeCast S16384x6144 (mulf (rG (extractStridedSlice S2x8192x6144 ![0, 0, 0] Y slices_S2x8192x12288_S2x8192x6144_0_0_0)) (extractStridedSlice S2x8192x6144 ![0, 0, 6144] Y slices_S2x8192x12288_S2x8192x6144_0_0_6144)) shapeCasts_S2x8192x6144_S16384x6144 (ix2 p q) : EReal) = _
  refine ((shapeCast_apply _ shapeCasts_S2x8192x6144_S16384x6144 (ix2 p q : S16384x6144.Idx) (ix3 b s q : S2x8192x6144.Idx) ?_).trans ?_)
  · rw [Shape.rowMajor_val_two, Shape.rowMajor_val_three]
    show (b.val * 8192 + s.val) * 6144 + q.val = p.val * 6144 + q.val
    rw [hp, Nat.mul_comm 8192]
  · refine congrArg₂ (fun a b : EReal => a * b) ((rG_at _ _).trans (congrArg gel ?_)) ?_
    · refine congrArg Y (funext fun a => Fin.ext ?_)
      match a with
      | ⟨0, _⟩ => show 0 + b.val = b.val; omega
      | ⟨1, _⟩ => show 0 + s.val = s.val; omega
      | ⟨2, _⟩ => show 0 + q.val = q1.val; omega
    · refine congrArg Y (funext fun a => Fin.ext ?_)
      match a with
      | ⟨0, _⟩ => show 0 + b.val = b.val; omega
      | ⟨1, _⟩ => show 0 + s.val = s.val; omega
      | ⟨2, _⟩ => show 6144 + q.val = q2.val; omega

/-- The reference's result array. -/
theorem ref_eq (x : FVec Ideal S16384x2048 .f32) (w : FVec Ideal S2048 .f32) (W : FVec Ideal S2048x12288 .f32) (cw : FVec Ideal S3x12288 .f32) (cb : FVec Ideal S12288 .f32) :
    rOut (rY (rP (rU x w W)) cw cb) = spec x w W cw cb := by
  funext i
  have hi : i = ix2 (i 0) (i 1) := funext fun a => by
    match a with
    | ⟨0, _⟩ => rfl
    | ⟨1, _⟩ => rfl
  have h0 : (i 0).val < 16384 := (i 0).isLt
  have hu : (fun p q => (rU x w W (ix2 p q) : EReal)) = U x w W := funext fun p => funext fun q => rU_at x w W p q
  refine (congrArg (rOut (rY (rP (rU x w W)) cw cb)) hi).trans ?_
  refine (rOut_at _ (i 0) (i 1) ⟨(i 0).val / 8192, by omega⟩ ⟨(i 0).val % 8192, by omega⟩ (by show (i 0).val = 8192 * ((i 0).val / 8192) + (i 0).val % 8192; omega)
    ⟨(i 1).val, Nat.lt_of_lt_of_le (i 1).isLt (by decide)⟩ ⟨6144 + (i 1).val, Nat.add_lt_add_left (i 1).isLt 6144⟩ rfl rfl).trans ?_
  rw [rY_at _ _ _ _ _ _ (i 0) (by show (i 0).val = 8192 * ((i 0).val / 8192) + (i 0).val % 8192; omega),
    rY_at _ _ _ _ _ _ (i 0) (by show (i 0).val = 8192 * ((i 0).val / 8192) + (i 0).val % 8192; omega), hu]
  rfl

end Ref
end Cert.FfnUpVal
-- ==== Proof.FfnUpVal.lean ====
module

public import proofs.«01_k».proof.Proof.OwnFfnUpIdeal.Frame
public import proofs.«01_k».proof.Proof.FfnUpSpec
public import Idealize.ShloMosaic.Lib.StableHlo.ReadAt
public import Idealize.ShloMosaic.Lib.Claim

/-! The up projection of the channel mixer: the kernel's result array is the specification's. -/

@[expose] public section

set_option maxRecDepth 16384
noncomputable section
namespace Cert.FfnUpVal
open Idealize.ShloMosaic Idealize.ShloMosaic.TcCoe Idealize.ShloMosaic.Tactic Idealize.ShloMosaic.StableHlo Idealize.SL.Sem
open Cert.FfnUpIdeal Cert.FfnUpIdeal.Gen Cert.FfnUpIdeal.Own Cert.RmsRow

/-! ## The body's values, entry by entry -/

theorem pay2_at (x : FVec Ideal S1024x2048 .f32) (w : FVec Ideal S1x2048 .f32) (i : Fin 1024) (j : Fin 2048) :
    (k0_pay2 (F := Ideal) x w (ix2 i j) : EReal) = rms (fun q => x (ix2 i q)) (fun q => w (ix2 0 q)) j := by
  unfold rms
  pointwise [k0_pay2]
theorem pay3_at (x : FVec Ideal S1024x2048 .bf16) (w : FVec Ideal S2048x512 .bf16) (i : Fin 1024) (j : Fin 512) :
    (k0_pay3 (F := Ideal) x w (ix2 i j) : EReal) = ∑ q, x (ix2 i q) * w (ix2 q j) := by
  pointwise [k0_pay3]
theorem pay9_eq (x : FVec Ideal S1024x2048 .bf16) (w : FVec Ideal S2048x512 .bf16) : k0_pay9 (F := Ideal) x w = k0_pay3 x w := rfl
theorem pay12_eq (x : FVec Ideal S1024x2048 .bf16) (w : FVec Ideal S2048x512 .bf16) : k0_pay12 (F := Ideal) x w = k0_pay6 x w := rfl
theorem pay13_eq (x : FVec Ideal S1024x2048 .bf16) (w : FVec Ideal S2048x512 .bf16) : k0_pay13 (F := Ideal) x w = k0_pay7 x w := rfl
theorem pay10_eq : k0_pay10 (F := Ideal) = k0_pay4 := rfl
theorem pay11_eq (x : FVec Ideal S1x8x512 .f32) : k0_pay11 (F := Ideal) x = k0_pay5 x := rfl
theorem pay4_at (i : Fin 8) (j : Fin 512) : (k0_pay4 (F := Ideal) (ix2 i j) : EReal) = 0 := by
  pointwise [k0_pay4]
theorem pay6_at (x : FVec Ideal S1024x2048 .bf16) (w : FVec Ideal S2048x512 .bf16) (i : Fin 1024) (j : Fin 512) :
    (k0_pay6 (F := Ideal) x w (ix2 i j) : EReal) = ∑ q, x (ix2 i q) * w (ix2 q j) :=
  (show (k0_pay6 (F := Ideal) x w (ix2 i j) : EReal) = k0_pay3 (F := Ideal) x w (ix2 i j) from
    shapeCast_apply (k0_pay3 (F := Ideal) x w) shapeCasts_S1024x512_S1024x512 (ix2 i j : S1024x512.Idx) (ix2 i j : S1024x512.Idx) rfl).trans (pay3_at x w i j)
/-- The carried rows read back are the last rows of the product. -/
theorem pay57_at (x : FVec Ideal S1024x2048 .bf16) (w : FVec Ideal S2048x512 .bf16) (i : Fin 8) (j : Fin 512) (r : Fin 1024) (hr : r.val = 1016 + i.val) :
    (k0_pay5 (F := Ideal) (k0_pay7 (F := Ideal) x w) (ix2 i j) : EReal) = ∑ q, x (ix2 r q) * w (ix2 q j) := by
  unfold k0_pay5 k0_pay7
  refine ((shapeCast_apply _ shapeCasts_S8x512_S8x512 (ix2 i j : S8x512.Idx) (ix2 i j : S8x512.Idx) rfl).trans
    ((shapeCast_apply _ shapeCasts_S1x8x512_S8x512 (ix2 i j : S8x512.Idx) (ix3 (0 : Fin 1) i j : S1x8x512.Idx) ?_).trans
    ((shapeCast_apply _ shapeCasts_S8x512_S1x8x512 (ix3 (0 : Fin 1) i j : S1x8x512.Idx) (ix2 i j : S8x512.Idx) ?_).trans ?_)))
  · rw [Shape.rowMajor_val_two, Shape.rowMajor_val_three]
    show (0 * 8 + i.val) * 512 + j.val = i.val * 512 + j.val
    omega
  · rw [Shape.rowMajor_val_two, Shape.rowMajor_val_three]
    show i.val * 512 + j.val = (0 * 8 + i.val) * 512 + j.val
    omega
  · refine Eq.trans (congrArg (k0_pay3 (F := Ideal) x w) (funext fun a => Fin.ext ?_)) (pay3_at x w r j)
    match a with
    | ⟨0, _⟩ => show 1016 + i.val = r.val; omega
    | ⟨1, _⟩ => show 0 + j.val = j.val; omega

theorem pay8_at (u s1 s2 : FVec Ideal S1024x512 .f32) (x : FVec Ideal S3x512 .f32) (b : FVec Ideal S1x512 .f32) (i : Fin 1024) (j : Fin 512) :
    (k0_pay8 (F := Ideal) u x s1 s2 b (ix2 i j) : EReal)
      = tap (x (ix2 0 j)) (x (ix2 1 j)) (x (ix2 2 j)) (b (ix2 0 j)) (u (ix2 i j)) (s1 (ix2 i j)) (s2 (ix2 i j)) := by
  unfold tap
  pointwise [k0_pay8]
theorem pay1_at (g u s1 s2 : FVec Ideal S1024x512 .f32) (x : FVec Ideal S3x512 .f32) (b : FVec Ideal S1x512 .f32) (i : Fin 1024) (j : Fin 512) :
    (k0_pay1 (F := Ideal) g u x s1 s2 b (ix2 i j) : EReal)
      = gel (g (ix2 i j)) * tap (x (ix2 0 j)) (x (ix2 1 j)) (x (ix2 2 j)) (b (ix2 0 j)) (u (ix2 i j)) (s1 (ix2 i j)) (s2 (ix2 i j)) := by
  unfold tap gel
  pointwise [k0_pay1]

/-! ## The shifted rows -/

theorem UB_ge (p : FVec Ideal S8x512 .f32) (u : FVec Ideal S1024x512 .f32) (r : Fin 1032) (r' : Fin 1024) (k : Fin 512) (h : r.val = 8 + r'.val) :
    (UB (F := Ideal) p u (ix2 r k) : EReal) = u (ix2 r' k) := by
  unfold UB
  have e : (ix2 r k : S1032x512.Idx) = (Rect.unit (s := S1032x512) ![8, 0] S1024x512.size inb_S1032x512_S1024x512_8_0).emb (ix2 r' k : S1024x512.Idx) :=
    funext fun a => Fin.ext (by
      match a with
      | ⟨0, _⟩ => show r.val = 8 + 1 * r'.val; omega
      | ⟨1, _⟩ => show k.val = 0 + 1 * k.val; omega)
  rw [e]
  exact View.canon_cons_emb (Val := Elt Ideal) (e := .f32) (Rect.unit (s := S1032x512) ![8, 0] S1024x512.size inb_S1032x512_S1024x512_8_0) u _ (ix2 r' k : S1024x512.Idx)
theorem UB_lt (p : FVec Ideal S8x512 .f32) (u : FVec Ideal S1024x512 .f32) (r : Fin 1032) (r' : Fin 8) (k : Fin 512) (h : r.val = r'.val) :
    (UB (F := Ideal) p u (ix2 r k) : EReal) = p (ix2 r' k) := by
  unfold UB
  have hn : (ix2 r k : S1032x512.Idx) ∉ (Rect.unit (s := S1032x512) ![8, 0] S1024x512.size inb_S1032x512_S1024x512_8_0).set := fun hm => by
    have := (Rect.mem_set_unit.1 hm (0 : Fin 2)).1
    have h' : 8 ≤ r.val := this
    have := r'.isLt
    omega
  refine (View.canon_cons_of_not_mem (Val := Elt Ideal) (e := .f32) ⟨Rect.unit (s := S1032x512) ![8, 0] S1024x512.size inb_S1032x512_S1024x512_8_0, u⟩ _ hn).trans ?_
  have e : (ix2 r k : S1032x512.Idx) = (Rect.unit (s := S1032x512) ![0, 0] S8x512.size inb_S1032x512_S8x512_0_0).emb (ix2 r' k : S8x512.Idx) :=
    funext fun a => Fin.ext (by
      match a with
      | ⟨0, _⟩ => show r.val = 0 + 1 * r'.val; omega
      | ⟨1, _⟩ => show k.val = 0 + 1 * k.val; omega)
  rw [e]
  exact View.canon_cons_emb (Val := Elt Ideal) (e := .f32) (Rect.unit (s := S1032x512) ![0, 0] S8x512.size inb_S1032x512_S8x512_0_0) p _ (ix2 r' k : S8x512.Idx)

/-- A row of the shifted tile: the tile's own row above, or one of the eight rows before. -/
theorem sh1_at (X : FVec Ideal S1032x512 .f32) (r : Fin 1024) (k : Fin 512) (r' : Fin 1032) (h : r'.val = 7 + r.val) :
    (sh1 (F := Ideal) X (ix2 r k) : EReal) = X (ix2 r' k) := by
  refine congrArg X (funext fun a => Fin.ext ?_)
  match a with
  | ⟨0, _⟩ => show 7 + 1 * r.val = r'.val; omega
  | ⟨1, _⟩ => show 0 + 1 * k.val = k.val; omega
theorem sh2_at (X : FVec Ideal S1032x512 .f32) (r : Fin 1024) (k : Fin 512) (r' : Fin 1032) (h : r'.val = 6 + r.val) :
    (sh2 (F := Ideal) X (ix2 r k) : EReal) = X (ix2 r' k) := by
  refine congrArg X (funext fun a => Fin.ext ?_)
  match a with
  | ⟨0, _⟩ => show 6 + 1 * r.val = r'.val; omega
  | ⟨1, _⟩ => show 0 + 1 * k.val = k.val; omega

/-! ## The blocks -/

variable (m : (ℓ : Loc nD τ sig) → Buf (Elt Ideal) ℓ) (ρ : Dev nD → PrngReg) (c : Dev nD)
abbrev X0 : (⟨2, ![16384, 2048]⟩ : Shape).Idx → EReal := m ((c : Thread nD τ).loc main_arg0)
abbrev N0 : (⟨1, ![2048]⟩ : Shape).Idx → EReal := m ((c : Thread nD τ).loc main_arg1)
abbrev W0 : (⟨2, ![2048, 12288]⟩ : Shape).Idx → EReal := m ((c : Thread nD τ).loc main_arg2)
abbrev C0 : (⟨2, ![3, 12288]⟩ : Shape).Idx → EReal := m ((c : Thread nD τ).loc main_arg3)
abbrev B0 : (⟨1, ![12288]⟩ : Shape).Idx → EReal := m ((c : Thread nD τ).loc main_arg4)

theorem V_v0 : (V m c main_v0 : (⟨2, ![2048, 12288]⟩ : Shape).Idx → EReal) = W0 m c := by
  unfold V
  after_reads_simp
  try rfl
theorem V_v2 (j : Fin 2048) : (V m c main_v2 : (⟨2, ![1, 2048]⟩ : Shape).Idx → EReal) (ix2 0 j) = N0 m c (ix1 j) := by
  unfold V
  after_reads_simp
  exact shapeCast_apply _ _ (ix2 (0 : Fin 1) j) (ix1 j) (by rw [Shape.rowMajor_val_one, Shape.rowMajor_val_two]; simp [ix1, ix2])
theorem V_v1 (j : Fin 12288) : (V m c main_v1 : (⟨2, ![1, 12288]⟩ : Shape).Idx → EReal) (ix2 0 j) = B0 m c (ix1 j) := by
  unfold V
  after_reads_simp
  exact shapeCast_apply _ _ (ix2 (0 : Fin 1) j) (ix1 j) (by rw [Shape.rowMajor_val_one, Shape.rowMajor_val_two]; simp [ix1, ix2])

theorem idx0 : ∀ t : Fin cfg0.N, win0_0.index t (0 : Fin 2) = t.val / 12 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = t.val % 12 := (by decide +kernel : ∀ t : Fin grid0.N, _)
theorem idx3 : ∀ t : Fin cfg0.N, win0_3.index t (0 : Fin 2) = 0 ∧ win0_3.index t (1 : Fin 2) = t.val % 12 + 12 := (by decide +kernel : ∀ t : Fin grid0.N, _)
theorem idx4 : ∀ t : Fin cfg0.N, win0_4.index t (0 : Fin 2) = 0 ∧ win0_4.index t (1 : Fin 2) = t.val % 12 := (by decide +kernel : ∀ t : Fin grid0.N, _)
theorem idx5 : ∀ t : Fin cfg0.N, win0_5.index t (0 : Fin 2) = 0 ∧ win0_5.index t (1 : Fin 2) = t.val % 12 + 12 := (by decide +kernel : ∀ t : Fin grid0.N, _)
theorem idx6 : ∀ t : Fin cfg0.N, win0_6.index t (0 : Fin 2) = 0 ∧ win0_6.index t (1 : Fin 2) = t.val % 12 := (by decide +kernel : ∀ t : Fin grid0.N, _)
theorem idx7 : ∀ t : Fin cfg0.N, win0_7.index t (0 : Fin 2) = 0 ∧ win0_7.index t (1 : Fin 2) = t.val % 12 + 12 := (by decide +kernel : ∀ t : Fin grid0.N, _)
theorem idx8 : ∀ t : Fin cfg0.N, win0_8.index t (0 : Fin 2) = t.val / 12 ∧ win0_8.index t (1 : Fin 2) = t.val % 12 := (by decide +kernel : ∀ t : Fin grid0.N, _)

theorem b0 (t : Fin cfg0.N) (r : Fin 1024) (j : Fin 2048) (p : Fin 16384) (h0 : p.val = 1024 * (t.val / 12) + r.val) :
    (iblk m c 0 t : (⟨2, ![1024, 2048]⟩ : Shape).Idx → EReal) (ix2 r j) = X0 m c (ix2 p j) := by
  obtain ⟨e0, e1⟩ := idx0 t
  show V m c main_arg0 (((cfg0.win 0).blk t).view.emb (ix2 r j)) = X0 m c (ix2 p j)
  rw [V_main_arg0]
  refine congrArg (X0 m c) (funext fun a => Fin.ext ?_)
  match a with
  | ⟨0, _⟩ => show win0_0.index t (0 : Fin 2) * 1024 + 1 * r.val = p.val; rw [e0, h0]; omega
  | ⟨1, _⟩ => show win0_0.index t (1 : Fin 2) * 2048 + 1 * j.val = j.val; rw [e1]; omega
theorem b1 (t : Fin cfg0.N) (j : Fin 2048) :
    (iblk m c 1 t : (⟨2, ![1, 2048]⟩ : Shape).Idx → EReal) (ix2 0 j) = N0 m c (ix1 j) := by
  obtain ⟨e0, e1⟩ := idx1 t
  refine Eq.trans ?_ (V_v2 m c j)
  show V m c main_v2 (((cfg0.win 1).blk t).view.emb (ix2 0 j)) = V m c main_v2 (ix2 0 j)
  refine congrArg (V m c main_v2) (funext fun a => Fin.ext ?_)
  match a with
  | ⟨0, _⟩ => show win0_1.index t (0 : Fin 2) * 1 + 1 * 0 = 0; rw [e0]
  | ⟨1, _⟩ => show win0_1.index t (1 : Fin 2) * 2048 + 1 * j.val = j.val; rw [e1]; omega
theorem b2 (t : Fin cfg0.N) (r : Fin 2048) (j : Fin 512) (p : Fin 12288) (h1 : p.val = (512 * (t.val % 12) + j.val)) :
    (iblk m c 2 t : (⟨2, ![2048, 512]⟩ : Shape).Idx → EReal) (ix2 r j) = W0 m c (ix2 r p) := by
  obtain ⟨e0, e1⟩ := idx2 t
  show V m c main_v0 (((cfg0.win 2).blk t).view.emb (ix2 r j)) = W0 m c (ix2 r p)
  refine (congrFun (V_v0 m c) _).trans ?_
  refine congrArg (W0 m c) (funext fun a => Fin.ext ?_)
  match a with
  | ⟨0, _⟩ => show win0_2.index t (0 : Fin 2) * 2048 + 1 * r.val = r.val; rw [e0]; omega
  | ⟨1, _⟩ => show win0_2.index t (1 : Fin 2) * 512 + 1 * j.val = p.val; rw [e1, h1]; omega
theorem b3 (t : Fin cfg0.N) (r : Fin 2048) (j : Fin 512) (p : Fin 12288) (h1 : p.val = 6144 + (512 * (t.val % 12) + j.val)) :
    (iblk m c 3 t : (⟨2, ![2048, 512]⟩ : Shape).Idx → EReal) (ix2 r j) = W0 m c (ix2 r p) := by
  obtain ⟨e0, e1⟩ := idx3 t
  show V m c main_v0 (((cfg0.win 3).blk t).view.emb (ix2 r j)) = W0 m c (ix2 r p)
  refine (congrFun (V_v0 m c) _).trans ?_
  refine congrArg (W0 m c) (funext fun a => Fin.ext ?_)
  match a with
  | ⟨0, _⟩ => show win0_3.index t (0 : Fin 2) * 2048 + 1 * r.val = r.val; rw [e0]; omega
  | ⟨1, _⟩ => show win0_3.index t (1 : Fin 2) * 512 + 1 * j.val = p.val; rw [e1, h1]; omega
theorem b4 (t : Fin cfg0.N) (r : Fin 3) (j : Fin 512) (p : Fin 12288) (h1 : p.val = (512 * (t.val % 12) + j.val)) :
    (iblk m c 4 t : (⟨2, ![3, 512]⟩ : Shape).Idx → EReal) (ix2 r j) = C0 m c (ix2 r p) := by
  obtain ⟨e0, e1⟩ := idx4 t
  show V m c main_arg3 (((cfg0.win 4).blk t).view.emb (ix2 r j)) = C0 m c (ix2 r p)
  rw [V_main_arg3]
  refine congrArg (C0 m c) (funext fun a => Fin.ext ?_)
  match a with
  | ⟨0, _⟩ => show win0_4.index t (0 : Fin 2) * 3 + 1 * r.val = r.val; rw [e0]; omega
  | ⟨1, _⟩ => show win0_4.index t (1 : Fin 2) * 512 + 1 * j.val = p.val; rw [e1, h1]; omega
theorem b5 (t : Fin cfg0.N) (r : Fin 3) (j : Fin 512) (p : Fin 12288) (h1 : p.val = 6144 + (512 * (t.val % 12) + j.val)) :
    (iblk m c 5 t : (⟨2, ![3, 512]⟩ : Shape).Idx → EReal) (ix2 r j) = C0 m c (ix2 r p) := by
  obtain ⟨e0, e1⟩ := idx5 t
  show V m c main_arg3 (((cfg0.win 5).blk t).view.emb (ix2 r j)) = C0 m c (ix2 r p)
  rw [V_main_arg3]
  refine congrArg (C0 m c) (funext fun a => Fin.ext ?_)
  match a with
  | ⟨0, _⟩ => show win0_5.index t (0 : Fin 2) * 3 + 1 * r.val = r.val; rw [e0]; omega
  | ⟨1, _⟩ => show win0_5.index t (1 : Fin 2) * 512 + 1 * j.val = p.val; rw [e1, h1]; omega
theorem b6 (t : Fin cfg0.N) (j : Fin 512) (p : Fin 12288) (h1 : p.val = (512 * (t.val % 12) + j.val)) :
    (iblk m c 6 t : (⟨2, ![1, 512]⟩ : Shape).Idx → EReal) (ix2 0 j) = B0 m c (ix1 p) := by
  obtain ⟨e0, e1⟩ := idx6 t
  refine Eq.trans ?_ (V_v1 m c p)
  show V m c main_v1 (((cfg0.win 6).blk t).view.emb (ix2 0 j)) = V m c main_v1 (ix2 0 p)
  refine congrArg (V m c main_v1) (funext fun a => Fin.ext ?_)
  match a with
  | ⟨0, _⟩ => show win0_6.index t (0 : Fin 2) * 1 + 1 * 0 = 0; rw [e0]
  | ⟨1, _⟩ => show win0_6.index t (1 : Fin 2) * 512 + 1 * j.val = p.val; rw [e1, h1]; omega
theorem b7 (t : Fin cfg0.N) (j : Fin 512) (p : Fin 12288) (h1 : p.val = 6144 + (512 * (t.val % 12) + j.val)) :
    (iblk m c 7 t : (⟨2, ![1, 512]⟩ : Shape).Idx → EReal) (ix2 0 j) = B0 m c (ix1 p) := by
  obtain ⟨e0, e1⟩ := idx7 t
  refine Eq.trans ?_ (V_v1 m c p)
  show V m c main_v1 (((cfg0.win 7).blk t).view.emb (ix2 0 j)) = V m c main_v1 (ix2 0 p)
  refine congrArg (V m c main_v1) (funext fun a => Fin.ext ?_)
  match a with
  | ⟨0, _⟩ => show win0_7.index t (0 : Fin 2) * 1 + 1 * 0 = 0; rw [e0]
  | ⟨1, _⟩ => show win0_7.index t (1 : Fin 2) * 512 + 1 * j.val = p.val; rw [e1, h1]; omega

abbrev bl0 (t : Fin cfg0.N) : FVec Ideal S1024x2048 .f32 := iblk m c 0 t
abbrev bl1 (t : Fin cfg0.N) : FVec Ideal S1x2048 .f32 := iblk m c 1 t
abbrev bl2 (t : Fin cfg0.N) : FVec Ideal S2048x512 .bf16 := iblk m c 2 t
abbrev bl3 (t : Fin cfg0.N) : FVec Ideal S2048x512 .bf16 := iblk m c 3 t
abbrev bl4 (t : Fin cfg0.N) : FVec Ideal S3x512 .f32 := iblk m c 4 t
abbrev bl5 (t : Fin cfg0.N) : FVec Ideal S3x512 .f32 := iblk m c 5 t
abbrev bl6 (t : Fin cfg0.N) : FVec Ideal S1x512 .f32 := iblk m c 6 t
abbrev bl7 (t : Fin cfg0.N) : FVec Ideal S1x512 .f32 := iblk m c 7 t
abbrev hA (t : Fin cfg0.N) : FVec Ideal S1024x2048 .bf16 := hAt m c t

/-! ## The values at a point -/

/-- The normalised rows of a point's row tile. -/
theorem h_eq (t : Fin cfg0.N) (r : Fin 1024) (q : Fin 2048) (p : Fin 16384) (h0 : p.val = 1024 * (t.val / 12) + r.val) :
    (hA m c t (ix2 r q) : EReal) = nrm (X0 m c) (N0 m c) p q := by
  have hr : (row0 t).val / 12 = t.val / 12 := by show 12 * (t.val / 12) / 12 = t.val / 12; omega
  have e0 : (fun k : Fin 2048 => (bl0 m c (row0 t) (ix2 r k) : EReal)) = fun k => X0 m c (ix2 p k) := funext fun k => b0 m c (row0 t) r k p (by rw [hr]; exact h0)
  have e1 : (fun k : Fin 2048 => (bl1 m c (row0 t) (ix2 0 k) : EReal)) = fun k => N0 m c (ix1 k) := funext fun k => b1 m c (row0 t) k
  refine (pay2_at (bl0 m c (row0 t)) (bl1 m c (row0 t)) r q).trans ?_
  rw [e0, e1]
  rfl

/-- A row of the product, read from the blocks. -/
theorem dot_eq (W : FVec Ideal S2048x512 .bf16) (t : Fin cfg0.N) (r : Fin 1024) (j : Fin 512) (p : Fin 16384) (q : Fin 12288)
    (h0 : p.val = 1024 * (t.val / 12) + r.val) (hW : ∀ k, (W (ix2 k j) : EReal) = W0 m c (ix2 k q)) :
    (∑ k, (hA m c t (ix2 r k) : EReal) * W (ix2 k j)) = U (X0 m c) (N0 m c) (W0 m c) p q :=
  Finset.sum_congr rfl fun k _ => congrArg₂ (fun a b : EReal => a * b) (h_eq m c t r k p h0) (hW k)

/-- The eight rows before a point's tile, as the body reads them: zeros at the start of a sequence. -/
def before (blk : Fin cfg0.N → FVec Ideal S2048x512 .bf16) (t : Fin cfg0.N) : FVec Ideal S8x512 .f32 :=
  if t.val / 12 % 8 = 0 then k0_pay4 (F := Ideal) else k0_pay5 (F := Ideal) (k0_pay7 (F := Ideal) (hA m c (prev t)) (blk (prev t)))

theorem pg_eq (t : Fin cfg0.N) : pgAt m c t = before m c (bl2 m c) t := rfl
theorem pv_eq (t : Fin cfg0.N) : pvAt m c t = before m c (bl3 m c) t := rfl

/-- They are the rows before the tile of the whole product, shifted within its sequence. -/
theorem before_at (blk : Fin cfg0.N → FVec Ideal S2048x512 .bf16) (t : Fin cfg0.N) (i : Fin 8) (j : Fin 512) (q : Fin 12288) (s : ℕ) (p : Fin 16384)
    (hb : ∀ t' : Fin cfg0.N, t'.val % 12 = t.val % 12 → ∀ k, (blk t' (ix2 k j) : EReal) = W0 m c (ix2 k q))
    (h : p.val + 8 = 1024 * (t.val / 12) + i.val + s) (hs : p.val < 1024 * (t.val / 12) + s) (hp : 1024 * (t.val / 12) ≤ p.val) (hs8 : s ≤ 8) :
    (before m c blk t (ix2 i j) : EReal) = shift s (U (X0 m c) (N0 m c) (W0 m c)) p q := by
  have htl : t.val < 192 := t.isLt
  unfold before shift
  by_cases hF : t.val / 12 % 8 = 0
  · rw [if_pos hF, if_neg (by omega)]
    exact pay4_at i j
  · rw [if_neg hF, if_pos (by omega)]
    have hi := i.isLt
    have h12 : (prev t).val = t.val - 12 := rfl
    refine (pay57_at (hA m c (prev t)) (blk (prev t)) i j ⟨1016 + i.val, by omega⟩ rfl).trans ?_
    exact dot_eq m c (blk (prev t)) (prev t) ⟨1016 + i.val, by omega⟩ j ⟨p.val - s, by omega⟩ q (by show p.val - s = 1024 * ((prev t).val / 12) + (1016 + i.val); rw [h12]; omega)
      (hb (prev t) (by rw [h12]; omega))

/-- The tile with the rows before it, read one or two rows up, is the whole product shifted. -/
theorem UB_at (blk : Fin cfg0.N → FVec Ideal S2048x512 .bf16) (t : Fin cfg0.N) (r : Fin 1024) (j : Fin 512) (q : Fin 12288) (s : ℕ) (p : Fin 16384) (x : Fin 1032)
    (hb : ∀ t' : Fin cfg0.N, t'.val % 12 = t.val % 12 → ∀ k, (blk t' (ix2 k j) : EReal) = W0 m c (ix2 k q))
    (hp : p.val = 1024 * (t.val / 12) + r.val) (hx : x.val + s = 8 + r.val) (hs8 : s ≤ 8) :
    (UB (F := Ideal) (before m c blk t) (k0_pay6 (F := Ideal) (hA m c t) (blk t)) (ix2 x j) : EReal) = shift s (U (X0 m c) (N0 m c) (W0 m c)) p q := by
  have hr := r.isLt
  by_cases h : s ≤ r.val
  · rw [UB_ge _ _ x ⟨r.val - s, by omega⟩ j (by show x.val = 8 + (r.val - s); omega)]
    refine (pay6_at _ _ _ _).trans ?_
    unfold shift
    rw [if_pos (by omega)]
    exact dot_eq m c (blk t) t ⟨r.val - s, by omega⟩ j ⟨p.val - s, by omega⟩ q (by show p.val - s = 1024 * (t.val / 12) + (r.val - s); omega) (hb t rfl)
  · rw [UB_lt _ _ x ⟨x.val, by omega⟩ j rfl]
    exact before_at m c blk t ⟨x.val, by omega⟩ j q s p hb (by show p.val + 8 = 1024 * (t.val / 12) + x.val + s; omega) (by omega) (by omega) hs8

/-- The whole convolution's entry, from the tile's. -/
theorem conv_at (blk : Fin cfg0.N → FVec Ideal S2048x512 .bf16) (t : Fin cfg0.N) (r : Fin 1024) (j : Fin 512) (q : Fin 12288) (p : Fin 16384)
    (x : FVec Ideal S3x512 .f32) (b : FVec Ideal S1x512 .f32)
    (hb : ∀ t' : Fin cfg0.N, t'.val % 12 = t.val % 12 → ∀ k, (blk t' (ix2 k j) : EReal) = W0 m c (ix2 k q))
    (hx : ∀ a, (x (ix2 a j) : EReal) = C0 m c (ix2 a q)) (hbb : (b (ix2 0 j) : EReal) = B0 m c (ix1 q)) (hp : p.val = 1024 * (t.val / 12) + r.val) :
    (tap (x (ix2 0 j)) (x (ix2 1 j)) (x (ix2 2 j)) (b (ix2 0 j)) (k0_pay3 (F := Ideal) (hA m c t) (blk t) (ix2 r j))
      (sh1 (F := Ideal) (UB (F := Ideal) (before m c blk t) (k0_pay6 (F := Ideal) (hA m c t) (blk t))) (ix2 r j))
      (sh2 (F := Ideal) (UB (F := Ideal) (before m c blk t) (k0_pay6 (F := Ideal) (hA m c t) (blk t))) (ix2 r j)) : EReal)
      = conv (U (X0 m c) (N0 m c) (W0 m c)) (C0 m c) (B0 m c) p q := by
  have hr := r.isLt
  have eu : (k0_pay3 (F := Ideal) (hA m c t) (blk t) (ix2 r j) : EReal) = U (X0 m c) (N0 m c) (W0 m c) p q :=
    (pay3_at _ _ r j).trans (dot_eq m c (blk t) t r j p q hp (hb t rfl))
  have e1 := (sh1_at (UB (F := Ideal) (before m c blk t) (k0_pay6 (F := Ideal) (hA m c t) (blk t))) r j ⟨7 + r.val, by omega⟩ rfl).trans
    (UB_at m c blk t r j q 1 p ⟨7 + r.val, by omega⟩ hb hp (by show 7 + r.val + 1 = 8 + r.val; omega) (by omega))
  have e2 := (sh2_at (UB (F := Ideal) (before m c blk t) (k0_pay6 (F := Ideal) (hA m c t) (blk t))) r j ⟨6 + r.val, by omega⟩ rfl).trans
    (UB_at m c blk t r j q 2 p ⟨6 + r.val, by omega⟩ hb hp (by show 6 + r.val + 2 = 8 + r.val; omega) (by omega))
  unfold conv
  rw [hx 0, hx 1, hx 2, hbb, eu, e1, e2]

/-- What a point stores is its block of the specification. -/
theorem out_pt (t : Fin cfg0.N) (r : Fin 1024) (j : Fin 512) (i : (⟨2, ![16384, 6144]⟩ : Shape).Idx) (h0 : (i 0).val = 1024 * (t.val / 12) + r.val)
    (h1 : (i 1).val = 512 * (t.val % 12) + j.val) :
    (outAt m c t : (⟨2, ![1024, 512]⟩ : Shape).Idx → EReal) (ix2 r j) = spec (X0 m c) (N0 m c) (W0 m c) (C0 m c) (B0 m c) i := by
  have hG := conv_at m c (bl2 m c) t r j ⟨(i 1).val, Nat.lt_of_lt_of_le (i 1).isLt (by decide)⟩ (i 0) (bl4 m c t) (bl6 m c t)
    (fun t' ht k => b2 m c t' k j _ (by rw [ht]; exact h1)) (fun a => b4 m c t a j _ h1) (b6 m c t j _ h1) h0
  have hV := conv_at m c (bl3 m c) t r j ⟨6144 + (i 1).val, Nat.add_lt_add_left (i 1).isLt 6144⟩ (i 0) (bl5 m c t) (bl7 m c t)
    (fun t' ht k => b3 m c t' k j _ (by rw [ht]; exact congrArg (6144 + ·) h1)) (fun a => b5 m c t a j _ (congrArg (6144 + ·) h1)) (b7 m c t j _ (congrArg (6144 + ·) h1)) h0
  unfold outAt outv
  rw [pg_eq, pv_eq]
  refine (pay1_at _ _ _ _ _ _ r j).trans ?_
  exact congrArg₂ (fun a b : EReal => a * b) (congrArg gel ((pay8_at _ _ _ _ _ r j).trans hG)) hV

/-! ## The result array -/

theorem flushed_eq (t : Fin cfg0.N) (hf : (cfg0.win 8).flush t = true) :
    (dats m 0 c).flushed 8 t = ((cfg0.win 8).blk t).view.read (Elt Ideal) (spec (X0 m c) (N0 m c) (W0 m c) (C0 m c) (B0 m c)) := by
  have hN := N_0
  have htl : t.val < 192 := t.isLt
  show (cfg0.win 8).cut (grid0.coords t) ((dats m 0 c).after 8 t) = _
  rw [after0_8]
  obtain ⟨f0, f1⟩ := idx8 t
  funext y
  have y0 : (y 0).val < 1024 := (y 0).isLt
  have y1 : (y 1).val < 512 := (y 1).isLt
  let i : (⟨2, ![16384, 6144]⟩ : Shape).Idx := ix2 ⟨1024 * (t.val / 12) + (y 0).val, by omega⟩ ⟨512 * (t.val % 12) + (y 1).val, by omega⟩
  have hemb : ((cfg0.win 8).blk t).view.emb y = i := funext fun a => Fin.ext (by
    match a with
    | ⟨0, _⟩ => show win0_8.index t (0 : Fin 2) * 1024 + 1 * (y 0).val = 1024 * (t.val / 12) + (y 0).val; omega
    | ⟨1, _⟩ => show win0_8.index t (1 : Fin 2) * 512 + 1 * (y 1).val = 512 * (t.val % 12) + (y 1).val; omega)
  show (outAt m c t : (⟨2, ![1024, 512]⟩ : Shape).Idx → EReal) y = spec (X0 m c) (N0 m c) (W0 m c) (C0 m c) (B0 m c) (((cfg0.win 8).blk t).view.emb y)
  rw [hemb]
  have hy : (y : (⟨2, ![1024, 512]⟩ : Shape).Idx) = ix2 ⟨(y 0).val, y0⟩ ⟨(y 1).val, y1⟩ := funext fun a => by
    match a with
    | ⟨0, _⟩ => rfl
    | ⟨1, _⟩ => rfl
  refine (congrArg (outAt m c t : (⟨2, ![1024, 512]⟩ : Shape).Idx → EReal) hy).trans ?_
  exact out_pt m c t ⟨(y 0).val, y0⟩ ⟨(y 1).val, y1⟩ i rfl rfl

/-- Every point stores its block. -/
theorem flush8 : ∀ t : Fin cfg0.N, (cfg0.win 8).flush t = true := (by decide +kernel : ∀ t : Fin grid0.N, win0_8.flush t = true)

/-- The kernel's result array. -/
theorem final_eq : (dats m 0 c).arrAt 8 cfg0.N = spec (X0 m c) (N0 m c) (W0 m c) (C0 m c) (B0 m c) :=
  (dats m 0 c).arrAt_eq_of_cover 8 (spec (X0 m c) (N0 m c) (W0 m c) (C0 m c) (B0 m c)) (flushed_eq m c) fun i => by
    have h0 : (i 0 : Nat) < 16384 := (i 0).isLt
    have h1 : (i 1 : Nat) < 6144 := (i 1).isLt
    have hN : cfg0.N = 192 := N_0
    let t : Fin cfg0.N := ⟨12 * ((i 0 : Nat) / 1024) + (i 1 : Nat) / 512, by omega⟩
    have tv : t.val = 12 * ((i 0 : Nat) / 1024) + (i 1 : Nat) / 512 := rfl
    refine ⟨t, flush8 t, ?_⟩
    obtain ⟨e0, e1⟩ := idx8 t
    show i ∈ ((View.whole main_v3).slice (win0_8.rect t)).set
    rw [View.set_slice_whole, Rect.mem_set_unit]
    intro a
    match a with
    | ⟨0, _⟩ => show win0_8.index t (0 : Fin 2) * 1024 ≤ (i 0 : Nat) ∧ (i 0 : Nat) < win0_8.index t (0 : Fin 2) * 1024 + 1024
                rw [e0]; omega
    | ⟨1, _⟩ => show win0_8.index t (1 : Fin 2) * 512 ≤ (i 1 : Nat) ∧ (i 1 : Nat) < win0_8.index t (1 : Fin 2) * 512 + 512
                rw [e1]; omega

/-- The run ends with the result at the specification's array and the arguments unchanged. -/
theorem run_spec : θ_run defs (onTc (τ := τ) (main (F := Ideal))) ⟨m, fun _ => 0, ρ⟩ fun r => ∀ c : Dev nD,
      r.2.mem ((c.tc : Thread nD τ).loc main_v3) = spec (X0 m c) (N0 m c) (W0 m c) (C0 m c) (B0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 8).trans (final_eq m c), h.2 c⟩) (θ_run_and (run_main m ρ) (unchanged m ρ))

end Cert.FfnUpVal
-- ==== Proof.ResSum.lean ====
module

public import Idealize.ShloMosaic.Lib.Pointwise

/-! The sum of a matrix product's row by column, term by term over the natural numbers. -/

@[expose] public section

noncomputable section
namespace Cert.ResSum
open Idealize.ShloMosaic Idealize.ShloMosaic.Tactic

/-- The term of index `q` of row `r` times column `c`; zero past the last. -/
def term {R K C : ℕ} (A : (⟨2, ![R, K]⟩ : Shape).Idx → EReal) (W : (⟨2, ![K, C]⟩ : Shape).Idx → EReal) (r : Fin R) (c : Fin C) (q : ℕ) : EReal :=
  if h : q < K then A (ix2 r ⟨q, h⟩) * W (ix2 ⟨q, h⟩ c) else 0

theorem term_of_lt {R K C : ℕ} (A : (⟨2, ![R, K]⟩ : Shape).Idx → EReal) (W : (⟨2, ![K, C]⟩ : Shape).Idx → EReal) (r : Fin R) (c : Fin C) {q : ℕ} (h : q < K) :
    term A W r c q = A (ix2 r ⟨q, h⟩) * W (ix2 ⟨q, h⟩ c) := dif_pos h

/-- All terms together are the row times the column. -/
theorem sum_term {R K C : ℕ} (A : (⟨2, ![R, K]⟩ : Shape).Idx → EReal) (W : (⟨2, ![K, C]⟩ : Shape).Idx → EReal) (r : Fin R) (c : Fin C) :
    ∑ q ∈ Finset.range K, term A W r c q = ∑ q : Fin K, A (ix2 r q) * W (ix2 q c) := by
  rw [Finset.sum_range]
  exact Finset.sum_congr rfl fun q _ => term_of_lt A W r c q.isLt
end Cert.ResSum
-- ==== Proof.FfnDownVal.lean ====
module

public import proofs.«01_k».proof.Proof.Gen.FfnDownIdeal.Value
public import proofs.«01_k».proof.Proof.Gen.FfnDownRefIdeal.Run
public import proofs.«01_k».proof.Proof.ResSum
public import Idealize.ShloMosaic.Lib.StableHlo.ReadAt

/-! The product with 6144 inner terms that is added to the residual stream: the kernel's result array, summed over
    blocks of 1024 inner terms, is the residual plus the whole product. -/

@[expose] public section

set_option maxRecDepth 16384
noncomputable section
namespace Cert.FfnDownVal
open Idealize.ShloMosaic Idealize.ShloMosaic.TcCoe Idealize.ShloMosaic.Tactic Idealize.ShloMosaic.StableHlo Idealize.SL.Sem
open Cert.FfnDownIdeal Cert.FfnDownIdeal.Gen Cert.ResSum

theorem hz : (![0, 0] : Fin 2 → Nat) = fun _ => 0 := funext fun a => by fin_cases a <;> rfl

/-- One block's product. -/
theorem pay2_at (a : FVec Ideal S1024x1024 .bf16) (w : FVec Ideal S1024x1024 .bf16) (x : FVec Ideal S1024x1024 .f32) (i j : Fin 1024) :
    (k0_pay2 (F := Ideal) a w x (ix2 i j) : EReal) = x (ix2 i j) + ∑ l, a (ix2 i l) * w (ix2 l j) := by pointwise [k0_pay2, k0_pay1]
theorem pay3_at (a : FVec Ideal S1024x1024 .bf16) (w : FVec Ideal S1024x1024 .bf16) (x : FVec Ideal S1024x1024 .f32) (i j : Fin 1024) :
    (k0_pay3 (F := Ideal) a w x (ix2 i j) : EReal) = x (ix2 i j) + ∑ l, a (ix2 i l) * w (ix2 l j) := by pointwise [k0_pay3, k0_pay1]

/-- What the first point of a block leaves. -/
theorem out_A (c : Dev nD) (i : grid0.Coords) (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole) (hc0 : cond0_0 i) (hc1 : ¬cond0_1 i)
    (x0 x1 : Vec Ideal S1024x1024 .bf16) (x2 : Vec Ideal S1024x1024 .f32) :
    out0_A_3 (F := Ideal) c i a3 h3 a4 h4 a5 h5 a6 h6 hc0 hc1 x0 x1 x2 = k0_pay2 x0 x1 x2 := by
  unfold out0_A_3
  rw [View.read_writes_eq_canon _ _ _ (cover0_A_3 (F := Ideal) c i a3 h3 a4 h4 a5 h5 a6 h6 hc0 hc1 x0 x1 x2)]
  unfold kernelRun0_A
  dsimp only
  rw [View.canon_unit_zero hz]
  simp only [View.readAt_eq_ld, h3.read_unread, h4.read_unread, h5.read_unread, View.ld_unit_zero (S := S1024x1024) hz]

/-- What a later point leaves, over what the point before left. -/
theorem out_B (c : Dev nD) (i : grid0.Coords) (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole) (hc0 : ¬cond0_0 i) (hc1 : cond0_1 i)
    (x0 x1 : Vec Ideal S1024x1024 .bf16) (x2 xo : Vec Ideal S1024x1024 .f32) :
    out0_B_3 (F := Ideal) c i a3 h3 a4 h4 a5 h5 a6 h6 hc0 hc1 x0 x1 x2 xo = k0_pay3 x0 x1 xo := by
  unfold out0_B_3
  rw [View.read_writes_eq_canon _ _ _ (cover0_B_3 (F := Ideal) c i a3 h3 a4 h4 a5 h5 a6 h6 hc0 hc1 x0 x1 x2 xo)]
  unfold kernelRun0_B
  dsimp only
  rw [View.canon_unit_zero hz]
  simp only [View.readAt_eq_ld, h3.read_unread, h4.read_unread, h6.read_unread, View.ld_unit_zero (S := S1024x1024) hz]

variable (m : (ℓ : Loc nD τ sig) → Buf (Elt Ideal) ℓ) (c : Dev nD)
abbrev A0 : (⟨2, ![16384, 6144]⟩ : Shape).Idx → EReal := m ((c : Thread nD τ).loc main_arg0)
abbrev W0 : (⟨2, ![6144, 2048]⟩ : Shape).Idx → EReal := m ((c : Thread nD τ).loc main_arg1)
abbrev X0 : (⟨2, ![16384, 2048]⟩ : Shape).Idx → EReal := m ((c : Thread nD τ).loc main_arg2)

theorem V_v0 : (V m c main_v0 : (⟨2, ![6144, 2048]⟩ : Shape).Idx → EReal) = W0 m c := by
  unfold V
  after_reads_simp
  try rfl

theorem NN : cfg0.N = 192 := N_0
theorem ix0 : ∀ t : Fin cfg0.N, win0_0.index t (0 : Fin 2) = t.val / 12 ∧ win0_0.index t (1 : Fin 2) = t.val % 6 := (by decide +kernel : ∀ t : Fin grid0.N, _)
theorem ix1' : ∀ t : Fin cfg0.N, win0_1.index t (0 : Fin 2) = t.val % 6 ∧ win0_1.index t (1 : Fin 2) = t.val / 6 % 2 := (by decide +kernel : ∀ t : Fin grid0.N, _)
theorem ix2' : ∀ t : Fin cfg0.N, win0_2.index t (0 : Fin 2) = t.val / 12 ∧ win0_2.index t (1 : Fin 2) = t.val / 6 % 2 := (by decide +kernel : ∀ t : Fin grid0.N, _)
theorem ix3' : ∀ t : Fin cfg0.N, win0_3.index t (0 : Fin 2) = t.val / 12 ∧ win0_3.index t (1 : Fin 2) = t.val / 6 % 2 := (by decide +kernel : ∀ t : Fin grid0.N, _)

theorem b0 (t : Fin cfg0.N) (r j : Fin 1024) (i : (⟨2, ![16384, 6144]⟩ : Shape).Idx) (h0 : (i 0).val = 1024 * (t.val / 12) + r.val) (h1 : (i 1).val = 1024 * (t.val % 6) + j.val) :
    (iblk m c 0 t : (⟨2, ![1024, 1024]⟩ : Shape).Idx → EReal) (ix2 r j) = A0 m c i := by
  obtain ⟨e0, e1⟩ := ix0 t
  show V m c main_arg0 (((cfg0.win 0).blk t).view.emb (ix2 r j)) = A0 m c i
  rw [V_main_arg0]
  refine congrArg (A0 m c) (funext fun a => Fin.ext ?_)
  match a with
  | ⟨0, _⟩ => show win0_0.index t (0 : Fin 2) * 1024 + 1 * r.val = (i 0).val; rw [e0, h0]; omega
  | ⟨1, _⟩ => show win0_0.index t (1 : Fin 2) * 1024 + 1 * j.val = (i 1).val; rw [e1, h1]; omega
theorem b1 (t : Fin cfg0.N) (r j : Fin 1024) (i : (⟨2, ![6144, 2048]⟩ : Shape).Idx) (h0 : (i 0).val = 1024 * (t.val % 6) + r.val) (h1 : (i 1).val = 1024 * (t.val / 6 % 2) + j.val) :
    (iblk m c 1 t : (⟨2, ![1024, 1024]⟩ : Shape).Idx → EReal) (ix2 r j) = W0 m c i := by
  obtain ⟨e0, e1⟩ := ix1' t
  show V m c main_v0 (((cfg0.win 1).blk t).view.emb (ix2 r j)) = W0 m c i
  refine (congrFun (V_v0 m c) _).trans ?_
  refine congrArg (W0 m c) (funext fun a => Fin.ext ?_)
  match a with
  | ⟨0, _⟩ => show win0_1.index t (0 : Fin 2) * 1024 + 1 * r.val = (i 0).val; rw [e0, h0]; omega
  | ⟨1, _⟩ => show win0_1.index t (1 : Fin 2) * 1024 + 1 * j.val = (i 1).val; rw [e1, h1]; omega
theorem b2 (t : Fin cfg0.N) (r j : Fin 1024) (i : (⟨2, ![16384, 2048]⟩ : Shape).Idx) (h0 : (i 0).val = 1024 * (t.val / 12) + r.val) (h1 : (i 1).val = 1024 * (t.val / 6 % 2) + j.val) :
    (iblk m c 2 t : (⟨2, ![1024, 1024]⟩ : Shape).Idx → EReal) (ix2 r j) = X0 m c i := by
  obtain ⟨e0, e1⟩ := ix2' t
  show V m c main_arg2 (((cfg0.win 2).blk t).view.emb (ix2 r j)) = X0 m c i
  rw [V_main_arg2]
  refine congrArg (X0 m c) (funext fun a => Fin.ext ?_)
  match a with
  | ⟨0, _⟩ => show win0_2.index t (0 : Fin 2) * 1024 + 1 * r.val = (i 0).val; rw [e0, h0]; omega
  | ⟨1, _⟩ => show win0_2.index t (1 : Fin 2) * 1024 + 1 * j.val = (i 1).val; rw [e1, h1]; omega

abbrev bl0 (t : Fin cfg0.N) : FVec Ideal S1024x1024 .bf16 := iblk m c 0 t
abbrev bl1 (t : Fin cfg0.N) : FVec Ideal S1024x1024 .bf16 := iblk m c 1 t

/-- One point's block product is a stretch of the whole product's sum. -/
theorem d_eq (t : Fin cfg0.N) (r j : Fin 1024) (i : (⟨2, ![16384, 2048]⟩ : Shape).Idx) (h0 : (i 0).val = 1024 * (t.val / 12) + r.val) (h1 : (i 1).val = 1024 * (t.val / 6 % 2) + j.val) :
    (∑ l : Fin 1024, (bl0 m c t (ix2 r l) : EReal) * (bl1 m c t (ix2 l j) : EReal))
      = ∑ q ∈ Finset.range 1024, term (A0 m c) (W0 m c) (i 0) (i 1) (1024 * (t.val % 6) + q) := by
  rw [Finset.sum_range]
  refine Finset.sum_congr rfl fun l _ => ?_
  have hl : 1024 * (t.val % 6) + l.val < 6144 := by have := l.isLt; omega
  refine Eq.trans ?_ (term_of_lt _ _ _ _ hl).symm
  exact congrArg₂ (fun a b : EReal => a * b) (b0 m c t r l (ix2 (i 0) ⟨_, hl⟩) h0 rfl) (b1 m c t l j (ix2 ⟨_, hl⟩ (i 1)) rfl h1)

/-- What every point leaves in the output block: the residual plus the sum over the inner terms so far. -/
theorem after_pt : ∀ n (hn : n < cfg0.N) (r j : Fin 1024) (i : (⟨2, ![16384, 2048]⟩ : Shape).Idx), (i 0).val = 1024 * (n / 12) + r.val → (i 1).val = 1024 * (n / 6 % 2) + j.val →
    (outsAt0 m c n hn : (⟨2, ![1024, 1024]⟩ : Shape).Idx → EReal) (ix2 r j) = X0 m c i + ∑ q ∈ Finset.range (1024 * (n % 6 + 1)), term (A0 m c) (W0 m c) (i 0) (i 1) q := by
  intro n
  have N := NN
  induction n with
  | zero =>
    intro hn r j i h0 h1
    rw [outsAt0_A m c ⟨0, hn⟩ (by rfl) (by intro h; dsimp only at h; omega), out_A]
    refine (pay2_at _ _ _ r j).trans ?_
    refine (congrArg₂ (fun a b : EReal => a + b) (b2 m c ⟨0, hn⟩ r j i h0 h1) (d_eq m c ⟨0, hn⟩ r j i h0 h1)).trans ?_
    simp
  | succ n ih =>
    intro hn r j i h0 h1
    by_cases hk : (n + 1) % 6 = 0
    · rw [outsAt0_A m c ⟨n + 1, hn⟩ hk (by intro h; dsimp only at h; omega), out_A]
      refine (pay2_at _ _ _ r j).trans ?_
      refine (congrArg₂ (fun a b : EReal => a + b) (b2 m c ⟨n + 1, hn⟩ r j i h0 h1) (d_eq m c ⟨n + 1, hn⟩ r j i h0 h1)).trans ?_
      simp only [hk, Nat.mul_zero, Nat.zero_add, Nat.mul_one]
    · rw [outsAt0_B m c ⟨n + 1, hn⟩ hk (by show _; dsimp only; omega), out_B]
      refine (pay3_at _ _ _ r j).trans ?_
      have e := ih (by omega) r j i (by rw [h0]; congr 2; omega) (by rw [h1]; congr 2; omega)
      refine (congrArg₂ (fun a b : EReal => a + b) e (d_eq m c ⟨n + 1, hn⟩ r j i h0 h1)).trans ?_
      rw [show 1024 * ((n + 1) % 6 + 1) = 1024 * (n % 6 + 1) + 1024 by omega, Finset.sum_range_add, ← add_assoc]
      have e2 : 1024 * ((n + 1) % 6) = 1024 * (n % 6 + 1) := by omega
      simp only [e2]

/-- The residual plus the whole product. -/
def res (A : (⟨2, ![16384, 6144]⟩ : Shape).Idx → EReal) (W : (⟨2, ![6144, 2048]⟩ : Shape).Idx → EReal) (X : (⟨2, ![16384, 2048]⟩ : Shape).Idx → EReal) :
    (⟨2, ![16384, 2048]⟩ : Shape).Idx → EReal := fun i => X i + ∑ q : Fin 6144, A (ix2 (i 0) q) * W (ix2 q (i 1))

theorem flushed_eq (t : Fin cfg0.N) (hf : (cfg0.win 3).flush t = true) :
    (dats m 0 c).flushed 3 t = ((cfg0.win 3).blk t).view.read (Elt Ideal) (res (A0 m c) (W0 m c) (X0 m c)) := by
  have ht : t.val % 6 = 5 := (flush0_3 t).mp hf
  have hN := NN
  have htl := t.isLt
  rw [Value.flushed3]
  obtain ⟨e0, e1⟩ := ix3' t
  funext y
  have y0 : (y 0).val < 1024 := (y 0).isLt
  have y1 : (y 1).val < 1024 := (y 1).isLt
  let i : (⟨2, ![16384, 2048]⟩ : Shape).Idx := ix2 ⟨1024 * (t.val / 12) + (y 0).val, by omega⟩ ⟨1024 * (t.val / 6 % 2) + (y 1).val, by omega⟩
  have hemb : ((cfg0.win 3).blk t).view.emb y = i := funext fun a => Fin.ext (by
    match a with
    | ⟨0, _⟩ => show win0_3.index t (0 : Fin 2) * 1024 + 1 * (y 0).val = 1024 * (t.val / 12) + (y 0).val; rw [e0]; omega
    | ⟨1, _⟩ => show win0_3.index t (1 : Fin 2) * 1024 + 1 * (y 1).val = 1024 * (t.val / 6 % 2) + (y 1).val; rw [e1]; omega)
  show (outsAt0 m c t.val t.isLt : (⟨2, ![1024, 1024]⟩ : Shape).Idx → EReal) y = res (A0 m c) (W0 m c) (X0 m c) (((cfg0.win 3).blk t).view.emb y)
  rw [hemb]
  have hy : (y : (⟨2, ![1024, 1024]⟩ : Shape).Idx) = ix2 ⟨(y 0).val, y0⟩ ⟨(y 1).val, y1⟩ := funext fun a => by
    match a with
    | ⟨0, _⟩ => rfl
    | ⟨1, _⟩ => rfl
  refine (congrArg (outsAt0 m c t.val t.isLt : (⟨2, ![1024, 1024]⟩ : Shape).Idx → EReal) hy).trans ?_
  refine (after_pt m c t.val t.isLt ⟨(y 0).val, y0⟩ ⟨(y 1).val, y1⟩ i rfl rfl).trans ?_
  rw [ht]
  exact congrArg (fun z : EReal => X0 m c i + z) (sum_term (A0 m c) (W0 m c) (i 0) (i 1))

/-- The kernel's result array. -/
theorem final_eq : (dats m 0 c).arrAt 3 cfg0.N = res (A0 m c) (W0 m c) (X0 m c) :=
  (dats m 0 c).arrAt_eq_of_cover 3 (res (A0 m c) (W0 m c) (X0 m c)) (flushed_eq m c) fun i => by
    have h0 : (i 0 : Nat) < 16384 := (i 0).isLt
    have h1 : (i 1 : Nat) < 2048 := (i 1).isLt
    have hN := NN
    let t : Fin cfg0.N := ⟨12 * ((i 0 : Nat) / 1024) + 6 * ((i 1 : Nat) / 1024) + 5, by omega⟩
    have tv : t.val = 12 * ((i 0 : Nat) / 1024) + 6 * ((i 1 : Nat) / 1024) + 5 := rfl
    refine ⟨t, (flush0_3 t).mpr (by omega), ?_⟩
    obtain ⟨e0, e1⟩ := ix3' t
    show i ∈ ((View.whole main_v1).slice (win0_3.rect t)).set
    rw [View.set_slice_whole, Rect.mem_set_unit]
    intro a
    match a with
    | ⟨0, _⟩ => show win0_3.index t (0 : Fin 2) * 1024 ≤ (i 0 : Nat) ∧ (i 0 : Nat) < win0_3.index t (0 : Fin 2) * 1024 + 1024
                rw [e0]; omega
    | ⟨1, _⟩ => show win0_3.index t (1 : Fin 2) * 1024 ≤ (i 1 : Nat) ∧ (i 1 : Nat) < win0_3.index t (1 : Fin 2) * 1024 + 1024
                rw [e1]; omega

/-- The reference's term. -/
theorem ref_eq (a : FVec Ideal Cert.FfnDownRefIdeal.S16384x6144 .bf16) (w : FVec Ideal Cert.FfnDownRefIdeal.S6144x2048 .f32) (x : FVec Ideal Cert.FfnDownRefIdeal.S16384x2048 .f32) :
    addf x (Host.dotGeneral Cert.FfnDownRefIdeal.dot_S16384x6144_S6144x2048_S16384x2048_1_0_0_1_n_n none (extf .f32 a bitsLt_bf16_f32) w) = res a w x := by
  funext i
  have hi : i = ix2 (i 0) (i 1) := funext fun a => by
    match a with
    | ⟨0, _⟩ => rfl
    | ⟨1, _⟩ => rfl
  rw [hi]
  show (_ : EReal) = x (ix2 (i 0) (i 1)) + ∑ q : Fin 6144, a (ix2 (i 0) q) * w (ix2 q (i 1))
  generalize i 0 = p
  generalize i 1 = q
  pointwise []
end Cert.FfnDownVal
-- ==== Proof.MixOutVal.lean ====
module

public import proofs.«01_k».proof.Proof.Gen.MixOutIdeal.Value
public import proofs.«01_k».proof.Proof.Gen.MixOutRefIdeal.Run
public import proofs.«01_k».proof.Proof.ResSum
public import Idealize.ShloMosaic.Lib.StableHlo.ReadAt

/-! The product with 2048 inner terms that is added to the residual stream: the kernel's result array, summed over
    blocks of 1024 inner terms, is the residual plus the whole product. -/

@[expose] public section

set_option maxRecDepth 16384
noncomputable section
namespace Cert.MixOutVal
open Idealize.ShloMosaic Idealize.ShloMosaic.TcCoe Idealize.ShloMosaic.Tactic Idealize.ShloMosaic.StableHlo Idealize.SL.Sem
open Cert.MixOutIdeal Cert.MixOutIdeal.Gen Cert.ResSum

theorem hz : (![0, 0] : Fin 2 → Nat) = fun _ => 0 := funext fun a => by fin_cases a <;> rfl

/-- One block's product. -/
theorem pay2_at (a : FVec Ideal S1024x1024 .bf16) (w : FVec Ideal S1024x1024 .bf16) (x : FVec Ideal S1024x1024 .f32) (i j : Fin 1024) :
    (k0_pay2 (F := Ideal) a w x (ix2 i j) : EReal) = x (ix2 i j) + ∑ l, a (ix2 i l) * w (ix2 l j) := by pointwise [k0_pay2, k0_pay1]
theorem pay3_at (a : FVec Ideal S1024x1024 .bf16) (w : FVec Ideal S1024x1024 .bf16) (x : FVec Ideal S1024x1024 .f32) (i j : Fin 1024) :
    (k0_pay3 (F := Ideal) a w x (ix2 i j) : EReal) = x (ix2 i j) + ∑ l, a (ix2 i l) * w (ix2 l j) := by pointwise [k0_pay3, k0_pay1]

/-- What the first point of a block leaves. -/
theorem out_A (c : Dev nD) (i : grid0.Coords) (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole) (hc0 : cond0_0 i) (hc1 : ¬cond0_1 i)
    (x0 x1 : Vec Ideal S1024x1024 .bf16) (x2 : Vec Ideal S1024x1024 .f32) :
    out0_A_3 (F := Ideal) c i a3 h3 a4 h4 a5 h5 a6 h6 hc0 hc1 x0 x1 x2 = k0_pay2 x0 x1 x2 := by
  unfold out0_A_3
  rw [View.read_writes_eq_canon _ _ _ (cover0_A_3 (F := Ideal) c i a3 h3 a4 h4 a5 h5 a6 h6 hc0 hc1 x0 x1 x2)]
  unfold kernelRun0_A
  dsimp only
  rw [View.canon_unit_zero hz]
  simp only [View.readAt_eq_ld, h3.read_unread, h4.read_unread, h5.read_unread, View.ld_unit_zero (S := S1024x1024) hz]

/-- What a later point leaves, over what the point before left. -/
theorem out_B (c : Dev nD) (i : grid0.Coords) (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole) (hc0 : ¬cond0_0 i) (hc1 : cond0_1 i)
    (x0 x1 : Vec Ideal S1024x1024 .bf16) (x2 xo : Vec Ideal S1024x1024 .f32) :
    out0_B_3 (F := Ideal) c i a3 h3 a4 h4 a5 h5 a6 h6 hc0 hc1 x0 x1 x2 xo = k0_pay3 x0 x1 xo := by
  unfold out0_B_3
  rw [View.read_writes_eq_canon _ _ _ (cover0_B_3 (F := Ideal) c i a3 h3 a4 h4 a5 h5 a6 h6 hc0 hc1 x0 x1 x2 xo)]
  unfold kernelRun0_B
  dsimp only
  rw [View.canon_unit_zero hz]
  simp only [View.readAt_eq_ld, h3.read_unread, h4.read_unread, h6.read_unread, View.ld_unit_zero (S := S1024x1024) hz]

variable (m : (ℓ : Loc nD τ sig) → Buf (Elt Ideal) ℓ) (c : Dev nD)
abbrev A0 : (⟨2, ![16384, 2048]⟩ : Shape).Idx → EReal := m ((c : Thread nD τ).loc main_arg0)
abbrev W0 : (⟨2, ![2048, 2048]⟩ : Shape).Idx → EReal := m ((c : Thread nD τ).loc main_arg1)
abbrev X0 : (⟨2, ![16384, 2048]⟩ : Shape).Idx → EReal := m ((c : Thread nD τ).loc main_arg2)

theorem V_v0 : (V m c main_v0 : (⟨2, ![2048, 2048]⟩ : Shape).Idx → EReal) = W0 m c := by
  unfold V
  after_reads_simp
  try rfl

theorem NN : cfg0.N = 64 := N_0
theorem ix0 : ∀ t : Fin cfg0.N, win0_0.index t (0 : Fin 2) = t.val / 4 ∧ win0_0.index t (1 : Fin 2) = t.val % 2 := (by decide +kernel : ∀ t : Fin grid0.N, _)
theorem ix1' : ∀ t : Fin cfg0.N, win0_1.index t (0 : Fin 2) = t.val % 2 ∧ win0_1.index t (1 : Fin 2) = t.val / 2 % 2 := (by decide +kernel : ∀ t : Fin grid0.N, _)
theorem ix2' : ∀ t : Fin cfg0.N, win0_2.index t (0 : Fin 2) = t.val / 4 ∧ win0_2.index t (1 : Fin 2) = t.val / 2 % 2 := (by decide +kernel : ∀ t : Fin grid0.N, _)
theorem ix3' : ∀ t : Fin cfg0.N, win0_3.index t (0 : Fin 2) = t.val / 4 ∧ win0_3.index t (1 : Fin 2) = t.val / 2 % 2 := (by decide +kernel : ∀ t : Fin grid0.N, _)

theorem b0 (t : Fin cfg0.N) (r j : Fin 1024) (i : (⟨2, ![16384, 2048]⟩ : Shape).Idx) (h0 : (i 0).val = 1024 * (t.val / 4) + r.val) (h1 : (i 1).val = 1024 * (t.val % 2) + j.val) :
    (iblk m c 0 t : (⟨2, ![1024, 1024]⟩ : Shape).Idx → EReal) (ix2 r j) = A0 m c i := by
  obtain ⟨e0, e1⟩ := ix0 t
  show V m c main_arg0 (((cfg0.win 0).blk t).view.emb (ix2 r j)) = A0 m c i
  rw [V_main_arg0]
  refine congrArg (A0 m c) (funext fun a => Fin.ext ?_)
  match a with
  | ⟨0, _⟩ => show win0_0.index t (0 : Fin 2) * 1024 + 1 * r.val = (i 0).val; rw [e0, h0]; omega
  | ⟨1, _⟩ => show win0_0.index t (1 : Fin 2) * 1024 + 1 * j.val = (i 1).val; rw [e1, h1]; omega
theorem b1 (t : Fin cfg0.N) (r j : Fin 1024) (i : (⟨2, ![2048, 2048]⟩ : Shape).Idx) (h0 : (i 0).val = 1024 * (t.val % 2) + r.val) (h1 : (i 1).val = 1024 * (t.val / 2 % 2) + j.val) :
    (iblk m c 1 t : (⟨2, ![1024, 1024]⟩ : Shape).Idx → EReal) (ix2 r j) = W0 m c i := by
  obtain ⟨e0, e1⟩ := ix1' t
  show V m c main_v0 (((cfg0.win 1).blk t).view.emb (ix2 r j)) = W0 m c i
  refine (congrFun (V_v0 m c) _).trans ?_
  refine congrArg (W0 m c) (funext fun a => Fin.ext ?_)
  match a with
  | ⟨0, _⟩ => show win0_1.index t (0 : Fin 2) * 1024 + 1 * r.val = (i 0).val; rw [e0, h0]; omega
  | ⟨1, _⟩ => show win0_1.index t (1 : Fin 2) * 1024 + 1 * j.val = (i 1).val; rw [e1, h1]; omega
theorem b2 (t : Fin cfg0.N) (r j : Fin 1024) (i : (⟨2, ![16384, 2048]⟩ : Shape).Idx) (h0 : (i 0).val = 1024 * (t.val / 4) + r.val) (h1 : (i 1).val = 1024 * (t.val / 2 % 2) + j.val) :
    (iblk m c 2 t : (⟨2, ![1024, 1024]⟩ : Shape).Idx → EReal) (ix2 r j) = X0 m c i := by
  obtain ⟨e0, e1⟩ := ix2' t
  show V m c main_arg2 (((cfg0.win 2).blk t).view.emb (ix2 r j)) = X0 m c i
  rw [V_main_arg2]
  refine congrArg (X0 m c) (funext fun a => Fin.ext ?_)
  match a with
  | ⟨0, _⟩ => show win0_2.index t (0 : Fin 2) * 1024 + 1 * r.val = (i 0).val; rw [e0, h0]; omega
  | ⟨1, _⟩ => show win0_2.index t (1 : Fin 2) * 1024 + 1 * j.val = (i 1).val; rw [e1, h1]; omega

abbrev bl0 (t : Fin cfg0.N) : FVec Ideal S1024x1024 .bf16 := iblk m c 0 t
abbrev bl1 (t : Fin cfg0.N) : FVec Ideal S1024x1024 .bf16 := iblk m c 1 t

/-- One point's block product is a stretch of the whole product's sum. -/
theorem d_eq (t : Fin cfg0.N) (r j : Fin 1024) (i : (⟨2, ![16384, 2048]⟩ : Shape).Idx) (h0 : (i 0).val = 1024 * (t.val / 4) + r.val) (h1 : (i 1).val = 1024 * (t.val / 2 % 2) + j.val) :
    (∑ l : Fin 1024, (bl0 m c t (ix2 r l) : EReal) * (bl1 m c t (ix2 l j) : EReal))
      = ∑ q ∈ Finset.range 1024, term (A0 m c) (W0 m c) (i 0) (i 1) (1024 * (t.val % 2) + q) := by
  rw [Finset.sum_range]
  refine Finset.sum_congr rfl fun l _ => ?_
  have hl : 1024 * (t.val % 2) + l.val < 2048 := by have := l.isLt; omega
  refine Eq.trans ?_ (term_of_lt _ _ _ _ hl).symm
  exact congrArg₂ (fun a b : EReal => a * b) (b0 m c t r l (ix2 (i 0) ⟨_, hl⟩) h0 rfl) (b1 m c t l j (ix2 ⟨_, hl⟩ (i 1)) rfl h1)

/-- What every point leaves in the output block: the residual plus the sum over the inner terms so far. -/
theorem after_pt : ∀ n (hn : n < cfg0.N) (r j : Fin 1024) (i : (⟨2, ![16384, 2048]⟩ : Shape).Idx), (i 0).val = 1024 * (n / 4) + r.val → (i 1).val = 1024 * (n / 2 % 2) + j.val →
    (outsAt0 m c n hn : (⟨2, ![1024, 1024]⟩ : Shape).Idx → EReal) (ix2 r j) = X0 m c i + ∑ q ∈ Finset.range (1024 * (n % 2 + 1)), term (A0 m c) (W0 m c) (i 0) (i 1) q := by
  intro n
  have N := NN
  induction n with
  | zero =>
    intro hn r j i h0 h1
    rw [outsAt0_A m c ⟨0, hn⟩ (by rfl) (by intro h; dsimp only at h; omega), out_A]
    refine (pay2_at _ _ _ r j).trans ?_
    refine (congrArg₂ (fun a b : EReal => a + b) (b2 m c ⟨0, hn⟩ r j i h0 h1) (d_eq m c ⟨0, hn⟩ r j i h0 h1)).trans ?_
    simp
  | succ n ih =>
    intro hn r j i h0 h1
    by_cases hk : (n + 1) % 2 = 0
    · rw [outsAt0_A m c ⟨n + 1, hn⟩ hk (by intro h; dsimp only at h; omega), out_A]
      refine (pay2_at _ _ _ r j).trans ?_
      refine (congrArg₂ (fun a b : EReal => a + b) (b2 m c ⟨n + 1, hn⟩ r j i h0 h1) (d_eq m c ⟨n + 1, hn⟩ r j i h0 h1)).trans ?_
      simp only [hk, Nat.mul_zero, Nat.zero_add, Nat.mul_one]
    · rw [outsAt0_B m c ⟨n + 1, hn⟩ hk (by show _; dsimp only; omega), out_B]
      refine (pay3_at _ _ _ r j).trans ?_
      have e := ih (by omega) r j i (by rw [h0]; congr 2; omega) (by rw [h1]; congr 2; omega)
      refine (congrArg₂ (fun a b : EReal => a + b) e (d_eq m c ⟨n + 1, hn⟩ r j i h0 h1)).trans ?_
      rw [show 1024 * ((n + 1) % 2 + 1) = 1024 * (n % 2 + 1) + 1024 by omega, Finset.sum_range_add, ← add_assoc]
      have e2 : 1024 * ((n + 1) % 2) = 1024 * (n % 2 + 1) := by omega
      simp only [e2]

/-- The residual plus the whole product. -/
def res (A : (⟨2, ![16384, 2048]⟩ : Shape).Idx → EReal) (W : (⟨2, ![2048, 2048]⟩ : Shape).Idx → EReal) (X : (⟨2, ![16384, 2048]⟩ : Shape).Idx → EReal) :
    (⟨2, ![16384, 2048]⟩ : Shape).Idx → EReal := fun i => X i + ∑ q : Fin 2048, A (ix2 (i 0) q) * W (ix2 q (i 1))

theorem flushed_eq (t : Fin cfg0.N) (hf : (cfg0.win 3).flush t = true) :
    (dats m 0 c).flushed 3 t = ((cfg0.win 3).blk t).view.read (Elt Ideal) (res (A0 m c) (W0 m c) (X0 m c)) := by
  have ht : t.val % 2 = 1 := (flush0_3 t).mp hf
  have hN := NN
  have htl := t.isLt
  rw [Value.flushed3]
  obtain ⟨e0, e1⟩ := ix3' t
  funext y
  have y0 : (y 0).val < 1024 := (y 0).isLt
  have y1 : (y 1).val < 1024 := (y 1).isLt
  let i : (⟨2, ![16384, 2048]⟩ : Shape).Idx := ix2 ⟨1024 * (t.val / 4) + (y 0).val, by omega⟩ ⟨1024 * (t.val / 2 % 2) + (y 1).val, by omega⟩
  have hemb : ((cfg0.win 3).blk t).view.emb y = i := funext fun a => Fin.ext (by
    match a with
    | ⟨0, _⟩ => show win0_3.index t (0 : Fin 2) * 1024 + 1 * (y 0).val = 1024 * (t.val / 4) + (y 0).val; rw [e0]; omega
    | ⟨1, _⟩ => show win0_3.index t (1 : Fin 2) * 1024 + 1 * (y 1).val = 1024 * (t.val / 2 % 2) + (y 1).val; rw [e1]; omega)
  show (outsAt0 m c t.val t.isLt : (⟨2, ![1024, 1024]⟩ : Shape).Idx → EReal) y = res (A0 m c) (W0 m c) (X0 m c) (((cfg0.win 3).blk t).view.emb y)
  rw [hemb]
  have hy : (y : (⟨2, ![1024, 1024]⟩ : Shape).Idx) = ix2 ⟨(y 0).val, y0⟩ ⟨(y 1).val, y1⟩ := funext fun a => by
    match a with
    | ⟨0, _⟩ => rfl
    | ⟨1, _⟩ => rfl
  refine (congrArg (outsAt0 m c t.val t.isLt : (⟨2, ![1024, 1024]⟩ : Shape).Idx → EReal) hy).trans ?_
  refine (after_pt m c t.val t.isLt ⟨(y 0).val, y0⟩ ⟨(y 1).val, y1⟩ i rfl rfl).trans ?_
  rw [ht]
  exact congrArg (fun z : EReal => X0 m c i + z) (sum_term (A0 m c) (W0 m c) (i 0) (i 1))

/-- The kernel's result array. -/
theorem final_eq : (dats m 0 c).arrAt 3 cfg0.N = res (A0 m c) (W0 m c) (X0 m c) :=
  (dats m 0 c).arrAt_eq_of_cover 3 (res (A0 m c) (W0 m c) (X0 m c)) (flushed_eq m c) fun i => by
    have h0 : (i 0 : Nat) < 16384 := (i 0).isLt
    have h1 : (i 1 : Nat) < 2048 := (i 1).isLt
    have hN := NN
    let t : Fin cfg0.N := ⟨4 * ((i 0 : Nat) / 1024) + 2 * ((i 1 : Nat) / 1024) + 1, by omega⟩
    have tv : t.val = 4 * ((i 0 : Nat) / 1024) + 2 * ((i 1 : Nat) / 1024) + 1 := rfl
    refine ⟨t, (flush0_3 t).mpr (by omega), ?_⟩
    obtain ⟨e0, e1⟩ := ix3' t
    show i ∈ ((View.whole main_v1).slice (win0_3.rect t)).set
    rw [View.set_slice_whole, Rect.mem_set_unit]
    intro a
    match a with
    | ⟨0, _⟩ => show win0_3.index t (0 : Fin 2) * 1024 ≤ (i 0 : Nat) ∧ (i 0 : Nat) < win0_3.index t (0 : Fin 2) * 1024 + 1024
                rw [e0]; omega
    | ⟨1, _⟩ => show win0_3.index t (1 : Fin 2) * 1024 ≤ (i 1 : Nat) ∧ (i 1 : Nat) < win0_3.index t (1 : Fin 2) * 1024 + 1024
                rw [e1]; omega

/-- The reference's term. -/
theorem ref_eq (a : FVec Ideal Cert.MixOutRefIdeal.S16384x2048 .bf16) (w : FVec Ideal Cert.MixOutRefIdeal.S2048x2048 .f32) (x : FVec Ideal Cert.MixOutRefIdeal.S16384x2048 .f32) :
    addf x (Host.dotGeneral Cert.MixOutRefIdeal.dot_S16384x2048_S2048x2048_S16384x2048_1_0_0_1_n_n none (extf .f32 a bitsLt_bf16_f32) w) = res a w x := by
  funext i
  have hi : i = ix2 (i 0) (i 1) := funext fun a => by
    match a with
    | ⟨0, _⟩ => rfl
    | ⟨1, _⟩ => rfl
  rw [hi]
  show (_ : EReal) = x (ix2 (i 0) (i 1)) + ∑ q : Fin 2048, a (ix2 (i 0) q) * w (ix2 q (i 1))
  generalize i 0 = p
  generalize i 1 = q
  pointwise []
end Cert.MixOutVal
-- ==== Proof.RetOutVal.lean ====
module

public import proofs.«01_k».proof.Proof.Gen.RetOutIdeal.Value
public import proofs.«01_k».proof.Proof.Gen.RetOutRefIdeal.Run
public import proofs.«01_k».proof.Proof.ResSum
public import Idealize.ShloMosaic.Lib.StableHlo.ReadAt

/-! The product with 4096 inner terms that is added to the residual stream: the kernel's result array, summed over
    blocks of 1024 inner terms, is the residual plus the whole product. -/

@[expose] public section

set_option maxRecDepth 16384
noncomputable section
namespace Cert.RetOutVal
open Idealize.ShloMosaic Idealize.ShloMosaic.TcCoe Idealize.ShloMosaic.Tactic Idealize.ShloMosaic.StableHlo Idealize.SL.Sem
open Cert.RetOutIdeal Cert.RetOutIdeal.Gen Cert.ResSum

theorem hz : (![0, 0] : Fin 2 → Nat) = fun _ => 0 := funext fun a => by fin_cases a <;> rfl

/-- One block's product. -/
theorem pay2_at (a : FVec Ideal S1024x1024 .bf16) (w : FVec Ideal S1024x1024 .bf16) (x : FVec Ideal S1024x1024 .f32) (i j : Fin 1024) :
    (k0_pay2 (F := Ideal) a w x (ix2 i j) : EReal) = x (ix2 i j) + ∑ l, a (ix2 i l) * w (ix2 l j) := by pointwise [k0_pay2, k0_pay1]
theorem pay3_at (a : FVec Ideal S1024x1024 .bf16) (w : FVec Ideal S1024x1024 .bf16) (x : FVec Ideal S1024x1024 .f32) (i j : Fin 1024) :
    (k0_pay3 (F := Ideal) a w x (ix2 i j) : EReal) = x (ix2 i j) + ∑ l, a (ix2 i l) * w (ix2 l j) := by pointwise [k0_pay3, k0_pay1]

/-- What the first point of a block leaves. -/
theorem out_A (c : Dev nD) (i : grid0.Coords) (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole) (hc0 : cond0_0 i) (hc1 : ¬cond0_1 i)
    (x0 x1 : Vec Ideal S1024x1024 .bf16) (x2 : Vec Ideal S1024x1024 .f32) :
    out0_A_3 (F := Ideal) c i a3 h3 a4 h4 a5 h5 a6 h6 hc0 hc1 x0 x1 x2 = k0_pay2 x0 x1 x2 := by
  unfold out0_A_3
  rw [View.read_writes_eq_canon _ _ _ (cover0_A_3 (F := Ideal) c i a3 h3 a4 h4 a5 h5 a6 h6 hc0 hc1 x0 x1 x2)]
  unfold kernelRun0_A
  dsimp only
  rw [View.canon_unit_zero hz]
  simp only [View.readAt_eq_ld, h3.read_unread, h4.read_unread, h5.read_unread, View.ld_unit_zero (S := S1024x1024) hz]

/-- What a later point leaves, over what the point before left. -/
theorem out_B (c : Dev nD) (i : grid0.Coords) (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole) (hc0 : ¬cond0_0 i) (hc1 : cond0_1 i)
    (x0 x1 : Vec Ideal S1024x1024 .bf16) (x2 xo : Vec Ideal S1024x1024 .f32) :
    out0_B_3 (F := Ideal) c i a3 h3 a4 h4 a5 h5 a6 h6 hc0 hc1 x0 x1 x2 xo = k0_pay3 x0 x1 xo := by
  unfold out0_B_3
  rw [View.read_writes_eq_canon _ _ _ (cover0_B_3 (F := Ideal) c i a3 h3 a4 h4 a5 h5 a6 h6 hc0 hc1 x0 x1 x2 xo)]
  unfold kernelRun0_B
  dsimp only
  rw [View.canon_unit_zero hz]
  simp only [View.readAt_eq_ld, h3.read_unread, h4.read_unread, h6.read_unread, View.ld_unit_zero (S := S1024x1024) hz]

variable (m : (ℓ : Loc nD τ sig) → Buf (Elt Ideal) ℓ) (c : Dev nD)
abbrev A0 : (⟨2, ![16384, 4096]⟩ : Shape).Idx → EReal := m ((c : Thread nD τ).loc main_arg0)
abbrev W0 : (⟨2, ![4096, 2048]⟩ : Shape).Idx → EReal := m ((c : Thread nD τ).loc main_arg1)
abbrev X0 : (⟨2, ![16384, 2048]⟩ : Shape).Idx → EReal := m ((c : Thread nD τ).loc main_arg2)

theorem V_v0 : (V m c main_v0 : (⟨2, ![4096, 2048]⟩ : Shape).Idx → EReal) = W0 m c := by
  unfold V
  after_reads_simp
  try rfl

theorem NN : cfg0.N = 128 := N_0
theorem ix0 : ∀ t : Fin cfg0.N, win0_0.index t (0 : Fin 2) = t.val / 8 ∧ win0_0.index t (1 : Fin 2) = t.val % 4 := (by decide +kernel : ∀ t : Fin grid0.N, _)
theorem ix1' : ∀ t : Fin cfg0.N, win0_1.index t (0 : Fin 2) = t.val % 4 ∧ win0_1.index t (1 : Fin 2) = t.val / 4 % 2 := (by decide +kernel : ∀ t : Fin grid0.N, _)
theorem ix2' : ∀ t : Fin cfg0.N, win0_2.index t (0 : Fin 2) = t.val / 8 ∧ win0_2.index t (1 : Fin 2) = t.val / 4 % 2 := (by decide +kernel : ∀ t : Fin grid0.N, _)
theorem ix3' : ∀ t : Fin cfg0.N, win0_3.index t (0 : Fin 2) = t.val / 8 ∧ win0_3.index t (1 : Fin 2) = t.val / 4 % 2 := (by decide +kernel : ∀ t : Fin grid0.N, _)

theorem b0 (t : Fin cfg0.N) (r j : Fin 1024) (i : (⟨2, ![16384, 4096]⟩ : Shape).Idx) (h0 : (i 0).val = 1024 * (t.val / 8) + r.val) (h1 : (i 1).val = 1024 * (t.val % 4) + j.val) :
    (iblk m c 0 t : (⟨2, ![1024, 1024]⟩ : Shape).Idx → EReal) (ix2 r j) = A0 m c i := by
  obtain ⟨e0, e1⟩ := ix0 t
  show V m c main_arg0 (((cfg0.win 0).blk t).view.emb (ix2 r j)) = A0 m c i
  rw [V_main_arg0]
  refine congrArg (A0 m c) (funext fun a => Fin.ext ?_)
  match a with
  | ⟨0, _⟩ => show win0_0.index t (0 : Fin 2) * 1024 + 1 * r.val = (i 0).val; rw [e0, h0]; omega
  | ⟨1, _⟩ => show win0_0.index t (1 : Fin 2) * 1024 + 1 * j.val = (i 1).val; rw [e1, h1]; omega
theorem b1 (t : Fin cfg0.N) (r j : Fin 1024) (i : (⟨2, ![4096, 2048]⟩ : Shape).Idx) (h0 : (i 0).val = 1024 * (t.val % 4) + r.val) (h1 : (i 1).val = 1024 * (t.val / 4 % 2) + j.val) :
    (iblk m c 1 t : (⟨2, ![1024, 1024]⟩ : Shape).Idx → EReal) (ix2 r j) = W0 m c i := by
  obtain ⟨e0, e1⟩ := ix1' t
  show V m c main_v0 (((cfg0.win 1).blk t).view.emb (ix2 r j)) = W0 m c i
  refine (congrFun (V_v0 m c) _).trans ?_
  refine congrArg (W0 m c) (funext fun a => Fin.ext ?_)
  match a with
  | ⟨0, _⟩ => show win0_1.index t (0 : Fin 2) * 1024 + 1 * r.val = (i 0).val; rw [e0, h0]; omega
  | ⟨1, _⟩ => show win0_1.index t (1 : Fin 2) * 1024 + 1 * j.val = (i 1).val; rw [e1, h1]; omega
theorem b2 (t : Fin cfg0.N) (r j : Fin 1024) (i : (⟨2, ![16384, 2048]⟩ : Shape).Idx) (h0 : (i 0).val = 1024 * (t.val / 8) + r.val) (h1 : (i 1).val = 1024 * (t.val / 4 % 2) + j.val) :
    (iblk m c 2 t : (⟨2, ![1024, 1024]⟩ : Shape).Idx → EReal) (ix2 r j) = X0 m c i := by
  obtain ⟨e0, e1⟩ := ix2' t
  show V m c main_arg2 (((cfg0.win 2).blk t).view.emb (ix2 r j)) = X0 m c i
  rw [V_main_arg2]
  refine congrArg (X0 m c) (funext fun a => Fin.ext ?_)
  match a with
  | ⟨0, _⟩ => show win0_2.index t (0 : Fin 2) * 1024 + 1 * r.val = (i 0).val; rw [e0, h0]; omega
  | ⟨1, _⟩ => show win0_2.index t (1 : Fin 2) * 1024 + 1 * j.val = (i 1).val; rw [e1, h1]; omega

abbrev bl0 (t : Fin cfg0.N) : FVec Ideal S1024x1024 .bf16 := iblk m c 0 t
abbrev bl1 (t : Fin cfg0.N) : FVec Ideal S1024x1024 .bf16 := iblk m c 1 t

/-- One point's block product is a stretch of the whole product's sum. -/
theorem d_eq (t : Fin cfg0.N) (r j : Fin 1024) (i : (⟨2, ![16384, 2048]⟩ : Shape).Idx) (h0 : (i 0).val = 1024 * (t.val / 8) + r.val) (h1 : (i 1).val = 1024 * (t.val / 4 % 2) + j.val) :
    (∑ l : Fin 1024, (bl0 m c t (ix2 r l) : EReal) * (bl1 m c t (ix2 l j) : EReal))
      = ∑ q ∈ Finset.range 1024, term (A0 m c) (W0 m c) (i 0) (i 1) (1024 * (t.val % 4) + q) := by
  rw [Finset.sum_range]
  refine Finset.sum_congr rfl fun l _ => ?_
  have hl : 1024 * (t.val % 4) + l.val < 4096 := by have := l.isLt; omega
  refine Eq.trans ?_ (term_of_lt _ _ _ _ hl).symm
  exact congrArg₂ (fun a b : EReal => a * b) (b0 m c t r l (ix2 (i 0) ⟨_, hl⟩) h0 rfl) (b1 m c t l j (ix2 ⟨_, hl⟩ (i 1)) rfl h1)

/-- What every point leaves in the output block: the residual plus the sum over the inner terms so far. -/
theorem after_pt : ∀ n (hn : n < cfg0.N) (r j : Fin 1024) (i : (⟨2, ![16384, 2048]⟩ : Shape).Idx), (i 0).val = 1024 * (n / 8) + r.val → (i 1).val = 1024 * (n / 4 % 2) + j.val →
    (outsAt0 m c n hn : (⟨2, ![1024, 1024]⟩ : Shape).Idx → EReal) (ix2 r j) = X0 m c i + ∑ q ∈ Finset.range (1024 * (n % 4 + 1)), term (A0 m c) (W0 m c) (i 0) (i 1) q := by
  intro n
  have N := NN
  induction n with
  | zero =>
    intro hn r j i h0 h1
    rw [outsAt0_A m c ⟨0, hn⟩ (by rfl) (by intro h; dsimp only at h; omega), out_A]
    refine (pay2_at _ _ _ r j).trans ?_
    refine (congrArg₂ (fun a b : EReal => a + b) (b2 m c ⟨0, hn⟩ r j i h0 h1) (d_eq m c ⟨0, hn⟩ r j i h0 h1)).trans ?_
    simp
  | succ n ih =>
    intro hn r j i h0 h1
    by_cases hk : (n + 1) % 4 = 0
    · rw [outsAt0_A m c ⟨n + 1, hn⟩ hk (by intro h; dsimp only at h; omega), out_A]
      refine (pay2_at _ _ _ r j).trans ?_
      refine (congrArg₂ (fun a b : EReal => a + b) (b2 m c ⟨n + 1, hn⟩ r j i h0 h1) (d_eq m c ⟨n + 1, hn⟩ r j i h0 h1)).trans ?_
      simp only [hk, Nat.mul_zero, Nat.zero_add, Nat.mul_one]
    · rw [outsAt0_B m c ⟨n + 1, hn⟩ hk (by show _; dsimp only; omega), out_B]
      refine (pay3_at _ _ _ r j).trans ?_
      have e := ih (by omega) r j i (by rw [h0]; congr 2; omega) (by rw [h1]; congr 2; omega)
      refine (congrArg₂ (fun a b : EReal => a + b) e (d_eq m c ⟨n + 1, hn⟩ r j i h0 h1)).trans ?_
      rw [show 1024 * ((n + 1) % 4 + 1) = 1024 * (n % 4 + 1) + 1024 by omega, Finset.sum_range_add, ← add_assoc]
      have e2 : 1024 * ((n + 1) % 4) = 1024 * (n % 4 + 1) := by omega
      simp only [e2]

/-- The residual plus the whole product. -/
def res (A : (⟨2, ![16384, 4096]⟩ : Shape).Idx → EReal) (W : (⟨2, ![4096, 2048]⟩ : Shape).Idx → EReal) (X : (⟨2, ![16384, 2048]⟩ : Shape).Idx → EReal) :
    (⟨2, ![16384, 2048]⟩ : Shape).Idx → EReal := fun i => X i + ∑ q : Fin 4096, A (ix2 (i 0) q) * W (ix2 q (i 1))

theorem flushed_eq (t : Fin cfg0.N) (hf : (cfg0.win 3).flush t = true) :
    (dats m 0 c).flushed 3 t = ((cfg0.win 3).blk t).view.read (Elt Ideal) (res (A0 m c) (W0 m c) (X0 m c)) := by
  have ht : t.val % 4 = 3 := (flush0_3 t).mp hf
  have hN := NN
  have htl := t.isLt
  rw [Value.flushed3]
  obtain ⟨e0, e1⟩ := ix3' t
  funext y
  have y0 : (y 0).val < 1024 := (y 0).isLt
  have y1 : (y 1).val < 1024 := (y 1).isLt
  let i : (⟨2, ![16384, 2048]⟩ : Shape).Idx := ix2 ⟨1024 * (t.val / 8) + (y 0).val, by omega⟩ ⟨1024 * (t.val / 4 % 2) + (y 1).val, by omega⟩
  have hemb : ((cfg0.win 3).blk t).view.emb y = i := funext fun a => Fin.ext (by
    match a with
    | ⟨0, _⟩ => show win0_3.index t (0 : Fin 2) * 1024 + 1 * (y 0).val = 1024 * (t.val / 8) + (y 0).val; rw [e0]; omega
    | ⟨1, _⟩ => show win0_3.index t (1 : Fin 2) * 1024 + 1 * (y 1).val = 1024 * (t.val / 4 % 2) + (y 1).val; rw [e1]; omega)
  show (outsAt0 m c t.val t.isLt : (⟨2, ![1024, 1024]⟩ : Shape).Idx → EReal) y = res (A0 m c) (W0 m c) (X0 m c) (((cfg0.win 3).blk t).view.emb y)
  rw [hemb]
  have hy : (y : (⟨2, ![1024, 1024]⟩ : Shape).Idx) = ix2 ⟨(y 0).val, y0⟩ ⟨(y 1).val, y1⟩ := funext fun a => by
    match a with
    | ⟨0, _⟩ => rfl
    | ⟨1, _⟩ => rfl
  refine (congrArg (outsAt0 m c t.val t.isLt : (⟨2, ![1024, 1024]⟩ : Shape).Idx → EReal) hy).trans ?_
  refine (after_pt m c t.val t.isLt ⟨(y 0).val, y0⟩ ⟨(y 1).val, y1⟩ i rfl rfl).trans ?_
  rw [ht]
  exact congrArg (fun z : EReal => X0 m c i + z) (sum_term (A0 m c) (W0 m c) (i 0) (i 1))

/-- The kernel's result array. -/
theorem final_eq : (dats m 0 c).arrAt 3 cfg0.N = res (A0 m c) (W0 m c) (X0 m c) :=
  (dats m 0 c).arrAt_eq_of_cover 3 (res (A0 m c) (W0 m c) (X0 m c)) (flushed_eq m c) fun i => by
    have h0 : (i 0 : Nat) < 16384 := (i 0).isLt
    have h1 : (i 1 : Nat) < 2048 := (i 1).isLt
    have hN := NN
    let t : Fin cfg0.N := ⟨8 * ((i 0 : Nat) / 1024) + 4 * ((i 1 : Nat) / 1024) + 3, by omega⟩
    have tv : t.val = 8 * ((i 0 : Nat) / 1024) + 4 * ((i 1 : Nat) / 1024) + 3 := rfl
    refine ⟨t, (flush0_3 t).mpr (by omega), ?_⟩
    obtain ⟨e0, e1⟩ := ix3' t
    show i ∈ ((View.whole main_v1).slice (win0_3.rect t)).set
    rw [View.set_slice_whole, Rect.mem_set_unit]
    intro a
    match a with
    | ⟨0, _⟩ => show win0_3.index t (0 : Fin 2) * 1024 ≤ (i 0 : Nat) ∧ (i 0 : Nat) < win0_3.index t (0 : Fin 2) * 1024 + 1024
                rw [e0]; omega
    | ⟨1, _⟩ => show win0_3.index t (1 : Fin 2) * 1024 ≤ (i 1 : Nat) ∧ (i 1 : Nat) < win0_3.index t (1 : Fin 2) * 1024 + 1024
                rw [e1]; omega

/-- The reference's term. -/
theorem ref_eq (a : FVec Ideal Cert.RetOutRefIdeal.S16384x4096 .bf16) (w : FVec Ideal Cert.RetOutRefIdeal.S4096x2048 .f32) (x : FVec Ideal Cert.RetOutRefIdeal.S16384x2048 .f32) :
    addf x (Host.dotGeneral Cert.RetOutRefIdeal.dot_S16384x4096_S4096x2048_S16384x2048_1_0_0_1_n_n none (extf .f32 a bitsLt_bf16_f32) w) = res a w x := by
  funext i
  have hi : i = ix2 (i 0) (i 1) := funext fun a => by
    match a with
    | ⟨0, _⟩ => rfl
    | ⟨1, _⟩ => rfl
  rw [hi]
  show (_ : EReal) = x (ix2 (i 0) (i 1)) + ∑ q : Fin 4096, a (ix2 (i 0) q) * w (ix2 q (i 1))
  generalize i 0 = p
  generalize i 1 = q
  pointwise []
end Cert.RetOutVal
-- ==== Proof.OwnGlaProjIdeal.lean ====
module

public import proofs.«01_k».proof.Proof.Gen.GlaProjIdeal.Frame
public import Idealize.ShloMosaic.Lib.Claim
public import Idealize.ShloMosaic.Lib.VecWindow
public import Idealize.ShloMosaic.Lib.Pipeline.Value
public import Idealize.ShloMosaic.Lib.Pipeline.TableIdle

/-! The projections of the gated-linear-attention branch, one grid point at a time. At the first point of a row block the body
normalises the rows, keeps them, and stores the decay product; at every point it stores one column block of the main product.
The decay product's block is written back after the last point of the row block, untouched since the first. -/

@[expose] public section

set_option maxRecDepth 16384

noncomputable section

namespace Cert.GlaProjIdeal.Own

open Cert.GlaProjIdeal Cert.GlaProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values -/

/-- The normalised rows of a block. -/
def rows (x : Vec F S1024x2048 .f32) (w : Vec F S1x2048 .f32) : Vec F S1024x2048 .bf16 :=
  shapeCast S1024x2048 (truncf .bf16 (mulf (mulf x (broadcastTo S1024x2048 (rsqrt (addf (divf
    (shapeCast S1024x1 (multiReduction (F := F) .add [1] S1024 (mulf x x) 0x00000000#32 reduces_S1024x2048_S1024 (.inl rfl) rfl) shapeCasts_S1024_S1024x1)
    (broadcast S1024x1 (Scalar.ofBits (F := F) .f32 0x45000000#32))) (broadcast S1024x1 (Scalar.ofBits (F := F) .f32 0x358637BD#32)))) broadcasts_S1024x1_S1024x2048))
    (broadcastTo S1024x2048 (shapeCast S1x2048 w shapeCasts_S1x2048_S1x2048) broadcasts_S1x2048_S1024x2048)) bitsLt_bf16_f32) shapeCasts_S1024x2048_S1024x2048

/-- The decay product of a row block. -/
def zprod (h : Vec F S1024x2048 .bf16) (w : Vec F S2048x128 .bf16) : Vec F S1024x128 .f32 :=
  matmul dot_S1024x2048_S2048x128_S1024x128_1_0_0_1_n_n none h (shapeCast S2048x128 w shapeCasts_S2048x128_S2048x128) (constant S1024x128 .f32 0x00000000#32)

/-- One block of the main product. -/
def mprod (h : Vec F S1024x2048 .bf16) (w : Vec F S2048x512 .bf16) : Vec F S1024x512 .bf16 :=
  truncf .bf16 (matmul dot_S1024x2048_S2048x512_S1024x512_1_0_0_1_n_n none h (shapeCast S2048x512 w shapeCasts_S2048x512_S2048x512) (constant S1024x512 .f32 0x00000000#32)) bitsLt_bf16_f32

theorem hz2 : (![0, 0] : Fin 2 → ℕ) = fun _ => 0 := by decide

/-! ## The two runs of the body -/

set_option maxHeartbeats 4000000 in
/-- The body at the first point of a row block. -/
theorem run_A (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole) (arg5 : Memref sig .tc .vmem S2048x128 .bf16) (harg5 : arg5.IsWhole) (arg6 : Memref sig .tc .vmem S1024x512 .bf16) (harg6 : arg6.IsWhole)
  (arg7 : Memref sig .tc .vmem S1024x128 .f32) (harg7 : arg7.IsWhole) (arg8 : Memref sig .tc .vmem S1024x2048 .bf16) (harg8 : arg8.IsWhole)
  (x0 : Vec F S1024x2048 .f32) (x1 : Vec F S1x2048 .f32) (x2 : Vec F S2048x512 .bf16) (x3 : Vec F S2048x128 .bf16)
  (E : Set ℕ) (K : PUnit → sProp 𝕄) (h1 : k0_cond1 i = 1#1) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare (mprod (rows x0 x1) x2) ∗ owns (c : Thread nD τ) arg7 fullShare (zprod (rows x0 x1) x3) ∗ owns (c : Thread nD τ) arg8 fullShare (rows x0 x1)) -∗ K ⟨⟩))
      ⊢ wp frame (wpE (defs₀ (F := F)) Variants.none c none) E (cc0_gla_proj i arg2 harg2 arg3 harg3 arg4 harg4 arg5 harg5 arg6 harg6 arg7 harg7 arg8 harg8) K := by
  unfold cc0_gla_proj owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  sl_exec (disch := sl_exact h1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_full]
    sl_unfold_words; simp only [View.readAt_eq_ld, harg2.read_unread, harg3.read_unread, harg4.read_unread, harg5.read_unread, View.ld_unit_zero (S := S1024x2048) hz2, View.ld_unit_zero (S := S2048x512) hz2, View.ld_unit_zero (S := S1x2048) hz2, View.readCov_cons_toLoadRect]
    rfl
  isplitl [H5]
  · iexists _; isplitr
    swap; · iexact H5
    ipureintro
    rw [View.read_writes_full]
    sl_unfold_words; simp only [View.readAt_eq_ld, harg2.read_unread, harg3.read_unread, harg4.read_unread, harg5.read_unread, View.ld_unit_zero (S := S1024x2048) hz2, View.ld_unit_zero (S := S2048x128) hz2, View.ld_unit_zero (S := S1x2048) hz2, View.readCov_cons_toLoadRect]
    rfl
  iexists _; isplitr
  swap; · iexact H6
  ipureintro
  sl_unfold_words
  rw [View.read_writes_full]
  simp only [View.readAt_eq_ld, harg2.read_unread, harg3.read_unread, View.ld_unit_zero (S := S1024x2048) hz2, View.ld_unit_zero (S := S1x2048) hz2]
  rfl

set_option maxHeartbeats 4000000 in
/-- The body at a later point of a row block. -/
theorem run_B (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole) (arg5 : Memref sig .tc .vmem S2048x128 .bf16) (harg5 : arg5.IsWhole) (arg6 : Memref sig .tc .vmem S1024x512 .bf16) (harg6 : arg6.IsWhole)
  (arg7 : Memref sig .tc .vmem S1024x128 .f32) (harg7 : arg7.IsWhole) (arg8 : Memref sig .tc .vmem S1024x2048 .bf16) (harg8 : arg8.IsWhole)
  (x2 : Vec F S2048x512 .bf16) (xh : Vec F S1024x2048 .bf16)
  (E : Set ℕ) (K : PUnit → sProp 𝕄) (h1 : ¬k0_cond1 i = 1#1) :
    iprop(owns (c : Thread nD τ) arg4 fullShare x2 ∗ (∃ d, owns (c : Thread nD τ) arg6 fullShare d) ∗ owns (c : Thread nD τ) arg8 fullShare xh
        ∗ (iprop(owns (c : Thread nD τ) arg4 fullShare x2 ∗ owns (c : Thread nD τ) arg6 fullShare (mprod xh x2) ∗ owns (c : Thread nD τ) arg8 fullShare xh) -∗ K ⟨⟩))
      ⊢ wp frame (wpE (defs₀ (F := F)) Variants.none c none) E (cc0_gla_proj i arg2 harg2 arg3 harg3 arg4 harg4 arg5 harg5 arg6 harg6 arg7 harg7 arg8 harg8) K := by
  unfold cc0_gla_proj owns
  iintro ⟨⟨%f2, %hf2, H2⟩, ⟨%d4, %f4, -, H4⟩, ⟨%f6, %hf6, H6⟩, Hk⟩
  obtain rfl := harg4.eq_unread hf2; obtain rfl := harg8.eq_unread hf6
  sl_exec (disch := sl_exact h1)
  sl_step
  iapply Hk
  isplitl [H2]
  · iexists _; isplitr; · ipureintro; exact harg4.read_unread _
    iexact H2
  isplitl [H4]
  · iexists _; isplitr
    swap; · iexact H4
    ipureintro
    rw [View.read_writes_full]
    sl_unfold_words; simp only [View.readAt_eq_ld, harg4.read_unread, harg8.read_unread, View.ld_unit_zero (S := S1024x2048) hz2, View.ld_unit_zero (S := S2048x512) hz2]
    rfl
  iexists _; isplitr
  swap; · iexact H6
  ipureintro
  exact harg8.read_unread _

variable (m : (ℓ : Loc nD τ sig) → Buf (Elt F) ℓ) (ρ : Dev nD → PrngReg)

/-! ## The buffers the body is handed -/

abbrev ms0 (t : Fin cfg0.N) : Memref sig .tc .vmem S1024x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S2048x512 .bf16 := win0_2.stage (cfg0.slots t 2)
abbrev ms3 (t : Fin cfg0.N) : Memref sig .tc .vmem S2048x128 .bf16 := win0_3.stage (cfg0.slots t 3)
abbrev ms4 (t : Fin cfg0.N) : Memref sig .tc .vmem S1024x512 .bf16 := win0_4.stage (cfg0.slots t 4)
abbrev ms5 (t : Fin cfg0.N) : Memref sig .tc .vmem S1024x128 .f32 := win0_5.stage (cfg0.slots t 5)
abbrev scM : Memref sig .tc .vmem S1024x2048 .bf16 := Memref.whole cc0_scratch0

/-- The scratch buffer at anything, and the generator register at some state. -/
theorem PhiA0_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-! ## What the points compute -/

theorem hcond : ∀ t : Fin cfg0.N, k0_cond1 (grid0.coords t) = 1#1 ↔ t.val % 12 = 0 :=
  (by decide +kernel : ∀ t : Fin grid0.N, k0_cond1 (grid0.coords t) = 1#1 ↔ t.val % 12 = 0)

/-- The first point of a point's row block. -/
def row0 (t : Fin cfg0.N) : Fin cfg0.N := ⟨12 * (t.val / 12), Nat.lt_of_le_of_lt (Nat.mul_div_le t.val 12) t.isLt⟩

theorem row0_of (t : Fin cfg0.N) (h : t.val % 12 = 0) : row0 t = t := Fin.ext (by show 12 * (t.val / 12) = t.val; omega)

/-- The normalised rows of a point's row block, -/
def hAt (c : Dev nD) (t : Fin cfg0.N) : Vec F S1024x2048 .bf16 := rows (iblk m c 0 (row0 t)) (iblk m c 1 (row0 t))
/-- its decay product, -/
def zAt (c : Dev nD) (t : Fin cfg0.N) : Vec F S1024x128 .f32 := zprod (hAt m c t) (iblk m c 3 (row0 t))
/-- and the point's block of the main product. -/
def oAt (c : Dev nD) (t : Fin cfg0.N) : Vec F S1024x512 .bf16 := mprod (hAt m c t) (iblk m c 2 t)

/-- Two neighbouring points of a row block have the same first point. -/
theorem row0_pred (t t' : Fin cfg0.N) (h : t'.val + 1 = t.val) (h0 : ¬t.val % 12 = 0) : row0 t' = row0 t := Fin.ext (by
  show 12 * (t'.val / 12) = 12 * (t.val / 12); omega)

/-- Before position `n` the scratch buffer holds the normalised rows of the point before. -/
def Ph (c : Dev nD) (n : ℕ) (x : Vec F S1024x2048 .bf16) : Prop := ∀ t : Fin cfg0.N, t.val + 1 = n → x = hAt m c t

theorem Ph_at (c : Dev nD) (t : Fin cfg0.N) (h0 : ¬t.val % 12 = 0) (x : Vec F S1024x2048 .bf16) (h : Ph m c t.val x) : x = hAt m c t := by
  have e : (⟨t.val - 1, Nat.lt_of_le_of_lt (Nat.sub_le _ _) t.isLt⟩ : Fin cfg0.N).val + 1 = t.val := by show t.val - 1 + 1 = t.val; omega
  rw [h _ e]
  unfold hAt
  rw [row0_pred t _ e h0]

theorem Ph_step (c : Dev nD) (t : Fin cfg0.N) : Ph m c (t.val + 1) (hAt m c t) := fun t' h => by
  rw [show t' = t from Fin.ext (by omega)]

/-- The invariant before position `n`. -/
def PhiU (c : Dev nD) (n : ℕ) : sProp 𝕄 :=
  iprop((∃ d, ⌜Ph m c n d⌝ ∗ owns (c : Thread nD τ) scM fullShare d) ∗ (∃ r, prngReg c r))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oAt m c t
    | ⟨5, _⟩ => zAt m c t
  Φ t := PhiU m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = oAt m c t := by dsimp only [dats]
theorem after5 (c : Dev nD) (t : Fin cfg0.N) : (dats m 0 c).after 5 t = zAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- After the first point of a row block the decay product's buffer holds the row block's decay product. -/
theorem before5 (c : Dev nD) : ∀ (n : ℕ) (t : Fin cfg0.N) (d), t.val = n → ¬t.val % 12 = 0 → (dats m 0 c).before 5 t d = zAt m c t := by
  intro n
  induction n with
  | zero => intro t d ht h0; exact absurd (by rw [ht]) h0
  | succ n ih =>
    intro t d ht h0
    have e : (⟨t.val - 1, Nat.lt_of_le_of_lt (Nat.sub_le _ _) t.isLt⟩ : Fin cfg0.N).val + 1 = t.val := by show t.val - 1 + 1 = t.val; omega
    have hfl : (cfg0.win 5).flush ⟨t.val - 1, Nat.lt_of_le_of_lt (Nat.sub_le _ _) t.isLt⟩ = false :=
      Bool.eq_false_iff.mpr fun hh => by have := (flush0_5 _).mp hh; omega
    have ez : zAt m c ⟨t.val - 1, Nat.lt_of_le_of_lt (Nat.sub_le _ _) t.isLt⟩ = zAt m c t := by
      unfold zAt hAt; rw [row0_pred t _ e h0]
    rw [(dats m 0 c).before_of_pos 5 t (by omega) ((cfg0.win 5).fetch_out rfl t) d, hfl, if_neg Bool.false_ne_true, ← ez]
    unfold Dat.left
    by_cases hp : (t.val - 1) % 12 = 0
    · have hi : cfg0.idle 5 (cfg0.grid.coords ⟨t.val - 1, Nat.lt_of_le_of_lt (Nat.sub_le _ _) t.isLt⟩) = false := by
        show (!(k0_cond1 (grid0.coords _) == 1#1)) = false
        rw [(hcond _).mpr hp]; rfl
      rw [hi]
      exact after5 m c _
    · have hi : cfg0.idle 5 (cfg0.grid.coords ⟨t.val - 1, Nat.lt_of_le_of_lt (Nat.sub_le _ _) t.isLt⟩) = true := by
        show (!(k0_cond1 (grid0.coords _) == 1#1)) = true
        rw [beq_eq_false_iff_ne.mpr fun hh => hp ((hcond _).mp hh)]; rfl
      rw [hi]
      exact ih _ d (by show t.val - 1 = n; omega) hp

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- what it returns of the decay product's buffer: the stored block at the first point and when it is written back, else what it found, -/
def ret5 (c : Dev nD) (t : Fin cfg0.N) : sProp 𝕄 :=
  match cfg0.idle 5 (cfg0.grid.coords t) with
  | true => match (cfg0.win 5).flush t with
    | false => iprop(∃ d, owns (c : Thread nD τ) (ms5 t) fullShare ((dats m 0 c).before 5 t d))
    | true => owns (c : Thread nD τ) (ms5 t) fullShare ((dats m 0 c).after 5 t)
  | false => owns (c : Thread nD τ) (ms5 t) fullShare ((dats m 0 c).after 5 t)

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ ret5 m c t)

/-- The row block's decay product in the buffer is what is to be returned, at every point. -/
theorem ret5_of (c : Dev nD) (t : Fin cfg0.N) : owns (c : Thread nD τ) (ms5 t) fullShare (zAt m c t) ⊢ (ret5 m c t : sProp 𝕄) := by
  unfold ret5
  rw [after5]
  by_cases h0 : t.val % 12 = 0
  · rw [show cfg0.idle 5 (cfg0.grid.coords t) = false from by
      show (!(k0_cond1 (grid0.coords _) == 1#1)) = false
      rw [(hcond _).mpr h0]; rfl]
  · simp only [before5 m c t.val t _ rfl h0]
    split
    · split
      · iintro H; iexists (zAt m c t); iexact H
      · exact .rfl
    · exact .rfl

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl, after0, after1, after2, after3, after4]
  rw [show (dats m 0 c).Φ t.succ = PhiU m c (t.val + 1) from rfl, show (dats m 0 c).Φ t.castSucc = PhiU m c t.val from rfl]
  unfold PhiU
  iintro ⟨⟨⟨%xh, %hh, HS⟩, Hg⟩, Ho, ⟨%d0, H0⟩, ⟨%d1, H1⟩, ⟨%d2, H2⟩, ⟨%d3, H3⟩, ⟨%d4, H4⟩, ⟨%d5, H5⟩⟩
  by_cases h0 : t.val % 12 = 0
  · have eh : rows (iblk m c 0 t) (iblk m c 1 t) = hAt m c t := by unfold hAt; rw [row0_of t h0]
    have ez : zprod (rows (iblk m c 0 t) (iblk m c 1 t)) (iblk m c 3 t) = zAt m c t := by unfold zAt; rw [eh, row0_of t h0]
    have eo : mprod (rows (iblk m c 0 t) (iblk m c 1 t)) (iblk m c 2 t) = oAt m c t := by unfold oAt; rw [eh]
    iapply (run_A c (grid0.coords t) _ _ _ _ _ _ _ _ _ _ _ _ _ _ (iblk m c 0 t) (iblk m c 1 t) (iblk m c 2 t) (iblk m c 3 t) Set.univ _ ((hcond t).mpr h0))
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexists _; iexact HS
    iintro ⟨H0, H1, H2, H3, H4, H5, HS⟩
    isplitl [HS Hg]
    · isplitl [HS]
      · iexists _; isplitr; · ipureintro; exact Ph_step m c t
        rw [← eh]; iexact HS
      iexact Hg
    isplitl [Ho]; · iexact Ho
    isplitl [H0]; · iexact H0
    isplitl [H1]; · iexact H1
    isplitl [H2]; · iexact H2
    isplitl [H3]; · iexact H3
    isplitl [H4]; · rw [← eo]; iexact H4
    iapply (ret5_of m c t)
    rw [← ez]; iexact H5
  · obtain rfl := Ph_at m c t h0 xh hh
    rw [before5 m c t.val t d5 rfl h0]
    iapply (run_B c (grid0.coords t) _ _ _ _ _ _ _ _ _ _ _ _ _ _ (iblk m c 2 t) (hAt m c t) Set.univ _ (fun h => h0 ((hcond t).mp h)))
    isplitl [H2]; · iexact H2
    isplitl [H4]; · iexists _; iexact H4
    isplitl [HS]; · iexact HS
    iintro ⟨H2, H4, HS⟩
    isplitl [HS Hg]
    · isplitl [HS]
      · iexists _; isplitr; · ipureintro; exact Ph_step m c t
        iexact HS
      iexact Hg
    isplitl [Ho]; · iexact Ho
    isplitl [H0]; · iexact H0
    isplitl [H1]; · iexact H1
    isplitl [H2]; · iexact H2
    isplitl [H3]; · iexact H3
    isplitl [H4]; · iexact H4
    iapply (ret5_of m c t)
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiU m c 0 from rfl, PhiA0_eq]
  unfold PhiU
  iintro ⟨⟨%d, HS⟩, Hg⟩
  isplitl [HS]
  · iexists d; isplitr; · ipureintro; exact fun t h => absurd h (Nat.succ_ne_zero _)
    iexact HS
  iexact Hg

/-- After the last point the scratch buffer is at anything again. -/
theorem hout (c : Dev nD) : (dats m 0 c).Φ (Fin.last cfg0.N) ⊢ Pipeline.ΦA spec0 c := by
  rw [show (dats m 0 c).Φ (Fin.last cfg0.N) = PhiU m c cfg0.N from rfl, PhiA0_eq]
  unfold PhiU
  iintro ⟨⟨%d, %h, HS⟩, Hg⟩
  isplitl [HS]; · iexists _; iexact HS
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.GlaProjIdeal.Own

end
-- ==== Proof.GlaProjVal.lean ====
module

public import proofs.«01_k».proof.Proof.OwnGlaProjIdeal
public import proofs.«01_k».proof.Proof.Gen.GlaProjRefIdeal.Run
public import proofs.«01_k».proof.Proof.RmsRow
public import Idealize.ShloMosaic.Lib.StableHlo.ReadAt
public import Idealize.ShloMosaic.Lib.KernelVsHost

/-! The projections of the gated-linear-attention branch: the kernel's two result arrays are the first 6144 columns of the product of
the normalised rows with the weights, and its last 16 columns followed by 112 columns of zeros; and so are the reference's. -/

@[expose] public section

set_option maxRecDepth 16384
noncomputable section
namespace Cert.GlaProjVal
open Idealize.ShloMosaic Idealize.ShloMosaic.TcCoe Idealize.ShloMosaic.Tactic Idealize.ShloMosaic.StableHlo Idealize.SL.Sem
open Cert.GlaProjIdeal Cert.GlaProjIdeal.Gen Cert.GlaProjIdeal.Own Cert.RmsRow

/-! ## The specification -/

/-- The normalised input rows. -/
def nrm (X : (⟨2, ![16384, 2048]⟩ : Shape).Idx → EReal) (w : (⟨1, ![2048]⟩ : Shape).Idx → EReal) (p : Fin 16384) (q : Fin 2048) : EReal :=
  rms (fun k => X (ix2 p k)) (fun k => w (ix1 k)) q
/-- The normalised rows times the weights. -/
def prod (X : (⟨2, ![16384, 2048]⟩ : Shape).Idx → EReal) (w : (⟨1, ![2048]⟩ : Shape).Idx → EReal) (W : (⟨2, ![2048, 6160]⟩ : Shape).Idx → EReal)
    (p : Fin 16384) (k : Fin 6160) : EReal := ∑ q : Fin 2048, nrm X w p q * W (ix2 q k)
/-- The first result: the first 6144 columns. -/
def mainSpec (X : (⟨2, ![16384, 2048]⟩ : Shape).Idx → EReal) (w : (⟨1, ![2048]⟩ : Shape).Idx → EReal) (W : (⟨2, ![2048, 6160]⟩ : Shape).Idx → EReal) :
    (⟨2, ![16384, 6144]⟩ : Shape).Idx → EReal := fun i => prod X w W (i 0) (Fin.castLE (by decide : 6144 ≤ 6160) (i 1))
/-- The second result: the last 16 columns, then zeros. -/
def decaySpec (X : (⟨2, ![16384, 2048]⟩ : Shape).Idx → EReal) (w : (⟨1, ![2048]⟩ : Shape).Idx → EReal) (W : (⟨2, ![2048, 6160]⟩ : Shape).Idx → EReal) :
    (⟨2, ![16384, 128]⟩ : Shape).Idx → EReal := fun i => if h : (i 1).val < 16 then prod X w W (i 0) ⟨6144 + (i 1).val, by omega⟩ else 0

theorem eta2 {a b : ℕ} (i : (⟨2, ![a, b]⟩ : Shape).Idx) : i = ix2 (i 0) (i 1) := funext fun k => by
  match k with
  | ⟨0, _⟩ => rfl
  | ⟨1, _⟩ => rfl

/-- A matrix of 16 columns padded with zeros to 128 columns. -/
theorem pad_at {n : ℕ} (x : (⟨2, ![n, 16]⟩ : Shape).Idx → EReal) (h : (⟨2, ![n, 16]⟩ : Shape).Pads ![0, 0] ![0, 112] ![0, 0] ⟨2, ![n, 128]⟩) (hu : 0 < (⟨0, ![]⟩ : Shape).numel)
    (v : (⟨0, ![]⟩ : Shape).Idx → EReal) (hv : ∀ k, v k = 0) (r : Fin n) (j : Fin 128) :
    pad ⟨2, ![n, 128]⟩ ![0, 0] ![0, 112] ![0, 0] x v h hu (ix2 r j) = if hj : j.val < 16 then x (ix2 r ⟨j.val, hj⟩) else 0 := by
  by_cases hj : j.val < 16
  · rw [dif_pos hj]
    exact pad_apply_of_inside _ _ _ _ _ _ _ (ix2 r j : (⟨2, ![n, 128]⟩ : Shape).Idx) (ix2 r ⟨j.val, hj⟩ : (⟨2, ![n, 16]⟩ : Shape).Idx) (fun a => by
      match a with
      | ⟨0, _⟩ => show r.val = 0 + r.val * (0 + 1); omega
      | ⟨1, _⟩ => show j.val = 0 + j.val * (0 + 1); omega)
  · rw [dif_neg hj, pad_apply_of_not_inside _ _ _ _ _ _ _ (ix2 r j : (⟨2, ![n, 128]⟩ : Shape).Idx) (1 : Fin 2) (fun h => by
      have h2 : (j.val - 0) / (0 + 1) < 16 := h.2.2
      omega)]
    exact hv _

/-- Some of the columns of a matrix of 6160 columns. -/
theorem cut_at {n b o : ℕ} (x : (⟨2, ![n, 6160]⟩ : Shape).Idx → EReal) (h : (⟨2, ![n, 6160]⟩ : Shape).Slices ![0, o] ⟨2, ![n, b]⟩) (r : Fin n) (j : Fin b) (k : Fin 6160) (hk : k.val = o + j.val) :
    extractStridedSlice ⟨2, ![n, b]⟩ ![0, o] x h (ix2 r j) = x (ix2 r k) :=
  extractStridedSlice_apply _ _ h (ix2 r j) (ix2 r k) (fun a => by
    match a with
    | ⟨0, _⟩ => show r.val = 0 + r.val; omega
    | ⟨1, _⟩ => show k.val = o + j.val; exact hk)

/-- The padding value. -/
theorem zero_at (k : (⟨0, ![]⟩ : Shape).Idx) : (sitofp (F := Ideal) .f32 (constantI (⟨0, ![]⟩ : Shape) 32 0#32) k : EReal) = 0 := by
  show (((0#32 : BitVec 32).toInt : ℝ) : EReal) = 0
  simp

/-! ## The kernel's blocks -/

theorem rows_at (x : FVec Ideal S1024x2048 .f32) (w : FVec Ideal S1x2048 .f32) (i : Fin 1024) (j : Fin 2048) :
    (rows (F := Ideal) x w (ix2 i j) : EReal) = rms (fun q => x (ix2 i q)) (fun q => w (ix2 0 q)) j := by
  unfold rms
  pointwise [rows]
theorem mprod_at (x : FVec Ideal S1024x2048 .bf16) (w : FVec Ideal S2048x512 .bf16) (i : Fin 1024) (j : Fin 512) :
    (mprod (F := Ideal) x w (ix2 i j) : EReal) = ∑ q, x (ix2 i q) * w (ix2 q j) := by
  pointwise [mprod]
theorem zprod_at (x : FVec Ideal S1024x2048 .bf16) (w : FVec Ideal S2048x128 .bf16) (i : Fin 1024) (j : Fin 128) :
    (zprod (F := Ideal) x w (ix2 i j) : EReal) = ∑ q, x (ix2 i q) * w (ix2 q j) := by
  pointwise [zprod]

variable (m : (ℓ : Loc nD τ sig) → Buf (Elt Ideal) ℓ) (c : Dev nD)
abbrev X0 : (⟨2, ![16384, 2048]⟩ : Shape).Idx → EReal := m ((c : Thread nD τ).loc main_arg0)
abbrev N0 : (⟨1, ![2048]⟩ : Shape).Idx → EReal := m ((c : Thread nD τ).loc main_arg1)
abbrev W0 : (⟨2, ![2048, 6160]⟩ : Shape).Idx → EReal := m ((c : Thread nD τ).loc main_arg2)

theorem V_v5 (j : Fin 2048) : (V m c main_v5 : (⟨2, ![1, 2048]⟩ : Shape).Idx → EReal) (ix2 0 j) = N0 m c (ix1 j) := by
  unfold V
  after_reads_simp
  exact shapeCast_apply _ _ (ix2 (0 : Fin 1) j) (ix1 j) (by rw [Shape.rowMajor_val_one, Shape.rowMajor_val_two]; simp [ix1, ix2])
theorem V_v4 (r : Fin 2048) (k : Fin 6144) : (V m c main_v4 : (⟨2, ![2048, 6144]⟩ : Shape).Idx → EReal) (ix2 r k) = W0 m c (ix2 r (Fin.castLE (by decide : 6144 ≤ 6160) k)) := by
  unfold V
  after_reads_simp
  exact cut_at (W0 m c) slices_S2048x6160_S2048x6144_0_0 r k (Fin.castLE (by decide : 6144 ≤ 6160) k) (Nat.zero_add _).symm
theorem V_v2 (r : Fin 2048) (k : Fin 128) : (V m c main_v2 : (⟨2, ![2048, 128]⟩ : Shape).Idx → EReal) (ix2 r k)
    = if hk : k.val < 16 then W0 m c (ix2 r ⟨6144 + k.val, by omega⟩) else 0 := by
  unfold V
  after_reads_simp
  refine (pad_at _ pads_S2048x16_S2048x128_000_01120 h_S_ _ zero_at r k).trans ?_
  by_cases hk : k.val < 16
  · rw [dif_pos hk, dif_pos hk]
    exact cut_at (W0 m c) slices_S2048x6160_S2048x16_0_6144 r ⟨k.val, hk⟩ ⟨6144 + k.val, by omega⟩ rfl
  · rw [dif_neg hk, dif_neg hk]

theorem NN : cfg0.N = 192 := N_0
theorem ix0 : ∀ t : Fin cfg0.N, win0_0.index t (0 : Fin 2) = t.val / 12 ∧ win0_0.index t (1 : Fin 2) = 0 := (by decide +kernel : ∀ t : Fin grid0.N, _)
theorem ix1' : ∀ t : Fin cfg0.N, win0_1.index t (0 : Fin 2) = 0 ∧ win0_1.index t (1 : Fin 2) = 0 := (by decide +kernel : ∀ t : Fin grid0.N, _)
theorem ix2' : ∀ t : Fin cfg0.N, win0_2.index t (0 : Fin 2) = 0 ∧ win0_2.index t (1 : Fin 2) = t.val % 12 := (by decide +kernel : ∀ t : Fin grid0.N, _)
theorem ix3' : ∀ t : Fin cfg0.N, win0_3.index t (0 : Fin 2) = 0 ∧ win0_3.index t (1 : Fin 2) = 0 := (by decide +kernel : ∀ t : Fin grid0.N, _)
theorem ix4 : ∀ t : Fin cfg0.N, win0_4.index t (0 : Fin 2) = t.val / 12 ∧ win0_4.index t (1 : Fin 2) = t.val % 12 := (by decide +kernel : ∀ t : Fin grid0.N, _)
theorem ix5 : ∀ t : Fin cfg0.N, win0_5.index t (0 : Fin 2) = t.val / 12 ∧ win0_5.index t (1 : Fin 2) = 0 := (by decide +kernel : ∀ t : Fin grid0.N, _)

theorem b0 (t : Fin cfg0.N) (r : Fin 1024) (j : Fin 2048) (p : Fin 16384) (h0 : p.val = 1024 * (t.val / 12) + r.val) :
    (iblk m c 0 t : (⟨2, ![1024, 2048]⟩ : Shape).Idx → EReal) (ix2 r j) = X0 m c (ix2 p j) := by
  obtain ⟨e0, e1⟩ := ix0 t
  show V m c main_arg0 (((cfg0.win 0).blk t).view.emb (ix2 r j)) = X0 m c (ix2 p j)
  rw [V_main_arg0]
  refine congrArg (X0 m c) (funext fun a => Fin.ext ?_)
  match a with
  | ⟨0, _⟩ => show win0_0.index t (0 : Fin 2) * 1024 + 1 * r.val = p.val; rw [e0, h0]; omega
  | ⟨1, _⟩ => show win0_0.index t (1 : Fin 2) * 2048 + 1 * j.val = j.val; rw [e1]; omega
theorem b1 (t : Fin cfg0.N) (j : Fin 2048) :
    (iblk m c 1 t : (⟨2, ![1, 2048]⟩ : Shape).Idx → EReal) (ix2 0 j) = N0 m c (ix1 j) := by
  obtain ⟨e0, e1⟩ := ix1' t
  refine Eq.trans ?_ (V_v5 m c j)
  show V m c main_v5 (((cfg0.win 1).blk t).view.emb (ix2 0 j)) = V m c main_v5 (ix2 0 j)
  refine congrArg (V m c main_v5) (funext fun a => Fin.ext ?_)
  match a with
  | ⟨0, _⟩ => show win0_1.index t (0 : Fin 2) * 1 + 1 * 0 = 0; rw [e0]
  | ⟨1, _⟩ => show win0_1.index t (1 : Fin 2) * 2048 + 1 * j.val = j.val; rw [e1]; omega
theorem b2 (t : Fin cfg0.N) (r : Fin 2048) (j : Fin 512) (k : Fin 6144) (h1 : k.val = 512 * (t.val % 12) + j.val) :
    (iblk m c 2 t : (⟨2, ![2048, 512]⟩ : Shape).Idx → EReal) (ix2 r j) = W0 m c (ix2 r (Fin.castLE (by decide : 6144 ≤ 6160) k)) := by
  obtain ⟨e0, e1⟩ := ix2' t
  refine Eq.trans ?_ (V_v4 m c r k)
  show V m c main_v4 (((cfg0.win 2).blk t).view.emb (ix2 r j)) = V m c main_v4 (ix2 r k)
  refine congrArg (V m c main_v4) (funext fun a => Fin.ext ?_)
  match a with
  | ⟨0, _⟩ => show win0_2.index t (0 : Fin 2) * 2048 + 1 * r.val = r.val; rw [e0]; omega
  | ⟨1, _⟩ => show win0_2.index t (1 : Fin 2) * 512 + 1 * j.val = k.val; rw [e1, h1]; omega
theorem b3 (t : Fin cfg0.N) (r : Fin 2048) (j : Fin 128) :
    (iblk m c 3 t : (⟨2, ![2048, 128]⟩ : Shape).Idx → EReal) (ix2 r j) = if hk : j.val < 16 then W0 m c (ix2 r ⟨6144 + j.val, by omega⟩) else 0 := by
  obtain ⟨e0, e1⟩ := ix3' t
  refine Eq.trans ?_ (V_v2 m c r j)
  show V m c main_v2 (((cfg0.win 3).blk t).view.emb (ix2 r j)) = V m c main_v2 (ix2 r j)
  refine congrArg (V m c main_v2) (funext fun a => Fin.ext ?_)
  match a with
  | ⟨0, _⟩ => show win0_3.index t (0 : Fin 2) * 2048 + 1 * r.val = r.val; rw [e0]; omega
  | ⟨1, _⟩ => show win0_3.index t (1 : Fin 2) * 128 + 1 * j.val = j.val; rw [e1]; omega

abbrev bl0 (t : Fin cfg0.N) : FVec Ideal S1024x2048 .f32 := iblk m c 0 t
abbrev bl1 (t : Fin cfg0.N) : FVec Ideal S1x2048 .f32 := iblk m c 1 t

/-- The rows kept are the normalised input rows. -/
theorem h_eq (t : Fin cfg0.N) (r : Fin 1024) (q : Fin 2048) (p : Fin 16384) (h0 : p.val = 1024 * (t.val / 12) + r.val) :
    (hAt m c t : (⟨2, ![1024, 2048]⟩ : Shape).Idx → EReal) (ix2 r q) = nrm (X0 m c) (N0 m c) p q := by
  have hr : (row0 t).val / 12 = t.val / 12 := by show 12 * (t.val / 12) / 12 = _; omega
  have e0 : (fun k : Fin 2048 => (bl0 m c (row0 t) (ix2 r k) : EReal)) = fun k => X0 m c (ix2 p k) := funext fun k => b0 m c (row0 t) r k p (by rw [hr, h0])
  have e1 : (fun k : Fin 2048 => (bl1 m c (row0 t) (ix2 0 k) : EReal)) = fun k => N0 m c (ix1 k) := funext fun k => b1 m c (row0 t) k
  refine (rows_at (bl0 m c (row0 t)) (bl1 m c (row0 t)) r q).trans ?_
  rw [e0, e1]
  rfl

theorem out_pt (t : Fin cfg0.N) (r : Fin 1024) (j : Fin 512) (i : (⟨2, ![16384, 6144]⟩ : Shape).Idx) (h0 : (i 0).val = 1024 * (t.val / 12) + r.val)
    (h1 : (i 1).val = 512 * (t.val % 12) + j.val) :
    (oAt m c t : (⟨2, ![1024, 512]⟩ : Shape).Idx → EReal) (ix2 r j) = mainSpec (X0 m c) (N0 m c) (W0 m c) i :=
  (mprod_at _ _ r j).trans (Finset.sum_congr rfl fun q _ =>
    congrArg₂ (fun a b : EReal => a * b) (h_eq m c t r q (i 0) h0) (b2 m c t q j (i 1) h1))

theorem z_pt (t : Fin cfg0.N) (r : Fin 1024) (i : (⟨2, ![16384, 128]⟩ : Shape).Idx) (h0 : (i 0).val = 1024 * (t.val / 12) + r.val) :
    (zAt m c t : (⟨2, ![1024, 128]⟩ : Shape).Idx → EReal) (ix2 r (i 1)) = decaySpec (X0 m c) (N0 m c) (W0 m c) i := by
  refine (zprod_at _ _ r (i 1)).trans ((Finset.sum_congr rfl fun q _ =>
    congrArg₂ (fun a b : EReal => a * b) (h_eq m c t r q (i 0) h0) (b3 m c (row0 t) q (i 1))).trans ?_)
  unfold decaySpec
  by_cases hk : (i 1).val < 16
  · simp only [dif_pos hk]
    rfl
  · simp only [dif_neg hk, mul_zero, Finset.sum_const_zero]

/-! ## The result arrays -/

theorem flushed_eq4 (t : Fin cfg0.N) (hf : (cfg0.win 4).flush t = true) :
    (dats m 0 c).flushed 4 t = ((cfg0.win 4).blk t).view.read (Elt Ideal) (mainSpec (X0 m c) (N0 m c) (W0 m c)) := by
  have hN := NN
  have htl := t.isLt
  show (cfg0.win 4).cut (grid0.coords t) ((dats m 0 c).after 4 t) = _
  rw [after4]
  obtain ⟨f0, f1⟩ := ix4 t
  funext y
  have y0 : (y 0).val < 1024 := (y 0).isLt
  have y1 : (y 1).val < 512 := (y 1).isLt
  let i : (⟨2, ![16384, 6144]⟩ : Shape).Idx := ix2 ⟨1024 * (t.val / 12) + (y 0).val, by omega⟩ ⟨512 * (t.val % 12) + (y 1).val, by omega⟩
  have hemb : ((cfg0.win 4).blk t).view.emb y = i := funext fun a => Fin.ext (by
    match a with
    | ⟨0, _⟩ => show win0_4.index t (0 : Fin 2) * 1024 + 1 * (y 0).val = 1024 * (t.val / 12) + (y 0).val; omega
    | ⟨1, _⟩ => show win0_4.index t (1 : Fin 2) * 512 + 1 * (y 1).val = 512 * (t.val % 12) + (y 1).val; omega)
  show (oAt m c t : (⟨2, ![1024, 512]⟩ : Shape).Idx → EReal) y = mainSpec (X0 m c) (N0 m c) (W0 m c) (((cfg0.win 4).blk t).view.emb y)
  rw [hemb]
  exact (congrArg (oAt m c t : (⟨2, ![1024, 512]⟩ : Shape).Idx → EReal) (eta2 y)).trans (out_pt m c t ⟨(y 0).val, y0⟩ ⟨(y 1).val, y1⟩ i rfl rfl)

theorem flushed_eq5 (t : Fin cfg0.N) (hf : (cfg0.win 5).flush t = true) :
    (dats m 0 c).flushed 5 t = ((cfg0.win 5).blk t).view.read (Elt Ideal) (decaySpec (X0 m c) (N0 m c) (W0 m c)) := by
  have hN := NN
  have htl := t.isLt
  show (cfg0.win 5).cut (grid0.coords t) ((dats m 0 c).after 5 t) = _
  rw [after5]
  obtain ⟨f0, f1⟩ := ix5 t
  funext y
  have y0 : (y 0).val < 1024 := (y 0).isLt
  have y1 : (y 1).val < 128 := (y 1).isLt
  let i : (⟨2, ![16384, 128]⟩ : Shape).Idx := ix2 ⟨1024 * (t.val / 12) + (y 0).val, by omega⟩ ⟨(y 1).val, y1⟩
  have hemb : ((cfg0.win 5).blk t).view.emb y = i := funext fun a => Fin.ext (by
    match a with
    | ⟨0, _⟩ => show win0_5.index t (0 : Fin 2) * 1024 + 1 * (y 0).val = 1024 * (t.val / 12) + (y 0).val; omega
    | ⟨1, _⟩ => show win0_5.index t (1 : Fin 2) * 128 + 1 * (y 1).val = (y 1).val; omega)
  show (zAt m c t : (⟨2, ![1024, 128]⟩ : Shape).Idx → EReal) y = decaySpec (X0 m c) (N0 m c) (W0 m c) (((cfg0.win 5).blk t).view.emb y)
  rw [hemb]
  exact (congrArg (zAt m c t : (⟨2, ![1024, 128]⟩ : Shape).Idx → EReal) (eta2 y)).trans (z_pt m c t ⟨(y 0).val, y0⟩ i rfl)

theorem final_eq4 : (dats m 0 c).arrAt 4 cfg0.N = mainSpec (X0 m c) (N0 m c) (W0 m c) :=
  (dats m 0 c).arrAt_eq_of_cover 4 (mainSpec (X0 m c) (N0 m c) (W0 m c)) (flushed_eq4 m c) fun i => by
    have h0 : (i 0 : Nat) < 16384 := (i 0).isLt
    have h1 : (i 1 : Nat) < 6144 := (i 1).isLt
    have hN : cfg0.N = 192 := N_0
    let t : Fin cfg0.N := ⟨12 * ((i 0 : Nat) / 1024) + (i 1 : Nat) / 512, by omega⟩
    have tv : t.val = 12 * ((i 0 : Nat) / 1024) + (i 1 : Nat) / 512 := rfl
    refine ⟨t, flush0_4 t, ?_⟩
    obtain ⟨e0, e1⟩ := ix4 t
    show i ∈ ((View.whole main_v6_0).slice (win0_4.rect t)).set
    rw [View.set_slice_whole, Rect.mem_set_unit]
    intro a
    match a with
    | ⟨0, _⟩ => show win0_4.index t (0 : Fin 2) * 1024 ≤ (i 0 : Nat) ∧ (i 0 : Nat) < win0_4.index t (0 : Fin 2) * 1024 + 1024
                rw [e0]; omega
    | ⟨1, _⟩ => show win0_4.index t (1 : Fin 2) * 512 ≤ (i 1 : Nat) ∧ (i 1 : Nat) < win0_4.index t (1 : Fin 2) * 512 + 512
                rw [e1]; omega

theorem final_eq5 : (dats m 0 c).arrAt 5 cfg0.N = decaySpec (X0 m c) (N0 m c) (W0 m c) :=
  (dats m 0 c).arrAt_eq_of_cover 5 (decaySpec (X0 m c) (N0 m c) (W0 m c)) (flushed_eq5 m c) fun i => by
    have h0 : (i 0 : Nat) < 16384 := (i 0).isLt
    have h1 : (i 1 : Nat) < 128 := (i 1).isLt
    have hN : cfg0.N = 192 := N_0
    let t : Fin cfg0.N := ⟨12 * ((i 0 : Nat) / 1024) + 11, by omega⟩
    have tv : t.val = 12 * ((i 0 : Nat) / 1024) + 11 := rfl
    refine ⟨t, (flush0_5 t).2 (by omega), ?_⟩
    obtain ⟨e0, e1⟩ := ix5 t
    show i ∈ ((View.whole main_v6_1).slice (win0_5.rect t)).set
    rw [View.set_slice_whole, Rect.mem_set_unit]
    intro a
    match a with
    | ⟨0, _⟩ => show win0_5.index t (0 : Fin 2) * 1024 ≤ (i 0 : Nat) ∧ (i 0 : Nat) < win0_5.index t (0 : Fin 2) * 1024 + 1024
                rw [e0]; omega
    | ⟨1, _⟩ => show win0_5.index t (1 : Fin 2) * 128 ≤ (i 1 : Nat) ∧ (i 1 : Nat) < win0_5.index t (1 : Fin 2) * 128 + 128
                rw [e1]; omega

/-- The run ends with both results at the specification's arrays and the arguments unchanged. -/
theorem run_spec (ρ : Dev nD → PrngReg) : θ_run defs (onTc (τ := τ) (main (F := Ideal))) ⟨m, fun _ => 0, ρ⟩ fun r => ∀ c : Dev nD,
      r.2.mem ((c.tc : Thread nD τ).loc main_v6_0) = mainSpec (X0 m c) (N0 m c) (W0 m c)
      ∧ r.2.mem ((c.tc : Thread nD τ).loc main_v6_1) = decaySpec (X0 m c) (N0 m c) (W0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 4).trans (final_eq4 m c), ((h.1 c).1 5).trans (final_eq5 m c), h.2 c⟩) (θ_run_and (run_main m ρ) (unchanged m ρ))

/-! ## The reference -/

/-- The reference's product, before it is cut in two. -/
def rProd (x : FVec Ideal Cert.GlaProjRefIdeal.S16384x2048 .f32) (w : FVec Ideal Cert.GlaProjRefIdeal.S2048 .f32) (W : FVec Ideal Cert.GlaProjRefIdeal.S2048x6160 .f32) : FVec Ideal Cert.GlaProjRefIdeal.S16384x6160 .f32 :=
  Host.dotGeneral Cert.GlaProjRefIdeal.dot_S16384x2048_S2048x6160_S16384x6160_1_0_0_1_n_n none (mulf (mulf x (broadcastInDim Cert.GlaProjRefIdeal.S16384x2048 ![0, 1] Cert.GlaProjRefIdeal.Gen.bcast_S16384x1_S16384x2048_0_1 (Host.rsqrt (addf (Host.divf (broadcastInDim Cert.GlaProjRefIdeal.S16384x1 ![0] Cert.GlaProjRefIdeal.Gen.bcast_S16384_S16384x1_0 (Host.reduceAdd (mulf x x) (constant Cert.GlaProjRefIdeal.S_ .f32 0x00000000#32) Cert.GlaProjRefIdeal.Gen.reducesTo_S16384x2048_S16384_d1 Cert.GlaProjRefIdeal.Gen.h_S_)) (broadcastInDim Cert.GlaProjRefIdeal.S16384x1 ![] Cert.GlaProjRefIdeal.Gen.bcast_S_S16384x1 (constant Cert.GlaProjRefIdeal.S_ .f32 0x45000000#32))) (broadcastInDim Cert.GlaProjRefIdeal.S16384x1 ![] Cert.GlaProjRefIdeal.Gen.bcast_S_S16384x1 (constant Cert.GlaProjRefIdeal.S_ .f32 0x358637BD#32)))))) (broadcastInDim Cert.GlaProjRefIdeal.S16384x2048 ![0, 1] Cert.GlaProjRefIdeal.Gen.bcast_S1x2048_S16384x2048_0_1 (broadcastInDim Cert.GlaProjRefIdeal.S1x2048 ![1] Cert.GlaProjRefIdeal.Gen.bcast_S2048_S1x2048_1 w))) W

theorem rProd_at (x : FVec Ideal Cert.GlaProjRefIdeal.S16384x2048 .f32) (w : FVec Ideal Cert.GlaProjRefIdeal.S2048 .f32) (W : FVec Ideal Cert.GlaProjRefIdeal.S2048x6160 .f32) (p : Fin 16384) (k : Fin 6160) :
    (rProd x w W (ix2 p k) : EReal) = prod x w W p k := by
  unfold prod nrm rms
  pointwise [rProd]

theorem ref_eq_main (x : FVec Ideal Cert.GlaProjRefIdeal.S16384x2048 .f32) (w : FVec Ideal Cert.GlaProjRefIdeal.S2048 .f32) (W : FVec Ideal Cert.GlaProjRefIdeal.S2048x6160 .f32) :
    truncf (F := Ideal) .bf16 (extractStridedSlice Cert.GlaProjRefIdeal.S16384x6144 ![0, 0] (rProd x w W) Cert.GlaProjRefIdeal.Gen.slices_S16384x6160_S16384x6144_0_0) Cert.GlaProjRefIdeal.Gen.bitsLt_bf16_f32 = mainSpec x w W := by
  funext i
  rw [eta2 i]
  exact (cut_at (rProd x w W) Cert.GlaProjRefIdeal.Gen.slices_S16384x6160_S16384x6144_0_0 (i 0) (i 1) (Fin.castLE (by decide : 6144 ≤ 6160) (i 1)) (Nat.zero_add _).symm).trans (rProd_at x w W _ _)

theorem ref_eq_decay (x : FVec Ideal Cert.GlaProjRefIdeal.S16384x2048 .f32) (w : FVec Ideal Cert.GlaProjRefIdeal.S2048 .f32) (W : FVec Ideal Cert.GlaProjRefIdeal.S2048x6160 .f32) :
    pad Cert.GlaProjRefIdeal.S16384x128 ![0, 0] ![0, 112] ![0, 0] (extractStridedSlice Cert.GlaProjRefIdeal.S16384x16 ![0, 6144] (rProd x w W) Cert.GlaProjRefIdeal.Gen.slices_S16384x6160_S16384x16_0_6144)
      (sitofp (F := Ideal) .f32 (constantI Cert.GlaProjRefIdeal.S_ 32 0#32)) Cert.GlaProjRefIdeal.Gen.pads_S16384x16_S16384x128_000_01120 Cert.GlaProjRefIdeal.Gen.h_S_ = decaySpec x w W := by
  funext i
  rw [eta2 i]
  refine (pad_at _ Cert.GlaProjRefIdeal.Gen.pads_S16384x16_S16384x128_000_01120 Cert.GlaProjRefIdeal.Gen.h_S_ _ zero_at (i 0) (i 1)).trans ?_
  show _ = if h : (i 1).val < 16 then prod x w W (i 0) ⟨6144 + (i 1).val, by omega⟩ else 0
  by_cases hk : (i 1).val < 16
  · rw [dif_pos hk, dif_pos hk]
    exact (cut_at (rProd x w W) Cert.GlaProjRefIdeal.Gen.slices_S16384x6160_S16384x16_0_6144 (i 0) ⟨(i 1).val, hk⟩ ⟨6144 + (i 1).val, by omega⟩ rfl).trans (rProd_at x w W _ _)
  · rw [dif_neg hk, dif_neg hk]
end Cert.GlaProjVal
-- ==== Proof.LruProjVal.lean ====
module

public import proofs.«01_k».proof.Proof.Gen.LruProjIdeal.Value
public import proofs.«01_k».proof.Proof.Gen.LruProjRefIdeal.Run
public import proofs.«01_k».proof.Proof.RmsRow
public import Idealize.ShloMosaic.Lib.StableHlo.ReadAt

/-! The projections of the gated linear recurrent branch: the kernel's result array is the product of the normalised
    rows with the weights, and so is the reference's. -/

@[expose] public section

set_option maxRecDepth 16384
noncomputable section
namespace Cert.LruProjVal
open Idealize.ShloMosaic Idealize.ShloMosaic.TcCoe Idealize.ShloMosaic.Tactic Idealize.ShloMosaic.StableHlo Idealize.SL.Sem
open Cert.LruProjIdeal Cert.LruProjIdeal.Gen Cert.RmsRow

theorem hz : (![0, 0] : Fin 2 → Nat) = fun _ => 0 := funext fun a => by fin_cases a <;> rfl

/-- The normalised rows of a block. -/
theorem pay1_at (x : FVec Ideal S1024x2048 .f32) (w : FVec Ideal S1x2048 .f32) (i : Fin 1024) (j : Fin 2048) :
    (k0_pay1 (F := Ideal) x w (ix2 i j) : EReal) = rms (fun q => x (ix2 i q)) (fun q => w (ix2 0 q)) j := by
  unfold rms
  pointwise [k0_pay1]
/-- One block of the product. -/
theorem pay2_at (x : FVec Ideal S1024x2048 .bf16) (w : FVec Ideal S2048x512 .bf16) (i : Fin 1024) (j : Fin 512) :
    (k0_pay2 (F := Ideal) x w (ix2 i j) : EReal) = ∑ q, x (ix2 i q) * w (ix2 q j) := by
  pointwise [k0_pay2]

section cases
variable (c : Dev nD) (i : grid0.Coords) (a2 : Memref sig .tc .vmem S1024x2048 .f32) (h2 : a2.IsWhole) (a3 : Memref sig .tc .vmem S1x2048 .f32) (h3 : a3.IsWhole)
  (a4 : Memref sig .tc .vmem S2048x512 .bf16) (h4 : a4.IsWhole) (a5 : Memref sig .tc .vmem S1024x512 .f32) (h5 : a5.IsWhole) (a6 : Memref sig .tc .vmem S1024x2048 .bf16) (h6 : a6.IsWhole)
  (x0 : Vec Ideal S1024x2048 .f32) (x1 : Vec Ideal S1x2048 .f32) (x2 : Vec Ideal S2048x512 .bf16) (xs : Vec Ideal S1024x2048 .bf16)
/-- The first point of a row block keeps the normalised rows. -/
theorem sout_A (hc0 : cond0_0 i) : sout0_A_0 (F := Ideal) c i a2 h2 a3 h3 a4 h4 a5 h5 a6 h6 hc0 x0 x1 x2 = k0_pay1 x0 x1 := by
  unfold sout0_A_0
  rw [View.read_writes_eq_canon _ _ _ (scover0_A_0 (F := Ideal) c i a2 h2 a3 h3 a4 h4 a5 h5 a6 h6 hc0 x0 x1 x2)]
  unfold kernelRun0_A
  dsimp only
  sl_unfold_words
  rw [View.canon_unit_zero hz]
  simp only [View.readAt_eq_ld, h2.read_unread, h3.read_unread, View.ld_unit_zero (S := S1024x2048) hz, View.ld_unit_zero (S := S1x2048) hz]

/-- The first point of a row block leaves the product with the rows it has just normalised. -/
theorem out_A (hc0 : cond0_0 i) : out0_A_3 (F := Ideal) c i a2 h2 a3 h3 a4 h4 a5 h5 a6 h6 hc0 x0 x1 x2 = k0_pay2 (k0_pay1 x0 x1) x2 := by
  unfold out0_A_3
  rw [View.read_writes_eq_canon _ _ _ (cover0_A_3 (F := Ideal) c i a2 h2 a3 h3 a4 h4 a5 h5 a6 h6 hc0 x0 x1 x2)]
  unfold kernelRun0_A
  dsimp only
  sl_unfold_words
  rw [View.canon_unit_zero hz]
  simp only [View.readAt_eq_ld, h2.read_unread, h3.read_unread, h4.read_unread, View.ld_unit_zero (S := S1024x2048) hz, View.ld_unit_zero (S := S1x2048) hz, View.ld_unit_zero (S := S2048x512) hz,
    View.canon_unit_zero (S := S1024x2048) hz, View.readCov_unit_zero (S := S1024x2048) _ hz]

/-- A later point leaves the product with the rows kept. -/
theorem out_B (hc0 : ¬cond0_0 i) : out0_B_3 (F := Ideal) c i a2 h2 a3 h3 a4 h4 a5 h5 a6 h6 hc0 x0 x1 x2 xs = k0_pay2 xs x2 := by
  unfold out0_B_3
  rw [View.read_writes_eq_canon _ _ _ (cover0_B_3 (F := Ideal) c i a2 h2 a3 h3 a4 h4 a5 h5 a6 h6 hc0 x0 x1 x2 xs)]
  unfold kernelRun0_B
  dsimp only
  rw [View.canon_unit_zero hz]
  simp only [View.readAt_eq_ld, h4.read_unread, h6.read_unread, View.ld_unit_zero (S := S1024x2048) hz, View.ld_unit_zero (S := S2048x512) hz]
end cases

variable (m : (ℓ : Loc nD τ sig) → Buf (Elt Ideal) ℓ) (c : Dev nD)
abbrev X0 : (⟨2, ![16384, 2048]⟩ : Shape).Idx → EReal := m ((c : Thread nD τ).loc main_arg0)
abbrev N0 : (⟨1, ![2048]⟩ : Shape).Idx → EReal := m ((c : Thread nD τ).loc main_arg1)
abbrev W0 : (⟨2, ![2048, 4096]⟩ : Shape).Idx → EReal := m ((c : Thread nD τ).loc main_arg2)

theorem V_v0 : (V m c main_v0 : (⟨2, ![2048, 4096]⟩ : Shape).Idx → EReal) = W0 m c := by
  unfold V
  after_reads_simp
  try rfl
theorem V_v1 (j : Fin 2048) : (V m c main_v1 : (⟨2, ![1, 2048]⟩ : Shape).Idx → EReal) (ix2 0 j) = N0 m c (ix1 j) := by
  unfold V
  after_reads_simp
  exact shapeCast_apply _ _ (ix2 (0 : Fin 1) j) (ix1 j) (by rw [Shape.rowMajor_val_one, Shape.rowMajor_val_two]; simp [ix1, ix2])

theorem NN : cfg0.N = 128 := N_0
theorem ix0 : ∀ t : Fin cfg0.N, win0_0.index t (0 : Fin 2) = t.val / 8 ∧ win0_0.index t (1 : Fin 2) = 0 := (by decide +kernel : ∀ t : Fin grid0.N, _)
theorem ix1' : ∀ t : Fin cfg0.N, win0_1.index t (0 : Fin 2) = 0 ∧ win0_1.index t (1 : Fin 2) = 0 := (by decide +kernel : ∀ t : Fin grid0.N, _)
theorem ix2' : ∀ t : Fin cfg0.N, win0_2.index t (0 : Fin 2) = 0 ∧ win0_2.index t (1 : Fin 2) = t.val % 8 := (by decide +kernel : ∀ t : Fin grid0.N, _)

theorem b0 (t : Fin cfg0.N) (r : Fin 1024) (j : Fin 2048) (p : Fin 16384) (h0 : p.val = 1024 * (t.val / 8) + r.val) :
    (iblk m c 0 t : (⟨2, ![1024, 2048]⟩ : Shape).Idx → EReal) (ix2 r j) = X0 m c (ix2 p j) := by
  obtain ⟨e0, e1⟩ := ix0 t
  show V m c main_arg0 (((cfg0.win 0).blk t).view.emb (ix2 r j)) = X0 m c (ix2 p j)
  rw [V_main_arg0]
  refine congrArg (X0 m c) (funext fun a => Fin.ext ?_)
  match a with
  | ⟨0, _⟩ => show win0_0.index t (0 : Fin 2) * 1024 + 1 * r.val = p.val; rw [e0, h0]; omega
  | ⟨1, _⟩ => show win0_0.index t (1 : Fin 2) * 2048 + 1 * j.val = j.val; rw [e1]; omega
theorem b1 (t : Fin cfg0.N) (j : Fin 2048) :
    (iblk m c 1 t : (⟨2, ![1, 2048]⟩ : Shape).Idx → EReal) (ix2 0 j) = N0 m c (ix1 j) := by
  obtain ⟨e0, e1⟩ := ix1' t
  refine Eq.trans ?_ (V_v1 m c j)
  show V m c main_v1 (((cfg0.win 1).blk t).view.emb (ix2 0 j)) = V m c main_v1 (ix2 0 j)
  refine congrArg (V m c main_v1) (funext fun a => Fin.ext ?_)
  match a with
  | ⟨0, _⟩ => show win0_1.index t (0 : Fin 2) * 1 + 1 * 0 = 0; rw [e0]
  | ⟨1, _⟩ => show win0_1.index t (1 : Fin 2) * 2048 + 1 * j.val = j.val; rw [e1]; omega
theorem b2 (t : Fin cfg0.N) (r : Fin 2048) (j : Fin 512) (p : Fin 4096) (h1 : p.val = 512 * (t.val % 8) + j.val) :
    (iblk m c 2 t : (⟨2, ![2048, 512]⟩ : Shape).Idx → EReal) (ix2 r j) = W0 m c (ix2 r p) := by
  obtain ⟨e0, e1⟩ := ix2' t
  show V m c main_v0 (((cfg0.win 2).blk t).view.emb (ix2 r j)) = W0 m c (ix2 r p)
  refine (congrFun (V_v0 m c) _).trans ?_
  refine congrArg (W0 m c) (funext fun a => Fin.ext ?_)
  match a with
  | ⟨0, _⟩ => show win0_2.index t (0 : Fin 2) * 2048 + 1 * r.val = r.val; rw [e0]; omega
  | ⟨1, _⟩ => show win0_2.index t (1 : Fin 2) * 512 + 1 * j.val = p.val; rw [e1, h1]; omega

/-- The normalised input rows. -/
def nrm (X : (⟨2, ![16384, 2048]⟩ : Shape).Idx → EReal) (w : (⟨1, ![2048]⟩ : Shape).Idx → EReal) (p : Fin 16384) (q : Fin 2048) : EReal :=
  rms (fun k => X (ix2 p k)) (fun k => w (ix1 k)) q
/-- The normalised rows times the weights. -/
def proj (X : (⟨2, ![16384, 2048]⟩ : Shape).Idx → EReal) (w : (⟨1, ![2048]⟩ : Shape).Idx → EReal) (W : (⟨2, ![2048, 4096]⟩ : Shape).Idx → EReal) :
    (⟨2, ![16384, 4096]⟩ : Shape).Idx → EReal := fun i => ∑ q : Fin 2048, nrm X w (i 0) q * W (ix2 q (i 1))

abbrev bl0 (t : Fin cfg0.N) : FVec Ideal S1024x2048 .f32 := iblk m c 0 t
abbrev bl1 (t : Fin cfg0.N) : FVec Ideal S1x2048 .f32 := iblk m c 1 t

/-- The rows a first point keeps are the normalised input rows. -/
theorem h_eq (t : Fin cfg0.N) (r : Fin 1024) (q : Fin 2048) (p : Fin 16384) (h0 : p.val = 1024 * (t.val / 8) + r.val) :
    (k0_pay1 (F := Ideal) (bl0 m c t) (bl1 m c t) (ix2 r q) : EReal) = nrm (X0 m c) (N0 m c) p q := by
  have e0 : (fun k : Fin 2048 => (bl0 m c t (ix2 r k) : EReal)) = fun k => X0 m c (ix2 p k) := funext fun k => b0 m c t r k p h0
  have e1 : (fun k : Fin 2048 => (bl1 m c t (ix2 0 k) : EReal)) = fun k => N0 m c (ix1 k) := funext fun k => b1 m c t k
  rw [pay1_at (bl0 m c t) (bl1 m c t) r q, e0, e1]
  rfl

/-- What every point keeps: the normalised rows of its row block. -/
theorem scr_pt : ∀ n (hn : n < cfg0.N) (r : Fin 1024) (q : Fin 2048) (p : Fin 16384), p.val = 1024 * (n / 8) + r.val →
    ((outsAt0 m c n hn).2 : (⟨2, ![1024, 2048]⟩ : Shape).Idx → EReal) (ix2 r q) = nrm (X0 m c) (N0 m c) p q := by
  intro n
  induction n with
  | zero =>
    intro hn r q p h0
    rw [outsAt0_A m c ⟨0, hn⟩ (by rfl)]
    dsimp only
    rw [sout_A]
    exact h_eq m c ⟨0, hn⟩ r q p h0
  | succ n ih =>
    intro hn r q p h0
    by_cases hk : (n + 1) % 8 = 0
    · rw [outsAt0_A m c ⟨n + 1, hn⟩ hk]
      dsimp only
      rw [sout_A]
      exact h_eq m c ⟨n + 1, hn⟩ r q p h0
    · rw [outsAt0_B m c ⟨n + 1, hn⟩ hk]
      have e := ih (Nat.lt_of_succ_lt hn) r q p (by rw [h0]; congr 2; omega)
      simp only [sout0_B_0, Nat.add_sub_cancel]
      exact e

abbrev bl2 (t : Fin cfg0.N) : FVec Ideal S2048x512 .bf16 := iblk m c 2 t

/-- What every point leaves in the output block: its block of the product. -/
theorem out_pt (t : Fin cfg0.N) (r : Fin 1024) (j : Fin 512) (i : (⟨2, ![16384, 4096]⟩ : Shape).Idx) (h0 : (i 0).val = 1024 * (t.val / 8) + r.val)
    (h1 : (i 1).val = 512 * (t.val % 8) + j.val) :
    ((outsAt0 m c t.val t.isLt).1 : (⟨2, ![1024, 512]⟩ : Shape).Idx → EReal) (ix2 r j) = proj (X0 m c) (N0 m c) (W0 m c) i := by
  by_cases hk : t.val % 8 = 0
  · rw [outsAt0_A m c t hk]
    dsimp only
    rw [out_A]
    refine (pay2_at _ _ r j).trans (Finset.sum_congr rfl fun q _ => ?_)
    exact congrArg₂ (fun a b : EReal => a * b) (h_eq m c t r q (i 0) h0) (b2 m c t q j (i 1) h1)
  · rw [outsAt0_B m c t hk]
    dsimp only
    rw [out_B]
    refine (pay2_at _ _ r j).trans (Finset.sum_congr rfl fun q _ => ?_)
    exact congrArg₂ (fun a b : EReal => a * b) (scr_pt m c (t.val - 1) _ r q (i 0) (by rw [h0]; congr 2; omega)) (b2 m c t q j (i 1) h1)

theorem flushed_eq (t : Fin cfg0.N) (hf : (cfg0.win 3).flush t = true) :
    (dats m 0 c).flushed 3 t = ((cfg0.win 3).blk t).view.read (Elt Ideal) (proj (X0 m c) (N0 m c) (W0 m c)) := by
  have hN := NN
  have htl := t.isLt
  rw [Value.flushed3]
  obtain ⟨-, -, -, -, e⟩ := Value.idx_facts3 t
  obtain ⟨-, f0, -, f1, -⟩ := Value.idx_facts3 t
  funext y
  have y0 : (y 0).val < 1024 := (y 0).isLt
  have y1 : (y 1).val < 512 := (y 1).isLt
  let i : (⟨2, ![16384, 4096]⟩ : Shape).Idx := ix2 ⟨1024 * (t.val / 8) + (y 0).val, by omega⟩ ⟨512 * (t.val % 8) + (y 1).val, by omega⟩
  have hemb : ((cfg0.win 3).blk t).view.emb y = i := funext fun a => Fin.ext (by
    match a with
    | ⟨0, _⟩ => show win0_3.index t (0 : Fin 2) * 1024 + 1 * (y 0).val = 1024 * (t.val / 8) + (y 0).val; omega
    | ⟨1, _⟩ => show win0_3.index t (1 : Fin 2) * 512 + 1 * (y 1).val = 512 * (t.val % 8) + (y 1).val; omega)
  show ((outsAt0 m c t.val t.isLt).1 : (⟨2, ![1024, 512]⟩ : Shape).Idx → EReal) y = proj (X0 m c) (N0 m c) (W0 m c) (((cfg0.win 3).blk t).view.emb y)
  rw [hemb]
  have hy : (y : (⟨2, ![1024, 512]⟩ : Shape).Idx) = ix2 ⟨(y 0).val, y0⟩ ⟨(y 1).val, y1⟩ := funext fun a => by
    match a with
    | ⟨0, _⟩ => rfl
    | ⟨1, _⟩ => rfl
  refine (congrArg ((outsAt0 m c t.val t.isLt).1 : (⟨2, ![1024, 512]⟩ : Shape).Idx → EReal) hy).trans ?_
  exact out_pt m c t ⟨(y 0).val, y0⟩ ⟨(y 1).val, y1⟩ i rfl rfl

/-- The kernel's result array. -/
theorem final_eq : (dats m 0 c).arrAt 3 cfg0.N = proj (X0 m c) (N0 m c) (W0 m c) :=
  (dats m 0 c).arrAt_eq_of_cover 3 (proj (X0 m c) (N0 m c) (W0 m c)) (flushed_eq m c) fun i => (Value.covered_iff3 i).2 (by
    have h0 : (i 0).val < 16384 := (i 0).isLt
    have h1 : (i 1).val < 4096 := (i 1).isLt
    omega)

/-- The reference's term. -/
theorem ref_eq (x : FVec Ideal Cert.LruProjRefIdeal.S16384x2048 .f32) (w : FVec Ideal Cert.LruProjRefIdeal.S2048 .f32) (W : FVec Ideal Cert.LruProjRefIdeal.S2048x4096 .f32) :
    Host.dotGeneral Cert.LruProjRefIdeal.dot_S16384x2048_S2048x4096_S16384x4096_1_0_0_1_n_n none (mulf (mulf x (broadcastInDim Cert.LruProjRefIdeal.S16384x2048 ![0, 1] Cert.LruProjRefIdeal.Gen.bcast_S16384x1_S16384x2048_0_1 (Host.rsqrt (addf (Host.divf (broadcastInDim Cert.LruProjRefIdeal.S16384x1 ![0] Cert.LruProjRefIdeal.Gen.bcast_S16384_S16384x1_0 (Host.reduceAdd (mulf x x) (constant Cert.LruProjRefIdeal.S_ .f32 0x00000000#32) Cert.LruProjRefIdeal.Gen.reducesTo_S16384x2048_S16384_d1 Cert.LruProjRefIdeal.Gen.h_S_)) (broadcastInDim Cert.LruProjRefIdeal.S16384x1 ![] Cert.LruProjRefIdeal.Gen.bcast_S_S16384x1 (constant Cert.LruProjRefIdeal.S_ .f32 0x45000000#32))) (broadcastInDim Cert.LruProjRefIdeal.S16384x1 ![] Cert.LruProjRefIdeal.Gen.bcast_S_S16384x1 (constant Cert.LruProjRefIdeal.S_ .f32 0x358637BD#32)))))) (broadcastInDim Cert.LruProjRefIdeal.S16384x2048 ![0, 1] Cert.LruProjRefIdeal.Gen.bcast_S1x2048_S16384x2048_0_1 (broadcastInDim Cert.LruProjRefIdeal.S1x2048 ![1] Cert.LruProjRefIdeal.Gen.bcast_S2048_S1x2048_1 w))) W = proj x w W := by
  funext i
  have hi : i = ix2 (i 0) (i 1) := funext fun a => by
    match a with
    | ⟨0, _⟩ => rfl
    | ⟨1, _⟩ => rfl
  rw [hi]
  show (_ : EReal) = ∑ q : Fin 2048, nrm x w (i 0) q * W (ix2 q (i 1))
  generalize i 0 = p
  generalize i 1 = q
  unfold nrm rms
  pointwise []
end Cert.LruProjVal
-- ==== Proof.RetProjVal.lean ====
module

public import proofs.«01_k».proof.Proof.Gen.RetProjIdeal.Value
public import proofs.«01_k».proof.Proof.Gen.RetProjRefIdeal.Run
public import proofs.«01_k».proof.Proof.RmsRow
public import Idealize.ShloMosaic.Lib.StableHlo.ReadAt

/-! The projections of the retention branch: the kernel's result array is the product of the normalised
    rows with the weights, and so is the reference's. -/

@[expose] public section

set_option maxRecDepth 16384
noncomputable section
namespace Cert.RetProjVal
open Idealize.ShloMosaic Idealize.ShloMosaic.TcCoe Idealize.ShloMosaic.Tactic Idealize.ShloMosaic.StableHlo Idealize.SL.Sem
open Cert.RetProjIdeal Cert.RetProjIdeal.Gen Cert.RmsRow

theorem hz : (![0, 0] : Fin 2 → Nat) = fun _ => 0 := funext fun a => by fin_cases a <;> rfl

/-- The normalised rows of a block. -/
theorem pay1_at (x : FVec Ideal S1024x2048 .f32) (w : FVec Ideal S1x2048 .f32) (i : Fin 1024) (j : Fin 2048) :
    (k0_pay1 (F := Ideal) x w (ix2 i j) : EReal) = rms (fun q => x (ix2 i q)) (fun q => w (ix2 0 q)) j := by
  unfold rms
  pointwise [k0_pay1]
/-- One block of the product. -/
theorem pay2_at (x : FVec Ideal S1024x2048 .bf16) (w : FVec Ideal S2048x512 .bf16) (i : Fin 1024) (j : Fin 512) :
    (k0_pay2 (F := Ideal) x w (ix2 i j) : EReal) = ∑ q, x (ix2 i q) * w (ix2 q j) := by
  pointwise [k0_pay2]

section cases
variable (c : Dev nD) (i : grid0.Coords) (a2 : Memref sig .tc .vmem S1024x2048 .f32) (h2 : a2.IsWhole) (a3 : Memref sig .tc .vmem S1x2048 .f32) (h3 : a3.IsWhole)
  (a4 : Memref sig .tc .vmem S2048x512 .bf16) (h4 : a4.IsWhole) (a5 : Memref sig .tc .vmem S1024x512 .bf16) (h5 : a5.IsWhole) (a6 : Memref sig .tc .vmem S1024x2048 .bf16) (h6 : a6.IsWhole)
  (x0 : Vec Ideal S1024x2048 .f32) (x1 : Vec Ideal S1x2048 .f32) (x2 : Vec Ideal S2048x512 .bf16) (xs : Vec Ideal S1024x2048 .bf16)
/-- The first point of a row block keeps the normalised rows. -/
theorem sout_A (hc0 : cond0_0 i) : sout0_A_0 (F := Ideal) c i a2 h2 a3 h3 a4 h4 a5 h5 a6 h6 hc0 x0 x1 x2 = k0_pay1 x0 x1 := by
  unfold sout0_A_0
  rw [View.read_writes_eq_canon _ _ _ (scover0_A_0 (F := Ideal) c i a2 h2 a3 h3 a4 h4 a5 h5 a6 h6 hc0 x0 x1 x2)]
  unfold kernelRun0_A
  dsimp only
  sl_unfold_words
  rw [View.canon_unit_zero hz]
  simp only [View.readAt_eq_ld, h2.read_unread, h3.read_unread, View.ld_unit_zero (S := S1024x2048) hz, View.ld_unit_zero (S := S1x2048) hz]

/-- The first point of a row block leaves the product with the rows it has just normalised. -/
theorem out_A (hc0 : cond0_0 i) : out0_A_3 (F := Ideal) c i a2 h2 a3 h3 a4 h4 a5 h5 a6 h6 hc0 x0 x1 x2 = k0_pay2 (k0_pay1 x0 x1) x2 := by
  unfold out0_A_3
  rw [View.read_writes_eq_canon _ _ _ (cover0_A_3 (F := Ideal) c i a2 h2 a3 h3 a4 h4 a5 h5 a6 h6 hc0 x0 x1 x2)]
  unfold kernelRun0_A
  dsimp only
  sl_unfold_words
  rw [View.canon_unit_zero hz]
  simp only [View.readAt_eq_ld, h2.read_unread, h3.read_unread, h4.read_unread, View.ld_unit_zero (S := S1024x2048) hz, View.ld_unit_zero (S := S1x2048) hz, View.ld_unit_zero (S := S2048x512) hz,
    View.canon_unit_zero (S := S1024x2048) hz, View.readCov_unit_zero (S := S1024x2048) _ hz]

/-- A later point leaves the product with the rows kept. -/
theorem out_B (hc0 : ¬cond0_0 i) : out0_B_3 (F := Ideal) c i a2 h2 a3 h3 a4 h4 a5 h5 a6 h6 hc0 x0 x1 x2 xs = k0_pay2 xs x2 := by
  unfold out0_B_3
  rw [View.read_writes_eq_canon _ _ _ (cover0_B_3 (F := Ideal) c i a2 h2 a3 h3 a4 h4 a5 h5 a6 h6 hc0 x0 x1 x2 xs)]
  unfold kernelRun0_B
  dsimp only
  rw [View.canon_unit_zero hz]
  simp only [View.readAt_eq_ld, h4.read_unread, h6.read_unread, View.ld_unit_zero (S := S1024x2048) hz, View.ld_unit_zero (S := S2048x512) hz]
end cases

variable (m : (ℓ : Loc nD τ sig) → Buf (Elt Ideal) ℓ) (c : Dev nD)
abbrev X0 : (⟨2, ![16384, 2048]⟩ : Shape).Idx → EReal := m ((c : Thread nD τ).loc main_arg0)
abbrev N0 : (⟨1, ![2048]⟩ : Shape).Idx → EReal := m ((c : Thread nD τ).loc main_arg1)
abbrev W0 : (⟨2, ![2048, 12288]⟩ : Shape).Idx → EReal := m ((c : Thread nD τ).loc main_arg2)

theorem V_v0 : (V m c main_v0 : (⟨2, ![2048, 12288]⟩ : Shape).Idx → EReal) = W0 m c := by
  unfold V
  after_reads_simp
  try rfl
theorem V_v1 (j : Fin 2048) : (V m c main_v1 : (⟨2, ![1, 2048]⟩ : Shape).Idx → EReal) (ix2 0 j) = N0 m c (ix1 j) := by
  unfold V
  after_reads_simp
  exact shapeCast_apply _ _ (ix2 (0 : Fin 1) j) (ix1 j) (by rw [Shape.rowMajor_val_one, Shape.rowMajor_val_two]; simp [ix1, ix2])

theorem NN : cfg0.N = 384 := N_0
theorem ix0 : ∀ t : Fin cfg0.N, win0_0.index t (0 : Fin 2) = t.val / 24 ∧ win0_0.index t (1 : Fin 2) = 0 := (by decide +kernel : ∀ t : Fin grid0.N, _)
theorem ix1' : ∀ t : Fin cfg0.N, win0_1.index t (0 : Fin 2) = 0 ∧ win0_1.index t (1 : Fin 2) = 0 := (by decide +kernel : ∀ t : Fin grid0.N, _)
theorem ix2' : ∀ t : Fin cfg0.N, win0_2.index t (0 : Fin 2) = 0 ∧ win0_2.index t (1 : Fin 2) = t.val % 24 := (by decide +kernel : ∀ t : Fin grid0.N, _)

theorem b0 (t : Fin cfg0.N) (r : Fin 1024) (j : Fin 2048) (p : Fin 16384) (h0 : p.val = 1024 * (t.val / 24) + r.val) :
    (iblk m c 0 t : (⟨2, ![1024, 2048]⟩ : Shape).Idx → EReal) (ix2 r j) = X0 m c (ix2 p j) := by
  obtain ⟨e0, e1⟩ := ix0 t
  show V m c main_arg0 (((cfg0.win 0).blk t).view.emb (ix2 r j)) = X0 m c (ix2 p j)
  rw [V_main_arg0]
  refine congrArg (X0 m c) (funext fun a => Fin.ext ?_)
  match a with
  | ⟨0, _⟩ => show win0_0.index t (0 : Fin 2) * 1024 + 1 * r.val = p.val; rw [e0, h0]; omega
  | ⟨1, _⟩ => show win0_0.index t (1 : Fin 2) * 2048 + 1 * j.val = j.val; rw [e1]; omega
theorem b1 (t : Fin cfg0.N) (j : Fin 2048) :
    (iblk m c 1 t : (⟨2, ![1, 2048]⟩ : Shape).Idx → EReal) (ix2 0 j) = N0 m c (ix1 j) := by
  obtain ⟨e0, e1⟩ := ix1' t
  refine Eq.trans ?_ (V_v1 m c j)
  show V m c main_v1 (((cfg0.win 1).blk t).view.emb (ix2 0 j)) = V m c main_v1 (ix2 0 j)
  refine congrArg (V m c main_v1) (funext fun a => Fin.ext ?_)
  match a with
  | ⟨0, _⟩ => show win0_1.index t (0 : Fin 2) * 1 + 1 * 0 = 0; rw [e0]
  | ⟨1, _⟩ => show win0_1.index t (1 : Fin 2) * 2048 + 1 * j.val = j.val; rw [e1]; omega
theorem b2 (t : Fin cfg0.N) (r : Fin 2048) (j : Fin 512) (p : Fin 12288) (h1 : p.val = 512 * (t.val % 24) + j.val) :
    (iblk m c 2 t : (⟨2, ![2048, 512]⟩ : Shape).Idx → EReal) (ix2 r j) = W0 m c (ix2 r p) := by
  obtain ⟨e0, e1⟩ := ix2' t
  show V m c main_v0 (((cfg0.win 2).blk t).view.emb (ix2 r j)) = W0 m c (ix2 r p)
  refine (congrFun (V_v0 m c) _).trans ?_
  refine congrArg (W0 m c) (funext fun a => Fin.ext ?_)
  match a with
  | ⟨0, _⟩ => show win0_2.index t (0 : Fin 2) * 2048 + 1 * r.val = r.val; rw [e0]; omega
  | ⟨1, _⟩ => show win0_2.index t (1 : Fin 2) * 512 + 1 * j.val = p.val; rw [e1, h1]; omega

/-- The normalised input rows. -/
def nrm (X : (⟨2, ![16384, 2048]⟩ : Shape).Idx → EReal) (w : (⟨1, ![2048]⟩ : Shape).Idx → EReal) (p : Fin 16384) (q : Fin 2048) : EReal :=
  rms (fun k => X (ix2 p k)) (fun k => w (ix1 k)) q
/-- The normalised rows times the weights. -/
def proj (X : (⟨2, ![16384, 2048]⟩ : Shape).Idx → EReal) (w : (⟨1, ![2048]⟩ : Shape).Idx → EReal) (W : (⟨2, ![2048, 12288]⟩ : Shape).Idx → EReal) :
    (⟨2, ![16384, 12288]⟩ : Shape).Idx → EReal := fun i => ∑ q : Fin 2048, nrm X w (i 0) q * W (ix2 q (i 1))

abbrev bl0 (t : Fin cfg0.N) : FVec Ideal S1024x2048 .f32 := iblk m c 0 t
abbrev bl1 (t : Fin cfg0.N) : FVec Ideal S1x2048 .f32 := iblk m c 1 t

/-- The rows a first point keeps are the normalised input rows. -/
theorem h_eq (t : Fin cfg0.N) (r : Fin 1024) (q : Fin 2048) (p : Fin 16384) (h0 : p.val = 1024 * (t.val / 24) + r.val) :
    (k0_pay1 (F := Ideal) (bl0 m c t) (bl1 m c t) (ix2 r q) : EReal) = nrm (X0 m c) (N0 m c) p q := by
  have e0 : (fun k : Fin 2048 => (bl0 m c t (ix2 r k) : EReal)) = fun k => X0 m c (ix2 p k) := funext fun k => b0 m c t r k p h0
  have e1 : (fun k : Fin 2048 => (bl1 m c t (ix2 0 k) : EReal)) = fun k => N0 m c (ix1 k) := funext fun k => b1 m c t k
  rw [pay1_at (bl0 m c t) (bl1 m c t) r q, e0, e1]
  rfl

/-- What every point keeps: the normalised rows of its row block. -/
theorem scr_pt : ∀ n (hn : n < cfg0.N) (r : Fin 1024) (q : Fin 2048) (p : Fin 16384), p.val = 1024 * (n / 24) + r.val →
    ((outsAt0 m c n hn).2 : (⟨2, ![1024, 2048]⟩ : Shape).Idx → EReal) (ix2 r q) = nrm (X0 m c) (N0 m c) p q := by
  intro n
  induction n with
  | zero =>
    intro hn r q p h0
    rw [outsAt0_A m c ⟨0, hn⟩ (by rfl)]
    dsimp only
    rw [sout_A]
    exact h_eq m c ⟨0, hn⟩ r q p h0
  | succ n ih =>
    intro hn r q p h0
    by_cases hk : (n + 1) % 24 = 0
    · rw [outsAt0_A m c ⟨n + 1, hn⟩ hk]
      dsimp only
      rw [sout_A]
      exact h_eq m c ⟨n + 1, hn⟩ r q p h0
    · rw [outsAt0_B m c ⟨n + 1, hn⟩ hk]
      have e := ih (Nat.lt_of_succ_lt hn) r q p (by rw [h0]; congr 2; omega)
      simp only [sout0_B_0, Nat.add_sub_cancel]
      exact e

abbrev bl2 (t : Fin cfg0.N) : FVec Ideal S2048x512 .bf16 := iblk m c 2 t

/-- What every point leaves in the output block: its block of the product. -/
theorem out_pt (t : Fin cfg0.N) (r : Fin 1024) (j : Fin 512) (i : (⟨2, ![16384, 12288]⟩ : Shape).Idx) (h0 : (i 0).val = 1024 * (t.val / 24) + r.val)
    (h1 : (i 1).val = 512 * (t.val % 24) + j.val) :
    ((outsAt0 m c t.val t.isLt).1 : (⟨2, ![1024, 512]⟩ : Shape).Idx → EReal) (ix2 r j) = proj (X0 m c) (N0 m c) (W0 m c) i := by
  by_cases hk : t.val % 24 = 0
  · rw [outsAt0_A m c t hk]
    dsimp only
    rw [out_A]
    refine (pay2_at _ _ r j).trans (Finset.sum_congr rfl fun q _ => ?_)
    exact congrArg₂ (fun a b : EReal => a * b) (h_eq m c t r q (i 0) h0) (b2 m c t q j (i 1) h1)
  · rw [outsAt0_B m c t hk]
    dsimp only
    rw [out_B]
    refine (pay2_at _ _ r j).trans (Finset.sum_congr rfl fun q _ => ?_)
    exact congrArg₂ (fun a b : EReal => a * b) (scr_pt m c (t.val - 1) _ r q (i 0) (by rw [h0]; congr 2; omega)) (b2 m c t q j (i 1) h1)

theorem flushed_eq (t : Fin cfg0.N) (hf : (cfg0.win 3).flush t = true) :
    (dats m 0 c).flushed 3 t = ((cfg0.win 3).blk t).view.read (Elt Ideal) (proj (X0 m c) (N0 m c) (W0 m c)) := by
  have hN := NN
  have htl := t.isLt
  rw [Value.flushed3]
  obtain ⟨-, -, -, -, e⟩ := Value.idx_facts3 t
  obtain ⟨-, f0, -, f1, -⟩ := Value.idx_facts3 t
  funext y
  have y0 : (y 0).val < 1024 := (y 0).isLt
  have y1 : (y 1).val < 512 := (y 1).isLt
  let i : (⟨2, ![16384, 12288]⟩ : Shape).Idx := ix2 ⟨1024 * (t.val / 24) + (y 0).val, by omega⟩ ⟨512 * (t.val % 24) + (y 1).val, by omega⟩
  have hemb : ((cfg0.win 3).blk t).view.emb y = i := funext fun a => Fin.ext (by
    match a with
    | ⟨0, _⟩ => show win0_3.index t (0 : Fin 2) * 1024 + 1 * (y 0).val = 1024 * (t.val / 24) + (y 0).val; omega
    | ⟨1, _⟩ => show win0_3.index t (1 : Fin 2) * 512 + 1 * (y 1).val = 512 * (t.val % 24) + (y 1).val; omega)
  show ((outsAt0 m c t.val t.isLt).1 : (⟨2, ![1024, 512]⟩ : Shape).Idx → EReal) y = proj (X0 m c) (N0 m c) (W0 m c) (((cfg0.win 3).blk t).view.emb y)
  rw [hemb]
  have hy : (y : (⟨2, ![1024, 512]⟩ : Shape).Idx) = ix2 ⟨(y 0).val, y0⟩ ⟨(y 1).val, y1⟩ := funext fun a => by
    match a with
    | ⟨0, _⟩ => rfl
    | ⟨1, _⟩ => rfl
  refine (congrArg ((outsAt0 m c t.val t.isLt).1 : (⟨2, ![1024, 512]⟩ : Shape).Idx → EReal) hy).trans ?_
  exact out_pt m c t ⟨(y 0).val, y0⟩ ⟨(y 1).val, y1⟩ i rfl rfl

/-- The kernel's result array. -/
theorem final_eq : (dats m 0 c).arrAt 3 cfg0.N = proj (X0 m c) (N0 m c) (W0 m c) :=
  (dats m 0 c).arrAt_eq_of_cover 3 (proj (X0 m c) (N0 m c) (W0 m c)) (flushed_eq m c) fun i => (Value.covered_iff3 i).2 (by
    have h0 : (i 0).val < 16384 := (i 0).isLt
    have h1 : (i 1).val < 12288 := (i 1).isLt
    omega)

/-- The reference's term. -/
theorem ref_eq (x : FVec Ideal Cert.RetProjRefIdeal.S16384x2048 .f32) (w : FVec Ideal Cert.RetProjRefIdeal.S2048 .f32) (W : FVec Ideal Cert.RetProjRefIdeal.S2048x12288 .f32) :
    truncf .bf16 (Host.dotGeneral Cert.RetProjRefIdeal.dot_S16384x2048_S2048x12288_S16384x12288_1_0_0_1_n_n none (mulf (mulf x (broadcastInDim Cert.RetProjRefIdeal.S16384x2048 ![0, 1] Cert.RetProjRefIdeal.Gen.bcast_S16384x1_S16384x2048_0_1 (Host.rsqrt (addf (Host.divf (broadcastInDim Cert.RetProjRefIdeal.S16384x1 ![0] Cert.RetProjRefIdeal.Gen.bcast_S16384_S16384x1_0 (Host.reduceAdd (mulf x x) (constant Cert.RetProjRefIdeal.S_ .f32 0x00000000#32) Cert.RetProjRefIdeal.Gen.reducesTo_S16384x2048_S16384_d1 Cert.RetProjRefIdeal.Gen.h_S_)) (broadcastInDim Cert.RetProjRefIdeal.S16384x1 ![] Cert.RetProjRefIdeal.Gen.bcast_S_S16384x1 (constant Cert.RetProjRefIdeal.S_ .f32 0x45000000#32))) (broadcastInDim Cert.RetProjRefIdeal.S16384x1 ![] Cert.RetProjRefIdeal.Gen.bcast_S_S16384x1 (constant Cert.RetProjRefIdeal.S_ .f32 0x358637BD#32)))))) (broadcastInDim Cert.RetProjRefIdeal.S16384x2048 ![0, 1] Cert.RetProjRefIdeal.Gen.bcast_S1x2048_S16384x2048_0_1 (broadcastInDim Cert.RetProjRefIdeal.S1x2048 ![1] Cert.RetProjRefIdeal.Gen.bcast_S2048_S1x2048_1 w))) W) Cert.RetProjRefIdeal.Gen.bitsLt_bf16_f32 = proj x w W := by
  funext i
  have hi : i = ix2 (i 0) (i 1) := funext fun a => by
    match a with
    | ⟨0, _⟩ => rfl
    | ⟨1, _⟩ => rfl
  rw [hi]
  show (_ : EReal) = ∑ q : Fin 2048, nrm x w (i 0) q * W (ix2 q (i 1))
  generalize i 0 = p
  generalize i 1 = q
  unfold nrm rms
  pointwise []
end Cert.RetProjVal
-- ==== Proof.FinalNormVal.lean ====
module

public import proofs.«01_k».proof.Proof.Gen.FinalNormIdeal.Value
public import proofs.«01_k».proof.Proof.Gen.FinalNormRefIdeal.Run
public import proofs.«01_k».proof.Proof.RmsRow
public import Idealize.ShloMosaic.Lib.StableHlo.ReadAt

/-! The final normalisation: the kernel's result array is the normalised rows, and so is the reference's. -/

@[expose] public section

set_option maxRecDepth 16384
noncomputable section
namespace Cert.FinalNormVal
open Idealize.ShloMosaic Idealize.ShloMosaic.TcCoe Idealize.ShloMosaic.Tactic Idealize.ShloMosaic.StableHlo Idealize.SL.Sem
open Cert.FinalNormIdeal Cert.FinalNormIdeal.Gen Cert.RmsRow

theorem hz : (![0, 0] : Fin 2 → Nat) = fun _ => 0 := funext fun a => by fin_cases a <;> rfl

/-- The normalised rows of a block. -/
theorem pay1_at (x : FVec Ideal S512x2048 .f32) (w : FVec Ideal S1x2048 .f32) (i : Fin 512) (j : Fin 2048) :
    (k0_pay1 (F := Ideal) x w (ix2 i j) : EReal) = rms (fun q => x (ix2 i q)) (fun q => w (ix2 0 q)) j := by
  unfold rms
  pointwise [k0_pay1]

/-- What a point leaves. -/
theorem out_eq (x : Vec Ideal S512x2048 .f32) (w : Vec Ideal S1x2048 .f32) : out0_2 (F := Ideal) x w = k0_pay1 x w := by
  unfold out0_2
  try dsimp only
  rw [View.canon_unit_zero hz]
  simp only [r0_0, r0_1, View.ld_unit_zero (S := S512x2048) hz, View.ld_unit_zero (S := S1x2048) hz]

variable (m : (ℓ : Loc nD τ sig) → Buf (Elt Ideal) ℓ) (c : Dev nD)
abbrev X0 : (⟨2, ![16384, 2048]⟩ : Shape).Idx → EReal := m ((c : Thread nD τ).loc main_arg0)
abbrev N0 : (⟨1, ![2048]⟩ : Shape).Idx → EReal := m ((c : Thread nD τ).loc main_arg1)

theorem V_v0 (j : Fin 2048) : (V m c main_v0 : (⟨2, ![1, 2048]⟩ : Shape).Idx → EReal) (ix2 0 j) = N0 m c (ix1 j) := by
  unfold V
  after_reads_simp
  exact shapeCast_apply _ _ (ix2 (0 : Fin 1) j) (ix1 j) (by rw [Shape.rowMajor_val_one, Shape.rowMajor_val_two]; simp [ix1, ix2])

theorem NN : cfg0.N = 32 := N_0
theorem ix0 : ∀ t : Fin cfg0.N, win0_0.index t (0 : Fin 2) = t.val ∧ win0_0.index t (1 : Fin 2) = 0 := (by decide +kernel : ∀ t : Fin grid0.N, _)
theorem ix1' : ∀ t : Fin cfg0.N, win0_1.index t (0 : Fin 2) = 0 ∧ win0_1.index t (1 : Fin 2) = 0 := (by decide +kernel : ∀ t : Fin grid0.N, _)
theorem ix2' : ∀ t : Fin cfg0.N, win0_2.index t (0 : Fin 2) = t.val ∧ win0_2.index t (1 : Fin 2) = 0 := (by decide +kernel : ∀ t : Fin grid0.N, _)
theorem fl2 : ∀ t : Fin cfg0.N, (cfg0.win 2).flush t = true := (by decide +kernel : ∀ t : Fin grid0.N, win0_2.flush t = true)

theorem b0 (t : Fin cfg0.N) (r : Fin 512) (j : Fin 2048) (p : Fin 16384) (h0 : p.val = 512 * t.val + r.val) :
    (iblk m c 0 t : (⟨2, ![512, 2048]⟩ : Shape).Idx → EReal) (ix2 r j) = X0 m c (ix2 p j) := by
  obtain ⟨e0, e1⟩ := ix0 t
  show V m c main_arg0 (((cfg0.win 0).blk t).view.emb (ix2 r j)) = X0 m c (ix2 p j)
  rw [V_main_arg0]
  refine congrArg (X0 m c) (funext fun a => Fin.ext ?_)
  match a with
  | ⟨0, _⟩ => show win0_0.index t (0 : Fin 2) * 512 + 1 * r.val = p.val; rw [e0, h0]; omega
  | ⟨1, _⟩ => show win0_0.index t (1 : Fin 2) * 2048 + 1 * j.val = j.val; rw [e1]; omega
theorem b1 (t : Fin cfg0.N) (j : Fin 2048) :
    (iblk m c 1 t : (⟨2, ![1, 2048]⟩ : Shape).Idx → EReal) (ix2 0 j) = N0 m c (ix1 j) := by
  obtain ⟨e0, e1⟩ := ix1' t
  refine Eq.trans ?_ (V_v0 m c j)
  show V m c main_v0 (((cfg0.win 1).blk t).view.emb (ix2 0 j)) = V m c main_v0 (ix2 0 j)
  refine congrArg (V m c main_v0) (funext fun a => Fin.ext ?_)
  match a with
  | ⟨0, _⟩ => show win0_1.index t (0 : Fin 2) * 1 + 1 * 0 = 0; rw [e0]
  | ⟨1, _⟩ => show win0_1.index t (1 : Fin 2) * 2048 + 1 * j.val = j.val; rw [e1]; omega

/-- The normalised rows. -/
def nrm (X : (⟨2, ![16384, 2048]⟩ : Shape).Idx → EReal) (w : (⟨1, ![2048]⟩ : Shape).Idx → EReal) : (⟨2, ![16384, 2048]⟩ : Shape).Idx → EReal := fun i =>
  rms (fun k => X (ix2 (i 0) k)) (fun k => w (ix1 k)) (i 1)

abbrev bl0 (t : Fin cfg0.N) : FVec Ideal S512x2048 .f32 := iblk m c 0 t
abbrev bl1 (t : Fin cfg0.N) : FVec Ideal S1x2048 .f32 := iblk m c 1 t

theorem out_pt (t : Fin cfg0.N) (r : Fin 512) (q : Fin 2048) (i : (⟨2, ![16384, 2048]⟩ : Shape).Idx) (h0 : (i 0).val = 512 * t.val + r.val) (h1 : i 1 = q) :
    (k0_pay1 (F := Ideal) (bl0 m c t) (bl1 m c t) (ix2 r q) : EReal) = nrm (X0 m c) (N0 m c) i := by
  have e0 : (fun k : Fin 2048 => (bl0 m c t (ix2 r k) : EReal)) = fun k => X0 m c (ix2 (i 0) k) := funext fun k => b0 m c t r k (i 0) h0
  have e1 : (fun k : Fin 2048 => (bl1 m c t (ix2 0 k) : EReal)) = fun k => N0 m c (ix1 k) := funext fun k => b1 m c t k
  rw [pay1_at (bl0 m c t) (bl1 m c t) r q, e0, e1, ← h1]
  rfl

theorem flushed_eq (t : Fin cfg0.N) (hf : (cfg0.win 2).flush t = true) :
    (dats m 0 c).flushed 2 t = ((cfg0.win 2).blk t).view.read (Elt Ideal) (nrm (X0 m c) (N0 m c)) := by
  have hN := NN
  have htl := t.isLt
  rw [Value.flushed2, out_eq]
  obtain ⟨e0, e1⟩ := ix2' t
  funext y
  have y0 : (y 0).val < 512 := (y 0).isLt
  have y1 : (y 1).val < 2048 := (y 1).isLt
  let i : (⟨2, ![16384, 2048]⟩ : Shape).Idx := ix2 ⟨512 * t.val + (y 0).val, by omega⟩ ⟨(y 1).val, by omega⟩
  have hemb : ((cfg0.win 2).blk t).view.emb y = i := funext fun a => Fin.ext (by
    match a with
    | ⟨0, _⟩ => show win0_2.index t (0 : Fin 2) * 512 + 1 * (y 0).val = 512 * t.val + (y 0).val; rw [e0]; omega
    | ⟨1, _⟩ => show win0_2.index t (1 : Fin 2) * 2048 + 1 * (y 1).val = (y 1).val; rw [e1]; omega)
  show (k0_pay1 (F := Ideal) (bl0 m c t) (bl1 m c t) : (⟨2, ![512, 2048]⟩ : Shape).Idx → EReal) y = nrm (X0 m c) (N0 m c) (((cfg0.win 2).blk t).view.emb y)
  rw [hemb]
  have hy : (y : (⟨2, ![512, 2048]⟩ : Shape).Idx) = ix2 ⟨(y 0).val, y0⟩ ⟨(y 1).val, y1⟩ := funext fun a => by
    match a with
    | ⟨0, _⟩ => rfl
    | ⟨1, _⟩ => rfl
  refine (congrArg (k0_pay1 (F := Ideal) (bl0 m c t) (bl1 m c t) : (⟨2, ![512, 2048]⟩ : Shape).Idx → EReal) hy).trans ?_
  exact out_pt m c t ⟨(y 0).val, y0⟩ ⟨(y 1).val, y1⟩ i rfl rfl

/-- The kernel's result array. -/
theorem final_eq : (dats m 0 c).arrAt 2 cfg0.N = nrm (X0 m c) (N0 m c) :=
  (dats m 0 c).arrAt_eq_of_cover 2 (nrm (X0 m c) (N0 m c)) (flushed_eq m c) fun i => by
    have h0 : (i 0 : Nat) < 16384 := (i 0).isLt
    have h1 : (i 1 : Nat) < 2048 := (i 1).isLt
    have hN := NN
    let t : Fin cfg0.N := ⟨(i 0 : Nat) / 512, by omega⟩
    have tv : t.val = (i 0 : Nat) / 512 := rfl
    refine ⟨t, fl2 t, ?_⟩
    obtain ⟨e0, e1⟩ := ix2' t
    show i ∈ ((View.whole main_v1).slice (win0_2.rect t)).set
    rw [View.set_slice_whole, Rect.mem_set_unit]
    intro a
    match a with
    | ⟨0, _⟩ => show win0_2.index t (0 : Fin 2) * 512 ≤ (i 0 : Nat) ∧ (i 0 : Nat) < win0_2.index t (0 : Fin 2) * 512 + 512
                rw [e0]; omega
    | ⟨1, _⟩ => show win0_2.index t (1 : Fin 2) * 2048 ≤ (i 1 : Nat) ∧ (i 1 : Nat) < win0_2.index t (1 : Fin 2) * 2048 + 2048
                rw [e1]; omega

/-- The reference's term. -/
theorem ref_eq (x : FVec Ideal Cert.FinalNormRefIdeal.S16384x2048 .f32) (w : FVec Ideal Cert.FinalNormRefIdeal.S2048 .f32) :
    mulf (mulf x (broadcastInDim Cert.FinalNormRefIdeal.S16384x2048 ![0, 1] Cert.FinalNormRefIdeal.Gen.bcast_S16384x1_S16384x2048_0_1 (Host.rsqrt (addf (Host.divf (broadcastInDim Cert.FinalNormRefIdeal.S16384x1 ![0] Cert.FinalNormRefIdeal.Gen.bcast_S16384_S16384x1_0 (Host.reduceAdd (mulf x x) (constant Cert.FinalNormRefIdeal.S_ .f32 0x00000000#32) Cert.FinalNormRefIdeal.Gen.reducesTo_S16384x2048_S16384_d1 Cert.FinalNormRefIdeal.Gen.h_S_)) (broadcastInDim Cert.FinalNormRefIdeal.S16384x1 ![] Cert.FinalNormRefIdeal.Gen.bcast_S_S16384x1 (constant Cert.FinalNormRefIdeal.S_ .f32 0x45000000#32))) (broadcastInDim Cert.FinalNormRefIdeal.S16384x1 ![] Cert.FinalNormRefIdeal.Gen.bcast_S_S16384x1 (constant Cert.FinalNormRefIdeal.S_ .f32 0x358637BD#32)))))) (broadcastInDim Cert.FinalNormRefIdeal.S16384x2048 ![0, 1] Cert.FinalNormRefIdeal.Gen.bcast_S1x2048_S16384x2048_0_1 (broadcastInDim Cert.FinalNormRefIdeal.S1x2048 ![1] Cert.FinalNormRefIdeal.Gen.bcast_S2048_S1x2048_1 w)) = nrm x w := by
  funext i
  have hi : i = ix2 (i 0) (i 1) := funext fun a => by
    match a with
    | ⟨0, _⟩ => rfl
    | ⟨1, _⟩ => rfl
  rw [hi]
  show (_ : EReal) = rms (fun k => x (ix2 (i 0) k)) (fun k => w (ix1 k)) (i 1)
  generalize i 0 = p
  generalize i 1 = q
  unfold rms
  pointwise []
end Cert.FinalNormVal
-- ==== Proof.lean ====
module

public import proofs.«01_k».proof.Defs
public import proofs.«01_k».proof.Proof.Gen.Kernel.Launch
public import proofs.«01_k».proof.Proof.OwnKernelIdeal.Frame
public import proofs.«01_k».proof.Proof.KerGrid
public import proofs.«01_k».proof.Proof.RefMath
public import proofs.«01_k».proof.Proof.Gen.FfnUp.Launch
public import proofs.«01_k».proof.Proof.FfnUpVal
public import proofs.«01_k».proof.Proof.Gen.FfnDown.Frame
public import proofs.«01_k».proof.Proof.FfnDownVal
public import proofs.«01_k».proof.Proof.Gen.MixOut.Frame
public import proofs.«01_k».proof.Proof.MixOutVal
public import proofs.«01_k».proof.Proof.Gen.RetOut.Frame
public import proofs.«01_k».proof.Proof.RetOutVal
public import proofs.«01_k».proof.Proof.Gen.GlaProj.Launch
public import proofs.«01_k».proof.Proof.GlaProjVal
public import proofs.«01_k».proof.Proof.Gen.LruProj.Frame
public import proofs.«01_k».proof.Proof.LruProjVal
public import proofs.«01_k».proof.Proof.Gen.RetProj.Frame
public import proofs.«01_k».proof.Proof.RetProjVal
public import proofs.«01_k».proof.Proof.Gen.FinalNorm.Frame
public import proofs.«01_k».proof.Proof.FinalNormVal

/-! The proof of `Cert.Claim`. The frames of `Kernel`, `FfnUp` and `GlaProj` are those of `KernelIdeal`, `FfnUpIdeal` and `GlaProjIdeal`, proved there for
any float values and taken at the machine's: no operation is replaced, so the two programs of each pair are the same but for their names. -/

@[expose] public section

noncomputable section

namespace Cert.Proof

open Idealize.ShloMosaic Idealize.SL.Sem

set_option smartUnfolding false in
/-- The kernel runs, leaves its arguments unchanged and its counters at zero. -/
theorem frameP : Cert.quiescent_Kernel := fun m ρ _ => by
  with_unfolding_all exact Cert.KernelIdeal.Gen.frame (F := Bits) m ρ
/-- The same at the extended reals. -/
theorem framePI : Cert.quiescent_KernelIdeal := fun m ρ _ => Cert.KernelIdeal.Gen.frame m ρ
/-- The reference runs, leaves its arguments unchanged and its counters at zero. -/
theorem frameRI : Cert.quiescent_ReferenceIdeal := fun m ρ _ =>
  (θ_run Cert.ReferenceIdeal.defs _ _).mono (fun r h => ⟨fun c => (h c).2, sem_eq_zero_of_no_sems (by decide) r.2⟩) (Cert.RefFinal.run m ρ)
/-- Over the extended reals the kernel and the reference compute the same array. -/
theorem algebraic : Cert.algebraic_KernelIdeal_ReferenceIdeal := by
  intro m ρ m' ρ' _ hag
  refine ⟨fun c => Cert.Spec.result (Cert.KerGrid.P0 m c) (Cert.KerGrid.Z0 m c) (Cert.KerGrid.W0 m c) (Cert.KerGrid.B0 m c) (Cert.KerGrid.N0 m c), ?_, ?_⟩
  · exact (θ_run Cert.KernelIdeal.defs _ _).mono (fun r h c => ⟨(h c).1.trans (Cert.KerGrid.G8_eq m c), (h c).2⟩) (Cert.KernelIdeal.Value.run m ρ)
  · refine (θ_run Cert.ReferenceIdeal.defs _ _).mono (fun r h c => ⟨(h c).1.trans ?_, (h c).2⟩) (Cert.RefFinal.run m' ρ')
    rw [(hag c).1, (hag c).2.1, (hag c).2.2.1, (hag c).2.2.2.1, (hag c).2.2.2.2]
    exact Cert.RefMath.final_eq _ _ _ _ _

/-! The call that normalises the rows, projects them up, convolves and gates them (the up projection). -/

set_option smartUnfolding false in
/-- The call runs, leaves its arguments unchanged and its counters at zero. -/
theorem frameFfnUp : Cert.quiescent_FfnUp := fun m ρ _ => by
  with_unfolding_all exact Cert.FfnUpIdeal.Own.frame (F := Bits) m ρ
/-- The same at the extended reals. -/
theorem frameFfnUpIdeal : Cert.quiescent_FfnUpIdeal := fun m ρ _ => Cert.FfnUpIdeal.Own.frame m ρ
/-- Its reference runs, leaves its arguments unchanged and its counters at zero. -/
theorem frameFfnUpRefIdeal : Cert.quiescent_FfnUpRefIdeal := fun m ρ _ =>
  (θ_run Cert.FfnUpRefIdeal.defs _ _).mono (fun r h => ⟨fun c => (h c).2, sem_eq_zero_of_no_sems (by decide) r.2⟩) (Cert.FfnUpRefIdeal.Value.run m ρ)
/-- Over the extended reals the call and its reference compute the same array. -/
theorem algebraicFfnUp : Cert.algebraic_FfnUpIdeal_FfnUpRefIdeal := by
  intro m ρ m' ρ' _ hag
  refine ⟨fun c => Cert.FfnUpVal.spec (Cert.FfnUpVal.X0 m c) (Cert.FfnUpVal.N0 m c) (Cert.FfnUpVal.W0 m c) (Cert.FfnUpVal.C0 m c) (Cert.FfnUpVal.B0 m c), ?_, ?_⟩
  · exact Cert.FfnUpVal.run_spec m ρ
  · refine (θ_run Cert.FfnUpRefIdeal.defs _ _).mono (fun r h c => ⟨(h c).1.trans ?_, (h c).2⟩) (Cert.FfnUpRefIdeal.Value.run m' ρ')
    unfold Cert.FfnUpRefIdeal.Value.res_main_v56
    rw [(hag c).1, (hag c).2.1, (hag c).2.2.1, (hag c).2.2.2.1, (hag c).2.2.2.2]
    exact Cert.FfnUpVal.Ref.ref_eq _ _ _ _ _

/-! The call that adds its product with the residual stream (the down projection). -/

/-- The call runs, leaves its arguments unchanged and its counters at zero. -/
theorem frameFfnDown : Cert.quiescent_FfnDown := fun m ρ _ => Cert.FfnDown.Gen.frame m ρ
/-- The same at the extended reals. -/
theorem frameFfnDownIdeal : Cert.quiescent_FfnDownIdeal := fun m ρ _ => Cert.FfnDownIdeal.Gen.frame m ρ
/-- Its reference runs, leaves its arguments unchanged and its counters at zero. -/
theorem frameFfnDownRefIdeal : Cert.quiescent_FfnDownRefIdeal := fun m ρ _ =>
  (θ_run Cert.FfnDownRefIdeal.defs _ _).mono (fun r h => ⟨fun c => (h c).2, sem_eq_zero_of_no_sems (by decide) r.2⟩) (Cert.FfnDownRefIdeal.Value.run m ρ)
/-- Over the extended reals the call and its reference compute the same array. -/
theorem algebraicFfnDown : Cert.algebraic_FfnDownIdeal_FfnDownRefIdeal := by
  intro m ρ m' ρ' _ hag
  refine ⟨fun c => Cert.FfnDownVal.res (Cert.FfnDownVal.A0 m c) (Cert.FfnDownVal.W0 m c) (Cert.FfnDownVal.X0 m c), ?_, ?_⟩
  · exact (θ_run Cert.FfnDownIdeal.defs _ _).mono (fun r h c => ⟨(h c).1.trans (Cert.FfnDownVal.final_eq m c), (h c).2⟩) (Cert.FfnDownIdeal.Value.run_blocks m ρ)
  · refine (θ_run Cert.FfnDownRefIdeal.defs _ _).mono (fun r h c => ⟨(h c).1.trans ?_, (h c).2⟩) (Cert.FfnDownRefIdeal.Value.run m' ρ')
    rw [(hag c).1, (hag c).2.1, (hag c).2.2]
    exact Cert.FfnDownVal.ref_eq _ _ _

/-! The call that adds its product to the residual stream (2048 inner terms). -/

/-- The call runs, leaves its arguments unchanged and its counters at zero. -/
theorem frameMixOut : Cert.quiescent_MixOut := fun m ρ _ => Cert.MixOut.Gen.frame m ρ
/-- The same at the extended reals. -/
theorem frameMixOutIdeal : Cert.quiescent_MixOutIdeal := fun m ρ _ => Cert.MixOutIdeal.Gen.frame m ρ
/-- Its reference runs, leaves its arguments unchanged and its counters at zero. -/
theorem frameMixOutRefIdeal : Cert.quiescent_MixOutRefIdeal := fun m ρ _ =>
  (θ_run Cert.MixOutRefIdeal.defs _ _).mono (fun r h => ⟨fun c => (h c).2, sem_eq_zero_of_no_sems (by decide) r.2⟩) (Cert.MixOutRefIdeal.Value.run m ρ)
/-- Over the extended reals the call and its reference compute the same array. -/
theorem algebraicMixOut : Cert.algebraic_MixOutIdeal_MixOutRefIdeal := by
  intro m ρ m' ρ' _ hag
  refine ⟨fun c => Cert.MixOutVal.res (Cert.MixOutVal.A0 m c) (Cert.MixOutVal.W0 m c) (Cert.MixOutVal.X0 m c), ?_, ?_⟩
  · exact (θ_run Cert.MixOutIdeal.defs _ _).mono (fun r h c => ⟨(h c).1.trans (Cert.MixOutVal.final_eq m c), (h c).2⟩) (Cert.MixOutIdeal.Value.run_blocks m ρ)
  · refine (θ_run Cert.MixOutRefIdeal.defs _ _).mono (fun r h c => ⟨(h c).1.trans ?_, (h c).2⟩) (Cert.MixOutRefIdeal.Value.run m' ρ')
    rw [(hag c).1, (hag c).2.1, (hag c).2.2]
    exact Cert.MixOutVal.ref_eq _ _ _

/-! The call that adds its product to the residual stream (4096 inner terms). -/

/-- The call runs, leaves its arguments unchanged and its counters at zero. -/
theorem frameRetOut : Cert.quiescent_RetOut := fun m ρ _ => Cert.RetOut.Gen.frame m ρ
/-- The same at the extended reals. -/
theorem frameRetOutIdeal : Cert.quiescent_RetOutIdeal := fun m ρ _ => Cert.RetOutIdeal.Gen.frame m ρ
/-- Its reference runs, leaves its arguments unchanged and its counters at zero. -/
theorem frameRetOutRefIdeal : Cert.quiescent_RetOutRefIdeal := fun m ρ _ =>
  (θ_run Cert.RetOutRefIdeal.defs _ _).mono (fun r h => ⟨fun c => (h c).2, sem_eq_zero_of_no_sems (by decide) r.2⟩) (Cert.RetOutRefIdeal.Value.run m ρ)
/-- Over the extended reals the call and its reference compute the same array. -/
theorem algebraicRetOut : Cert.algebraic_RetOutIdeal_RetOutRefIdeal := by
  intro m ρ m' ρ' _ hag
  refine ⟨fun c => Cert.RetOutVal.res (Cert.RetOutVal.A0 m c) (Cert.RetOutVal.W0 m c) (Cert.RetOutVal.X0 m c), ?_, ?_⟩
  · exact (θ_run Cert.RetOutIdeal.defs _ _).mono (fun r h c => ⟨(h c).1.trans (Cert.RetOutVal.final_eq m c), (h c).2⟩) (Cert.RetOutIdeal.Value.run_blocks m ρ)
  · refine (θ_run Cert.RetOutRefIdeal.defs _ _).mono (fun r h c => ⟨(h c).1.trans ?_, (h c).2⟩) (Cert.RetOutRefIdeal.Value.run m' ρ')
    rw [(hag c).1, (hag c).2.1, (hag c).2.2]
    exact Cert.RetOutVal.ref_eq _ _ _

/-! The call that projects the normalised rows and the decay (gated-linear-attention branch). -/

set_option smartUnfolding false in
/-- The call runs, leaves its arguments unchanged and its counters at zero. -/
theorem frameGlaProj : Cert.quiescent_GlaProj := fun m ρ _ => by
  with_unfolding_all exact Cert.GlaProjIdeal.Own.frame (F := Bits) m ρ
/-- The same at the extended reals. -/
theorem frameGlaProjIdeal : Cert.quiescent_GlaProjIdeal := fun m ρ _ => Cert.GlaProjIdeal.Own.frame m ρ
/-- Its reference runs, leaves its arguments unchanged and its counters at zero. -/
theorem frameGlaProjRefIdeal : Cert.quiescent_GlaProjRefIdeal := fun m ρ _ =>
  (θ_run Cert.GlaProjRefIdeal.defs _ _).mono (fun r h => ⟨fun c => (h c).2.2, sem_eq_zero_of_no_sems (by decide) r.2⟩) (Cert.GlaProjRefIdeal.Value.run m ρ)
/-- Over the extended reals the call and its reference compute the same two arrays. -/
theorem algebraicGlaProj : Cert.algebraic_GlaProjIdeal_GlaProjRefIdeal := by
  intro m ρ m' ρ' _ hag
  refine ⟨fun c => Cert.GlaProjVal.mainSpec (Cert.GlaProjVal.X0 m c) (Cert.GlaProjVal.N0 m c) (Cert.GlaProjVal.W0 m c),
    fun c => Cert.GlaProjVal.decaySpec (Cert.GlaProjVal.X0 m c) (Cert.GlaProjVal.N0 m c) (Cert.GlaProjVal.W0 m c), ?_, ?_⟩
  · exact Cert.GlaProjVal.run_spec m ρ
  · refine (θ_run Cert.GlaProjRefIdeal.defs _ _).mono (fun r h c => ⟨(h c).1.trans ?_, (h c).2.1.trans ?_, (h c).2.2⟩) (Cert.GlaProjRefIdeal.Value.run m' ρ')
    · rw [(hag c).1, (hag c).2.1, (hag c).2.2]
      exact Cert.GlaProjVal.ref_eq_main _ _ _
    · rw [(hag c).1, (hag c).2.1, (hag c).2.2]
      exact Cert.GlaProjVal.ref_eq_decay _ _ _

/-! The call that projects the normalised rows (gated linear recurrent branch). -/

/-- The call runs, leaves its arguments unchanged and its counters at zero. -/
theorem frameLruProj : Cert.quiescent_LruProj := fun m ρ _ => Cert.LruProj.Gen.frame m ρ
/-- The same at the extended reals. -/
theorem frameLruProjIdeal : Cert.quiescent_LruProjIdeal := fun m ρ _ => Cert.LruProjIdeal.Gen.frame m ρ
/-- Its reference runs, leaves its arguments unchanged and its counters at zero. -/
theorem frameLruProjRefIdeal : Cert.quiescent_LruProjRefIdeal := fun m ρ _ =>
  (θ_run Cert.LruProjRefIdeal.defs _ _).mono (fun r h => ⟨fun c => (h c).2, sem_eq_zero_of_no_sems (by decide) r.2⟩) (Cert.LruProjRefIdeal.Value.run m ρ)
/-- Over the extended reals the call and its reference compute the same array. -/
theorem algebraicLruProj : Cert.algebraic_LruProjIdeal_LruProjRefIdeal := by
  intro m ρ m' ρ' _ hag
  refine ⟨fun c => Cert.LruProjVal.proj (Cert.LruProjVal.X0 m c) (Cert.LruProjVal.N0 m c) (Cert.LruProjVal.W0 m c), ?_, ?_⟩
  · exact (θ_run Cert.LruProjIdeal.defs _ _).mono (fun r h c => ⟨(h c).1.trans (Cert.LruProjVal.final_eq m c), (h c).2⟩) (Cert.LruProjIdeal.Value.run_blocks m ρ)
  · refine (θ_run Cert.LruProjRefIdeal.defs _ _).mono (fun r h c => ⟨(h c).1.trans ?_, (h c).2⟩) (Cert.LruProjRefIdeal.Value.run m' ρ')
    rw [(hag c).1, (hag c).2.1, (hag c).2.2]
    exact Cert.LruProjVal.ref_eq _ _ _

/-! The call that projects the normalised rows (retention branch). -/

/-- The call runs, leaves its arguments unchanged and its counters at zero. -/
theorem frameRetProj : Cert.quiescent_RetProj := fun m ρ _ => Cert.RetProj.Gen.frame m ρ
/-- The same at the extended reals. -/
theorem frameRetProjIdeal : Cert.quiescent_RetProjIdeal := fun m ρ _ => Cert.RetProjIdeal.Gen.frame m ρ
/-- Its reference runs, leaves its arguments unchanged and its counters at zero. -/
theorem frameRetProjRefIdeal : Cert.quiescent_RetProjRefIdeal := fun m ρ _ =>
  (θ_run Cert.RetProjRefIdeal.defs _ _).mono (fun r h => ⟨fun c => (h c).2, sem_eq_zero_of_no_sems (by decide) r.2⟩) (Cert.RetProjRefIdeal.Value.run m ρ)
/-- Over the extended reals the call and its reference compute the same array. -/
theorem algebraicRetProj : Cert.algebraic_RetProjIdeal_RetProjRefIdeal := by
  intro m ρ m' ρ' _ hag
  refine ⟨fun c => Cert.RetProjVal.proj (Cert.RetProjVal.X0 m c) (Cert.RetProjVal.N0 m c) (Cert.RetProjVal.W0 m c), ?_, ?_⟩
  · exact (θ_run Cert.RetProjIdeal.defs _ _).mono (fun r h c => ⟨(h c).1.trans (Cert.RetProjVal.final_eq m c), (h c).2⟩) (Cert.RetProjIdeal.Value.run_blocks m ρ)
  · refine (θ_run Cert.RetProjRefIdeal.defs _ _).mono (fun r h c => ⟨(h c).1.trans ?_, (h c).2⟩) (Cert.RetProjRefIdeal.Value.run m' ρ')
    rw [(hag c).1, (hag c).2.1, (hag c).2.2]
    exact Cert.RetProjVal.ref_eq _ _ _

/-! The call that normalises the rows at the end of the model. -/

/-- The call runs, leaves its arguments unchanged and its counters at zero. -/
theorem frameFinalNorm : Cert.quiescent_FinalNorm := fun m ρ _ => Cert.FinalNorm.Gen.frame m ρ
/-- The same at the extended reals. -/
theorem frameFinalNormIdeal : Cert.quiescent_FinalNormIdeal := fun m ρ _ => Cert.FinalNormIdeal.Gen.frame m ρ
/-- Its reference runs, leaves its arguments unchanged and its counters at zero. -/
theorem frameFinalNormRefIdeal : Cert.quiescent_FinalNormRefIdeal := fun m ρ _ =>
  (θ_run Cert.FinalNormRefIdeal.defs _ _).mono (fun r h => ⟨fun c => (h c).2, sem_eq_zero_of_no_sems (by decide) r.2⟩) (Cert.FinalNormRefIdeal.Value.run m ρ)
/-- Over the extended reals the call and its reference compute the same array. -/
theorem algebraicFinalNorm : Cert.algebraic_FinalNormIdeal_FinalNormRefIdeal := by
  intro m ρ m' ρ' _ hag
  refine ⟨fun c => Cert.FinalNormVal.nrm (Cert.FinalNormVal.X0 m c) (Cert.FinalNormVal.N0 m c), ?_, ?_⟩
  · exact (θ_run Cert.FinalNormIdeal.defs _ _).mono (fun r h c => ⟨(h c).1.trans (Cert.FinalNormVal.final_eq m c), (h c).2⟩) (Cert.FinalNormIdeal.Value.run_blocks m ρ)
  · refine (θ_run Cert.FinalNormRefIdeal.defs _ _).mono (fun r h c => ⟨(h c).1.trans ?_, (h c).2⟩) (Cert.FinalNormRefIdeal.Value.run m' ρ')
    rw [(hag c).1, (hag c).2]
    exact Cert.FinalNormVal.ref_eq _ _

theorem claim : Cert.Claim := ⟨Cert.Kernel.Gen.facts, Cert.KernelIdeal.Gen.facts, Cert.ReferenceIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.MixOut.Gen.facts, Cert.MixOutIdeal.Gen.facts, Cert.MixOutRefIdeal.Gen.facts, Cert.RetOut.Gen.facts, Cert.RetOutIdeal.Gen.facts, Cert.RetOutRefIdeal.Gen.facts, Cert.GlaProj.Gen.facts, Cert.GlaProjIdeal.Gen.facts, Cert.GlaProjRefIdeal.Gen.facts, Cert.LruProj.Gen.facts, Cert.LruProjIdeal.Gen.facts, Cert.LruProjRefIdeal.Gen.facts, Cert.RetProj.Gen.facts, Cert.RetProjIdeal.Gen.facts, Cert.RetProjRefIdeal.Gen.facts, Cert.FinalNorm.Gen.facts, Cert.FinalNormIdeal.Gen.facts, Cert.FinalNormRefIdeal.Gen.facts,
  frameP, framePI, frameRI, frameFfnUp, frameFfnUpIdeal, frameFfnUpRefIdeal, frameFfnDown, frameFfnDownIdeal, frameFfnDownRefIdeal, frameMixOut, frameMixOutIdeal, frameMixOutRefIdeal, frameRetOut, frameRetOutIdeal, frameRetOutRefIdeal, frameGlaProj, frameGlaProjIdeal, frameGlaProjRefIdeal, frameLruProj, frameLruProjIdeal, frameLruProjRefIdeal, frameRetProj, frameRetProjIdeal, frameRetProjRefIdeal, frameFinalNorm, frameFinalNormIdeal, frameFinalNormRefIdeal,
  trivial, algebraic, trivial, algebraicFfnUp, trivial, algebraicFfnDown, trivial, algebraicMixOut, trivial, algebraicRetOut, trivial, algebraicGlaProj, trivial, algebraicLruProj, trivial, algebraicRetProj, trivial, algebraicFinalNorm⟩

end Cert.Proof

end
